-- ==== Defs.lean ====
def Pre_Kernel [hPre_tables_ok : Cert.Pre_tables_ok.Facts] (m : (ℓ : Loc Cert.Kernel.nD Cert.Kernel.τ Cert.Kernel.sig) → Buf (Elt Bits) ℓ) : Prop :=
  ∀ c : Dev Cert.Kernel.nD,
    (Cert.Pre_tables_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_tables_ok : Cert.Pre_tables_ok.Facts] (m : (ℓ : Loc Cert.KernelIdeal.nD Cert.KernelIdeal.τ Cert.KernelIdeal.sig) → Buf (Elt Ideal) ℓ) : Prop :=
  ∀ c : Dev Cert.KernelIdeal.nD,
    (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_ok [hPre_tables_ok : Cert.Pre_tables_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Reference [hPre_tables_ok : Cert.Pre_tables_ok.Facts] (m : (ℓ : Loc Cert.Reference.nD Cert.Reference.τ Cert.Reference.sig) → Buf (Elt Bits) ℓ) : Prop :=
  ∀ c : Dev Cert.Reference.nD,
    (Cert.Pre_tables_ok.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_ffn_ok : Cert.Pre_ffn_ok.Facts] (m : (ℓ : Loc Cert.Kernel5.nD Cert.Kernel5.τ Cert.Kernel5.sig) → Buf (Elt Bits) ℓ) : Prop :=
  ∀ c : Dev Cert.Kernel5.nD,
    (Cert.Pre_ffn_ok.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7))) = (fun _ => 1#1)

def Pre_Kernel5Ideal [hPre_ffn_ok : Cert.Pre_ffn_ok.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_ffn_ok.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_ffn_ok [hPre_ffn_ok : Cert.Pre_ffn_ok.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_ffn_ok.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))) = (fun _ => 1#1)

def quiescent_Kernel [hKernel : Cert.Kernel.Facts] [hPre_tables_ok : Cert.Pre_tables_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_tables_ok : Cert.Pre_tables_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tables_ok [hReferenceIdeal : Cert.ReferenceIdeal.Facts] [hPre_tables_ok : Cert.Pre_tables_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] [hPre_tables_ok : Cert.Pre_tables_ok.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] [hPre_ffn_ok : Cert.Pre_ffn_ok.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] [hPre_ffn_ok : Cert.Pre_ffn_ok.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_ffn_ok [hReference5Ideal : Cert.Reference5Ideal.Facts] [hPre_ffn_ok : Cert.Pre_ffn_ok.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_ffn_ok m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables_ok : Cert.Pre_tables_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Kernel_Reference [hKernel : Cert.Kernel.Facts] [hReference : Cert.Reference.Facts] [hPre_tables_ok : Cert.Pre_tables_ok.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v10) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v77) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  IdealRules.named_const.Statement Cert.Kernel3Ideal.κ "q_scale" .f32 0x3E38AA3B#32 (((1 / 8) * (Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_v14) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] [hPre_ffn_ok : Cert.Pre_ffn_ok.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v89) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_tables_ok : Cert.Pre_tables_ok.Facts) (hPre_ffn_ok : Cert.Pre_ffn_ok.Facts),
    quiescent_Kernel (hKernel := hKernel) (hPre_tables_ok := hPre_tables_ok)
    ∧ quiescent_KernelIdeal (hKernelIdeal := hKernelIdeal) (hPre_tables_ok := hPre_tables_ok)
    ∧ quiescent_ReferenceIdeal (hReferenceIdeal := hReferenceIdeal)
    ∧ quiescent_ReferenceIdeal_pre_tables_ok (hReferenceIdeal := hReferenceIdeal) (hPre_tables_ok := hPre_tables_ok)
    ∧ quiescent_Reference (hReference := hReference) (hPre_tables_ok := hPre_tables_ok)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_ffn_ok := hPre_ffn_ok)
    ∧ quiescent_Kernel5Ideal (hKernel5Ideal := hKernel5Ideal) (hPre_ffn_ok := hPre_ffn_ok)
    ∧ quiescent_Reference5Ideal (hReference5Ideal := hReference5Ideal)
    ∧ quiescent_Reference5Ideal_pre_ffn_ok (hReference5Ideal := hReference5Ideal) (hPre_ffn_ok := hPre_ffn_ok)
    ∧ preserves_Kernel_KernelIdeal
    ∧ algebraic_KernelIdeal_ReferenceIdeal (hKernelIdeal := hKernelIdeal) (hReferenceIdeal := hReferenceIdeal) (hPre_tables_ok := hPre_tables_ok)
    ∧ bitexact_Kernel_Reference (hKernel := hKernel) (hReference := hReference) (hPre_tables_ok := hPre_tables_ok)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal) (hPre_ffn_ok := hPre_ffn_ok)
-- ==== Pre_ffn_ok.lean ====
abbrev S40 : Shape := ⟨1, ![40]⟩
abbrev S1 : Shape := ⟨1, ![1]⟩
abbrev S327680x128 : Shape := ⟨2, ![327680, 128]⟩
abbrev S4x64x1024x256 : Shape := ⟨4, ![4, 64, 1024, 256]⟩
abbrev S4x64x256x1024 : Shape := ⟨4, ![4, 64, 256, 1024]⟩
abbrev S39 : Shape := ⟨1, ![39]⟩
abbrev S_ : Shape := ⟨0, ![]⟩

class Facts : Prop where
  shapeCasts_S1_S_ : S1.ShapeCasts S_
  bcast_S_S40 : S_.BroadcastsInDim S40 (![] : Fin 0 → Fin S40.rank)
  slices_S40_S39_1 : S40.Slices ![1] S39
  slices_S40_S39_0 : S40.Slices ![0] S39
  bcast_S_S39 : S_.BroadcastsInDim S39 (![] : Fin 0 → Fin S39.rank)
  reducesTo_S40_S_d0 : S40.ReducesTo [0] S_
  h_S_ : 0 < S_.numel
  reducesTo_S39_S_d0 : S39.ReducesTo [0] S_

variable [Facts]

def fn_part2 {F : FTy → Type} [FloatOps F] (main_v4 : IVec S_ 1) (main_v9 : IVec S40 1) (main_v21 : IVec S39 1) (main_v33 : IVec S39 1) (main_v35 : IVec S40 1) (main_v38 : IVec S40 32) (main_v39 : IVec S40 32) : IVec S_ 1 :=
  let main_v40 : IVec S40 1 := cmpi .ne main_v38 main_v39
  let main_v41 : IVec S40 1 := ori main_v35 main_v40
  let main_c_7 : IVec S_ 1 := constantI S_ 1 1#1
  let main_v42 : IVec S_ 1 := (fun x v => Host.reduce IntOp.andi x v reducesTo_S40_S_d0 h_S_) main_v9 main_c_7
  let main_v43 : IVec S_ 1 := andi main_v4 main_v42
  let main_c_8 : IVec S_ 1 := constantI S_ 1 1#1
  let main_v44 : IVec S_ 1 := (fun x v => Host.reduce IntOp.andi x v reducesTo_S39_S_d0 h_S_) main_v21 main_c_8
  let main_v45 : IVec S_ 1 := andi main_v43 main_v44
  let main_c_9 : IVec S_ 1 := constantI S_ 1 1#1
  let main_v46 : IVec S_ 1 := (fun x v => Host.reduce IntOp.andi x v reducesTo_S39_S_d0 h_S_) main_v33 main_c_9
  let main_v47 : IVec S_ 1 := andi main_v45 main_v46
  let main_c_10 : IVec S_ 1 := constantI S_ 1 1#1
  let main_v48 : IVec S_ 1 := (fun x v => Host.reduce IntOp.andi x v reducesTo_S40_S_d0 h_S_) main_v41 main_c_10
  let main_v49 : IVec S_ 1 := andi main_v47 main_v48
  main_v49

def fn_part1 {F : FTy → Type} [FloatOps F] (main_arg0 : IVec S40 32) (main_arg2 : IVec S40 32) (main_v0 : IVec S39 32) (main_v1 : IVec S_ 32) (main_v4 : IVec S_ 1) (main_v9 : IVec S40 1) (main_v16 : IVec S39 1) (main_v18 : IVec S39 32) : IVec S_ 1 :=
  let main_v19 : IVec S39 32 := broadcastInDim S39 ![] bcast_S_S39 main_v1
  let main_v20 : IVec S39 1 := cmpi .sge main_v18 main_v19
  let main_v21 : IVec S39 1 := ori main_v16 main_v20
  let main_v22 : IVec S39 32 := (extractStridedSlice S39 ![0] · slices_S40_S39_0) main_arg2
  let main_v23 : IVec S39 32 := (extractStridedSlice S39 ![1] · slices_S40_S39_1) main_arg0
  let main_v24 : IVec S39 1 := cmpi .eq main_v22 main_v23
  let main_v25 : IVec S39 32 := (extractStridedSlice S39 ![1] · slices_S40_S39_1) main_arg0
  let main_v26 : IVec S39 32 := (extractStridedSlice S39 ![0] · slices_S40_S39_0) main_arg0
  let main_v27 : IVec S39 1 := cmpi .eq main_v25 main_v26
  let main_v28 : IVec S39 1 := ori main_v24 main_v27
  let main_c_4 : IVec S_ 32 := constantI S_ 32 1#32
  let main_v29 : IVec S39 32 := broadcastInDim S39 ![] bcast_S_S39 main_c_4
  let main_v30 : IVec S39 32 := addi main_v0 main_v29
  let main_v31 : IVec S39 32 := broadcastInDim S39 ![] bcast_S_S39 main_v1
  let main_v32 : IVec S39 1 := cmpi .sge main_v30 main_v31
  let main_v33 : IVec S39 1 := ori main_v28 main_v32
  let main_c_5 : IVec S_ 32 := constantI S_ 32 4294967295#32
  let main_v34 : IVec S40 32 := broadcastInDim S40 ![] bcast_S_S40 main_c_5
  let main_v35 : IVec S40 1 := cmpi .eq main_arg2 main_v34
  let main_v36 : IVec S40 32 := iotaInDim S40 32 0
  let main_c_6 : IVec S_ 32 := constantI S_ 32 1#32
  let main_v37 : IVec S40 32 := broadcastInDim S40 ![] bcast_S_S40 main_c_6
  let main_v38 : IVec S40 32 := addi main_v36 main_v37
  let main_v39 : IVec S40 32 := broadcastInDim S40 ![] bcast_S_S40 main_v1
  fn_part2 (F := F) main_v4 main_v9 main_v21 main_v33 main_v35 main_v38 main_v39

def fn {F : FTy → Type} [FloatOps F] (main_arg0 : IVec S40 32) (main_arg1 : IVec S1 32) (main_arg2 : IVec S40 32) (main_arg3 : IVec S40 32) (main_arg4 : FVec F S327680x128 .f32) (main_arg5 : FVec F S4x64x1024x256 .f32) (main_arg6 : FVec F S4x64x1024x256 .f32) (main_arg7 : FVec F S4x64x256x1024 .f32) : IVec S_ 1 :=
  let main_v0 : IVec S39 32 := iotaInDim S39 32 0
  let main_v1 : IVec S_ 32 := shapeCast S_ main_arg1 shapeCasts_S1_S_
  let main_c : IVec S_ 32 := constantI S_ 32 1#32
  let main_v2 : IVec S_ 1 := cmpi .sge main_v1 main_c
  let main_c_0 : IVec S_ 32 := constantI S_ 32 40#32
  let main_v3 : IVec S_ 1 := cmpi .sle main_v1 main_c_0
  let main_v4 : IVec S_ 1 := andi main_v2 main_v3
  let main_c_1 : IVec S_ 32 := constantI S_ 32 0#32
  let main_v5 : IVec S40 32 := broadcastInDim S40 ![] bcast_S_S40 main_c_1
  let main_v6 : IVec S40 1 := cmpi .sge main_arg0 main_v5
  let main_c_2 : IVec S_ 32 := constantI S_ 32 8#32
  let main_v7 : IVec S40 32 := broadcastInDim S40 ![] bcast_S_S40 main_c_2
  let main_v8 : IVec S40 1 := cmpi .slt main_arg0 main_v7
  let main_v9 : IVec S40 1 := andi main_v6 main_v8
  let main_v10 : IVec S39 32 := (extractStridedSlice S39 ![1] · slices_S40_S39_1) main_arg2
  let main_v11 : IVec S39 32 := (extractStridedSlice S39 ![0] · slices_S40_S39_0) main_arg2
  let main_v12 : IVec S39 1 := cmpi .eq main_v10 main_v11
  let main_v13 : IVec S39 32 := (extractStridedSlice S39 ![1] · slices_S40_S39_1) main_arg0
  let main_v14 : IVec S39 32 := (extractStridedSlice S39 ![0] · slices_S40_S39_0) main_arg0
  let main_v15 : IVec S39 1 := cmpi .ne main_v13 main_v14
  let main_v16 : IVec S39 1 := ori main_v12 main_v15
  let main_c_3 : IVec S_ 32 := constantI S_ 32 1#32
  let main_v17 : IVec S39 32 := broadcastInDim S39 ![] bcast_S_S39 main_c_3
  let main_v18 : IVec S39 32 := addi main_v0 main_v17
  fn_part1 (F := F) main_arg0 main_arg2 main_v0 main_v1 main_v4 main_v9 main_v16 main_v18
-- ==== Pre_tables_ok.lean ====
abbrev S16384 : Shape := ⟨1, ![16384]⟩
abbrev S40 : Shape := ⟨1, ![40]⟩
abbrev S16384x1024 : Shape := ⟨2, ![16384, 1024]⟩
abbrev S16384x128 : Shape := ⟨2, ![16384, 128]⟩
abbrev S20480 : Shape := ⟨1, ![20480]⟩
abbrev S_ : Shape := ⟨0, ![]⟩
abbrev S16384x1 : Shape := ⟨2, ![16384, 1]⟩
abbrev S1x16384 : Shape := ⟨2, ![1, 16384]⟩
abbrev S16384x16384 : Shape := ⟨2, ![16384, 16384]⟩
abbrev S20480x1 : Shape := ⟨2, ![20480, 1]⟩
abbrev S20480x16384 : Shape := ⟨2, ![20480, 16384]⟩
abbrev S40x512 : Shape := ⟨2, ![40, 512]⟩
abbrev S40x1 : Shape := ⟨2, ![40, 1]⟩

class Facts : Prop where
  bcast_S_S16384 : S_.BroadcastsInDim S16384 (![] : Fin 0 → Fin S16384.rank)
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S20480_S20480x1_0 : S20480.BroadcastsInDim S20480x1 (![0] : Fin 1 → Fin S20480x1.rank)
  bcast_S20480x1_S20480x16384_0_1 : S20480x1.BroadcastsInDim S20480x16384 (![0, 1] : Fin 2 → Fin S20480x16384.rank)
  bcast_S1x16384_S20480x16384_0_1 : S1x16384.BroadcastsInDim S20480x16384 (![0, 1] : Fin 2 → Fin S20480x16384.rank)
  reducesTo_S20480x16384_S20480_d1 : S20480x16384.ReducesTo [1] S20480
  h_S_ : 0 < S_.numel
  shapeCasts_S20480_S40x512 : S20480.ShapeCasts S40x512
  bcast_S_S40 : S_.BroadcastsInDim S40 (![] : Fin 0 → Fin S40.rank)
  bcast_S40_S40x1_0 : S40.BroadcastsInDim S40x1 (![0] : Fin 1 → Fin S40x1.rank)
  bcast_S40x1_S40x512_0_1 : S40x1.BroadcastsInDim S40x512 (![0, 1] : Fin 2 → Fin S40x512.rank)
  reducesTo_S16384_S_d0 : S16384.ReducesTo [0] S_
  reducesTo_S16384x16384_S_d0_1 : S16384x16384.ReducesTo [0, 1] S_
  reducesTo_S40x512_S_d0_1 : S40x512.ReducesTo [0, 1] S_

variable [Facts]

def fn_part1 {F : FTy → Type} [FloatOps F] (main_arg1 : IVec S40 32) (main_v6 : IVec S16384 1) (main_v17 : IVec S16384x16384 1) (main_v20 : IVec S20480x16384 32) (main_v21 : IVec S20480x16384 32) : IVec S_ 1 :=
  let main_v22 : IVec S20480x16384 1 := cmpi .eq main_v20 main_v21
  let main_c_1 : IVec S_ 1 := constantI S_ 1 0#1
  let main_v23 : IVec S20480 1 := (fun x v => Host.reduce IntOp.ori x v reducesTo_S20480x16384_S20480_d1 h_S_) main_v22 main_c_1
  let main_v24 : IVec S40x512 1 := shapeCast S40x512 main_v23 shapeCasts_S20480_S40x512
  let main_c_2 : IVec S_ 32 := constantI S_ 32 0#32
  let main_v25 : IVec S40 32 := broadcastInDim S40 ![] bcast_S_S40 main_c_2
  let main_v26 : IVec S40 1 := cmpi .ne main_arg1 main_v25
  let main_v27 : IVec S40x1 1 := broadcastInDim S40x1 ![0] bcast_S40_S40x1_0 main_v26
  let main_v28 : IVec S40x512 1 := broadcastInDim S40x512 ![0, 1] bcast_S40x1_S40x512_0_1 main_v27
  let main_v29 : IVec S40x512 1 := ori main_v24 main_v28
  let main_c_3 : IVec S_ 1 := constantI S_ 1 1#1
  let main_v30 : IVec S_ 1 := (fun x v => Host.reduce IntOp.andi x v reducesTo_S16384_S_d0 h_S_) main_v6 main_c_3
  let main_c_4 : IVec S_ 1 := constantI S_ 1 1#1
  let main_v31 : IVec S_ 1 := (fun x v => Host.reduce IntOp.andi x v reducesTo_S16384x16384_S_d0_1 h_S_) main_v17 main_c_4
  let main_v32 : IVec S_ 1 := andi main_v30 main_v31
  let main_c_5 : IVec S_ 1 := constantI S_ 1 1#1
  let main_v33 : IVec S_ 1 := (fun x v => Host.reduce IntOp.andi x v reducesTo_S40x512_S_d0_1 h_S_) main_v29 main_c_5
  let main_v34 : IVec S_ 1 := andi main_v32 main_v33
  main_v34

def fn {F : FTy → Type} [FloatOps F] (main_arg0 : IVec S16384 32) (main_arg1 : IVec S40 32) (main_arg2 : FVec F S16384x1024 .f32) (main_arg3 : FVec F S16384x128 .f32) : IVec S_ 1 :=
  let main_v0 : IVec S16384 32 := iotaInDim S16384 32 0
  let main_v1 : IVec S20480 32 := iotaInDim S20480 32 0
  let main_c : IVec S_ 32 := constantI S_ 32 0#32
  let main_v2 : IVec S16384 32 := broadcastInDim S16384 ![] bcast_S_S16384 main_c
  let main_v3 : IVec S16384 1 := cmpi .sge main_arg0 main_v2
  let main_c_0 : IVec S_ 32 := constantI S_ 32 20480#32
  let main_v4 : IVec S16384 32 := broadcastInDim S16384 ![] bcast_S_S16384 main_c_0
  let main_v5 : IVec S16384 1 := cmpi .slt main_arg0 main_v4
  let main_v6 : IVec S16384 1 := andi main_v3 main_v5
  let main_v7 : IVec S16384x1 32 := broadcastInDim S16384x1 ![0] bcast_S16384_S16384x1_0 main_arg0
  let main_v8 : IVec S1x16384 32 := broadcastInDim S1x16384 ![1] bcast_S16384_S1x16384_1 main_arg0
  let main_v9 : IVec S16384x16384 32 := broadcastInDim S16384x16384 ![0, 1] bcast_S16384x1_S16384x16384_0_1 main_v7
  let main_v10 : IVec S16384x16384 32 := broadcastInDim S16384x16384 ![0, 1] bcast_S1x16384_S16384x16384_0_1 main_v8
  let main_v11 : IVec S16384x16384 1 := cmpi .ne main_v9 main_v10
  let main_v12 : IVec S16384x1 32 := broadcastInDim S16384x1 ![0] bcast_S16384_S16384x1_0 main_v0
  let main_v13 : IVec S1x16384 32 := broadcastInDim S1x16384 ![1] bcast_S16384_S1x16384_1 main_v0
  let main_v14 : IVec S16384x16384 32 := broadcastInDim S16384x16384 ![0, 1] bcast_S16384x1_S16384x16384_0_1 main_v12
  let main_v15 : IVec S16384x16384 32 := broadcastInDim S16384x16384 ![0, 1] bcast_S1x16384_S16384x16384_0_1 main_v13
  let main_v16 : IVec S16384x16384 1 := cmpi .eq main_v14 main_v15
  let main_v17 : IVec S16384x16384 1 := ori main_v11 main_v16
  let main_v18 : IVec S20480x1 32 := broadcastInDim S20480x1 ![0] bcast_S20480_S20480x1_0 main_v1
  let main_v19 : IVec S1x16384 32 := broadcastInDim S1x16384 ![1] bcast_S16384_S1x16384_1 main_arg0
  let main_v20 : IVec S20480x16384 32 := broadcastInDim S20480x16384 ![0, 1] bcast_S20480x1_S20480x16384_0_1 main_v18
  let main_v21 : IVec S20480x16384 32 := broadcastInDim S20480x16384 ![0, 1] bcast_S1x16384_S20480x16384_0_1 main_v19
  fn_part1 (F := F) main_arg1 main_v6 main_v17 main_v20 main_v21
-- ==== Kernel.lean ====
abbrev S16384 : Shape := ⟨1, ![16384]⟩
abbrev S40 : Shape := ⟨1, ![40]⟩
abbrev S16384x1024 : Shape := ⟨2, ![16384, 1024]⟩
abbrev S16384x128 : Shape := ⟨2, ![16384, 128]⟩
abbrev S327680x128 : Shape := ⟨2, ![327680, 128]⟩
abbrev S512x1024 : Shape := ⟨2, ![512, 1024]⟩
abbrev S512x128 : Shape := ⟨2, ![512, 128]⟩
abbrev S2x8192x128 : Shape := ⟨3, ![2, 8192, 128]⟩
abbrev S2 : Shape := ⟨1, ![2]⟩
abbrev S1 : Shape := ⟨1, ![1]⟩
abbrev S_ : Shape := ⟨0, ![]⟩
abbrev S8192x128 : Shape := ⟨2, ![8192, 128]⟩
abbrev S1x8192x128 : Shape := ⟨3, ![1, 8192, 128]⟩
abbrev S16x128 : Shape := ⟨2, ![16, 128]⟩

abbrev nBuf : Space → Nat
  | .hbm => 3
  | .vmem => 5
  | .smem => 2
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S327680x128, .f32⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S2x8192x128, .f32⟩
  | .local _ .smem, ⟨0, _⟩ => ⟨S16384, .i32⟩
  | .local _ .smem, ⟨1, _⟩ => ⟨S40, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond82 (i : grid0.Coords) : BitVec 1 :=
  let arg0 : BitVec 32 := BitVec.ofNat 32 (i 0).val
  let c2_i32_5 : BitVec 32 := 2#32
  let v13 : BitVec 1 := Scalar.cmpi .sge arg0 c2_i32_5
  let v14 : BitVec 32 := Scalar.extui v13
  let c0_i32_6 : BitVec 32 := 0#32
  let v15 : BitVec 1 := Scalar.cmpi .ne v14 c0_i32_6
  v15

def k0_off1 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off2 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_44 : BitVec 32 := 0#32
  let c0_i32_45 : BitVec 32 := 0#32
  ![v9.toNat, 0, 0]
def k0_off3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_8 : BitVec 32 := 0#32
  let c0_i32_9 : BitVec 32 := 0#32
  ![v9.toNat, 0, 0]
@[reducible] def k0_t1_loop : Scf.Loop 32 :=
  let c0_i32_38 : BitVec 32 := 0#32
  let c256_i32 : BitVec 32 := 256#32
  let v71 : BitVec 32 := Scalar.addi c0_i32_38 c256_i32
  let c1_i32_39 : BitVec 32 := 1#32
  ⟨c0_i32_38, v71, c1_i32_39⟩
def k0_off4 (i : grid0.Coords) (k0_t1 : Fin k0_t1_loop.trips) : Fin 1 → Nat :=
  let arg0 : BitVec 32 := BitVec.ofNat 32 (i 0).val
  let c512_i32 : BitVec 32 := 512#32
  let v77 : BitVec 32 := Scalar.muli arg0 c512_i32
  let c0_i32_38 : BitVec 32 := 0#32
  let c1_i32_39 : BitVec 32 := 1#32
  let arg8 : BitVec 32 := Scf.iv c0_i32_38 c1_i32_39 k0_t1
  let c2_i32_42 : BitVec 32 := 2#32
  let v75 : BitVec 32 := Scalar.muli arg8 c2_i32_42
  let c0_i32_43 : BitVec 32 := 0#32
  let v76 : BitVec 32 := Scalar.addi v75 c0_i32_43
  let v78 : BitVec 32 := Scalar.addi v77 v76
  let v79 : Index := Scalar.indexCast v78
  ![v79.toNat]
def k0_mult1 (k0_t1 : Fin k0_t1_loop.trips) : BitVec 32 :=
  let c0_i32_38 : BitVec 32 := 0#32
  let c1_i32_39 : BitVec 32 := 1#32
  let arg8 : BitVec 32 := Scf.iv c0_i32_38 c1_i32_39 k0_t1
  let c2_i32_42 : BitVec 32 := 2#32
  let v75 : BitVec 32 := Scalar.muli arg8 c2_i32_42
  let c0_i32_43 : BitVec 32 := 0#32
  let v76 : BitVec 32 := Scalar.addi v75 c0_i32_43
  let c16_i32 : BitVec 32 := 16#32
  let v81 : BitVec 32 := Scalar.muli v76 c16_i32
  v81
def k0_mult2 (v80 : BitVec 32) : BitVec 32 :=
  let c16_i32_44 : BitVec 32 := 16#32
  let v83 : BitVec 32 := Scalar.muli v80 c16_i32_44
  v83

def k0_off5 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off6 (v80 : BitVec 32) : Fin 2 → Nat :=
  let c16_i32_44 : BitVec 32 := 16#32
  let v83 : BitVec 32 := Scalar.muli v80 c16_i32_44
  let v84 : BitVec 32 := v83
  let c0_i32_45 : BitVec 32 := 0#32
  ![v84.toNat, 0]

def k0_chk1 (v80 : BitVec 32) : Prop :=
  (16 ∣ (k0_mult2 v80).toNat) ∧
  (∀ a, (k0_off6 v80) a + S16x128.size a ≤ S327680x128.size a)
theorem k0_mult2_dvd : ∀ (v80 : BitVec 32) (k0_hw1 : k0_chk1 v80), 16 ∣ (k0_mult2 v80).toNat := fun v80 k0_hw1 => k0_hw1.1
theorem k0_off6_inb : ∀ (v80 : BitVec 32) (k0_hw1 : k0_chk1 v80), ∀ a, (k0_off6 v80) a + S16x128.size a ≤ S327680x128.size a := fun v80 k0_hw1 => k0_hw1.2

def k0_off7 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_46 : BitVec 32 := 0#32
  let c0_i32_47 : BitVec 32 := 0#32
  ![v9.toNat, 0, 0]
def k0_off8 (k0_t1 : Fin k0_t1_loop.trips) : Fin 2 → Nat :=
  let c0_i32_38 : BitVec 32 := 0#32
  let c1_i32_39 : BitVec 32 := 1#32
  let arg8 : BitVec 32 := Scf.iv c0_i32_38 c1_i32_39 k0_t1
  let c2_i32_42 : BitVec 32 := 2#32
  let v75 : BitVec 32 := Scalar.muli arg8 c2_i32_42
  let c0_i32_43 : BitVec 32 := 0#32
  let v76 : BitVec 32 := Scalar.addi v75 c0_i32_43
  let c16_i32 : BitVec 32 := 16#32
  let v81 : BitVec 32 := Scalar.muli v76 c16_i32
  let v82 : BitVec 32 := v81
  let c0_i32_48 : BitVec 32 := 0#32
  ![v82.toNat, 0]
def k0_off9 (i : grid0.Coords) (k0_t1 : Fin k0_t1_loop.trips) : Fin 1 → Nat :=
  let arg0 : BitVec 32 := BitVec.ofNat 32 (i 0).val
  let c512_i32_51 : BitVec 32 := 512#32
  let v93 : BitVec 32 := Scalar.muli arg0 c512_i32_51
  let c0_i32_38 : BitVec 32 := 0#32
  let c1_i32_39 : BitVec 32 := 1#32
  let arg8 : BitVec 32 := Scf.iv c0_i32_38 c1_i32_39 k0_t1
  let c2_i32_49 : BitVec 32 := 2#32
  let v91 : BitVec 32 := Scalar.muli arg8 c2_i32_49
  let c1_i32_50 : BitVec 32 := 1#32
  let v92 : BitVec 32 := Scalar.addi v91 c1_i32_50
  let v94 : BitVec 32 := Scalar.addi v93 v92
  let v95 : Index := Scalar.indexCast v94
  ![v95.toNat]
def k0_mult3 (k0_t1 : Fin k0_t1_loop.trips) : BitVec 32 :=
  let c0_i32_38 : BitVec 32 := 0#32
  let c1_i32_39 : BitVec 32 := 1#32
  let arg8 : BitVec 32 := Scf.iv c0_i32_38 c1_i32_39 k0_t1
  let c2_i32_49 : BitVec 32 := 2#32
  let v91 : BitVec 32 := Scalar.muli arg8 c2_i32_49
  let c1_i32_50 : BitVec 32 := 1#32
  let v92 : BitVec 32 := Scalar.addi v91 c1_i32_50
  let c16_i32_52 : BitVec 32 := 16#32
  let v97 : BitVec 32 := Scalar.muli v92 c16_i32_52
  v97
def k0_mult4 (v96 : BitVec 32) : BitVec 32 :=
  let c16_i32_53 : BitVec 32 := 16#32
  let v99 : BitVec 32 := Scalar.muli v96 c16_i32_53
  v99

def k0_off10 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off11 (v96 : BitVec 32) : Fin 2 → Nat :=
  let c16_i32_53 : BitVec 32 := 16#32
  let v99 : BitVec 32 := Scalar.muli v96 c16_i32_53
  let v100 : BitVec 32 := v99
  let c0_i32_54 : BitVec 32 := 0#32
  ![v100.toNat, 0]

def k0_chk2 (v96 : BitVec 32) : Prop :=
  (16 ∣ (k0_mult4 v96).toNat) ∧
  (∀ a, (k0_off11 v96) a + S16x128.size a ≤ S327680x128.size a)
theorem k0_mult4_dvd : ∀ (v96 : BitVec 32) (k0_hw2 : k0_chk2 v96), 16 ∣ (k0_mult4 v96).toNat := fun v96 k0_hw2 => k0_hw2.1
theorem k0_off11_inb : ∀ (v96 : BitVec 32) (k0_hw2 : k0_chk2 v96), ∀ a, (k0_off11 v96) a + S16x128.size a ≤ S327680x128.size a := fun v96 k0_hw2 => k0_hw2.2

def k0_off12 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_55 : BitVec 32 := 0#32
  let c0_i32_56 : BitVec 32 := 0#32
  ![v9.toNat, 0, 0]
def k0_off13 (k0_t1 : Fin k0_t1_loop.trips) : Fin 2 → Nat :=
  let c0_i32_38 : BitVec 32 := 0#32
  let c1_i32_39 : BitVec 32 := 1#32
  let arg8 : BitVec 32 := Scf.iv c0_i32_38 c1_i32_39 k0_t1
  let c2_i32_49 : BitVec 32 := 2#32
  let v91 : BitVec 32 := Scalar.muli arg8 c2_i32_49
  let c1_i32_50 : BitVec 32 := 1#32
  let v92 : BitVec 32 := Scalar.addi v91 c1_i32_50
  let c16_i32_52 : BitVec 32 := 16#32
  let v97 : BitVec 32 := Scalar.muli v92 c16_i32_52
  let v98 : BitVec 32 := v97
  let c0_i32_57 : BitVec 32 := 0#32
  ![v98.toNat, 0]
def k0_cond83 (i : grid0.Coords) : BitVec 1 :=
  let arg0 : BitVec 32 := BitVec.ofNat 32 (i 0).val
  let c31_i32 : BitVec 32 := 31#32
  let v72 : BitVec 1 := Scalar.cmpi .eq arg0 c31_i32
  let v73 : BitVec 32 := Scalar.extui v72
  let c0_i32_41 : BitVec 32 := 0#32
  let v74 : BitVec 1 := Scalar.cmpi .ne v73 c0_i32_41
  v74

def k0_off14 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off15 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_44 : BitVec 32 := 0#32
  let c0_i32_45 : BitVec 32 := 0#32
  ![v9.toNat, 0, 0]
def k0_off16 (i : grid0.Coords) : Fin 1 → Nat :=
  let c1_i32_49 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v82 : BitVec 32 := Scalar.subi c1_i32_49 v9
  ![v82.toNat]
def k0_off17 (i : grid0.Coords) : Fin 3 → Nat :=
  let c1_i32_48 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v81 : BitVec 32 := Scalar.subi c1_i32_48 v9
  let c0_i32_52 : BitVec 32 := 0#32
  let c0_i32_53 : BitVec 32 := 0#32
  ![v81.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S16384 : Shape := ⟨1, ![16384]⟩
abbrev S40 : Shape := ⟨1, ![40]⟩
abbrev S16384x1024 : Shape := ⟨2, ![16384, 1024]⟩
abbrev S16384x128 : Shape := ⟨2, ![16384, 128]⟩
abbrev S_ : Shape := ⟨0, ![]⟩
abbrev S16384x896 : Shape := ⟨2, ![16384, 896]⟩
abbrev S16384x2048 : Shape := ⟨2, ![16384, 2048]⟩
abbrev S20480x2048 : Shape := ⟨2, ![20480, 2048]⟩
abbrev S16384x1 : Shape := ⟨2, ![16384, 1]⟩
abbrev S327680x128 : Shape := ⟨2, ![327680, 128]⟩

abbrev nBuf : Space → Nat
  | .hbm => 19
  | .vmem => 0
  | .smem => 0
  | _ => 0

abbrev bufTy : (tb : Table) → Fin (tcTables nBuf tb) → BufTy
  | .hbm, ⟨0, _⟩ => ⟨S16384, .i32⟩
  | .hbm, ⟨1, _⟩ => ⟨S40, .i32⟩
  | .hbm, ⟨2, _⟩ => ⟨S16384x1024, .f32⟩
  | .hbm, ⟨3, _⟩ => ⟨S16384x128, .f32⟩
  | .hbm, ⟨4, _⟩ => ⟨S_, .f32⟩
  | .hbm, ⟨5, _⟩ => ⟨S16384x896, .f32⟩
  | .hbm, ⟨6, _⟩ => ⟨S16384x2048, .f32⟩
  | .hbm, ⟨7, _⟩ => ⟨S_, .f32⟩
  | .hbm, ⟨8, _⟩ => ⟨S20480x2048, .f32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384x1, .i32⟩
  | .hbm, ⟨17, _⟩ => ⟨S20480x2048, .f32⟩
  | .hbm, ⟨18, _⟩ => ⟨S327680x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Kernel2.lean ====
abbrev S8x2048x1024 : Shape := ⟨3, ![8, 2048, 1024]⟩
abbrev S1024x6144 : Shape := ⟨2, ![1024, 6144]⟩
abbrev S6144 : Shape := ⟨1, ![6144]⟩
abbrev S3072 : Shape := ⟨1, ![3072]⟩
abbrev S8x128x128 : Shape := ⟨3, ![8, 128, 128]⟩
abbrev S8x128 : Shape := ⟨2, ![8, 128]⟩
abbrev S3072x1024 : Shape := ⟨2, ![3072, 1024]⟩
abbrev S1024 : Shape := ⟨1, ![1024]⟩
abbrev S16384x1024 : Shape := ⟨2, ![16384, 1024]⟩
abbrev S128x8 : Shape := ⟨2, ![128, 8]⟩
abbrev S1x6144 : Shape := ⟨2, ![1, 6144]⟩
abbrev S1x3072 : Shape := ⟨2, ![1, 3072]⟩
abbrev S1x1024 : Shape := ⟨2, ![1, 1024]⟩
abbrev S512x1024 : Shape := ⟨2, ![512, 1024]⟩
abbrev S512x3072 : Shape := ⟨2, ![512, 3072]⟩
abbrev S1024x768 : Shape := ⟨2, ![1024, 768]⟩
abbrev S512x768 : Shape := ⟨2, ![512, 768]⟩
abbrev S1x768 : Shape := ⟨2, ![1, 768]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩
abbrev S128x384 : Shape := ⟨2, ![128, 384]⟩

abbrev nBuf : Space → Nat
  | .hbm => 20
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S1024x6144, .f32⟩
  | .hbm, ⟨2, _⟩ => ⟨S6144, .f32⟩
  | .hbm, ⟨3, _⟩ => ⟨S3072, .f32⟩
  | .hbm, ⟨4, _⟩ => ⟨S3072, .f32⟩
  | .hbm, ⟨5, _⟩ => ⟨S8x128x128, .f32⟩
  | .hbm, ⟨6, _⟩ => ⟨S8x128, .f32⟩
  | .hbm, ⟨7, _⟩ => ⟨S3072x1024, .f32⟩
  | .hbm, ⟨8, _⟩ => ⟨S1024, .f32⟩
  | .hbm, ⟨9, _⟩ => ⟨S1024, .f32⟩
  | .hbm, ⟨10, _⟩ => ⟨S16384x1024, .f32⟩
  | .hbm, ⟨11, _⟩ => ⟨S1024x6144, .bf16⟩
  | .hbm, ⟨12, _⟩ => ⟨S128x8, .f32⟩
  | .hbm, ⟨13, _⟩ => ⟨S3072x1024, .bf16⟩
  | .hbm, ⟨14, _⟩ => ⟨S1x6144, .f32⟩
  | .hbm, ⟨15, _⟩ => ⟨S1x3072, .f32⟩
  | .hbm, ⟨16, _⟩ => ⟨S1x3072, .f32⟩
  | .hbm, ⟨17, _⟩ => ⟨S1x1024, .f32⟩
  | .hbm, ⟨18, _⟩ => ⟨S1x1024, .f32⟩
  | .hbm, ⟨19, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x6144, .bf16⟩
  | .local _ .vmem, ⟨3, _⟩ => ⟨S1x6144, .f32⟩
  | .local _ .vmem, ⟨4, _⟩ => ⟨S1x3072, .f32⟩
  | .local _ .vmem, ⟨5, _⟩ => ⟨S1x3072, .f32⟩
  | .local _ .vmem, ⟨6, _⟩ => ⟨S8x128x128, .f32⟩
  | .local _ .vmem, ⟨7, _⟩ => ⟨S128x8, .f32⟩
  | .local _ .vmem, ⟨8, _⟩ => ⟨S3072x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x3072, .bf16⟩
  | .local _ .vmem, ⟨14, _⟩ => ⟨S512x3072, .f32⟩
  | .local _ .vmem, ⟨15, _⟩ => ⟨S512x3072, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3072x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S8x2048x1024 : Shape := ⟨3, ![8, 2048, 1024]⟩
abbrev S1024x6144 : Shape := ⟨2, ![1024, 6144]⟩
abbrev S6144 : Shape := ⟨1, ![6144]⟩
abbrev S3072 : Shape := ⟨1, ![3072]⟩
abbrev S8x128x128 : Shape := ⟨3, ![8, 128, 128]⟩
abbrev S8x128 : Shape := ⟨2, ![8, 128]⟩
abbrev S3072x1024 : Shape := ⟨2, ![3072, 1024]⟩
abbrev S1024 : Shape := ⟨1, ![1024]⟩
abbrev S8x2048x6144 : Shape := ⟨3, ![8, 2048, 6144]⟩
abbrev S1x1x6144 : Shape := ⟨3, ![1, 1, 6144]⟩
abbrev S_ : Shape := ⟨0, ![]⟩
abbrev S8x2048x3072 : Shape := ⟨3, ![8, 2048, 3072]⟩
abbrev S8x2048 : Shape := ⟨2, ![8, 2048]⟩
abbrev S8x2048x1 : Shape := ⟨3, ![8, 2048, 1]⟩
abbrev S1x1x3072 : Shape := ⟨3, ![1, 1, 3072]⟩
abbrev S8x16x128x8x384 : Shape := ⟨5, ![8, 16, 128, 8, 384]⟩
abbrev S128x128 : Shape := ⟨2, ![128, 128]⟩
abbrev S8x8x16x384x128 : Shape := ⟨5, ![8, 8, 16, 384, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S1x1x1024 : Shape := ⟨3, ![1, 1, 1024]⟩
abbrev S16384x1024 : Shape := ⟨2, ![16384, 1024]⟩

abbrev nBuf : Space → Nat
  | .hbm => 111
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x6144, .f32⟩
  | .hbm, ⟨2, _⟩ => ⟨S6144, .f32⟩
  | .hbm, ⟨3, _⟩ => ⟨S3072, .f32⟩
  | .hbm, ⟨4, _⟩ => ⟨S3072, .f32⟩
  | .hbm, ⟨5, _⟩ => ⟨S8x128x128, .f32⟩
  | .hbm, ⟨6, _⟩ => ⟨S8x128, .f32⟩
  | .hbm, ⟨7, _⟩ => ⟨S3072x1024, .f32⟩
  | .hbm, ⟨8, _⟩ => ⟨S1024, .f32⟩
  | .hbm, ⟨9, _⟩ => ⟨S1024, .f32⟩
  | .hbm, ⟨10, _⟩ => ⟨S8x2048x6144, .f32⟩
  | .hbm, ⟨11, _⟩ => ⟨S1x1x6144, .f32⟩
  | .hbm, ⟨12, _⟩ => ⟨S8x2048x6144, .f32⟩
  | .hbm, ⟨13, _⟩ => ⟨S8x2048x6144, .f32⟩
  | .hbm, ⟨14, _⟩ => ⟨S_, .f32⟩
  | .hbm, ⟨15, _⟩ => ⟨S8x2048x6144, .f32⟩
  | .hbm, ⟨16, _⟩ => ⟨S8x2048x6144, .f32⟩
  | .hbm, ⟨17, _⟩ => ⟨S_, .f32⟩
  | .hbm, ⟨18, _⟩ => ⟨S8x2048x6144, .f32⟩
  | .hbm, ⟨19, _⟩ => ⟨S8x2048x6144, .f32⟩
  | .hbm, ⟨20, _⟩ => ⟨S8x2048x6144, .f32⟩
  | .hbm, ⟨21, _⟩ => ⟨S_, .f32⟩
  | .hbm, ⟨22, _⟩ => ⟨S8x2048x6144, .f32⟩
  | .hbm, ⟨23, _⟩ => ⟨S8x2048x6144, .f32⟩
  | .hbm, ⟨24, _⟩ => ⟨S8x2048x6144, .f32⟩
  | .hbm, ⟨25, _⟩ => ⟨S8x2048x3072, .f32⟩
  | .hbm, ⟨26, _⟩ => ⟨S8x2048x3072, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S8x2048x3072, .f32⟩
  | .hbm, ⟨34, _⟩ => ⟨S8x2048x3072, .f32⟩
  | .hbm, ⟨35, _⟩ => ⟨S8x2048x3072, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S8x2048x3072, .f32⟩
  | .hbm, ⟨43, _⟩ => ⟨S8x2048x3072, .f32⟩
  | .hbm, ⟨44, _⟩ => ⟨S_, .f32⟩
  | .hbm, ⟨45, _⟩ => ⟨S8x2048x1, .f32⟩
  | .hbm, ⟨46, _⟩ => ⟨S8x2048x1, .f32⟩
  | .hbm, ⟨47, _⟩ => ⟨S8x2048x1, .f32⟩
  | .hbm, ⟨48, _⟩ => ⟨S8x2048x3072, .f32⟩
  | .hbm, ⟨49, _⟩ => ⟨S8x2048x3072, .f32⟩
  | .hbm, ⟨50, _⟩ => ⟨S1x1x3072, .f32⟩
  | .hbm, ⟨51, _⟩ => ⟨S8x2048x3072, .f32⟩
  | .hbm, ⟨52, _⟩ => ⟨S8x2048x3072, .f32⟩
  | .hbm, ⟨53, _⟩ => ⟨S1x1x3072, .f32⟩
  | .hbm, ⟨54, _⟩ => ⟨S8x2048x3072, .f32⟩
  | .hbm, ⟨55, _⟩ => ⟨S8x2048x3072, .f32⟩
  | .hbm, ⟨56, _⟩ => ⟨S8x16x128x8x384, .f32⟩
  | .hbm, ⟨57, _⟩ => ⟨S128x128, .i32⟩
  | .hbm, ⟨58, _⟩ => ⟨S_, .i32⟩
  | .hbm, ⟨59, _⟩ => ⟨S128x128, .i32⟩
  | .hbm, ⟨60, _⟩ => ⟨S128x128, .i32⟩
  | .hbm, ⟨61, _⟩ => ⟨S128x128, .i32⟩
  | .hbm, ⟨62, _⟩ => ⟨S128x128, .i1⟩
  | .hbm, ⟨63, _⟩ => ⟨S8x128x128, .i1⟩
  | .hbm, ⟨64, _⟩ => ⟨S_, .f32⟩
  | .hbm, ⟨65, _⟩ => ⟨S8x128x128, .f32⟩
  | .hbm, ⟨66, _⟩ => ⟨S8x128x128, .f32⟩
  | .hbm, ⟨67, _⟩ => ⟨S8x8x16x384x128, .f32⟩
  | .hbm, ⟨68, _⟩ => ⟨S8x16x128x8x384, .f32⟩
  | .hbm, ⟨69, _⟩ => ⟨S128x8, .f32⟩
  | .hbm, ⟨70, _⟩ => ⟨S128x8x1, .f32⟩
  | .hbm, ⟨71, _⟩ => ⟨S1x1x128x8x1, .f32⟩
  | .hbm, ⟨72, _⟩ => ⟨S8x16x128x8x384, .f32⟩
  | .hbm, ⟨73, _⟩ => ⟨S8x16x128x8x384, .f32⟩
  | .hbm, ⟨74, _⟩ => ⟨S8x2048x3072, .f32⟩
  | .hbm, ⟨75, _⟩ => ⟨S8x2048x3072, .f32⟩
  | .hbm, ⟨76, _⟩ => ⟨S8x2048x1024, .f32⟩
  | .hbm, ⟨77, _⟩ => ⟨S_, .f32⟩
  | .hbm, ⟨78, _⟩ => ⟨S8x2048x1024, .f32⟩
  | .hbm, ⟨79, _⟩ => ⟨S8x2048x1024, .f32⟩
  | .hbm, ⟨80, _⟩ => ⟨S8x2048x1024, .f32⟩
  | .hbm, ⟨81, _⟩ => ⟨S_, .f32⟩
  | .hbm, ⟨82, _⟩ => ⟨S8x2048, .f32⟩
  | .hbm, ⟨83, _⟩ => ⟨S8x2048x1, .f32⟩
  | .hbm, ⟨84, _⟩ => ⟨S_, .f32⟩
  | .hbm, ⟨85, _⟩ => ⟨S8x2048x1, .f32⟩
  | .hbm, ⟨86, _⟩ => ⟨S8x2048x1, .f32⟩
  | .hbm, ⟨87, _⟩ => ⟨S8x2048x1024, .f32⟩
  | .hbm, ⟨88, _⟩ => ⟨S8x2048x1024, .f32⟩
  | .hbm, ⟨89, _⟩ => ⟨S8x2048x1024, .f32⟩
  | .hbm, ⟨90, _⟩ => ⟨S_, .f32⟩
  | .hbm, ⟨91, _⟩ => ⟨S8x2048, .f32⟩
  | .hbm, ⟨92, _⟩ => ⟨S8x2048x1, .f32⟩
  | .hbm, ⟨93, _⟩ => ⟨S_, .f32⟩
  | .hbm, ⟨94, _⟩ => ⟨S8x2048x1, .f32⟩
  | .hbm, ⟨95, _⟩ => ⟨S8x2048x1, .f32⟩
  | .hbm, ⟨96, _⟩ => ⟨S8x2048x1024, .f32⟩
  | .hbm, ⟨97, _⟩ => ⟨S8x2048x1024, .f32⟩
  | .hbm, ⟨98, _⟩ => ⟨S_, .f32⟩
  | .hbm, ⟨99, _⟩ => ⟨S8x2048x1, .f32⟩
  | .hbm, ⟨100, _⟩ => ⟨S8x2048x1, .f32⟩
  | .hbm, ⟨101, _⟩ => ⟨S8x2048x1, .f32⟩
  | .hbm, ⟨102, _⟩ => ⟨S8x2048x1024, .f32⟩
  | .hbm, ⟨103, _⟩ => ⟨S8x2048x1024, .f32⟩
  | .hbm, ⟨104, _⟩ => ⟨S1x1x1024, .f32⟩
  | .hbm, ⟨105, _⟩ => ⟨S8x2048x1024, .f32⟩
  | .hbm, ⟨106, _⟩ => ⟨S8x2048x1024, .f32⟩
  | .hbm, ⟨107, _⟩ => ⟨S1x1x1024, .f32⟩
  | .hbm, ⟨108, _⟩ => ⟨S8x2048x1024, .f32⟩
  | .hbm, ⟨109, _⟩ => ⟨S8x2048x1024, .f32⟩
  | .hbm, ⟨110, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call0_v0 : Ref sig .tc := ⟨.hbm, 57, rfl⟩
abbrev main_call0_c : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_cst : Ref sig .tc := ⟨.hbm, 64, rfl⟩
abbrev main_call0_v6 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_7 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_8 : Ref sig .tc := ⟨.hbm, 81, rfl⟩
abbrev main_v53 : Ref sig .tc := ⟨.hbm, 82, rfl⟩
abbrev main_v54 : Ref sig .tc := ⟨.hbm, 83, rfl⟩
abbrev main_cst_9 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_10 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_12 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩

abbrev nD : Nat := 1
abbrev τ : Topo := Topo.v7x

variable {F : FTy → Type} [FloatOps F]
-- ==== Kernel3.lean ====
abbrev S8x2048x1024 : Shape := ⟨3, ![8, 2048, 1024]⟩
abbrev S1024x3072 : Shape := ⟨2, ![1024, 3072]⟩
abbrev S16384x1024 : Shape := ⟨2, ![16384, 1024]⟩
abbrev S1024x1024 : Shape := ⟨2, ![1024, 1024]⟩
abbrev S1024x2048 : Shape := ⟨2, ![1024, 2048]⟩
abbrev S2048x1024 : Shape := ⟨2, ![2048, 1024]⟩
abbrev S2048x16384 : Shape := ⟨2, ![2048, 16384]⟩
abbrev S512x1024 : Shape := ⟨2, ![512, 1024]⟩
abbrev S2048x512 : Shape := ⟨2, ![2048, 512]⟩
abbrev S1024x512 : Shape := ⟨2, ![1024, 512]⟩

abbrev nBuf : Space → Nat
  | .hbm => 12
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S1024x3072, .f32⟩
  | .hbm, ⟨2, _⟩ => ⟨S16384x1024, .f32⟩
  | .hbm, ⟨3, _⟩ => ⟨S1024x1024, .f32⟩
  | .hbm, ⟨4, _⟩ => ⟨S1024x1024, .bf16⟩
  | .hbm, ⟨5, _⟩ => ⟨S1024x1024, .f32⟩
  | .hbm, ⟨6, _⟩ => ⟨S1024x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | .hbm, ⟨10, _⟩ => ⟨S16384x1024, .bf16⟩
  | .hbm, ⟨11, _⟩ => ⟨S2048x16384, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x512, .bf16⟩
  | .local _ .vmem, ⟨7, _⟩ => ⟨S2048x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8_0 : Ref sig .tc := ⟨.hbm, 10, rfl⟩
abbrev main_v8_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel3Ideal.lean ====
variable {F : FTy → Type} [FloatOps F] [Named F]
def κ : String → Option EReal := fun
  | "q_scale" => some (((1 / 8) * (Real.log 2)⁻¹ : ℝ) : EReal)
  | _ => none
-- ==== Reference3Ideal.lean ====
abbrev S8x2048x1024 : Shape := ⟨3, ![8, 2048, 1024]⟩
abbrev S1024x3072 : Shape := ⟨2, ![1024, 3072]⟩
abbrev S8x2048x3072 : Shape := ⟨3, ![8, 2048, 3072]⟩
abbrev S_ : Shape := ⟨0, ![]⟩
abbrev S16384x1024 : Shape := ⟨2, ![16384, 1024]⟩
abbrev S8x2048x2048 : Shape := ⟨3, ![8, 2048, 2048]⟩
abbrev S16384x2048 : Shape := ⟨2, ![16384, 2048]⟩
abbrev S2048x16384 : Shape := ⟨2, ![2048, 16384]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x3072, .f32⟩
  | .hbm, ⟨2, _⟩ => ⟨S8x2048x3072, .f32⟩
  | .hbm, ⟨3, _⟩ => ⟨S8x2048x1024, .f32⟩
  | .hbm, ⟨4, _⟩ => ⟨S8x2048x1024, .f32⟩
  | .hbm, ⟨5, _⟩ => ⟨S8x2048x1024, .f32⟩
  | .hbm, ⟨6, _⟩ => ⟨S_, .f32⟩
  | .hbm, ⟨7, _⟩ => ⟨S8x2048x1024, .f32⟩
  | .hbm, ⟨8, _⟩ => ⟨S8x2048x1024, .f32⟩
  | .hbm, ⟨9, _⟩ => ⟨S_, .f32⟩
  | .hbm, ⟨10, _⟩ => ⟨S_, .f32⟩
  | .hbm, ⟨11, _⟩ => ⟨S8x2048x1024, .f32⟩
  | .hbm, ⟨12, _⟩ => ⟨S8x2048x1024, .f32⟩
  | .hbm, ⟨13, _⟩ => ⟨S16384x1024, .f32⟩
  | .hbm, ⟨14, _⟩ => ⟨S16384x1024, .bf16⟩
  | .hbm, ⟨15, _⟩ => ⟨S8x2048x2048, .f32⟩
  | .hbm, ⟨16, _⟩ => ⟨S16384x2048, .f32⟩
  | .hbm, ⟨17, _⟩ => ⟨S16384x2048, .bf16⟩
  | .hbm, ⟨18, _⟩ => ⟨S2048x16384, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel4.lean ====
abbrev S8x2048x1024 : Shape := ⟨3, ![8, 2048, 1024]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 9
  | .smem => 0
  | _ => 0

abbrev bufTy : (tb : Table) → Fin (tcTables nBuf tb) → BufTy
  | .hbm, ⟨0, _⟩ => ⟨S8x2048x1024, .bf16⟩
  | .hbm, ⟨1, _⟩ => ⟨S1024x1024, .f32⟩
  | .hbm, ⟨2, _⟩ => ⟨S8x2048x1024, .f32⟩
  | .hbm, ⟨3, _⟩ => ⟨S1024, .f32⟩
  | .hbm, ⟨4, _⟩ => ⟨S1024, .f32⟩
  | .hbm, ⟨5, _⟩ => ⟨S16384x1024, .bf16⟩
  | .hbm, ⟨6, _⟩ => ⟨S1024x1024, .bf16⟩
  | .hbm, ⟨7, _⟩ => ⟨S16384x1024, .f32⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S1024x1024, .f32⟩
  | .hbm, ⟨2, _⟩ => ⟨S8x2048x1024, .f32⟩
  | .hbm, ⟨3, _⟩ => ⟨S1024, .f32⟩
  | .hbm, ⟨4, _⟩ => ⟨S1024, .f32⟩
  | .hbm, ⟨5, _⟩ => ⟨S8x2048x1024, .f32⟩
  | .hbm, ⟨6, _⟩ => ⟨S8x2048x1024, .f32⟩
  | .hbm, ⟨7, _⟩ => ⟨S_, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S8x2048x1024, .f32⟩
  | .hbm, ⟨27, _⟩ => ⟨S8x2048x1024, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S8x2048x1, .f32⟩
  | .hbm, ⟨32, _⟩ => ⟨S8x2048x1024, .f32⟩
  | .hbm, ⟨33, _⟩ => ⟨S8x2048x1024, .f32⟩
  | .hbm, ⟨34, _⟩ => ⟨S1x1x1024, .f32⟩
  | .hbm, ⟨35, _⟩ => ⟨S8x2048x1024, .f32⟩
  | .hbm, ⟨36, _⟩ => ⟨S8x2048x1024, .f32⟩
  | .hbm, ⟨37, _⟩ => ⟨S1x1x1024, .f32⟩
  | .hbm, ⟨38, _⟩ => ⟨S8x2048x1024, .f32⟩
  | .hbm, ⟨39, _⟩ => ⟨S8x2048x1024, .f32⟩
  | .hbm, ⟨40, _⟩ => ⟨S16384x1024, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel5.lean ====
abbrev S40 : Shape := ⟨1, ![40]⟩
abbrev S1 : Shape := ⟨1, ![1]⟩
abbrev S327680x128 : Shape := ⟨2, ![327680, 128]⟩
abbrev S4x64x1024x256 : Shape := ⟨4, ![4, 64, 1024, 256]⟩
abbrev S4x64x256x1024 : Shape := ⟨4, ![4, 64, 256, 1024]⟩
abbrev S163840x128 : Shape := ⟨2, ![163840, 128]⟩
abbrev S8192x128 : Shape := ⟨2, ![8192, 128]⟩
abbrev S4096x128 : Shape := ⟨2, ![4096, 128]⟩
abbrev S8x1024x256 : Shape := ⟨3, ![8, 1024, 256]⟩
abbrev S8x256x1024 : Shape := ⟨3, ![8, 256, 1024]⟩
abbrev S3 : Shape := ⟨1, ![3]⟩
abbrev S_ : Shape := ⟨0, ![]⟩
abbrev S1x8x1024x256 : Shape := ⟨4, ![1, 8, 1024, 256]⟩
abbrev S1x8x256x1024 : Shape := ⟨4, ![1, 8, 256, 1024]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S512x128 : Shape := ⟨2, ![512, 128]⟩
abbrev S512x1024 : Shape := ⟨2, ![512, 1024]⟩
abbrev S512x1 : Shape := ⟨2, ![512, 1]⟩
abbrev S512x256 : Shape := ⟨2, ![512, 256]⟩
abbrev S256x128 : Shape := ⟨2, ![256, 128]⟩
abbrev S256x1 : Shape := ⟨2, ![256, 1]⟩
abbrev S256x256 : Shape := ⟨2, ![256, 256]⟩
abbrev S2048x128 : Shape := ⟨2, ![2048, 128]⟩

abbrev nBuf : Space → Nat
  | .hbm => 5
  | .vmem => 10
  | .smem => 4
  | _ => 0

abbrev bufTy : (tb : Table) → Fin (tcTables nBuf tb) → BufTy
  | .hbm, ⟨0, _⟩ => ⟨S327680x128, .f32⟩
  | .hbm, ⟨1, _⟩ => ⟨S4x64x1024x256, .f32⟩
  | .hbm, ⟨2, _⟩ => ⟨S4x64x1024x256, .f32⟩
  | .hbm, ⟨3, _⟩ => ⟨S4x64x256x1024, .f32⟩
  | .hbm, ⟨4, _⟩ => ⟨S163840x128, .f32⟩
  | .local _ .vmem, ⟨0, _⟩ => ⟨S8192x128, .f32⟩
  | .local _ .vmem, ⟨1, _⟩ => ⟨S8192x128, .f32⟩
  | .local _ .vmem, ⟨2, _⟩ => ⟨S4096x128, .f32⟩
  | .local _ .vmem, ⟨3, _⟩ => ⟨S4096x128, .f32⟩
  | .local _ .vmem, ⟨4, _⟩ => ⟨S8x1024x256, .f32⟩
  | .local _ .vmem, ⟨5, _⟩ => ⟨S8x1024x256, .f32⟩
  | .local _ .vmem, ⟨6, _⟩ => ⟨S8x256x1024, .f32⟩
  | .local _ .vmem, ⟨7, _⟩ => ⟨S8x1024x256, .bf16⟩
  | .local _ .vmem, ⟨8, _⟩ => ⟨S8x1024x256, .bf16⟩
  | .local _ .vmem, ⟨9, _⟩ => ⟨S8x256x1024, .bf16⟩
  | .local _ .smem, ⟨0, _⟩ => ⟨S40, .i32⟩
  | .local _ .smem, ⟨1, _⟩ => ⟨S1, .i32⟩
  | .local _ .smem, ⟨2, _⟩ => ⟨S40, .i32⟩
  | .local _ .smem, ⟨3, _⟩ => ⟨S40, .i32⟩
  | _, _ => ⟨S327680x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![40], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_mult1 (v30 : BitVec 32) : BitVec 32 :=
  let c8_i32 : BitVec 32 := 8#32
  let v31 : BitVec 32 := Scalar.muli v30 c8_i32
  v31

def k0_off1 (v30 : BitVec 32) : Fin 4 → Nat :=
  let c0_i32_9 : BitVec 32 := 0#32
  let c8_i32 : BitVec 32 := 8#32
  let v31 : BitVec 32 := Scalar.muli v30 c8_i32
  let v32 : BitVec 32 := v31
  let c0_i32_11 : BitVec 32 := 0#32
  let c0_i32_12 : BitVec 32 := 0#32
  ![0, v32.toNat, 0, 0]
def k0_off2 (v30 : BitVec 32) : Fin 4 → Nat :=
  let c0_i32_17 : BitVec 32 := 0#32
  let c8_i32 : BitVec 32 := 8#32
  let v31 : BitVec 32 := Scalar.muli v30 c8_i32
  let v32 : BitVec 32 := v31
  let c0_i32_18 : BitVec 32 := 0#32
  let c0_i32_19 : BitVec 32 := 0#32
  ![0, v32.toNat, 0, 0]

def k0_chk1 (i : grid0.Coords) (v30 : BitVec 32) : Prop :=
  (∀ (k0_h1 : k0_cond1 i = 1#1), 8 ∣ (k0_mult1 v30).toNat) ∧
  (∀ (k0_h1 : k0_cond1 i = 1#1), ∀ a, (k0_off1 v30) a + S1x8x1024x256.size a ≤ S4x64x1024x256.size a) ∧
  (∀ (k0_h1 : k0_cond1 i = 1#1), ∀ a, (k0_off2 v30) a + S1x8x256x1024.size a ≤ S4x64x256x1024.size a)
theorem k0_mult1_dvd : ∀ (i : grid0.Coords) (v30 : BitVec 32) (k0_hw1 : k0_chk1 i v30), ∀ (k0_h1 : k0_cond1 i = 1#1), 8 ∣ (k0_mult1 v30).toNat := fun i v30 k0_hw1 k0_h1 => k0_hw1.1 k0_h1
theorem k0_off1_inb : ∀ (i : grid0.Coords) (v30 : BitVec 32) (k0_hw1 : k0_chk1 i v30), ∀ (k0_h1 : k0_cond1 i = 1#1), ∀ a, (k0_off1 v30) a + S1x8x1024x256.size a ≤ S4x64x1024x256.size a := fun i v30 k0_hw1 k0_h1 => k0_hw1.2.1 k0_h1
theorem k0_off2_inb : ∀ (i : grid0.Coords) (v30 : BitVec 32) (k0_hw1 : k0_chk1 i v30), ∀ (k0_h1 : k0_cond1 i = 1#1), ∀ a, (k0_off2 v30) a + S1x8x256x1024.size a ≤ S4x64x256x1024.size a := fun i v30 k0_hw1 k0_h1 => k0_hw1.2.2 k0_h1

def k0_off3 (i : grid0.Coords) : Fin 1 → Nat :=
  let arg0 : BitVec 32 := BitVec.ofNat 32 (i 0).val
  let v6 : Index := Scalar.indexCast arg0
  ![v6.toNat]
def k0_off4 (i : grid0.Coords) : Fin 1 → Nat :=
  let arg0 : BitVec 32 := BitVec.ofNat 32 (i 0).val
  let c1_i32 : BitVec 32 := 1#32
  let v8 : BitVec 32 := Scalar.subi arg0 c1_i32
  let c0_i32_2 : BitVec 32 := 0#32
  let v9 : BitVec 32 := Scalar.maxsi v8 c0_i32_2
  let v10 : Index := Scalar.indexCast v9
  ![v10.toNat]
def k0_off5 (i : grid0.Coords) : Fin 1 → Nat :=
  let arg0 : BitVec 32 := BitVec.ofNat 32 (i 0).val
  let v30 : Index := Scalar.indexCast arg0
  ![v30.toNat]
def k0_mult2 (v31 : BitVec 32) : BitVec 32 :=
  let c8_i32 : BitVec 32 := 8#32
  let v32 : BitVec 32 := Scalar.muli v31 c8_i32
  v32
def k0_cond2 (i : grid0.Coords) (v0 : BitVec 32) (v7 : BitVec 32) (v11 : BitVec 32) : BitVec 1 :=
  let arg0 : BitVec 32 := BitVec.ofNat 32 (i 0).val
  let v1 : BitVec 1 := Scalar.cmpi .slt arg0 v0
  let c0_i32_1 : BitVec 32 := 0#32
  let v5 : BitVec 1 := Scalar.cmpi .eq arg0 c0_i32_1
  let v12 : BitVec 1 := Scalar.cmpi .ne v7 v11
  let v13 : BitVec 1 := Scalar.ori v5 v12
  let v14 : BitVec 1 := Scalar.andi v1 v13
  let v15 : BitVec 32 := Scalar.extui v14
  let c0_i32_3 : BitVec 32 := 0#32
  let v16 : BitVec 1 := Scalar.cmpi .ne v15 c0_i32_3
  v16

def k0_off6 (v31 : BitVec 32) : Fin 4 → Nat :=
  let c0_i32_8 : BitVec 32 := 0#32
  let c8_i32 : BitVec 32 := 8#32
  let v32 : BitVec 32 := Scalar.muli v31 c8_i32
  let v33 : BitVec 32 := v32
  let c0_i32_10 : BitVec 32 := 0#32
  let c0_i32_11 : BitVec 32 := 0#32
  ![0, v33.toNat, 0, 0]
def k0_off7 (v31 : BitVec 32) : Fin 4 → Nat :=
  let c0_i32_16 : BitVec 32 := 0#32
  let c8_i32 : BitVec 32 := 8#32
  let v32 : BitVec 32 := Scalar.muli v31 c8_i32
  let v33 : BitVec 32 := v32
  let c0_i32_17 : BitVec 32 := 0#32
  let c0_i32_18 : BitVec 32 := 0#32
  ![0, v33.toNat, 0, 0]

def k0_chk2 (i : grid0.Coords) (v0 : BitVec 32) (v7 : BitVec 32) (v11 : BitVec 32) (v31 : BitVec 32) : Prop :=
  (∀ (k0_h2 : k0_cond2 i v0 v7 v11 = 1#1), 8 ∣ (k0_mult2 v31).toNat) ∧
  (∀ (k0_h2 : k0_cond2 i v0 v7 v11 = 1#1), ∀ a, (k0_off6 v31) a + S1x8x1024x256.size a ≤ S4x64x1024x256.size a) ∧
  (∀ (k0_h2 : k0_cond2 i v0 v7 v11 = 1#1), ∀ a, (k0_off7 v31) a + S1x8x256x1024.size a ≤ S4x64x256x1024.size a)
theorem k0_mult2_dvd : ∀ (i : grid0.Coords) (v0 : BitVec 32) (v7 : BitVec 32) (v11 : BitVec 32) (v31 : BitVec 32) (k0_hw2 : k0_chk2 i v0 v7 v11 v31), ∀ (k0_h2 : k0_cond2 i v0 v7 v11 = 1#1), 8 ∣ (k0_mult2 v31).toNat := fun i v0 v7 v11 v31 k0_hw2 k0_h2 => k0_hw2.1 k0_h2
theorem k0_off6_inb : ∀ (i : grid0.Coords) (v0 : BitVec 32) (v7 : BitVec 32) (v11 : BitVec 32) (v31 : BitVec 32) (k0_hw2 : k0_chk2 i v0 v7 v11 v31), ∀ (k0_h2 : k0_cond2 i v0 v7 v11 = 1#1), ∀ a, (k0_off6 v31) a + S1x8x1024x256.size a ≤ S4x64x1024x256.size a := fun i v0 v7 v11 v31 k0_hw2 k0_h2 => k0_hw2.2.1 k0_h2
theorem k0_off7_inb : ∀ (i : grid0.Coords) (v0 : BitVec 32) (v7 : BitVec 32) (v11 : BitVec 32) (v31 : BitVec 32) (k0_hw2 : k0_chk2 i v0 v7 v11 v31), ∀ (k0_h2 : k0_cond2 i v0 v7 v11 = 1#1), ∀ a, (k0_off7 v31) a + S1x8x256x1024.size a ≤ S4x64x256x1024.size a := fun i v0 v7 v11 v31 k0_hw2 k0_h2 => k0_hw2.2.2 k0_h2

def k0_off8 (i : grid0.Coords) : Fin 1 → Nat :=
  let arg0 : BitVec 32 := BitVec.ofNat 32 (i 0).val
  let v190 : Index := Scalar.indexCast arg0
  ![v190.toNat]
def k0_off9 (i : grid0.Coords) : Fin 1 → Nat :=
  let arg0 : BitVec 32 := BitVec.ofNat 32 (i 0).val
  let v195 : Index := Scalar.indexCast arg0
  ![v195.toNat]
def k0_mult3 (v196 : BitVec 32) : BitVec 32 :=
  let c8_i32_158 : BitVec 32 := 8#32
  let v197 : BitVec 32 := Scalar.muli v196 c8_i32_158
  v197
def k0_cond3 (v191 : BitVec 32) : BitVec 1 :=
  let c0_i32_156 : BitVec 32 := 0#32
  let v192 : BitVec 1 := Scalar.cmpi .sge v191 c0_i32_156
  let v193 : BitVec 32 := Scalar.extui v192
  let c0_i32_157 : BitVec 32 := 0#32
  let v194 : BitVec 1 := Scalar.cmpi .ne v193 c0_i32_157
  v194

def k0_off10 (v196 : BitVec 32) : Fin 4 → Nat :=
  let c0_i32_159 : BitVec 32 := 0#32
  let c8_i32_158 : BitVec 32 := 8#32
  let v197 : BitVec 32 := Scalar.muli v196 c8_i32_158
  let v198 : BitVec 32 := v197
  let c0_i32_161 : BitVec 32 := 0#32
  let c0_i32_162 : BitVec 32 := 0#32
  ![0, v198.toNat, 0, 0]
def k0_off11 (v196 : BitVec 32) : Fin 4 → Nat :=
  let c0_i32_167 : BitVec 32 := 0#32
  let c8_i32_158 : BitVec 32 := 8#32
  let v197 : BitVec 32 := Scalar.muli v196 c8_i32_158
  let v198 : BitVec 32 := v197
  let c0_i32_169 : BitVec 32 := 0#32
  let c0_i32_170 : BitVec 32 := 0#32
  ![0, v198.toNat, 0, 0]

def k0_chk3 (i : grid0.Coords) (v0 : BitVec 32) (v7 : BitVec 32) (v11 : BitVec 32) (v191 : BitVec 32) (v196 : BitVec 32) : Prop :=
  (∀ (k0_h2 : k0_cond2 i v0 v7 v11 = 1#1), ∀ (k0_h3 : k0_cond3 v191 = 1#1), 8 ∣ (k0_mult3 v196).toNat) ∧
  (∀ (k0_h2 : k0_cond2 i v0 v7 v11 = 1#1), ∀ (k0_h3 : k0_cond3 v191 = 1#1), ∀ a, (k0_off10 v196) a + S1x8x1024x256.size a ≤ S4x64x1024x256.size a) ∧
  (∀ (k0_h2 : k0_cond2 i v0 v7 v11 = 1#1), ∀ (k0_h3 : k0_cond3 v191 = 1#1), ∀ a, (k0_off11 v196) a + S1x8x256x1024.size a ≤ S4x64x256x1024.size a)
theorem k0_mult3_dvd : ∀ (i : grid0.Coords) (v0 : BitVec 32) (v7 : BitVec 32) (v11 : BitVec 32) (v191 : BitVec 32) (v196 : BitVec 32) (k0_hw3 : k0_chk3 i v0 v7 v11 v191 v196), ∀ (k0_h2 : k0_cond2 i v0 v7 v11 = 1#1), ∀ (k0_h3 : k0_cond3 v191 = 1#1), 8 ∣ (k0_mult3 v196).toNat := fun i v0 v7 v11 v191 v196 k0_hw3 k0_h2 k0_h3 => k0_hw3.1 k0_h2 k0_h3
theorem k0_off10_inb : ∀ (i : grid0.Coords) (v0 : BitVec 32) (v7 : BitVec 32) (v11 : BitVec 32) (v191 : BitVec 32) (v196 : BitVec 32) (k0_hw3 : k0_chk3 i v0 v7 v11 v191 v196), ∀ (k0_h2 : k0_cond2 i v0 v7 v11 = 1#1), ∀ (k0_h3 : k0_cond3 v191 = 1#1), ∀ a, (k0_off10 v196) a + S1x8x1024x256.size a ≤ S4x64x1024x256.size a := fun i v0 v7 v11 v191 v196 k0_hw3 k0_h2 k0_h3 => k0_hw3.2.1 k0_h2 k0_h3
theorem k0_off11_inb : ∀ (i : grid0.Coords) (v0 : BitVec 32) (v7 : BitVec 32) (v11 : BitVec 32) (v191 : BitVec 32) (v196 : BitVec 32) (k0_hw3 : k0_chk3 i v0 v7 v11 v191 v196), ∀ (k0_h2 : k0_cond2 i v0 v7 v11 = 1#1), ∀ (k0_h3 : k0_cond3 v191 = 1#1), ∀ a, (k0_off11 v196) a + S1x8x256x1024.size a ≤ S4x64x256x1024.size a := fun i v0 v7 v11 v191 v196 k0_hw3 k0_h2 k0_h3 => k0_hw3.2.2 k0_h2 k0_h3

def k0_off12 (i : grid0.Coords) : Fin 1 → Nat :=
  let arg0 : BitVec 32 := BitVec.ofNat 32 (i 0).val
  let v17 : Index := Scalar.indexCast arg0
  ![v17.toNat]
def k0_cond4 (i : grid0.Coords) (v0 : BitVec 32) (v18 : BitVec 32) : BitVec 1 :=
  let arg0 : BitVec 32 := BitVec.ofNat 32 (i 0).val
  let v1 : BitVec 1 := Scalar.cmpi .slt arg0 v0
  let c256_i32 : BitVec 32 := 256#32
  let v19 : BitVec 1 := Scalar.cmpi .sle v18 c256_i32
  let v_true : BitVec 1 := 1#1
  let v20 : BitVec 1 := Scalar.xori v19 v_true
  let v21 : BitVec 1 := Scalar.andi v1 v20
  let v22 : BitVec 32 := Scalar.extui v21
  let c0_i32_4 : BitVec 32 := 0#32
  let v23 : BitVec 1 := Scalar.cmpi .ne v22 c0_i32_4
  v23

def k0_cond5 (i : grid0.Coords) (v0 : BitVec 32) (v18 : BitVec 32) : BitVec 1 :=
  let arg0 : BitVec 32 := BitVec.ofNat 32 (i 0).val
  let v1 : BitVec 1 := Scalar.cmpi .slt arg0 v0
  let c256_i32 : BitVec 32 := 256#32
  let v19 : BitVec 1 := Scalar.cmpi .sle v18 c256_i32
  let v24 : BitVec 1 := Scalar.andi v1 v19
  let v25 : BitVec 32 := Scalar.extui v24
  let c0_i32_5 : BitVec 32 := 0#32
  let v26 : BitVec 1 := Scalar.cmpi .ne v25 c0_i32_5
  v26

def k0_cond6 (i : grid0.Coords) (v0 : BitVec 32) : BitVec 1 :=
  let arg0 : BitVec 32 := BitVec.ofNat 32 (i 0).val
  let v1 : BitVec 1 := Scalar.cmpi .slt arg0 v0
  let true_6 : BitVec 1 := 1#1
  let v27 : BitVec 1 := Scalar.xori v1 true_6
  let v28 : BitVec 32 := Scalar.extui v27
  let c0_i32_7 : BitVec 32 := 0#32
  let v29 : BitVec 1 := Scalar.cmpi .ne v28 c0_i32_7
  v29

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference5Ideal.lean ====
abbrev S40 : Shape := ⟨1, ![40]⟩
abbrev S1 : Shape := ⟨1, ![1]⟩
abbrev S327680x128 : Shape := ⟨2, ![327680, 128]⟩
abbrev S4x64x1024x256 : Shape := ⟨4, ![4, 64, 1024, 256]⟩
abbrev S4x64x256x1024 : Shape := ⟨4, ![4, 64, 256, 1024]⟩
abbrev S20480x16x128 : Shape := ⟨3, ![20480, 16, 128]⟩
abbrev S20480x8x128 : Shape := ⟨3, ![20480, 8, 128]⟩
abbrev S20480x1024 : Shape := ⟨2, ![20480, 1024]⟩
abbrev S20480x1x128 : Shape := ⟨3, ![20480, 1, 128]⟩
abbrev S20480x128 : Shape := ⟨2, ![20480, 128]⟩
abbrev S40x512x128 : Shape := ⟨3, ![40, 512, 128]⟩
abbrev S40x512x1 : Shape := ⟨3, ![40, 512, 1]⟩
abbrev S40x512 : Shape := ⟨2, ![40, 512]⟩
abbrev S8 : Shape := ⟨1, ![8]⟩
abbrev S8x1x1 : Shape := ⟨3, ![8, 1, 1]⟩
abbrev S1x40x512 : Shape := ⟨3, ![1, 40, 512]⟩
abbrev S8x40x512 : Shape := ⟨3, ![8, 40, 512]⟩
abbrev S8x1 : Shape := ⟨2, ![8, 1]⟩
abbrev S1x40 : Shape := ⟨2, ![1, 40]⟩
abbrev S8x40 : Shape := ⟨2, ![8, 40]⟩
abbrev S8x1x40x1 : Shape := ⟨4, ![8, 1, 40, 1]⟩
abbrev S1x8x40x512 : Shape := ⟨4, ![1, 8, 40, 512]⟩
abbrev S8x8x40x512 : Shape := ⟨4, ![8, 8, 40, 512]⟩
abbrev S1x64x1024x256 : Shape := ⟨4, ![1, 64, 1024, 256]⟩
abbrev S64x1024x256 : Shape := ⟨3, ![64, 1024, 256]⟩
abbrev S64x256x20480 : Shape := ⟨3, ![64, 256, 20480]⟩
abbrev S64x20480x256 : Shape := ⟨3, ![64, 20480, 256]⟩
abbrev S8x8x40x512x256 : Shape := ⟨5, ![8, 8, 40, 512, 256]⟩
abbrev S_ : Shape := ⟨0, ![]⟩
abbrev S1x8x40x512x1 : Shape := ⟨5, ![1, 8, 40, 512, 1]⟩
abbrev S8x8x40x512x1 : Shape := ⟨5, ![8, 8, 40, 512, 1]⟩
abbrev S1x64x256x1024 : Shape := ⟨4, ![1, 64, 256, 1024]⟩
abbrev S64x256x1024 : Shape := ⟨3, ![64, 256, 1024]⟩
abbrev S64x20480x1024 : Shape := ⟨3, ![64, 20480, 1024]⟩
abbrev S40x512x1024 : Shape := ⟨3, ![40, 512, 1024]⟩
abbrev S40x1 : Shape := ⟨2, ![40, 1]⟩
abbrev S512 : Shape := ⟨1, ![512]⟩
abbrev S1x512 : Shape := ⟨2, ![1, 512]⟩
abbrev S163840x128 : Shape := ⟨2, ![163840, 128]⟩

abbrev nBuf : Space → Nat
  | .hbm => 113
  | .vmem => 0
  | .smem => 0
  | _ => 0

abbrev bufTy : (tb : Table) → Fin (tcTables nBuf tb) → BufTy
  | .hbm, ⟨0, _⟩ => ⟨S40, .i32⟩
  | .hbm, ⟨1, _⟩ => ⟨S1, .i32⟩
  | .hbm, ⟨2, _⟩ => ⟨S40, .i32⟩
  | .hbm, ⟨3, _⟩ => ⟨S40, .i32⟩
  | .hbm, ⟨4, _⟩ => ⟨S327680x128, .f32⟩
  | .hbm, ⟨5, _⟩ => ⟨S4x64x1024x256, .f32⟩
  | .hbm, ⟨6, _⟩ => ⟨S4x64x1024x256, .f32⟩
  | .hbm, ⟨7, _⟩ => ⟨S4x64x256x1024, .f32⟩
  | .hbm, ⟨8, _⟩ => ⟨S20480x16x128, .f32⟩
  | .hbm, ⟨9, _⟩ => ⟨S20480x8x128, .f32⟩
  | .hbm, ⟨10, _⟩ => ⟨S20480x1024, .f32⟩
  | .hbm, ⟨11, _⟩ => ⟨S20480x1x128, .f32⟩
  | .hbm, ⟨12, _⟩ => ⟨S20480x128, .f32⟩
  | .hbm, ⟨13, _⟩ => ⟨S40x512x128, .f32⟩
  | .hbm, ⟨14, _⟩ => ⟨S40x512x1, .f32⟩
  | .hbm, ⟨15, _⟩ => ⟨S40x512, .f32⟩
  | .hbm, ⟨16, _⟩ => ⟨S40x512x1, .f32⟩
  | .hbm, ⟨17, _⟩ => ⟨S40x512, .f32⟩
  | .hbm, ⟨18, _⟩ => ⟨S40x512x1, .f32⟩
  | .hbm, ⟨19, _⟩ => ⟨S40x512, .f32⟩
  | .hbm, ⟨20, _⟩ => ⟨S40x512x1, .f32⟩
  | .hbm, ⟨21, _⟩ => ⟨S40x512, .f32⟩
  | .hbm, ⟨22, _⟩ => ⟨S8, .i32⟩
  | .hbm, ⟨23, _⟩ => ⟨S8, .f32⟩
  | .hbm, ⟨24, _⟩ => ⟨S8x1x1, .f32⟩
  | .hbm, ⟨25, _⟩ => ⟨S1x40x512, .f32⟩
  | .hbm, ⟨26, _⟩ => ⟨S8x40x512, .f32⟩
  | .hbm, ⟨27, _⟩ => ⟨S8x40x512, .f32⟩
  | .hbm, ⟨28, _⟩ => ⟨S8x40x512, .i1⟩
  | .hbm, ⟨29, _⟩ => ⟨S8x40x512, .f32⟩
  | .hbm, ⟨30, _⟩ => ⟨S8x40x512, .f32⟩
  | .hbm, ⟨31, _⟩ => ⟨S8x40x512, .f32⟩
  | .hbm, ⟨32, _⟩ => ⟨S1x40x512, .f32⟩
  | .hbm, ⟨33, _⟩ => ⟨S8x40x512, .f32⟩
  | .hbm, ⟨34, _⟩ => ⟨S8x40x512, .f32⟩
  | .hbm, ⟨35, _⟩ => ⟨S8x40x512, .i1⟩
  | .hbm, ⟨36, _⟩ => ⟨S1x40x512, .f32⟩
  | .hbm, ⟨37, _⟩ => ⟨S8x40x512, .f32⟩
  | .hbm, ⟨38, _⟩ => ⟨S8x40x512, .f32⟩
  | .hbm, ⟨39, _⟩ => ⟨S8x40x512, .i1⟩
  | .hbm, ⟨40, _⟩ => ⟨S8x40x512, .i1⟩
  | .hbm, ⟨41, _⟩ => ⟨S8x1, .i32⟩
  | .hbm, ⟨42, _⟩ => ⟨S1x40, .i32⟩
  | .hbm, ⟨43, _⟩ => ⟨S8x40, .i32⟩
  | .hbm, ⟨44, _⟩ => ⟨S8x40, .i32⟩
  | .hbm, ⟨45, _⟩ => ⟨S8x40, .i1⟩
  | .hbm, ⟨46, _⟩ => ⟨S8x1x40x1, .i1⟩
  | .hbm, ⟨47, _⟩ => ⟨S1x8x40x512, .i1⟩
  | .hbm, ⟨48, _⟩ => ⟨S8x8x40x512, .i1⟩
  | .hbm, ⟨49, _⟩ => ⟨S8x8x40x512, .i1⟩
  | .hbm, ⟨50, _⟩ => ⟨S8x8x40x512, .i1⟩
  | .hbm, ⟨51, _⟩ => ⟨S1x64x1024x256, .f32⟩
  | .hbm, ⟨52, _⟩ => ⟨S64x1024x256, .f32⟩
  | .hbm, ⟨53, _⟩ => ⟨S64x256x20480, .f32⟩
  | .hbm, ⟨54, _⟩ => ⟨S64x20480x256, .f32⟩
  | .hbm, ⟨55, _⟩ => ⟨S8x8x40x512x256, .f32⟩
  | .hbm, ⟨56, _⟩ => ⟨S1x64x1024x256, .f32⟩
  | .hbm, ⟨57, _⟩ => ⟨S64x1024x256, .f32⟩
  | .hbm, ⟨58, _⟩ => ⟨S64x256x20480, .f32⟩
  | .hbm, ⟨59, _⟩ => ⟨S64x20480x256, .f32⟩
  | .hbm, ⟨60, _⟩ => ⟨S8x8x40x512x256, .f32⟩
  | .hbm, ⟨61, _⟩ => ⟨S8x8x40x512x256, .f32⟩
  | .hbm, ⟨62, _⟩ => ⟨S8x8x40x512x256, .f32⟩
  | .hbm, ⟨63, _⟩ => ⟨S_, .f32⟩
  | .hbm, ⟨64, _⟩ => ⟨S8x8x40x512x256, .f32⟩
  | .hbm, ⟨65, _⟩ => ⟨S8x8x40x512x256, .f32⟩
  | .hbm, ⟨66, _⟩ => ⟨S_, .f32⟩
  | .hbm, ⟨67, _⟩ => ⟨S8x8x40x512x256, .f32⟩
  | .hbm, ⟨68, _⟩ => ⟨S8x8x40x512x256, .f32⟩
  | .hbm, ⟨69, _⟩ => ⟨S8x8x40x512x256, .f32⟩
  | .hbm, ⟨70, _⟩ => ⟨S8x8x40x512x256, .f32⟩
  | .hbm, ⟨71, _⟩ => ⟨S1x8x40x512x1, .f32⟩
  | .hbm, ⟨72, _⟩ => ⟨S8x8x40x512x256, .f32⟩
  | .hbm, ⟨73, _⟩ => ⟨S8x8x40x512x256, .f32⟩
  | .hbm, ⟨74, _⟩ => ⟨S8x8x40x512x1, .i1⟩
  | .hbm, ⟨75, _⟩ => ⟨S_, .f32⟩
  | .hbm, ⟨76, _⟩ => ⟨S_, .f32⟩
  | .hbm, ⟨77, _⟩ => ⟨S8x8x40x512x256, .i1⟩
  | .hbm, ⟨78, _⟩ => ⟨S8x8x40x512x256, .f32⟩
  | .hbm, ⟨79, _⟩ => ⟨S8x8x40x512x256, .f32⟩
  | .hbm, ⟨80, _⟩ => ⟨S64x20480x256, .f32⟩
  | .hbm, ⟨81, _⟩ => ⟨S1x64x256x1024, .f32⟩
  | .hbm, ⟨82, _⟩ => ⟨S64x256x1024, .f32⟩
  | .hbm, ⟨83, _⟩ => ⟨S64x20480x1024, .f32⟩
  | .hbm, ⟨84, _⟩ => ⟨S_, .f32⟩
  | .hbm, ⟨85, _⟩ => ⟨S20480x1024, .f32⟩
  | .hbm, ⟨86, _⟩ => ⟨S40x512x1024, .f32⟩
  | .hbm, ⟨87, _⟩ => ⟨S40, .i32⟩
  | .hbm, ⟨88, _⟩ => ⟨S40x1, .i32⟩
  | .hbm, ⟨89, _⟩ => ⟨S512, .i32⟩
  | .hbm, ⟨90, _⟩ => ⟨S1x512, .i32⟩
  | .hbm, ⟨91, _⟩ => ⟨S_, .i32⟩
  | .hbm, ⟨92, _⟩ => ⟨S40x1, .i32⟩
  | .hbm, ⟨93, _⟩ => ⟨S40x1, .i1⟩
  | .hbm, ⟨94, _⟩ => ⟨S_, .i32⟩
  | .hbm, ⟨95, _⟩ => ⟨S1x512, .i32⟩
  | .hbm, ⟨96, _⟩ => ⟨S1x512, .i1⟩
  | .hbm, ⟨97, _⟩ => ⟨S40x1, .i32⟩
  | .hbm, ⟨98, _⟩ => ⟨S_, .i32⟩
  | .hbm, ⟨99, _⟩ => ⟨S40x1, .i32⟩
  | .hbm, ⟨100, _⟩ => ⟨S40x1, .i1⟩
  | .hbm, ⟨101, _⟩ => ⟨S40x512, .i1⟩
  | .hbm, ⟨102, _⟩ => ⟨S40x512, .i1⟩
  | .hbm, ⟨103, _⟩ => ⟨S40x512, .i1⟩
  | .hbm, ⟨104, _⟩ => ⟨S40x512, .i1⟩
  | .hbm, ⟨105, _⟩ => ⟨S40x512, .i1⟩
  | .hbm, ⟨106, _⟩ => ⟨S40x512x1, .i1⟩
  | .hbm, ⟨107, _⟩ => ⟨S_, .f32⟩
  | .hbm, ⟨108, _⟩ => ⟨S_, .f32⟩
  | .hbm, ⟨109, _⟩ => ⟨S40x512x1024, .i1⟩
  | .hbm, ⟨110, _⟩ => ⟨S40x512x1024, .f32⟩
  | .hbm, ⟨111, _⟩ => ⟨S40x512x1024, .f32⟩
  | .hbm, ⟨112, _⟩ => ⟨S163840x128, .f32⟩
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst : Ref sig .tc := ⟨.hbm, 63, rfl⟩
abbrev main_v53 : Ref sig .tc := ⟨.hbm, 64, rfl⟩
abbrev main_v54 : Ref sig .tc := ⟨.hbm, 65, rfl⟩
abbrev main_cst_0 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_1 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_2 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_c : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_c_3 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_4 : Ref sig .tc := ⟨.hbm, 107, rfl⟩
abbrev main_call2_v0 : Ref sig .tc := ⟨.hbm, 108, rfl⟩
abbrev main_call2_v1 : Ref sig .tc := ⟨.hbm, 109, rfl⟩
abbrev main_call2_v2 : Ref sig .tc := ⟨.hbm, 110, rfl⟩
abbrev main_v88 : Ref sig .tc := ⟨.hbm, 111, rfl⟩
abbrev main_v89 : Ref sig .tc := ⟨.hbm, 112, rfl⟩

abbrev nD : Nat := 1
abbrev τ : Topo := Topo.v7x

variable {F : FTy → Type} [FloatOps F]
-- ==== Proof.D.Geo.lean ====
/- The geometry of the dispatch: which elements of the result and of the scratch each view of the body covers, and
   which element lies under which index of it. -/
module

public import proofs.«01_k».proof.Defs
public import proofs.«01_k».proof.Proof.Gen.KernelIdeal
public import proofs.«01_k».proof.Proof.Gen.KernelIdeal.Skeleton
public import proofs.«01_k».proof.Proof.Gen.KernelIdeal.Launch
public import Idealize.ShloMosaic.Lib.Batch
public import Idealize.ShloMosaic.Lib.Ring
public import Idealize.ShloMosaic.Lib.Pipeline.FrameValue
public import Idealize.ShloMosaic.Lib.Pipeline.ValueKit.Geometry
public import Idealize.ShloMosaic.Lib.Tactic
public import Idealize.ShloMosaic.Lib.ValueIdxCore

@[expose] public section

set_option maxRecDepth 16384

noncomputable section

namespace Cert.KernelIdeal.Dispatch

open Cert.KernelIdeal Cert.KernelIdeal.Gen
open Idealize.ShloMosaic Idealize.ShloMosaic.TcCoe Idealize.ShloMosaic.Tactic Idealize.ShloMosaic.ValueIdx

/-- The result in HBM, whole. -/
abbrev outM : Memref sig .tc .hbm S327680x128 .f32 := Memref.whole main_v0
/-- The scratch of two slots, whole. -/
abbrev scrM : Memref sig .tc .vmem S2x8192x128 .f32 := Memref.whole cc0_scratch0

/-- Sixteen rows of the result from `16 * b`. -/
abbrev rowM (off : Fin 2 → ℕ) (h : ∀ a, off a + S16x128.size a ≤ S327680x128.size a) : Memref sig .tc .hbm S16x128 .f32 :=
  outM.slice (Rect.unit (s := S327680x128) off S16x128.size h) (fun _ => rfl)

/-- A slot of the scratch. -/
abbrev slotM (off : Fin 3 → ℕ) (h : ∀ a, off a + S1x8192x128.size a ≤ S2x8192x128.size a) : Memref sig .tc .vmem S8192x128 .f32 :=
  (scrM.slice (Rect.unit (s := S2x8192x128) off S1x8192x128.size h) (fun _ => rfl)).squeeze S8192x128 squeezes_S1x8192x128_S8192x128

/-- Eight thousand rows of the result. -/
abbrev blkM (off : Fin 2 → ℕ) (h : ∀ a, off a + S8192x128.size a ≤ S327680x128.size a) : Memref sig .tc .hbm S8192x128 .f32 :=
  outM.slice (Rect.unit (s := S327680x128) off S8192x128.size h) (fun _ => rfl)

/-- Sixteen rows of a slot. -/
abbrev winM (off : Fin 3 → ℕ) (h : ∀ a, off a + S1x8192x128.size a ≤ S2x8192x128.size a)
    (off' : Fin 2 → ℕ) (h' : ∀ a, off' a + S16x128.size a ≤ S8192x128.size a) : Memref sig .tc .vmem S16x128 .f32 :=
  (slotM off h).slice (Rect.unit (s := S8192x128) off' S16x128.size h') (fun _ => rfl)

/-- The element of a slot under an index. -/
theorem slot_emb (s : ℕ) (off : Fin 3 → ℕ) (h : ∀ a, off a + S1x8192x128.size a ≤ S2x8192x128.size a) (ho : off = ![s, 0, 0])
    (x : S8192x128.Idx) :
    (((slotM off h).view.emb x) (0 : Fin 3)).val = s ∧ (((slotM off h).view.emb x) (1 : Fin 3)).val = (x 0).val
      ∧ (((slotM off h).view.emb x) (2 : Fin 3)).val = (x 1).val := by
  subst ho
  have e : (slotM ![s, 0, 0] h).view.emb x
      = (Rect.unit (s := S2x8192x128) ![s, 0, 0] S1x8192x128.size h).emb (Fin.cons ⟨0, Nat.one_pos⟩ x) := by
    rw [← Shape.reshapeEquiv_cons_one (d := ![8192, 128]) squeezes_S1x8192x128_S8192x128.numel_eq x]; rfl
  rw [e]
  refine ⟨?_, ?_, ?_⟩ <;> rw [ValueKit.rect_emb_unit_val] <;> simp [Fin.cons] <;> rfl

/-- Every element of a slot is under one. -/
theorem mem_slot (s : ℕ) (off : Fin 3 → ℕ) (h : ∀ a, off a + S1x8192x128.size a ≤ S2x8192x128.size a) (ho : off = ![s, 0, 0])
    (y : S2x8192x128.Idx) : y ∈ (slotM off h).view.set ↔ (y 0).val = s := by
  constructor
  · intro hy
    obtain ⟨x, -, rfl⟩ := Finset.mem_map.mp hy
    exact (slot_emb s off h ho x).1
  · intro hy
    refine Finset.mem_map.mpr ⟨ix2 (y 1) (y 2), Finset.mem_univ _, ?_⟩
    obtain ⟨h0, h1, h2⟩ := slot_emb s off h ho (ix2 (y 1) (y 2))
    refine funext fun a => Fin.ext ?_
    match a with
    | 0 => exact h0.trans hy.symm
    | 1 => exact h1
    | 2 => exact h2

/-- The element of sixteen rows of a slot under an index. -/
theorem win_emb (s r : ℕ) (off : Fin 3 → ℕ) (h : ∀ a, off a + S1x8192x128.size a ≤ S2x8192x128.size a) (ho : off = ![s, 0, 0])
    (off' : Fin 2 → ℕ) (h' : ∀ a, off' a + S16x128.size a ≤ S8192x128.size a) (ho' : off' = ![16 * r, 0]) (x : S16x128.Idx) :
    (((winM off h off' h').view.emb x) (0 : Fin 3)).val = s ∧ (((winM off h off' h').view.emb x) (1 : Fin 3)).val = 16 * r + (x 0).val
      ∧ (((winM off h off' h').view.emb x) (2 : Fin 3)).val = (x 1).val := by
  obtain ⟨h0, h1, h2⟩ := slot_emb s off h ho ((Rect.unit (s := S8192x128) off' S16x128.size h').emb x)
  refine ⟨h0, h1.trans ?_, h2.trans ?_⟩ <;> rw [ValueKit.rect_emb_unit_val] <;> subst ho' <;> simp

/-- The elements of sixteen rows of a slot. -/
theorem mem_win (s r : ℕ) (off : Fin 3 → ℕ) (h : ∀ a, off a + S1x8192x128.size a ≤ S2x8192x128.size a) (ho : off = ![s, 0, 0])
    (off' : Fin 2 → ℕ) (h' : ∀ a, off' a + S16x128.size a ≤ S8192x128.size a) (ho' : off' = ![16 * r, 0]) (y : S2x8192x128.Idx) :
    y ∈ (winM off h off' h').view.set ↔ (y 0).val = s ∧ (y 1).val / 16 = r := by
  constructor
  · intro hy
    obtain ⟨x, -, rfl⟩ := Finset.mem_map.mp hy
    obtain ⟨h0, h1, h2⟩ := win_emb s r off h ho off' h' ho' x
    have hx : (x 0).val < 16 := (x 0).isLt
    exact ⟨h0, by omega⟩
  · rintro ⟨hy, hr⟩
    have hx : (y 1).val % 16 < 16 := Nat.mod_lt _ (by decide)
    refine Finset.mem_map.mpr ⟨ix2 (⟨(y 1).val % 16, hx⟩ : Fin 16) (y 2), Finset.mem_univ _, ?_⟩
    obtain ⟨h0, h1, h2⟩ := win_emb s r off h ho off' h' ho' (ix2 (⟨(y 1).val % 16, hx⟩ : Fin 16) (y 2))
    refine funext fun a => Fin.ext ?_
    match a with
    | 0 => exact h0.trans hy.symm
    | 1 => exact h1.trans (show 16 * r + (y 1).val % 16 = (y 1).val by omega)
    | 2 => exact h2

/-- The element of sixteen rows of the result under an index. -/
theorem row_emb (b : ℕ) (off : Fin 2 → ℕ) (h : ∀ a, off a + S16x128.size a ≤ S327680x128.size a) (ho : off = ![16 * b, 0]) (x : S16x128.Idx) :
    (((rowM off h).view.emb x) (0 : Fin 2)).val = 16 * b + (x 0).val ∧ (((rowM off h).view.emb x) (1 : Fin 2)).val = (x 1).val := by
  have e : (rowM off h).view.emb x = (Rect.unit (s := S327680x128) off S16x128.size h).emb x := rfl
  rw [e]
  refine ⟨?_, ?_⟩ <;> rw [ValueKit.rect_emb_unit_val] <;> subst ho <;> simp

/-- The elements of sixteen rows of the result. -/
theorem mem_row (b : ℕ) (off : Fin 2 → ℕ) (h : ∀ a, off a + S16x128.size a ≤ S327680x128.size a) (ho : off = ![16 * b, 0])
    (y : S327680x128.Idx) : y ∈ (rowM off h).view.set ↔ (y 0).val / 16 = b := by
  constructor
  · intro hy
    obtain ⟨x, -, rfl⟩ := Finset.mem_map.mp hy
    obtain ⟨h0, h1⟩ := row_emb b off h ho x
    have hx : (x 0).val < 16 := (x 0).isLt
    omega
  · intro hr
    have hx : (y 0).val % 16 < 16 := Nat.mod_lt _ (by decide)
    refine Finset.mem_map.mpr ⟨ix2 (⟨(y 0).val % 16, hx⟩ : Fin 16) (y 1), Finset.mem_univ _, ?_⟩
    obtain ⟨h0, h1⟩ := row_emb b off h ho (ix2 (⟨(y 0).val % 16, hx⟩ : Fin 16) (y 1))
    refine funext fun a => Fin.ext ?_
    match a with
    | 0 => exact h0.trans (show 16 * b + (y 0).val % 16 = (y 0).val by omega)
    | 1 => exact h1

/-- The elements of a block of the result. -/
theorem mem_blk (b : ℕ) (off : Fin 2 → ℕ) (h : ∀ a, off a + S8192x128.size a ≤ S327680x128.size a) (ho : off = ![8192 * b, 0])
    (y : S327680x128.Idx) : y ∈ (blkM off h).view.set ↔ (y 0).val / 8192 = b := by
  have e : ∀ x, (blkM off h).view.emb x = (Rect.unit (s := S327680x128) off S8192x128.size h).emb x := fun _ => rfl
  have v : ∀ x : S8192x128.Idx, (((blkM off h).view.emb x) (0 : Fin 2)).val = 8192 * b + (x 0).val
      ∧ (((blkM off h).view.emb x) (1 : Fin 2)).val = (x 1).val := fun x => by
    rw [e]; refine ⟨?_, ?_⟩ <;> rw [ValueKit.rect_emb_unit_val] <;> subst ho <;> simp
  constructor
  · intro hy
    obtain ⟨x, -, rfl⟩ := Finset.mem_map.mp hy
    obtain ⟨h0, h1⟩ := v x
    have hx : (x 0).val < 8192 := (x 0).isLt
    omega
  · intro hr
    have hx : (y 0).val % 8192 < 8192 := Nat.mod_lt _ (by decide)
    refine Finset.mem_map.mpr ⟨ix2 (⟨(y 0).val % 8192, hx⟩ : Fin 8192) (y 1), Finset.mem_univ _, ?_⟩
    obtain ⟨h0, h1⟩ := v (ix2 (⟨(y 0).val % 8192, hx⟩ : Fin 8192) (y 1))
    refine funext fun a => Fin.ext ?_
    match a with
    | 0 => exact h0.trans (show 8192 * b + (y 0).val % 8192 = (y 0).val by omega)
    | 1 => exact h1

/-- What one row's transfer credits its semaphore. -/
abbrev creditRow : ℕ := (rowM ![0, 0] (by decide)).view.dmaCredit
/-- What a whole slot's transfer credits its semaphore. -/
abbrev creditBlk : ℕ := (blkM ![0, 0] (by decide)).view.dmaCredit

/-- A row's copy counts for something on its semaphore. -/
theorem creditRow_pos : 0 < creditRow := View.dmaCredit_pos _ (by decide)
/-- A block's copy counts for something on its semaphore. -/
theorem creditBlk_pos : 0 < creditBlk := View.dmaCredit_pos _ (by decide +kernel)
/-- A block's copy counts for 512 rows'. -/
theorem creditBlk_eq : creditBlk = creditRow * 512 := by decide +kernel

/-- What a row's copy counts for on its semaphore. -/
theorem row_credit (off : Fin 2 → ℕ) (h : ∀ a, off a + S16x128.size a ≤ S327680x128.size a) :
    (rowM off h).view.dmaCredit = creditRow := rfl
/-- What a block's copy counts for on its semaphore. -/
theorem blk_credit (off : Fin 2 → ℕ) (h : ∀ a, off a + S8192x128.size a ≤ S327680x128.size a) :
    (blkM off h).view.dmaCredit = creditBlk := rfl

/-- A slot's semaphore as the body names it. -/
abbrev semAt (off : Fin 1 → ℕ) (h : ∀ a, off a + S1.size a ≤ S2.size a) : DmaSem sig :=
  ((cc0_scratch1.slice (Rect.unit (s := S2) off S1.size h)).squeeze S_ squeezes_S1_S_).sem

/-- A slot's semaphore. -/
def semOf (s : ℕ) : DmaSem sig := if s = 0 then 4 else 5

/-- The semaphore of a slot. -/
theorem semAt_eq (s : ℕ) (hs : s < 2) (off : Fin 1 → ℕ) (h : ∀ a, off a + S1.size a ≤ S2.size a) (ho : off = ![s]) :
    semAt off h = semOf s := by
  subst ho
  rcases (show s = 0 ∨ s = 1 by omega) with rfl | rfl
  · revert h; decide +kernel
  · revert h; decide +kernel

/-! ## What the body computes of the grid point -/

/-- The slot of the tile. -/
theorem off1_eq : ∀ i : grid0.Coords, k0_off1 i = ![(i 0).val % 2] := by decide +kernel
/-- The slot of the tile. -/
theorem off2_eq : ∀ i : grid0.Coords, k0_off2 i = ![(i 0).val % 2, 0, 0] := by decide +kernel
/-- The slot of the tile. -/
theorem off3_eq : ∀ i : grid0.Coords, k0_off3 i = ![(i 0).val % 2, 0, 0] := by decide +kernel
/-- The slot of the tile. -/
theorem off5_eq : ∀ i : grid0.Coords, k0_off5 i = ![(i 0).val % 2] := by decide +kernel
/-- The slot of the tile. -/
theorem off7_eq : ∀ i : grid0.Coords, k0_off7 i = ![(i 0).val % 2, 0, 0] := by decide +kernel
/-- The slot of the tile. -/
theorem off10_eq : ∀ i : grid0.Coords, k0_off10 i = ![(i 0).val % 2] := by decide +kernel
/-- The slot of the tile. -/
theorem off12_eq : ∀ i : grid0.Coords, k0_off12 i = ![(i 0).val % 2, 0, 0] := by decide +kernel
/-- The slot of the tile. -/
theorem off14_eq : ∀ i : grid0.Coords, k0_off14 i = ![(i 0).val % 2] := by decide +kernel
/-- The slot of the tile. -/
theorem off15_eq : ∀ i : grid0.Coords, k0_off15 i = ![(i 0).val % 2, 0, 0] := by decide +kernel
/-- The other slot. -/
theorem off16_eq : ∀ i : grid0.Coords, k0_off16 i = ![1 - (i 0).val % 2] := by decide +kernel
/-- The other slot. -/
theorem off17_eq : ∀ i : grid0.Coords, k0_off17 i = ![1 - (i 0).val % 2, 0, 0] := by decide +kernel
/-- The waits for an earlier tile begin with the third tile. -/
theorem cond82_iff : ∀ i : grid0.Coords, k0_cond82 i = 1#1 ↔ 2 ≤ (i 0).val := by decide +kernel
/-- The last waits come at the last tile. -/
theorem cond83_iff : ∀ i : grid0.Coords, k0_cond83 i = 1#1 ↔ (i 0).val = 31 := by decide +kernel

/-- The place that a table's word names. -/
theorem off6_eq (v : BitVec 32) (h : v.toNat < 20480) : k0_off6 v = ![16 * v.toNat, 0] := by
  have e : (Scalar.muli v 16#32).toNat = 16 * v.toNat := by
    show (v * 16#32).toNat = _
    rw [BitVec.toNat_mul, show (16#32 : BitVec 32).toNat = 16 from rfl]; omega
  show ![(Scalar.muli v 16#32).toNat, 0] = _
  rw [e]
/-- The place that a table's word names. -/
theorem off11_eq (v : BitVec 32) (h : v.toNat < 20480) : k0_off11 v = ![16 * v.toNat, 0] := off6_eq v h

/-- A word below the number of rows names sixteen rows of the result. -/
theorem chk1_of_lt (v : BitVec 32) (h : v.toNat < 20480) : k0_chk1 v := by
  refine ⟨?_, ?_⟩
  · have := congrFun (off6_eq v h) 0
    exact ⟨v.toNat, this⟩
  · rw [off6_eq v h]
    intro a
    match a with
    | 0 => show 16 * v.toNat + 16 ≤ 327680; omega
    | 1 => exact le_refl _
/-- A word in range passes the check. -/
theorem chk2_of_lt (v : BitVec 32) (h : v.toNat < 20480) : k0_chk2 v := chk1_of_lt v h

end Cert.KernelIdeal.Dispatch
-- ==== Proof.D.Spec.lean ====
/- What the dispatch leaves: the table of destinations, the row of one token, the result and a slot's contents, and the
   elements each piece of the result covers. -/
module

public import proofs.«01_k».proof.Proof.D.Geo

@[expose] public section

set_option maxRecDepth 16384

noncomputable section

namespace Cert.KernelIdeal.Dispatch

open Cert.KernelIdeal Cert.KernelIdeal.Gen
open Idealize.ShloMosaic Idealize.ShloMosaic.TcCoe Idealize.ShloMosaic.Tactic Idealize.ShloMosaic.ValueIdx

variable {F : FTy → Type} [FloatOps F]

/-- The two tables and the two arrays the call takes. -/
structure Args (F : FTy → Type) where
  dest : S16384.Idx → BitVec 32
  zf : S40.Idx → BitVec 32
  x : S16384x1024.Idx → F .f32
  mt : S16384x128.Idx → F .f32

/-- Zero. -/
def zero : F .f32 := Scalar.ofBits .f32 0x00000000#32

/-- Lane `l` of sublane `r` of token `s`'s row. -/
def rowval (A : Args F) (s : Fin 16384) (r : ℕ) (l : Fin 128) : F .f32 :=
  if h : r < 8 then A.x (ix2 s ⟨128 * r + l.val, by have := l.isLt; omega⟩)
  else if r = 8 then A.mt (ix2 s l) else zero

/-- The row token `s` goes to. -/
def dst (A : Args F) (s : ℕ) : ℕ := if h : s < 16384 then (A.dest (ix1 ⟨s, h⟩)).toNat else 0

/-- Whether block `b` is flagged. -/
def flagged (A : Args F) (b : ℕ) : Prop := ∃ h : b < 40, A.zf (ix1 ⟨b, h⟩) ≠ 0#32

instance (A : Args F) : DecidablePred (flagged A) := fun b => by unfold flagged; infer_instance

/-- What the routing guarantees of the two tables. -/
structure Ok (A : Args F) : Prop where
  lt : ∀ s < 16384, dst A s < 20480
  inj : ∀ s < 16384, ∀ s' < 16384, dst A s = dst A s' → s = s'
  cover : ∀ b < 20480, (∃ s < 16384, dst A s = b) ∨ flagged A (b / 512)

open Classical in
/-- The result. -/
def G (A : Args F) (y : S327680x128.Idx) : F .f32 :=
  if h : ∃ s : Fin 16384, dst A s.val = (y 0).val / 16 then rowval A h.choose ((y 0).val % 16) (y 1) else zero

/-- A place that a token reaches holds the token's row. -/
theorem G_hit {A : Args F} (hA : Ok A) (s : Fin 16384) (y : S327680x128.Idx) (h : dst A s.val = (y 0).val / 16) :
    G A y = rowval A s ((y 0).val % 16) (y 1) := by
  have hx : ∃ s : Fin 16384, dst A s.val = (y 0).val / 16 := ⟨s, h⟩
  unfold G
  rw [dif_pos hx]
  congr 1
  exact Fin.ext (hA.inj _ (Fin.isLt _) _ s.isLt (hx.choose_spec.trans h.symm))

/-- A place that no token reaches holds zero. -/
theorem G_miss {A : Args F} (y : S327680x128.Idx) (h : ¬ ∃ s < 16384, dst A s = (y 0).val / 16) : G A y = zero := by
  unfold G
  exact dif_neg fun ⟨s, hs⟩ => h ⟨s.val, s.isLt, hs⟩

/-- The token in row `r` of tile `i`. -/
def tok (i r : ℕ) : Fin 16384 := Fin.ofNat 16384 (512 * i + r)

/-- A token's number, from its tile and its row. -/
theorem tok_val {i r : ℕ} (hi : i < 32) (hr : r < 512) : (tok i r).val = 512 * i + r := by
  show (512 * i + r) % 16384 = _
  exact Nat.mod_eq_of_lt (by omega)

/-- A slot's contents once tile `i` is laid out in it. -/
def Sc (A : Args F) (i : ℕ) (y : S2x8192x128.Idx) : F .f32 := rowval A (tok i ((y 1).val / 16)) ((y 1).val % 16) (y 2)

/-! ## The pieces of the result and of the scratch -/

/-- Sixteen rows of the result. -/
def rowSet (b : ℕ) : Finset S327680x128.Idx := Finset.univ.filter fun y => (y 0).val / 16 = b
/-- A block of the result. -/
def blkSet (b : ℕ) : Finset S327680x128.Idx := Finset.univ.filter fun y => (y 0).val / 8192 = b
open Classical in
/-- The rows of the tokens from `lo` to below `hi`. -/
def toks (A : Args F) (lo hi : ℕ) : Finset S327680x128.Idx :=
  Finset.univ.filter fun y => ∃ s, lo ≤ s ∧ s < hi ∧ dst A s = (y 0).val / 16
/-- A slot of the scratch. -/
def slotSet (s : ℕ) : Finset S2x8192x128.Idx := Finset.univ.filter fun y => (y 0).val = s
/-- Sixteen rows of a slot. -/
def winSet (s r : ℕ) : Finset S2x8192x128.Idx := Finset.univ.filter fun y => (y 0).val = s ∧ (y 1).val / 16 = r
/-- The rows of a slot from `r` on. -/
def winFrom (s r : ℕ) : Finset S2x8192x128.Idx := Finset.univ.filter fun y => (y 0).val = s ∧ r ≤ (y 1).val / 16

/-- The places of a row's copy. -/
theorem rowM_set (b : ℕ) (off : Fin 2 → ℕ) (h : ∀ a, off a + S16x128.size a ≤ S327680x128.size a) (ho : off = ![16 * b, 0]) :
    (rowM off h).view.set = rowSet b := by
  ext y; rw [mem_row b off h ho, rowSet, Finset.mem_filter]; simp
/-- The places of a block's copy. -/
theorem blkM_set (b : ℕ) (off : Fin 2 → ℕ) (h : ∀ a, off a + S8192x128.size a ≤ S327680x128.size a) (ho : off = ![8192 * b, 0]) :
    (blkM off h).view.set = blkSet b := by
  ext y; rw [mem_blk b off h ho, blkSet, Finset.mem_filter]; simp
/-- The places of a slot. -/
theorem slotM_set (s : ℕ) (off : Fin 3 → ℕ) (h : ∀ a, off a + S1x8192x128.size a ≤ S2x8192x128.size a) (ho : off = ![s, 0, 0]) :
    (slotM off h).view.set = slotSet s := by
  ext y; rw [mem_slot s off h ho, slotSet, Finset.mem_filter]; simp
/-- The places of a token within a slot. -/
theorem winM_set (s r : ℕ) (off : Fin 3 → ℕ) (h : ∀ a, off a + S1x8192x128.size a ≤ S2x8192x128.size a) (ho : off = ![s, 0, 0])
    (off' : Fin 2 → ℕ) (h' : ∀ a, off' a + S16x128.size a ≤ S8192x128.size a) (ho' : off' = ![16 * r, 0]) :
    (winM off h off' h').view.set = winSet s r := by
  ext y; rw [mem_win s r off h ho off' h' ho', winSet, Finset.mem_filter]; simp

/-- The tokens' places, the first taken out. -/
theorem toks_head {A : Args F} (hA : Ok A) (s : ℕ) (hs : s < 16384) : toks A s 16384 = rowSet (dst A s) ∪ toks A (s + 1) 16384 := by
  ext y
  simp only [toks, rowSet, Finset.mem_union, Finset.mem_filter, Finset.mem_univ, true_and]
  constructor
  · rintro ⟨s', h1, h2, h3⟩
    rcases Nat.eq_or_lt_of_le h1 with rfl | h
    · exact .inl h3.symm
    · exact .inr ⟨s', h, h2, h3⟩
  · rintro (h | ⟨s', h1, h2, h3⟩)
    · exact ⟨s, le_refl _, hs, h.symm⟩
    · exact ⟨s', by omega, h2, h3⟩

/-- The two do not meet. -/
theorem toks_head_disjoint {A : Args F} (hA : Ok A) (s : ℕ) (hs : s < 16384) : Disjoint (rowSet (dst A s)) (toks A (s + 1) 16384) := by
  rw [Finset.disjoint_left]
  intro y h1 h2
  simp only [toks, rowSet, Finset.mem_filter, Finset.mem_univ, true_and] at h1 h2
  obtain ⟨s', h3, h4, h5⟩ := h2
  have := hA.inj s hs s' h4 (h1.symm.trans h5.symm)
  omega

/-- The tokens' places in two stretches. -/
theorem toks_append {A : Args F} (lo mid hi : ℕ) (h1 : lo ≤ mid) (h2 : mid ≤ hi) : toks A lo hi = toks A lo mid ∪ toks A mid hi := by
  ext y
  simp only [toks, Finset.mem_union, Finset.mem_filter, Finset.mem_univ, true_and]
  constructor
  · rintro ⟨s, a, b, c⟩
    by_cases h : s < mid
    · exact .inl ⟨s, a, h, c⟩
    · exact .inr ⟨s, by omega, b, c⟩
  · rintro (⟨s, a, b, c⟩ | ⟨s, a, b, c⟩)
    · exact ⟨s, a, by omega, c⟩
    · exact ⟨s, by omega, b, c⟩

/-- The two do not meet. -/
theorem toks_append_disjoint {A : Args F} (hA : Ok A) (lo mid hi : ℕ) (h2 : hi ≤ 16384) : Disjoint (toks A lo mid) (toks A mid hi) := by
  rw [Finset.disjoint_left]
  intro y h1 h3
  simp only [toks, Finset.mem_filter, Finset.mem_univ, true_and] at h1 h3
  obtain ⟨s, a, b, c⟩ := h1
  obtain ⟨s', a', b', c'⟩ := h3
  have := hA.inj s (by omega) s' (by omega) (c.trans c'.symm)
  omega

/-- An empty stretch of tokens has no places. -/
theorem toks_self {A : Args F} (lo : ℕ) : toks A lo lo = ∅ := by
  ext y
  simp only [toks, Finset.mem_filter, Finset.mem_univ, true_and, Finset.notMem_empty, iff_false]
  rintro ⟨s, a, b, -⟩; omega

/-- A tile's rows, one token's after another. -/
theorem toks_tile {A : Args F} (i : ℕ) :
    toks A (512 * i) (512 * (i + 1)) = (Finset.univ : Finset (Fin 512)).biUnion fun k => rowSet (dst A (512 * i + k.val)) := by
  ext y
  simp only [toks, rowSet, Finset.mem_biUnion, Finset.mem_filter, Finset.mem_univ, true_and]
  constructor
  · rintro ⟨s, a, b, c⟩
    exact ⟨⟨s - 512 * i, by omega⟩, by rw [show 512 * i + (s - 512 * i) = s by omega]; exact c.symm⟩
  · rintro ⟨k, hk⟩
    exact ⟨512 * i + k.val, by omega, by have := k.isLt; omega, hk.symm⟩

/-- Different tokens of a tile have different places. -/
theorem rowSet_disjoint {A : Args F} (hA : Ok A) (i : ℕ) (hi : i < 32) :
    ∀ k ∈ (Finset.univ : Finset (Fin 512)), ∀ k' ∈ (Finset.univ : Finset (Fin 512)), k ≠ k'
      → Disjoint (rowSet (dst A (512 * i + k.val))) (rowSet (dst A (512 * i + k'.val))) := by
  intro k _ k' _ hk
  rw [Finset.disjoint_left]
  intro y h1 h2
  simp only [rowSet, Finset.mem_filter, Finset.mem_univ, true_and] at h1 h2
  have := hA.inj _ (by omega) _ (by omega) (h1.symm.trans h2)
  exact hk (Fin.ext (by omega))

/-- A slot is its tokens' places. -/
theorem slotSet_wins (s : ℕ) : slotSet s = (Finset.univ : Finset (Fin 512)).biUnion fun k => winSet s k.val := by
  ext y
  simp only [slotSet, winSet, Finset.mem_biUnion, Finset.mem_filter, Finset.mem_univ, true_and]
  have hy : (y 1).val < 8192 := (y 1).isLt
  exact ⟨fun h => ⟨⟨(y 1).val / 16, by omega⟩, h, rfl⟩, fun ⟨k, h, _⟩ => h⟩

/-- Different tokens' places do not meet. -/
theorem winSet_disjoint (s : ℕ) : ∀ k ∈ (Finset.univ : Finset (Fin 512)), ∀ k' ∈ (Finset.univ : Finset (Fin 512)), k ≠ k'
    → Disjoint (winSet s k.val) (winSet s k'.val) := by
  intro k _ k' _ hk
  rw [Finset.disjoint_left]
  intro y h1 h2
  simp only [winSet, Finset.mem_filter, Finset.mem_univ, true_and] at h1 h2
  exact hk (Fin.ext (h1.2.symm.trans h2.2))

/-- From the first token on it is the slot. -/
theorem winFrom_zero (s : ℕ) : winFrom s 0 = slotSet s := by
  ext y; simp [winFrom, slotSet]
/-- After the last token nothing is left. -/
theorem winFrom_end (s : ℕ) : winFrom s 512 = ∅ := by
  ext y
  simp only [winFrom, Finset.mem_filter, Finset.mem_univ, true_and, Finset.notMem_empty, iff_false]
  have hy : (y 1).val < 8192 := (y 1).isLt
  rintro ⟨-, h⟩; omega
/-- The rest of a slot, the first token taken out. -/
theorem winFrom_head (s r : ℕ) : winFrom s r = winSet s r ∪ winFrom s (r + 1) := by
  ext y
  simp only [winFrom, winSet, Finset.mem_union, Finset.mem_filter, Finset.mem_univ, true_and]
  constructor
  · rintro ⟨h1, h2⟩
    rcases Nat.eq_or_lt_of_le h2 with h | h
    · exact .inl ⟨h1, h.symm⟩
    · exact .inr ⟨h1, h⟩
  · rintro (⟨h1, h2⟩ | ⟨h1, h2⟩)
    · exact ⟨h1, h2.ge⟩
    · exact ⟨h1, by omega⟩
/-- The two do not meet. -/
theorem winFrom_head_disjoint (s r : ℕ) : Disjoint (winSet s r) (winFrom s (r + 1)) := by
  rw [Finset.disjoint_left]
  intro y h1 h2
  simp only [winSet, winFrom, Finset.mem_filter, Finset.mem_univ, true_and] at h1 h2
  omega

end Cert.KernelIdeal.Dispatch
-- ==== Proof.D.Issue.lean ====
/- One trip of the loop that sends a tile's rows: two transfers, each of a token's sixteen sublanes to the token's row. -/
module

public import proofs.«01_k».proof.Proof.D.Spec

@[expose] public section

set_option maxRecDepth 16384

noncomputable section

namespace Cert.KernelIdeal.Dispatch

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The counters' place in the resources. -/
abbrev EC : UEmb Counters (MT nD τ sig Unit (Elt F) ℕ (Pipeline.UD sig nD τ) ℕ) := countersEmb (U := Pipeline.UD sig nD τ)

/-- The result's buffer, the scratch's and the two tables'. -/
abbrev ℓo (c : Dev nD) : Loc nD τ sig := (c : Thread nD τ).loc main_v0
abbrev ℓs (c : Dev nD) : Loc nD τ sig := (c : Thread nD τ).loc cc0_scratch0
abbrev ℓd (c : Dev nD) : Loc nD τ sig := (c : Thread nD τ).loc main_arg0
abbrev ℓz (c : Dev nD) : Loc nD τ sig := (c : Thread nD τ).loc main_arg1

/-- What token `k` of tile `i` delivers: its row of the result filled, its sublanes of the slot back. -/
def deliv (A : Args F) (c : Dev nD) (i : ℕ) (k : Fin 512) : sProp 𝕄 :=
  iprop((ℓo c ↦[rowSet (dst A (512 * i + k.val))]{fullShare} (G A : Buf (Elt F) (ℓo c)))
    ∗ (ℓs c ↦[winSet (i % 2) k.val]{fullShare} (Sc A i : Buf (Elt F) (ℓs c))))

instance (A : Args F) (c : Dev nD) (i : ℕ) (k : Fin 512) : Storable (upEmb : UEmb _ 𝕄) (deliv A c i k) := by
  unfold deliv; infer_instance

/-- A tile's transfers on its slot's semaphore, the first `k` of them issued. -/
def sent (A : Args F) (c : Dev nD) (i k : ℕ) : sProp 𝕄 :=
  Transfers.Batch EC (c : Thread nD τ) (.dma (semOf (i % 2))) () creditRow (deliv A c i) k 0

/-- The tile after `k` of its rows are sent: the transfers in flight, the rows of the later tokens, the rows of the slot
    still in hand. -/
def tileAt (A : Args F) (c : Dev nD) (f : Buf (Elt F) (ℓo c)) (i k : ℕ) : sProp 𝕄 :=
  iprop((ℓs c ↦[winFrom (i % 2) k]{fullShare} (Sc A i : Buf (Elt F) (ℓs c)))
    ∗ (ℓo c ↦[toks A (512 * i + k) 16384]{fullShare} f) ∗ sent A c i k)

/-- What a row's copy delivers. -/
theorem deliv_of {A : Args F} (hA : Ok A) (c : Dev nD) (f : Buf (Elt F) (ℓo c)) (i k : ℕ) (hi : i < 32) (hk : k < 512)
    (o1 : Fin 3 → ℕ) (h1 : ∀ a, o1 a + S1x8192x128.size a ≤ S2x8192x128.size a) (e1 : o1 = ![i % 2, 0, 0])
    (o2 : Fin 2 → ℕ) (h2 : ∀ a, o2 a + S16x128.size a ≤ S8192x128.size a) (e2 : o2 = ![16 * k, 0])
    (o3 : Fin 2 → ℕ) (h3 : ∀ a, o3 a + S16x128.size a ≤ S327680x128.size a) (e3 : o3 = ![16 * dst A (512 * i + k), 0]) :
    iprop((ℓo c ↦[rowSet (dst A (512 * i + k))]{fullShare} ((rowM o3 h3).view.write (Elt F) f
              ((ReadAs.same (Val := Elt F) (s := S16x128) (e := .f32)).apply ((winM o1 h1 o2 h2).view.read (Elt F) (Sc A i : Buf (Elt F) (ℓs c)))) Finset.univ))
        ∗ (ℓs c ↦[(winM o1 h1 o2 h2).view.set]{fullShare} (Sc A i : Buf (Elt F) (ℓs c))))
      ⊢ (deliv A c i ⟨k, hk⟩ : sProp 𝕄) := by
  unfold deliv
  rw [winM_set (i % 2) k o1 h1 e1 o2 h2 e2]
  refine sep_mono (Entails.of_eq (pointsTo_congr fun y hy => ?_)) .rfl
  have hy' : y ∈ (rowM o3 h3).view.set := by rw [rowM_set _ o3 h3 e3]; exact hy
  obtain ⟨x, -, rfl⟩ := Finset.mem_map.mp hy'
  obtain ⟨r0, r1⟩ := row_emb _ o3 h3 e3 x
  obtain ⟨w0, w1, w2⟩ := win_emb (i % 2) k o1 h1 e1 o2 h2 e2 x
  have hx : (x 0).val < 16 := (x 0).isLt
  rw [View.write_emb_of_mem _ _ (Finset.mem_univ x)]
  show Sc A i ((winM o1 h1 o2 h2).view.emb x) = G A ((rowM o3 h3).view.emb x)
  rw [G_hit hA (tok i k) _ (by rw [tok_val hi hk]; omega)]
  unfold Sc
  rw [show (((winM o1 h1 o2 h2).view.emb x) 1).val / 16 = k by omega]
  congr 1
  · omega
  · exact Fin.ext (w2.trans r1.symm)

/-- The start of a row's copy. -/
theorem issue_row {A : Args F} (hA : Ok A) (c : Dev nD) (f : Buf (Elt F) (ℓo c)) (i k : ℕ) (hi : i < 32) (hk : k < 512)
    (o1 : Fin 3 → ℕ) (h1 : ∀ a, o1 a + S1x8192x128.size a ≤ S2x8192x128.size a) (e1 : o1 = ![i % 2, 0, 0])
    (o2 : Fin 2 → ℕ) (h2 : ∀ a, o2 a + S16x128.size a ≤ S8192x128.size a) (e2 : o2 = ![16 * k, 0])
    (o3 : Fin 2 → ℕ) (h3 : ∀ a, o3 a + S16x128.size a ≤ S327680x128.size a) (e3 : o3 = ![16 * dst A (512 * i + k), 0])
    (o4 : Fin 1 → ℕ) (h4 : ∀ a, o4 a + S1.size a ≤ S2.size a) (e4 : o4 = ![i % 2])
    {g1 : (winM o1 h1 o2 h2).view.WordExact} {g2 : (rowM o3 h3).view.WordExact}
    {g3 : (DmaTarget.here (rowM o3 h3) : DmaTarget nD τ sig .tc _ S16x128 .f32).Typed .vmem (.dma (semAt o4 h4))}
    {α : Type} {kk : PUnit → Prog (TpuEff nD τ sig (Elt F) Λ₀ .tc) α} {Q : α → sProp 𝕄} :
    (tileAt A c f i k : sProp 𝕄) ⊢ iprop((tileAt A c f i (k + 1) -∗ wp frame (wpE (defs₀ (F := F)) Variants.none (c : Thread nD τ) none) Set.univ (kk ⟨⟩) Q)
      -∗ wp frame (wpE (defs₀ (F := F)) Variants.none (c : Thread nD τ) none) Set.univ
          (.op (.enqueueDma (winM o1 h1 o2 h2) (.here (rowM o3 h3)) (.dma (semAt o4 h4)) g1 g2 g3) kk) Q) := by
  unfold tileAt sent
  rw [winFrom_head (i % 2) k, toks_head hA (512 * i + k) (by omega), ← semAt_eq (i % 2) (by omega) o4 h4 e4]
  iintro ⟨Hs, Ho, HB⟩ Hk
  ihave Hs' := (pointsTo_union (winFrom_head_disjoint (i % 2) k)).1 $$ Hs
  icases Hs' with ⟨Hs1, Hs⟩
  ihave Ho' := (pointsTo_union (toks_head_disjoint hA (512 * i + k) (by omega))).1 $$ Ho
  icases Ho' with ⟨Ho1, Ho⟩
  iapply (Transfers.wp_dmaBatch EC Variants.none (c : Thread nD τ) none (src := winM o1 h1 o2 h2) (dst := rowM o3 h3)
    (fs := (Sc A i : Buf (Elt F) (ℓs c))) (fd := f) (Sd := rowSet (dst A (512 * i + k))) (q := fullShare)
    () creditRow rfl (by rw [rowM_set _ o3 h3 e3]) (D := deliv A c i) (j := k) (u := 0) hk (Nat.zero_le _)
    (deliv_of hA c f i k hi hk o1 h1 e1 o2 h2 e2 o3 h3 e3)) $$ [Hs1 Ho1 HB]
  · isplitl [Hs1]
    · rw [winM_set (i % 2) k o1 h1 e1 o2 h2 e2]; iexact Hs1
    isplitl [Ho1]; · iexact Ho1
    iexact HB
  iintro HB
  iapply Hk
  isplitl [Hs]; · iexact Hs
  isplitl [Ho]; · iexact Ho
  iexact HB

end Cert.KernelIdeal.Dispatch
-- ==== Proof.D.Trip.lean ====
/- The loop that sends a tile's rows. -/
module

public import proofs.«01_k».proof.Proof.D.Issue

@[expose] public section

set_option maxRecDepth 16384

noncomputable section

namespace Cert.KernelIdeal.Dispatch

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Running a program of this launch on a core's thread. -/
abbrev wpc (c : Dev nD) {α : Type} (p : Prog (TpuEff nD τ sig (Elt F) Λ₀ .tc) α) (Q : α → sProp (MT nD τ sig Unit (Elt F) ℕ (Pipeline.UD sig nD τ) ℕ)) :
    sProp (MT nD τ sig Unit (Elt F) ℕ (Pipeline.UD sig nD τ) ℕ) :=
  wp frame (wpE (defs₀ (F := F)) Variants.none (c : Thread nD τ) none) Set.univ p Q

/-- A load from the destinations' table. -/
theorem dest_word (f : S16384.Idx → BitVec 32) (t : ℕ) (h : ∀ a, ![t] a + S1.size a ≤ S16384.size a) (ht : t < 16384) (x : (Rect.unit (s := S16384) ![t] S1.size h).shape.Idx) :
    f ((Rect.unit (s := S16384) ![t] S1.size h).emb x) = f (ix1 ⟨t, ht⟩) := by
  congr 1
  funext a
  refine Fin.ext ?_
  obtain rfl : a = (0 : Fin 1) := Subsingleton.elim _ _
  rw [ValueKit.rect_emb_unit_val]
  have hx : (x (0 : Fin 1)).val < 1 := (x (0 : Fin 1)).isLt
  show t + (x (0 : Fin 1)).val = t
  omega

/-- A word of the table of destinations. -/
theorem load_dest (c : Dev nD) (f : Buf (Elt F) (ℓd c)) (q : PosShare TreeShare) (o : Fin 1 → ℕ) (h : ∀ a, o a + S1.size a ≤ S16384.size a)
    (t : ℕ) (ht : t < 16384) (e : o = ![t]) {α : Type} {kk : Elt F .i32 → Prog (TpuEff nD τ sig (Elt F) Λ₀ .tc) α} {Q : α → sProp 𝕄} :
    (ℓd c ↦[Finset.univ]{q} f : sProp 𝕄) ⊢ iprop(((ℓd c ↦[Finset.univ]{q} f) -∗ wpc c (kk ((f : S16384.Idx → BitVec 32) (ix1 ⟨t, ht⟩))) Q)
      -∗ wpc c (smemLoad (Memref.whole main_arg0) (Rect.unit (s := S16384) o S1.size h) numel1_S1 rfl >>= kk) Q) := by
  subst e
  unfold smemLoad smemLoadElt
  iintro H Hk
  iapply (wp_load_rect Variants.none (c : Thread nD τ) none Set.univ (m := Memref.whole main_arg0) (r := Rect.unit (s := S16384) ![t] S1.size h) (S := Finset.univ) (q := q) (f := f) (Finset.subset_univ _)) $$ H
  iintro H
  ispecialize Hk $$ H
  rw [← dest_word f t h ht (Shape.Idx.first (numel1_S1.symm ▸ Nat.one_pos))]
  iexact Hk

/-- A load from the flags' table. -/
theorem flag_word (f : S40.Idx → BitVec 32) (t : ℕ) (h : ∀ a, ![t] a + S1.size a ≤ S40.size a) (ht : t < 40) (x : (Rect.unit (s := S40) ![t] S1.size h).shape.Idx) :
    f ((Rect.unit (s := S40) ![t] S1.size h).emb x) = f (ix1 ⟨t, ht⟩) := by
  congr 1
  funext a
  refine Fin.ext ?_
  obtain rfl : a = (0 : Fin 1) := Subsingleton.elim _ _
  rw [ValueKit.rect_emb_unit_val]
  have hx : (x (0 : Fin 1)).val < 1 := (x (0 : Fin 1)).isLt
  show t + (x (0 : Fin 1)).val = t
  omega

/-- A word of the table of flags. -/
theorem load_flag (c : Dev nD) (f : Buf (Elt F) (ℓz c)) (q : PosShare TreeShare) (o : Fin 1 → ℕ) (h : ∀ a, o a + S1.size a ≤ S40.size a)
    (t : ℕ) (ht : t < 40) (e : o = ![t]) {α : Type} {kk : Elt F .i32 → Prog (TpuEff nD τ sig (Elt F) Λ₀ .tc) α} {Q : α → sProp 𝕄} :
    (ℓz c ↦[Finset.univ]{q} f : sProp 𝕄) ⊢ iprop(((ℓz c ↦[Finset.univ]{q} f) -∗ wpc c (kk ((f : S40.Idx → BitVec 32) (ix1 ⟨t, ht⟩))) Q)
      -∗ wpc c (smemLoad (Memref.whole main_arg1) (Rect.unit (s := S40) o S1.size h) numel1_S1 rfl >>= kk) Q) := by
  subst e
  unfold smemLoad smemLoadElt
  iintro H Hk
  iapply (wp_load_rect Variants.none (c : Thread nD τ) none Set.univ (m := Memref.whole main_arg1) (r := Rect.unit (s := S40) ![t] S1.size h) (S := Finset.univ) (q := q) (f := f) (Finset.subset_univ _)) $$ H
  iintro H
  ispecialize Hk $$ H
  rw [← flag_word f t h ht (Shape.Idx.first (numel1_S1.symm ▸ Nat.one_pos))]
  iexact Hk

/-- The loop's invariant: the table and the tile after `2k` rows. -/
def loopAt (A : Args F) (c : Dev nD) (f : Buf (Elt F) (ℓo c)) (i k : ℕ) : sProp 𝕄 :=
  iprop((ℓd c ↦[Finset.univ]{fullShare.right} (A.dest : Buf (Elt F) (ℓd c))) ∗ tileAt A c f i (2 * k))

/-- A trip of the loop sends two tokens. -/
theorem trip {A : Args F} (hA : Ok A) (c : Dev nD) (f : Buf (Elt F) (ℓo c)) (i : grid0.Coords) (k : Fin k0_t1_loop.trips)
    (hw1 hw2 hw5 hw6 : _) (a3 : Memref sig .tc .vmem S512x1024 .f32) (h3 : a3.IsWhole) (a4 : Memref sig .tc .vmem S512x128 .f32) (h4 : a4.IsWhole) (u : Unit) :
    loopAt A c f (i 0).val k.val ⊢ wpc c
      (k0_t1_body i (Memref.whole main_arg0) hw1 (Memref.whole main_arg1) hw2 a3 h3 a4 h4 (Memref.whole main_v0) hw5 (Memref.whole cc0_scratch0) hw6 cc0_scratch1 k u)
      (fun _ => loopAt A c f (i 0).val (k.val + 1)) := by
  have hi : (i 0).val < 32 := (i 0).isLt
  have hk : k.val < 256 := k.isLt
  unfold loopAt k0_t1_body
  rw [show 2 * (k.val + 1) = 2 * k.val + 1 + 1 by ring]
  have ht1 : 512 * (i 0).val + 2 * k.val < 16384 := by omega
  have ht2 : 512 * (i 0).val + 2 * k.val + 1 < 16384 := by omega
  have hd1 : dst A (512 * (i 0).val + 2 * k.val) = (A.dest (ix1 ⟨_, ht1⟩)).toNat := by unfold dst; rw [dif_pos ht1]
  have hd2 : dst A (512 * (i 0).val + (2 * k.val + 1)) = (A.dest (ix1 ⟨_, ht2⟩)).toNat := by
    unfold dst; rw [dif_pos (by omega)]; rfl
  have l1 : (A.dest (ix1 ⟨_, ht1⟩)).toNat < 20480 := by rw [← hd1]; exact hA.lt _ ht1
  have l2 : (A.dest (ix1 ⟨_, ht2⟩)).toNat < 20480 := by rw [← hd2]; exact hA.lt _ (by omega)
  iintro ⟨Hd, Ht⟩
  iapply (load_dest c (A.dest : Buf (Elt F) (ℓd c)) fullShare.right (k0_off4 i k) _ _ ht1 (k0_off4_eq i k)) $$ Hd
  iintro Hd
  iapply (wp_assume Variants.none (c : Thread nD τ) none Set.univ (chk1_of_lt _ l1))
  iapply (issue_row hA c f (i 0).val (2 * k.val) hi (by omega) _ _ (off7_eq i) _ _ ((k0_off8_eq k).trans (by congr 1; ring))
    _ _ ((off6_eq _ l1).trans (by rw [hd1])) _ _ (off5_eq i)) $$ Ht
  iintro Ht
  iapply (load_dest c (A.dest : Buf (Elt F) (ℓd c)) fullShare.right (k0_off9 i k) _ _ ht2 (k0_off9_eq i k)) $$ Hd
  iintro Hd
  iapply (wp_assume Variants.none (c : Thread nD τ) none Set.univ (chk2_of_lt _ l2))
  iapply (issue_row hA c f (i 0).val (2 * k.val + 1) hi (by omega) _ _ (off12_eq i) _ _ ((k0_off13_eq k).trans (by congr 1; ring))
    _ _ ((off11_eq _ l2).trans (by rw [hd2])) _ _ (off10_eq i)) $$ Ht
  iintro Ht
  rw [show ∀ (x : PUnit), (Prog.ret x : Prog (TpuEff nD τ sig (Elt F) Λ₀ .tc) PUnit).bind (fun _ => (pure PUnit.unit : Prog (TpuEff nD τ sig (Elt F) Λ₀ .tc) PUnit)) = Prog.ret PUnit.unit from fun _ => rfl]
  sl_step
  isplitl [Hd]; · iexact Hd
  iexact Ht

/-- The loop sends the tile's tokens. -/
theorem sendLoop {A : Args F} (hA : Ok A) (c : Dev nD) (f : Buf (Elt F) (ℓo c)) (i : grid0.Coords)
    (hw1 hw2 hw5 hw6 : _) (a3 : Memref sig .tc .vmem S512x1024 .f32) (h3 : a3.IsWhole) (a4 : Memref sig .tc .vmem S512x128 .f32) (h4 : a4.IsWhole)
    {α : Type} {kk : Unit → Prog (TpuEff nD τ sig (Elt F) Λ₀ .tc) α} {Q : α → sProp 𝕄} :
    loopAt A c f (i 0).val 0 ⊢ iprop((loopAt A c f (i 0).val 256 -∗ wpc c (kk ⟨⟩) Q) -∗ wpc c
      (Scf.Loop.for k0_t1_loop k0_t1_ok ⟨⟩
        (k0_t1_body i (Memref.whole main_arg0) hw1 (Memref.whole main_arg1) hw2 a3 h3 a4 h4 (Memref.whole main_v0) hw5 (Memref.whole cc0_scratch0) hw6 cc0_scratch1) >>= kk) Q) := by
  iintro H Hk
  iapply (Scf.wp_for_bind frame (wpE (defs₀ (F := F)) Variants.none (c : Thread nD τ) none) Set.univ k0_t1_loop.lb k0_t1_loop.ub k0_t1_loop.st k0_t1_ok ⟨⟩
    (k0_t1_body i (Memref.whole main_arg0) hw1 (Memref.whole main_arg1) hw2 a3 h3 a4 h4 (Memref.whole main_v0) hw5 (Memref.whole cc0_scratch0) hw6 cc0_scratch1)
    (fun k _ => loopAt A c f (i 0).val k) (fun k acc => trip hA c f i k hw1 hw2 hw5 hw6 a3 h3 a4 h4 acc)) $$ H
  iintro %acc H
  iapply Hk
  iexact H

end Cert.KernelIdeal.Dispatch
-- ==== Proof.D.Zero.lean ====
/- The blocks no expert fills, filled with zeros: one transfer for each flagged block, all on one semaphore. -/
module

public import proofs.«01_k».proof.Proof.D.Trip

@[expose] public section

set_option maxRecDepth 16384

noncomputable section

namespace Cert.KernelIdeal.Dispatch

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Counting the flagged blocks -/

/-- How many blocks below `b` are flagged. -/
def cnt (A : Args F) (b : ℕ) : ℕ := ((Finset.range b).filter (flagged A)).card
/-- The flagged blocks from `b` on. -/
def later (A : Args F) (b : ℕ) : Finset ℕ := (Finset.Ico b 40).filter (flagged A)
/-- The flagged blocks with `j` flagged ones below. -/
def nth (A : Args F) (j : ℕ) : Finset ℕ := (later A 0).filter fun b => cnt A b = j

/-- No flags before the first block. -/
theorem cnt_zero (A : Args F) : cnt A 0 = 0 := by simp [cnt]

/-- A flagged block is counted. -/
theorem cnt_flagged {A : Args F} {b : ℕ} (h : flagged A b) : cnt A (b + 1) = cnt A b + 1 := by
  unfold cnt
  rw [Finset.range_add_one, Finset.filter_insert, if_pos h, Finset.card_insert_of_notMem (by simp)]

/-- A block without a flag is not. -/
theorem cnt_clear {A : Args F} {b : ℕ} (h : ¬ flagged A b) : cnt A (b + 1) = cnt A b := by
  unfold cnt
  rw [Finset.range_add_one, Finset.filter_insert, if_neg h]

/-- The count does not fall. -/
theorem cnt_mono {A : Args F} {b b' : ℕ} (h : b ≤ b') : cnt A b ≤ cnt A b' :=
  Finset.card_le_card (Finset.filter_subset_filter _ (Finset.range_mono h))

/-- A flagged block's count is below the later ones. -/
theorem cnt_lt {A : Args F} {b b' : ℕ} (hb : flagged A b) (h : b < b') : cnt A b < cnt A b' := by
  have := cnt_mono (A := A) (show b + 1 ≤ b' from h)
  rw [cnt_flagged hb] at this
  omega

/-- The flagged block of its own order. -/
theorem nth_cnt {A : Args F} {b : ℕ} (hb : b < 40) (h : flagged A b) : nth A (cnt A b) = {b} := by
  ext b'
  simp only [nth, later, Finset.mem_filter, Finset.mem_Ico, Finset.mem_singleton]
  constructor
  · rintro ⟨⟨-, h'⟩, e⟩
    rcases lt_trichotomy b b' with l | l | l
    · exact absurd (cnt_lt h l) (by omega)
    · exact l.symm
    · exact absurd (cnt_lt h' l) (by omega)
  · rintro rfl
    exact ⟨⟨⟨Nat.zero_le _, hb⟩, h⟩, rfl⟩

/-- The later flagged blocks, a flagged one taken out. -/
theorem later_flagged {A : Args F} {b : ℕ} (hb : b < 40) (h : flagged A b) : later A b = insert b (later A (b + 1)) := by
  ext b'
  simp only [later, Finset.mem_filter, Finset.mem_Ico, Finset.mem_insert]
  constructor
  · rintro ⟨⟨h1, h2⟩, h3⟩
    rcases Nat.eq_or_lt_of_le h1 with e | l
    · exact .inl e.symm
    · exact .inr ⟨⟨l, h2⟩, h3⟩
  · rintro (rfl | ⟨⟨h1, h2⟩, h3⟩)
    · exact ⟨⟨le_refl _, hb⟩, h⟩
    · exact ⟨⟨by omega, h2⟩, h3⟩

/-- A block without a flag changes nothing. -/
theorem later_clear {A : Args F} {b : ℕ} (h : ¬ flagged A b) : later A b = later A (b + 1) := by
  ext b'
  simp only [later, Finset.mem_filter, Finset.mem_Ico]
  constructor
  · rintro ⟨⟨h1, h2⟩, h3⟩
    rcases Nat.eq_or_lt_of_le h1 with e | l
    · exact absurd (e ▸ h3) h
    · exact ⟨⟨l, h2⟩, h3⟩
  · rintro ⟨⟨h1, h2⟩, h3⟩
    exact ⟨⟨by omega, h2⟩, h3⟩

/-- A block is not later than itself. -/
theorem later_head {A : Args F} {b : ℕ} : b ∉ later A (b + 1) := by simp [later]

/-- None is after the last. -/
theorem later_end (A : Args F) : later A 40 = ∅ := by simp [later]

/-- A flagged block's count is below the whole. -/
theorem cnt_lt_all {A : Args F} {b : ℕ} (hb : b < 40) (h : flagged A b) : cnt A b < cnt A 40 := cnt_lt h hb

/-- A product with one factor more. -/
theorem bs_insert {s : Finset ℕ} {i : ℕ} (h : i ∉ s) (Φ : ℕ → sProp 𝕄) : bigSep (insert i s) Φ = iprop(Φ i ∗ bigSep s Φ) :=
  bigSep_insert h

/-! ## The transfers -/

/-- The result's and the scratch's buffer full of zeros. -/
abbrev zO (c : Dev nD) : Buf (Elt F) (ℓo c) := fun _ => (zero : F .f32)
abbrev zS (c : Dev nD) : Buf (Elt F) (ℓs c) := fun _ => (zero : F .f32)

/-- What block `b` takes: its rows of the result, a share of the slot of zeros. -/
def takes (c : Dev nD) (f : Buf (Elt F) (ℓo c)) (b : ℕ) : sProp 𝕄 :=
  iprop((ℓo c ↦[blkSet b]{fullShare} f) ∗ (ℓs c ↦[slotSet 1]{Transfers.shareTokN fullShare b} zS c))

instance (c : Dev nD) (f : Buf (Elt F) (ℓo c)) (b : ℕ) : Storable (upEmb : UEmb _ 𝕄) (takes c f b) := by
  unfold takes; infer_instance

/-- What the `j`-th transfer delivers. -/
def delivZ (A : Args F) (c : Dev nD) (j : Fin (cnt A 40)) : sProp 𝕄 := bigSep (nth A j.val) (takes c (zO c))

instance (A : Args F) (c : Dev nD) (j : Fin (cnt A 40)) : Storable (upEmb : UEmb _ 𝕄) (delivZ A c j) := by
  unfold delivZ; infer_instance

/-- The table of flags, at the share the body keeps. -/
abbrev flags (A : Args F) (c : Dev nD) : sProp 𝕄 := iprop(ℓz c ↦[Finset.univ]{fullShare.right} (A.zf : Buf (Elt F) (ℓz c)))

/-- Before block `b` is started. -/
def zAt (A : Args F) (c : Dev nD) (f : Buf (Elt F) (ℓo c)) (b : ℕ) : sProp 𝕄 :=
  iprop(flags A c ∗ Transfers.Batch EC (c : Thread nD τ) (.dma (semOf 1)) () creditBlk (delivZ A c) (cnt A b) 0
    ∗ bigSep (later A b) (takes c f))

/-- Before block `b` is waited for. -/
def wAt (A : Args F) (c : Dev nD) (b : ℕ) : sProp 𝕄 :=
  iprop(flags A c ∗ Transfers.Batch EC (c : Thread nD τ) (.dma (semOf 1)) () creditBlk (delivZ A c) (cnt A 40) (creditBlk * cnt A b)
    ∗ (∃ W : Waits sig Unit, owes (c : Thread nD τ) 0 W))

/-- The flag's test. -/
theorem bit_iff {A : Args F} {b : ℕ} (hb : b < 40) :
    (Scalar.cmpi .ne (Scalar.extui (Scalar.cmpi .ne (A.zf (ix1 ⟨b, hb⟩)) 0#32)) 0#32 : BitVec 1) = 1#1 ↔ flagged A b := by
  unfold flagged
  generalize hv : A.zf (ix1 ⟨b, hb⟩) = v
  constructor
  · intro h
    refine ⟨hb, fun e => ?_⟩
    rw [hv] at e
    subst e
    exact absurd h (by decide)
  · rintro ⟨_, h⟩
    rw [hv] at h
    have : (Scalar.cmpi .ne v 0#32 : BitVec 1) = 1#1 := by
      show BitVec.ofBool (v != 0#32) = 1#1
      rw [show (v != 0#32) = true from bne_iff_ne.mpr h]; rfl
    rw [this]
    decide

/-- The start of a block's fill. -/
theorem start_block {A : Args F} (c : Dev nD) (f : Buf (Elt F) (ℓo c)) (b : ℕ) (hb : b < 40)
    (w : BitVec 1) (hw : w = 1#1 ↔ flagged A b)
    (o1 : Fin 3 → ℕ) (h1 : ∀ a, o1 a + S1x8192x128.size a ≤ S2x8192x128.size a) (e1 : o1 = ![1, 0, 0])
    (o3 : Fin 2 → ℕ) (h3 : ∀ a, o3 a + S8192x128.size a ≤ S327680x128.size a) (e3 : o3 = ![8192 * b, 0])
    (o4 : Fin 1 → ℕ) (h4 : ∀ a, o4 a + S1.size a ≤ S2.size a) (e4 : o4 = ![1])
    {g1 : (slotM o1 h1).view.WordExact} {g2 : (blkM o3 h3).view.WordExact}
    {g3 : (DmaTarget.here (blkM o3 h3) : DmaTarget nD τ sig .tc _ S8192x128 .f32).Typed .vmem (.dma (semAt o4 h4))}
    {α : Type} {kk : Prog (TpuEff nD τ sig (Elt F) Λ₀ .tc) α} {Q : α → sProp 𝕄} :
    (zAt A c f b : sProp 𝕄) ⊢ iprop((zAt A c f (b + 1) -∗ wpc c kk Q)
      -∗ wpc c (if w = 1#1 then (.op (.enqueueDma (slotM o1 h1) (.here (blkM o3 h3)) (.dma (semAt o4 h4)) g1 g2 g3) fun _ => kk) else kk) Q) := by
  by_cases hf : flagged A b
  · rw [if_pos (hw.mpr hf)]
    unfold zAt
    rw [later_flagged hb hf, bs_insert later_head, cnt_flagged hf, ← semAt_eq 1 (by omega) o4 h4 e4]
    unfold takes
    iintro ⟨Hz, HB, ⟨Ho, Hs⟩, Hl⟩ Hk
    iapply (Transfers.wp_dmaBatch EC Variants.none (c : Thread nD τ) none (src := slotM o1 h1) (dst := blkM o3 h3)
      (fs := zS c) (fd := f) (Sd := blkSet b) (q := Transfers.shareTokN fullShare b)
      () creditBlk rfl (by rw [blkM_set _ o3 h3 e3]) (D := delivZ A c) (j := cnt A b) (u := 0) (cnt_lt_all hb hf) (Nat.zero_le _)
      (by
        unfold delivZ
        rw [nth_cnt hb hf, bigSep_singleton]
        unfold takes
        rw [slotM_set 1 o1 h1 e1]
        refine sep_mono (Entails.of_eq (pointsTo_congr fun y hy => ?_)) .rfl
        have hy' : y ∈ (blkM o3 h3).view.set := by rw [blkM_set _ o3 h3 e3]; exact hy
        obtain ⟨x, -, rfl⟩ := Finset.mem_map.mp hy'
        rw [View.write_emb_of_mem _ _ (Finset.mem_univ x)]
        rfl)) $$ [Hs Ho HB]
    · isplitl [Hs]
      · rw [slotM_set 1 o1 h1 e1]; iexact Hs
      isplitl [Ho]; · iexact Ho
      iexact HB
    iintro HB
    iapply Hk
    isplitl [Hz]; · iexact Hz
    isplitl [HB]; · iexact HB
    iexact Hl
  · rw [if_neg (fun h => hf (hw.mp h))]
    unfold zAt
    rw [later_clear hf, cnt_clear hf]
    iintro H Hk
    iapply Hk
    iexact H

/-- The wait for a block's fill. -/
theorem wait_block {A : Args F} (c : Dev nD) (b : ℕ) (hb : b < 40)
    (w : BitVec 1) (hw : w = 1#1 ↔ flagged A b)
    (o1 : Fin 3 → ℕ) (h1 : ∀ a, o1 a + S1x8192x128.size a ≤ S2x8192x128.size a)
    (o3 : Fin 2 → ℕ) (h3 : ∀ a, o3 a + S8192x128.size a ≤ S327680x128.size a)
    (o4 : Fin 1 → ℕ) (h4 : ∀ a, o4 a + S1.size a ≤ S2.size a) (e4 : o4 = ![1])
    {g1 : (slotM o1 h1).view.WordExact} {g2 : (blkM o3 h3).view.WordExact}
    {α : Type} {kk : Prog (TpuEff nD τ sig (Elt F) Λ₀ .tc) α} {Q : α → sProp 𝕄} :
    (wAt A c b : sProp 𝕄) ⊢ iprop((wAt A c (b + 1) -∗ wpc c kk Q)
      -∗ wpc c (if w = 1#1 then (.op (.waitDma2 (semAt o4 h4) (slotM o1 h1) (blkM o3 h3) g1 g2) fun _ => kk) else kk) Q) := by
  by_cases hf : flagged A b
  · rw [if_pos (hw.mpr hf)]
    unfold wAt
    rw [cnt_flagged hf, ← semAt_eq 1 (by omega) o4 h4 e4]
    iintro ⟨Hz, HB, %W, HO⟩ Hk
    iapply (Transfers.wp_waitBatchMul EC Variants.none (c : Thread nD τ) none (dstw := blkM o3 h3) () 1
      ((blk_credit _ _).trans (Nat.one_mul _).symm)
      (show creditBlk * cnt A b + 1 * creditBlk ≤ creditBlk * cnt A 40 by
        have := Nat.mul_le_mul_left creditBlk (cnt_lt_all hb hf); rw [Nat.mul_succ] at this; omega)) $$ [HB HO]
    · isplitl [HB]; · iexact HB
      iexact HO
    iintro ⟨HB, HO⟩
    iapply Hk
    isplitl [Hz]; · iexact Hz
    isplitl [HB]
    · rw [show creditBlk * (cnt A b + 1) = creditBlk * cnt A b + 1 * creditBlk by ring]; iexact HB
    iexists _; iexact HO
  · rw [if_neg (fun h => hf (hw.mp h))]
    unfold wAt
    rw [cnt_clear hf]
    iintro H Hk
    iapply Hk
    iexact H

end Cert.KernelIdeal.Dispatch
-- ==== Proof.D.Parts.lean ====
/- The stretches of the zero phase: the flagged blocks started one by one, then waited for one by one. -/
module

public import proofs.«01_k».proof.Proof.D.Zero

@[expose] public section

set_option maxRecDepth 65536

noncomputable section

namespace Cert.KernelIdeal.Dispatch

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A program that returns at once. -/
theorem wpc_ret (c : Dev nD) {α : Type} (a : α) (Q : α → sProp 𝕄) : Q a ⊢ wpc c (pure a) Q := by
  show Q a ⊢ wp frame (wpE (defs₀ (F := F)) Variants.none (c : Thread nD τ) none) Set.univ (Prog.ret a) Q
  iintro H
  sl_step
  iexact H

/-- A program cut in two. -/
theorem wpc_cut (c : Dev nD) {α β : Type} {P : sProp 𝕄} {p : Prog (TpuEff nD τ sig (Elt F) Λ₀ .tc) α} {R : α → sProp 𝕄} (h : P ⊢ wpc c p R)
    {kk : α → Prog (TpuEff nD τ sig (Elt F) Λ₀ .tc) β} {Q : β → sProp 𝕄} :
    P ⊢ iprop((∀ a, R a -∗ wpc c (kk a) Q) -∗ wpc c (p >>= kk) Q) := by
  show P ⊢ iprop((∀ a, R a -∗ wpc c (kk a) Q) -∗ wp frame (wpE (defs₀ (F := F)) Variants.none (c : Thread nD τ) none) Set.univ (p >>= kk) Q)
  rw [wp_bind]
  iintro HP Hk
  iapply (wp_wand_r frame (wpE (defs₀ (F := F)) Variants.none (c : Thread nD τ) none) Set.univ)
  isplitl [HP]
  · iapply h; iexact HP
  iintro %a HR
  iapply Hk
  iexact HR

/-- A load of a block's flag before its fill's start. -/
theorem load_zAt {A : Args F} (c : Dev nD) (f : Buf (Elt F) (ℓo c)) (b b' : ℕ) (hb : b < 40) (o : Fin 1 → ℕ) (h : ∀ a, o a + S1.size a ≤ S40.size a)
    (e : o = ![b]) {α : Type} {kk : Elt F .i32 → Prog (TpuEff nD τ sig (Elt F) Λ₀ .tc) α} {Q : α → sProp 𝕄} :
    zAt A c f b' ⊢ iprop((zAt A c f b' -∗ wpc c (kk (A.zf (ix1 ⟨b, hb⟩))) Q)
      -∗ wpc c (smemLoad (Memref.whole main_arg1) (Rect.unit (s := S40) o S1.size h) numel1_S1 rfl >>= kk) Q) := by
  unfold zAt
  iintro ⟨Hz, H⟩ Hk
  iapply (load_flag c (A.zf : Buf (Elt F) (ℓz c)) fullShare.right o h b hb e) $$ Hz
  iintro Hz
  iapply Hk
  isplitl [Hz]; · iexact Hz
  iexact H

/-- A load of a block's flag before its fill's wait. -/
theorem load_wAt {A : Args F} (c : Dev nD) (b b' : ℕ) (hb : b < 40) (o : Fin 1 → ℕ) (h : ∀ a, o a + S1.size a ≤ S40.size a)
    (e : o = ![b]) {α : Type} {kk : Elt F .i32 → Prog (TpuEff nD τ sig (Elt F) Λ₀ .tc) α} {Q : α → sProp 𝕄} :
    wAt A c b' ⊢ iprop((wAt A c b' -∗ wpc c (kk (A.zf (ix1 ⟨b, hb⟩))) Q)
      -∗ wpc c (smemLoad (Memref.whole main_arg1) (Rect.unit (s := S40) o S1.size h) numel1_S1 rfl >>= kk) Q) := by
  unfold wAt
  iintro ⟨Hz, H⟩ Hk
  iapply (load_flag c (A.zf : Buf (Elt F) (ℓz c)) fullShare.right o h b hb e) $$ Hz
  iintro Hz
  iapply Hk
  isplitl [Hz]; · iexact Hz
  iexact H

/-- Every block started, the waits may begin. -/
theorem zAt_wAt {A : Args F} (c : Dev nD) (f : Buf (Elt F) (ℓo c)) (W : Waits sig Unit) :
    iprop(zAt A c f 40 ∗ owes (c : Thread nD τ) 0 W) ⊢ (wAt A c 0 : sProp 𝕄) := by
  unfold zAt wAt
  rw [cnt_zero, Nat.mul_zero]
  iintro ⟨⟨Hz, HB, -⟩, HO⟩
  isplitl [Hz]; · iexact Hz
  isplitl [HB]; · iexact HB
  iexists W; iexact HO

section Stretches

variable {A : Args F} (c : Dev nD) (f : Buf (Elt F) (ℓo c)) (i : grid0.Coords) (hw1 : (Memref.whole main_arg0).IsWhole) (hw2 : (Memref.whole main_arg1).IsWhole)
  (hw5 : (Memref.whole main_v0).IsWhole) (hw6 : (Memref.whole cc0_scratch0).IsWhole)
  (a3 : Memref sig .tc .vmem S512x1024 .f32) (h3 : a3.IsWhole) (a4 : Memref sig .tc .vmem S512x128 .f32) (h4 : a4.IsWhole)

/-- A part of the body's zero fill. -/
theorem part2 :
    zAt A c f 6 ⊢ wpc c (k0_part2 i (Memref.whole main_arg0) hw1 (Memref.whole main_arg1) hw2 a3 h3 a4 h4 (Memref.whole main_v0) hw5 (Memref.whole cc0_scratch0) hw6 cc0_scratch1
        (A.zf (ix1 ⟨6, by decide⟩)) 0#32)
      (fun r => iprop(⌜r = 1#1 ↔ flagged A 13⌝ ∗ zAt A c f 13)) := by
  rw [k0_part2_eq_skeleton]
  unfold k0_part2_skel
  iintro H
  iapply (start_block c f 6 (by decide) _ (bit_iff (by decide)) ![1, 0, 0] inb_S2x8192x128_S1x8192x128_1_0_0 rfl ![49152, 0] inb_S327680x128_S8192x128_49152_0 rfl ![1] inb_S2_S1_1 rfl) $$ H
  iintro H
  iapply (load_zAt c f 7 7 (by decide) ![7] inb_S40_S1_7 rfl) $$ H
  iintro H
  iapply (start_block c f 7 (by decide) _ (bit_iff (by decide)) ![1, 0, 0] inb_S2x8192x128_S1x8192x128_1_0_0 rfl ![57344, 0] inb_S327680x128_S8192x128_57344_0 rfl ![1] inb_S2_S1_1 rfl) $$ H
  iintro H
  iapply (load_zAt c f 8 8 (by decide) ![8] inb_S40_S1_8 rfl) $$ H
  iintro H
  iapply (start_block c f 8 (by decide) _ (bit_iff (by decide)) ![1, 0, 0] inb_S2x8192x128_S1x8192x128_1_0_0 rfl ![65536, 0] inb_S327680x128_S8192x128_65536_0 rfl ![1] inb_S2_S1_1 rfl) $$ H
  iintro H
  iapply (load_zAt c f 9 9 (by decide) ![9] inb_S40_S1_9 rfl) $$ H
  iintro H
  iapply (start_block c f 9 (by decide) _ (bit_iff (by decide)) ![1, 0, 0] inb_S2x8192x128_S1x8192x128_1_0_0 rfl ![73728, 0] inb_S327680x128_S8192x128_73728_0 rfl ![1] inb_S2_S1_1 rfl) $$ H
  iintro H
  iapply (load_zAt c f 10 10 (by decide) ![10] inb_S40_S1_10 rfl) $$ H
  iintro H
  iapply (start_block c f 10 (by decide) _ (bit_iff (by decide)) ![1, 0, 0] inb_S2x8192x128_S1x8192x128_1_0_0 rfl ![81920, 0] inb_S327680x128_S8192x128_81920_0 rfl ![1] inb_S2_S1_1 rfl) $$ H
  iintro H
  iapply (load_zAt c f 11 11 (by decide) ![11] inb_S40_S1_11 rfl) $$ H
  iintro H
  iapply (start_block c f 11 (by decide) _ (bit_iff (by decide)) ![1, 0, 0] inb_S2x8192x128_S1x8192x128_1_0_0 rfl ![90112, 0] inb_S327680x128_S8192x128_90112_0 rfl ![1] inb_S2_S1_1 rfl) $$ H
  iintro H
  iapply (load_zAt c f 12 12 (by decide) ![12] inb_S40_S1_12 rfl) $$ H
  iintro H
  iapply (start_block c f 12 (by decide) _ (bit_iff (by decide)) ![1, 0, 0] inb_S2x8192x128_S1x8192x128_1_0_0 rfl ![98304, 0] inb_S327680x128_S8192x128_98304_0 rfl ![1] inb_S2_S1_1 rfl) $$ H
  iintro H
  iapply (load_zAt c f 13 13 (by decide) ![13] inb_S40_S1_13 rfl) $$ H
  iintro H
  iapply (wpc_ret c _ _)
  isplitr [H]
  · ipureintro; exact bit_iff (by decide)
  iexact H

/-- A part of the body's zero fill. -/
theorem part3 (w : BitVec 1) (hw : w = 1#1 ↔ flagged A 13) :
    zAt A c f 13 ⊢ wpc c (k0_part3 i (Memref.whole main_arg0) hw1 (Memref.whole main_arg1) hw2 a3 h3 a4 h4 (Memref.whole main_v0) hw5 (Memref.whole cc0_scratch0) hw6 cc0_scratch1
        w)
      (fun r => iprop(⌜r = (⟨A.zf (ix1 ⟨21, by decide⟩), 0#32⟩ : Σ' (_ : Elt F .i32), BitVec 32)⌝ ∗ zAt A c f 21)) := by
  rw [k0_part3_eq_skeleton]
  unfold k0_part3_skel
  iintro H
  iapply (start_block c f 13 (by decide) _ hw ![1, 0, 0] inb_S2x8192x128_S1x8192x128_1_0_0 rfl ![106496, 0] inb_S327680x128_S8192x128_106496_0 rfl ![1] inb_S2_S1_1 rfl) $$ H
  iintro H
  iapply (load_zAt c f 14 14 (by decide) ![14] inb_S40_S1_14 rfl) $$ H
  iintro H
  iapply (start_block c f 14 (by decide) _ (bit_iff (by decide)) ![1, 0, 0] inb_S2x8192x128_S1x8192x128_1_0_0 rfl ![114688, 0] inb_S327680x128_S8192x128_114688_0 rfl ![1] inb_S2_S1_1 rfl) $$ H
  iintro H
  iapply (load_zAt c f 15 15 (by decide) ![15] inb_S40_S1_15 rfl) $$ H
  iintro H
  iapply (start_block c f 15 (by decide) _ (bit_iff (by decide)) ![1, 0, 0] inb_S2x8192x128_S1x8192x128_1_0_0 rfl ![122880, 0] inb_S327680x128_S8192x128_122880_0 rfl ![1] inb_S2_S1_1 rfl) $$ H
  iintro H
  iapply (load_zAt c f 16 16 (by decide) ![16] inb_S40_S1_16 rfl) $$ H
  iintro H
  iapply (start_block c f 16 (by decide) _ (bit_iff (by decide)) ![1, 0, 0] inb_S2x8192x128_S1x8192x128_1_0_0 rfl ![131072, 0] inb_S327680x128_S8192x128_131072_0 rfl ![1] inb_S2_S1_1 rfl) $$ H
  iintro H
  iapply (load_zAt c f 17 17 (by decide) ![17] inb_S40_S1_17 rfl) $$ H
  iintro H
  iapply (start_block c f 17 (by decide) _ (bit_iff (by decide)) ![1, 0, 0] inb_S2x8192x128_S1x8192x128_1_0_0 rfl ![139264, 0] inb_S327680x128_S8192x128_139264_0 rfl ![1] inb_S2_S1_1 rfl) $$ H
  iintro H
  iapply (load_zAt c f 18 18 (by decide) ![18] inb_S40_S1_18 rfl) $$ H
  iintro H
  iapply (start_block c f 18 (by decide) _ (bit_iff (by decide)) ![1, 0, 0] inb_S2x8192x128_S1x8192x128_1_0_0 rfl ![147456, 0] inb_S327680x128_S8192x128_147456_0 rfl ![1] inb_S2_S1_1 rfl) $$ H
  iintro H
  iapply (load_zAt c f 19 19 (by decide) ![19] inb_S40_S1_19 rfl) $$ H
  iintro H
  iapply (start_block c f 19 (by decide) _ (bit_iff (by decide)) ![1, 0, 0] inb_S2x8192x128_S1x8192x128_1_0_0 rfl ![155648, 0] inb_S327680x128_S8192x128_155648_0 rfl ![1] inb_S2_S1_1 rfl) $$ H
  iintro H
  iapply (load_zAt c f 20 20 (by decide) ![20] inb_S40_S1_20 rfl) $$ H
  iintro H
  iapply (start_block c f 20 (by decide) _ (bit_iff (by decide)) ![1, 0, 0] inb_S2x8192x128_S1x8192x128_1_0_0 rfl ![163840, 0] inb_S327680x128_S8192x128_163840_0 rfl ![1] inb_S2_S1_1 rfl) $$ H
  iintro H
  iapply (load_zAt c f 21 21 (by decide) ![21] inb_S40_S1_21 rfl) $$ H
  iintro H
  iapply (wpc_ret c _ _)
  isplitr [H]
  · ipureintro; rfl
  iexact H

/-- A part of the body's zero fill. -/
theorem part4 :
    zAt A c f 21 ⊢ wpc c (k0_part4 i (Memref.whole main_arg0) hw1 (Memref.whole main_arg1) hw2 a3 h3 a4 h4 (Memref.whole main_v0) hw5 (Memref.whole cc0_scratch0) hw6 cc0_scratch1
        (A.zf (ix1 ⟨21, by decide⟩)) 0#32)
      (fun r => iprop(⌜r = 1#1 ↔ flagged A 28⌝ ∗ zAt A c f 28)) := by
  rw [k0_part4_eq_skeleton]
  unfold k0_part4_skel
  iintro H
  iapply (start_block c f 21 (by decide) _ (bit_iff (by decide)) ![1, 0, 0] inb_S2x8192x128_S1x8192x128_1_0_0 rfl ![172032, 0] inb_S327680x128_S8192x128_172032_0 rfl ![1] inb_S2_S1_1 rfl) $$ H
  iintro H
  iapply (load_zAt c f 22 22 (by decide) ![22] inb_S40_S1_22 rfl) $$ H
  iintro H
  iapply (start_block c f 22 (by decide) _ (bit_iff (by decide)) ![1, 0, 0] inb_S2x8192x128_S1x8192x128_1_0_0 rfl ![180224, 0] inb_S327680x128_S8192x128_180224_0 rfl ![1] inb_S2_S1_1 rfl) $$ H
  iintro H
  iapply (load_zAt c f 23 23 (by decide) ![23] inb_S40_S1_23 rfl) $$ H
  iintro H
  iapply (start_block c f 23 (by decide) _ (bit_iff (by decide)) ![1, 0, 0] inb_S2x8192x128_S1x8192x128_1_0_0 rfl ![188416, 0] inb_S327680x128_S8192x128_188416_0 rfl ![1] inb_S2_S1_1 rfl) $$ H
  iintro H
  iapply (load_zAt c f 24 24 (by decide) ![24] inb_S40_S1_24 rfl) $$ H
  iintro H
  iapply (start_block c f 24 (by decide) _ (bit_iff (by decide)) ![1, 0, 0] inb_S2x8192x128_S1x8192x128_1_0_0 rfl ![196608, 0] inb_S327680x128_S8192x128_196608_0 rfl ![1] inb_S2_S1_1 rfl) $$ H
  iintro H
  iapply (load_zAt c f 25 25 (by decide) ![25] inb_S40_S1_25 rfl) $$ H
  iintro H
  iapply (start_block c f 25 (by decide) _ (bit_iff (by decide)) ![1, 0, 0] inb_S2x8192x128_S1x8192x128_1_0_0 rfl ![204800, 0] inb_S327680x128_S8192x128_204800_0 rfl ![1] inb_S2_S1_1 rfl) $$ H
  iintro H
  iapply (load_zAt c f 26 26 (by decide) ![26] inb_S40_S1_26 rfl) $$ H
  iintro H
  iapply (start_block c f 26 (by decide) _ (bit_iff (by decide)) ![1, 0, 0] inb_S2x8192x128_S1x8192x128_1_0_0 rfl ![212992, 0] inb_S327680x128_S8192x128_212992_0 rfl ![1] inb_S2_S1_1 rfl) $$ H
  iintro H
  iapply (load_zAt c f 27 27 (by decide) ![27] inb_S40_S1_27 rfl) $$ H
  iintro H
  iapply (start_block c f 27 (by decide) _ (bit_iff (by decide)) ![1, 0, 0] inb_S2x8192x128_S1x8192x128_1_0_0 rfl ![221184, 0] inb_S327680x128_S8192x128_221184_0 rfl ![1] inb_S2_S1_1 rfl) $$ H
  iintro H
  iapply (load_zAt c f 28 28 (by decide) ![28] inb_S40_S1_28 rfl) $$ H
  iintro H
  iapply (wpc_ret c _ _)
  isplitr [H]
  · ipureintro; exact bit_iff (by decide)
  iexact H

/-- A part of the body's zero fill. -/
theorem part5 (w : BitVec 1) (hw : w = 1#1 ↔ flagged A 28) :
    zAt A c f 28 ⊢ wpc c (k0_part5 i (Memref.whole main_arg0) hw1 (Memref.whole main_arg1) hw2 a3 h3 a4 h4 (Memref.whole main_v0) hw5 (Memref.whole cc0_scratch0) hw6 cc0_scratch1
        w)
      (fun r => iprop(⌜r = (⟨A.zf (ix1 ⟨36, by decide⟩), 0#32⟩ : Σ' (_ : Elt F .i32), BitVec 32)⌝ ∗ zAt A c f 36)) := by
  rw [k0_part5_eq_skeleton]
  unfold k0_part5_skel
  iintro H
  iapply (start_block c f 28 (by decide) _ hw ![1, 0, 0] inb_S2x8192x128_S1x8192x128_1_0_0 rfl ![229376, 0] inb_S327680x128_S8192x128_229376_0 rfl ![1] inb_S2_S1_1 rfl) $$ H
  iintro H
  iapply (load_zAt c f 29 29 (by decide) ![29] inb_S40_S1_29 rfl) $$ H
  iintro H
  iapply (start_block c f 29 (by decide) _ (bit_iff (by decide)) ![1, 0, 0] inb_S2x8192x128_S1x8192x128_1_0_0 rfl ![237568, 0] inb_S327680x128_S8192x128_237568_0 rfl ![1] inb_S2_S1_1 rfl) $$ H
  iintro H
  iapply (load_zAt c f 30 30 (by decide) ![30] inb_S40_S1_30 rfl) $$ H
  iintro H
  iapply (start_block c f 30 (by decide) _ (bit_iff (by decide)) ![1, 0, 0] inb_S2x8192x128_S1x8192x128_1_0_0 rfl ![245760, 0] inb_S327680x128_S8192x128_245760_0 rfl ![1] inb_S2_S1_1 rfl) $$ H
  iintro H
  iapply (load_zAt c f 31 31 (by decide) ![31] inb_S40_S1_31 rfl) $$ H
  iintro H
  iapply (start_block c f 31 (by decide) _ (bit_iff (by decide)) ![1, 0, 0] inb_S2x8192x128_S1x8192x128_1_0_0 rfl ![253952, 0] inb_S327680x128_S8192x128_253952_0 rfl ![1] inb_S2_S1_1 rfl) $$ H
  iintro H
  iapply (load_zAt c f 32 32 (by decide) ![32] inb_S40_S1_32 rfl) $$ H
  iintro H
  iapply (start_block c f 32 (by decide) _ (bit_iff (by decide)) ![1, 0, 0] inb_S2x8192x128_S1x8192x128_1_0_0 rfl ![262144, 0] inb_S327680x128_S8192x128_262144_0 rfl ![1] inb_S2_S1_1 rfl) $$ H
  iintro H
  iapply (load_zAt c f 33 33 (by decide) ![33] inb_S40_S1_33 rfl) $$ H
  iintro H
  iapply (start_block c f 33 (by decide) _ (bit_iff (by decide)) ![1, 0, 0] inb_S2x8192x128_S1x8192x128_1_0_0 rfl ![270336, 0] inb_S327680x128_S8192x128_270336_0 rfl ![1] inb_S2_S1_1 rfl) $$ H
  iintro H
  iapply (load_zAt c f 34 34 (by decide) ![34] inb_S40_S1_34 rfl) $$ H
  iintro H
  iapply (start_block c f 34 (by decide) _ (bit_iff (by decide)) ![1, 0, 0] inb_S2x8192x128_S1x8192x128_1_0_0 rfl ![278528, 0] inb_S327680x128_S8192x128_278528_0 rfl ![1] inb_S2_S1_1 rfl) $$ H
  iintro H
  iapply (load_zAt c f 35 35 (by decide) ![35] inb_S40_S1_35 rfl) $$ H
  iintro H
  iapply (start_block c f 35 (by decide) _ (bit_iff (by decide)) ![1, 0, 0] inb_S2x8192x128_S1x8192x128_1_0_0 rfl ![286720, 0] inb_S327680x128_S8192x128_286720_0 rfl ![1] inb_S2_S1_1 rfl) $$ H
  iintro H
  iapply (load_zAt c f 36 36 (by decide) ![36] inb_S40_S1_36 rfl) $$ H
  iintro H
  iapply (wpc_ret c _ _)
  isplitr [H]
  · ipureintro; rfl
  iexact H

/-- A part of the body's zero fill. -/
theorem part6 :
    iprop(zAt A c f 36 ∗ ∃ W : Waits sig Unit, owes (c : Thread nD τ) 0 W) ⊢ wpc c (k0_part6 i (Memref.whole main_arg0) hw1 (Memref.whole main_arg1) hw2 a3 h3 a4 h4 (Memref.whole main_v0) hw5 (Memref.whole cc0_scratch0) hw6 cc0_scratch1
        (A.zf (ix1 ⟨36, by decide⟩)) 0#32)
      (fun r => iprop(⌜r = 1#1 ↔ flagged A 3⌝ ∗ wAt A c 3)) := by
  rw [k0_part6_eq_skeleton]
  unfold k0_part6_skel
  iintro ⟨H, %W, HO⟩
  iapply (start_block c f 36 (by decide) _ (bit_iff (by decide)) ![1, 0, 0] inb_S2x8192x128_S1x8192x128_1_0_0 rfl ![294912, 0] inb_S327680x128_S8192x128_294912_0 rfl ![1] inb_S2_S1_1 rfl) $$ H
  iintro H
  iapply (load_zAt c f 37 37 (by decide) ![37] inb_S40_S1_37 rfl) $$ H
  iintro H
  iapply (start_block c f 37 (by decide) _ (bit_iff (by decide)) ![1, 0, 0] inb_S2x8192x128_S1x8192x128_1_0_0 rfl ![303104, 0] inb_S327680x128_S8192x128_303104_0 rfl ![1] inb_S2_S1_1 rfl) $$ H
  iintro H
  iapply (load_zAt c f 38 38 (by decide) ![38] inb_S40_S1_38 rfl) $$ H
  iintro H
  iapply (start_block c f 38 (by decide) _ (bit_iff (by decide)) ![1, 0, 0] inb_S2x8192x128_S1x8192x128_1_0_0 rfl ![311296, 0] inb_S327680x128_S8192x128_311296_0 rfl ![1] inb_S2_S1_1 rfl) $$ H
  iintro H
  iapply (load_zAt c f 39 39 (by decide) ![39] inb_S40_S1_39 rfl) $$ H
  iintro H
  iapply (start_block c f 39 (by decide) _ (bit_iff (by decide)) ![1, 0, 0] inb_S2x8192x128_S1x8192x128_1_0_0 rfl ![319488, 0] inb_S327680x128_S8192x128_319488_0 rfl ![1] inb_S2_S1_1 rfl) $$ H
  iintro H
  icombine H HO as H
  ihave H := (zAt_wAt c f W) $$ H
  iapply (load_wAt c 0 0 (by decide) ![0] inb_S40_S1_0 rfl) $$ H
  iintro H
  iapply (wait_block c 0 (by decide) _ (bit_iff (by decide)) ![1, 0, 0] inb_S2x8192x128_S1x8192x128_1_0_0 ![0, 0] inb_S327680x128_S8192x128_0_0 ![1] inb_S2_S1_1 rfl) $$ H
  iintro H
  iapply (load_wAt c 1 1 (by decide) ![1] inb_S40_S1_1 rfl) $$ H
  iintro H
  iapply (wait_block c 1 (by decide) _ (bit_iff (by decide)) ![1, 0, 0] inb_S2x8192x128_S1x8192x128_1_0_0 ![8192, 0] inb_S327680x128_S8192x128_8192_0 ![1] inb_S2_S1_1 rfl) $$ H
  iintro H
  iapply (load_wAt c 2 2 (by decide) ![2] inb_S40_S1_2 rfl) $$ H
  iintro H
  iapply (wait_block c 2 (by decide) _ (bit_iff (by decide)) ![1, 0, 0] inb_S2x8192x128_S1x8192x128_1_0_0 ![16384, 0] inb_S327680x128_S8192x128_16384_0 ![1] inb_S2_S1_1 rfl) $$ H
  iintro H
  iapply (load_wAt c 3 3 (by decide) ![3] inb_S40_S1_3 rfl) $$ H
  iintro H
  iapply (wpc_ret c _ _)
  isplitr [H]
  · ipureintro; exact bit_iff (by decide)
  iexact H

/-- A part of the body's zero fill. -/
theorem part7 (w : BitVec 1) (hw : w = 1#1 ↔ flagged A 3) :
    wAt A c 3 ⊢ wpc c (k0_part7 i (Memref.whole main_arg0) hw1 (Memref.whole main_arg1) hw2 a3 h3 a4 h4 (Memref.whole main_v0) hw5 (Memref.whole cc0_scratch0) hw6 cc0_scratch1
        w)
      (fun r => iprop(⌜r = (⟨A.zf (ix1 ⟨11, by decide⟩), 0#32⟩ : Σ' (_ : Elt F .i32), BitVec 32)⌝ ∗ wAt A c 11)) := by
  rw [k0_part7_eq_skeleton]
  unfold k0_part7_skel
  iintro H
  iapply (wait_block c 3 (by decide) _ hw ![1, 0, 0] inb_S2x8192x128_S1x8192x128_1_0_0 ![24576, 0] inb_S327680x128_S8192x128_24576_0 ![1] inb_S2_S1_1 rfl) $$ H
  iintro H
  iapply (load_wAt c 4 4 (by decide) ![4] inb_S40_S1_4 rfl) $$ H
  iintro H
  iapply (wait_block c 4 (by decide) _ (bit_iff (by decide)) ![1, 0, 0] inb_S2x8192x128_S1x8192x128_1_0_0 ![32768, 0] inb_S327680x128_S8192x128_32768_0 ![1] inb_S2_S1_1 rfl) $$ H
  iintro H
  iapply (load_wAt c 5 5 (by decide) ![5] inb_S40_S1_5 rfl) $$ H
  iintro H
  iapply (wait_block c 5 (by decide) _ (bit_iff (by decide)) ![1, 0, 0] inb_S2x8192x128_S1x8192x128_1_0_0 ![40960, 0] inb_S327680x128_S8192x128_40960_0 ![1] inb_S2_S1_1 rfl) $$ H
  iintro H
  iapply (load_wAt c 6 6 (by decide) ![6] inb_S40_S1_6 rfl) $$ H
  iintro H
  iapply (wait_block c 6 (by decide) _ (bit_iff (by decide)) ![1, 0, 0] inb_S2x8192x128_S1x8192x128_1_0_0 ![49152, 0] inb_S327680x128_S8192x128_49152_0 ![1] inb_S2_S1_1 rfl) $$ H
  iintro H
  iapply (load_wAt c 7 7 (by decide) ![7] inb_S40_S1_7 rfl) $$ H
  iintro H
  iapply (wait_block c 7 (by decide) _ (bit_iff (by decide)) ![1, 0, 0] inb_S2x8192x128_S1x8192x128_1_0_0 ![57344, 0] inb_S327680x128_S8192x128_57344_0 ![1] inb_S2_S1_1 rfl) $$ H
  iintro H
  iapply (load_wAt c 8 8 (by decide) ![8] inb_S40_S1_8 rfl) $$ H
  iintro H
  iapply (wait_block c 8 (by decide) _ (bit_iff (by decide)) ![1, 0, 0] inb_S2x8192x128_S1x8192x128_1_0_0 ![65536, 0] inb_S327680x128_S8192x128_65536_0 ![1] inb_S2_S1_1 rfl) $$ H
  iintro H
  iapply (load_wAt c 9 9 (by decide) ![9] inb_S40_S1_9 rfl) $$ H
  iintro H
  iapply (wait_block c 9 (by decide) _ (bit_iff (by decide)) ![1, 0, 0] inb_S2x8192x128_S1x8192x128_1_0_0 ![73728, 0] inb_S327680x128_S8192x128_73728_0 ![1] inb_S2_S1_1 rfl) $$ H
  iintro H
  iapply (load_wAt c 10 10 (by decide) ![10] inb_S40_S1_10 rfl) $$ H
  iintro H
  iapply (wait_block c 10 (by decide) _ (bit_iff (by decide)) ![1, 0, 0] inb_S2x8192x128_S1x8192x128_1_0_0 ![81920, 0] inb_S327680x128_S8192x128_81920_0 ![1] inb_S2_S1_1 rfl) $$ H
  iintro H
  iapply (load_wAt c 11 11 (by decide) ![11] inb_S40_S1_11 rfl) $$ H
  iintro H
  iapply (wpc_ret c _ _)
  isplitr [H]
  · ipureintro; rfl
  iexact H

/-- A part of the body's zero fill. -/
theorem part8 :
    wAt A c 11 ⊢ wpc c (k0_part8 i (Memref.whole main_arg0) hw1 (Memref.whole main_arg1) hw2 a3 h3 a4 h4 (Memref.whole main_v0) hw5 (Memref.whole cc0_scratch0) hw6 cc0_scratch1
        (A.zf (ix1 ⟨11, by decide⟩)) 0#32)
      (fun r => iprop(⌜r = 1#1 ↔ flagged A 18⌝ ∗ wAt A c 18)) := by
  rw [k0_part8_eq_skeleton]
  unfold k0_part8_skel
  iintro H
  iapply (wait_block c 11 (by decide) _ (bit_iff (by decide)) ![1, 0, 0] inb_S2x8192x128_S1x8192x128_1_0_0 ![90112, 0] inb_S327680x128_S8192x128_90112_0 ![1] inb_S2_S1_1 rfl) $$ H
  iintro H
  iapply (load_wAt c 12 12 (by decide) ![12] inb_S40_S1_12 rfl) $$ H
  iintro H
  iapply (wait_block c 12 (by decide) _ (bit_iff (by decide)) ![1, 0, 0] inb_S2x8192x128_S1x8192x128_1_0_0 ![98304, 0] inb_S327680x128_S8192x128_98304_0 ![1] inb_S2_S1_1 rfl) $$ H
  iintro H
  iapply (load_wAt c 13 13 (by decide) ![13] inb_S40_S1_13 rfl) $$ H
  iintro H
  iapply (wait_block c 13 (by decide) _ (bit_iff (by decide)) ![1, 0, 0] inb_S2x8192x128_S1x8192x128_1_0_0 ![106496, 0] inb_S327680x128_S8192x128_106496_0 ![1] inb_S2_S1_1 rfl) $$ H
  iintro H
  iapply (load_wAt c 14 14 (by decide) ![14] inb_S40_S1_14 rfl) $$ H
  iintro H
  iapply (wait_block c 14 (by decide) _ (bit_iff (by decide)) ![1, 0, 0] inb_S2x8192x128_S1x8192x128_1_0_0 ![114688, 0] inb_S327680x128_S8192x128_114688_0 ![1] inb_S2_S1_1 rfl) $$ H
  iintro H
  iapply (load_wAt c 15 15 (by decide) ![15] inb_S40_S1_15 rfl) $$ H
  iintro H
  iapply (wait_block c 15 (by decide) _ (bit_iff (by decide)) ![1, 0, 0] inb_S2x8192x128_S1x8192x128_1_0_0 ![122880, 0] inb_S327680x128_S8192x128_122880_0 ![1] inb_S2_S1_1 rfl) $$ H
  iintro H
  iapply (load_wAt c 16 16 (by decide) ![16] inb_S40_S1_16 rfl) $$ H
  iintro H
  iapply (wait_block c 16 (by decide) _ (bit_iff (by decide)) ![1, 0, 0] inb_S2x8192x128_S1x8192x128_1_0_0 ![131072, 0] inb_S327680x128_S8192x128_131072_0 ![1] inb_S2_S1_1 rfl) $$ H
  iintro H
  iapply (load_wAt c 17 17 (by decide) ![17] inb_S40_S1_17 rfl) $$ H
  iintro H
  iapply (wait_block c 17 (by decide) _ (bit_iff (by decide)) ![1, 0, 0] inb_S2x8192x128_S1x8192x128_1_0_0 ![139264, 0] inb_S327680x128_S8192x128_139264_0 ![1] inb_S2_S1_1 rfl) $$ H
  iintro H
  iapply (load_wAt c 18 18 (by decide) ![18] inb_S40_S1_18 rfl) $$ H
  iintro H
  iapply (wpc_ret c _ _)
  isplitr [H]
  · ipureintro; exact bit_iff (by decide)
  iexact H

/-- A part of the body's zero fill. -/
theorem part9 (w : BitVec 1) (hw : w = 1#1 ↔ flagged A 18) :
    wAt A c 18 ⊢ wpc c (k0_part9 i (Memref.whole main_arg0) hw1 (Memref.whole main_arg1) hw2 a3 h3 a4 h4 (Memref.whole main_v0) hw5 (Memref.whole cc0_scratch0) hw6 cc0_scratch1
        w)
      (fun r => iprop(⌜r = (⟨A.zf (ix1 ⟨26, by decide⟩), 0#32⟩ : Σ' (_ : Elt F .i32), BitVec 32)⌝ ∗ wAt A c 26)) := by
  rw [k0_part9_eq_skeleton]
  unfold k0_part9_skel
  iintro H
  iapply (wait_block c 18 (by decide) _ hw ![1, 0, 0] inb_S2x8192x128_S1x8192x128_1_0_0 ![147456, 0] inb_S327680x128_S8192x128_147456_0 ![1] inb_S2_S1_1 rfl) $$ H
  iintro H
  iapply (load_wAt c 19 19 (by decide) ![19] inb_S40_S1_19 rfl) $$ H
  iintro H
  iapply (wait_block c 19 (by decide) _ (bit_iff (by decide)) ![1, 0, 0] inb_S2x8192x128_S1x8192x128_1_0_0 ![155648, 0] inb_S327680x128_S8192x128_155648_0 ![1] inb_S2_S1_1 rfl) $$ H
  iintro H
  iapply (load_wAt c 20 20 (by decide) ![20] inb_S40_S1_20 rfl) $$ H
  iintro H
  iapply (wait_block c 20 (by decide) _ (bit_iff (by decide)) ![1, 0, 0] inb_S2x8192x128_S1x8192x128_1_0_0 ![163840, 0] inb_S327680x128_S8192x128_163840_0 ![1] inb_S2_S1_1 rfl) $$ H
  iintro H
  iapply (load_wAt c 21 21 (by decide) ![21] inb_S40_S1_21 rfl) $$ H
  iintro H
  iapply (wait_block c 21 (by decide) _ (bit_iff (by decide)) ![1, 0, 0] inb_S2x8192x128_S1x8192x128_1_0_0 ![172032, 0] inb_S327680x128_S8192x128_172032_0 ![1] inb_S2_S1_1 rfl) $$ H
  iintro H
  iapply (load_wAt c 22 22 (by decide) ![22] inb_S40_S1_22 rfl) $$ H
  iintro H
  iapply (wait_block c 22 (by decide) _ (bit_iff (by decide)) ![1, 0, 0] inb_S2x8192x128_S1x8192x128_1_0_0 ![180224, 0] inb_S327680x128_S8192x128_180224_0 ![1] inb_S2_S1_1 rfl) $$ H
  iintro H
  iapply (load_wAt c 23 23 (by decide) ![23] inb_S40_S1_23 rfl) $$ H
  iintro H
  iapply (wait_block c 23 (by decide) _ (bit_iff (by decide)) ![1, 0, 0] inb_S2x8192x128_S1x8192x128_1_0_0 ![188416, 0] inb_S327680x128_S8192x128_188416_0 ![1] inb_S2_S1_1 rfl) $$ H
  iintro H
  iapply (load_wAt c 24 24 (by decide) ![24] inb_S40_S1_24 rfl) $$ H
  iintro H
  iapply (wait_block c 24 (by decide) _ (bit_iff (by decide)) ![1, 0, 0] inb_S2x8192x128_S1x8192x128_1_0_0 ![196608, 0] inb_S327680x128_S8192x128_196608_0 ![1] inb_S2_S1_1 rfl) $$ H
  iintro H
  iapply (load_wAt c 25 25 (by decide) ![25] inb_S40_S1_25 rfl) $$ H
  iintro H
  iapply (wait_block c 25 (by decide) _ (bit_iff (by decide)) ![1, 0, 0] inb_S2x8192x128_S1x8192x128_1_0_0 ![204800, 0] inb_S327680x128_S8192x128_204800_0 ![1] inb_S2_S1_1 rfl) $$ H
  iintro H
  iapply (load_wAt c 26 26 (by decide) ![26] inb_S40_S1_26 rfl) $$ H
  iintro H
  iapply (wpc_ret c _ _)
  isplitr [H]
  · ipureintro; rfl
  iexact H

/-- A part of the body's zero fill. -/
theorem part10 :
    wAt A c 26 ⊢ wpc c (k0_part10 i (Memref.whole main_arg0) hw1 (Memref.whole main_arg1) hw2 a3 h3 a4 h4 (Memref.whole main_v0) hw5 (Memref.whole cc0_scratch0) hw6 cc0_scratch1
        (A.zf (ix1 ⟨26, by decide⟩)) 0#32)
      (fun r => iprop(⌜r = 1#1 ↔ flagged A 33⌝ ∗ wAt A c 33)) := by
  rw [k0_part10_eq_skeleton]
  unfold k0_part10_skel
  iintro H
  iapply (wait_block c 26 (by decide) _ (bit_iff (by decide)) ![1, 0, 0] inb_S2x8192x128_S1x8192x128_1_0_0 ![212992, 0] inb_S327680x128_S8192x128_212992_0 ![1] inb_S2_S1_1 rfl) $$ H
  iintro H
  iapply (load_wAt c 27 27 (by decide) ![27] inb_S40_S1_27 rfl) $$ H
  iintro H
  iapply (wait_block c 27 (by decide) _ (bit_iff (by decide)) ![1, 0, 0] inb_S2x8192x128_S1x8192x128_1_0_0 ![221184, 0] inb_S327680x128_S8192x128_221184_0 ![1] inb_S2_S1_1 rfl) $$ H
  iintro H
  iapply (load_wAt c 28 28 (by decide) ![28] inb_S40_S1_28 rfl) $$ H
  iintro H
  iapply (wait_block c 28 (by decide) _ (bit_iff (by decide)) ![1, 0, 0] inb_S2x8192x128_S1x8192x128_1_0_0 ![229376, 0] inb_S327680x128_S8192x128_229376_0 ![1] inb_S2_S1_1 rfl) $$ H
  iintro H
  iapply (load_wAt c 29 29 (by decide) ![29] inb_S40_S1_29 rfl) $$ H
  iintro H
  iapply (wait_block c 29 (by decide) _ (bit_iff (by decide)) ![1, 0, 0] inb_S2x8192x128_S1x8192x128_1_0_0 ![237568, 0] inb_S327680x128_S8192x128_237568_0 ![1] inb_S2_S1_1 rfl) $$ H
  iintro H
  iapply (load_wAt c 30 30 (by decide) ![30] inb_S40_S1_30 rfl) $$ H
  iintro H
  iapply (wait_block c 30 (by decide) _ (bit_iff (by decide)) ![1, 0, 0] inb_S2x8192x128_S1x8192x128_1_0_0 ![245760, 0] inb_S327680x128_S8192x128_245760_0 ![1] inb_S2_S1_1 rfl) $$ H
  iintro H
  iapply (load_wAt c 31 31 (by decide) ![31] inb_S40_S1_31 rfl) $$ H
  iintro H
  iapply (wait_block c 31 (by decide) _ (bit_iff (by decide)) ![1, 0, 0] inb_S2x8192x128_S1x8192x128_1_0_0 ![253952, 0] inb_S327680x128_S8192x128_253952_0 ![1] inb_S2_S1_1 rfl) $$ H
  iintro H
  iapply (load_wAt c 32 32 (by decide) ![32] inb_S40_S1_32 rfl) $$ H
  iintro H
  iapply (wait_block c 32 (by decide) _ (bit_iff (by decide)) ![1, 0, 0] inb_S2x8192x128_S1x8192x128_1_0_0 ![262144, 0] inb_S327680x128_S8192x128_262144_0 ![1] inb_S2_S1_1 rfl) $$ H
  iintro H
  iapply (load_wAt c 33 33 (by decide) ![33] inb_S40_S1_33 rfl) $$ H
  iintro H
  iapply (wpc_ret c _ _)
  isplitr [H]
  · ipureintro; exact bit_iff (by decide)
  iexact H

end Stretches

end Cert.KernelIdeal.Dispatch
-- ==== Proof.D.Fill.lean ====
/- The zero phase as a whole: the scratch cleared, the flagged blocks filled, everything collected. -/
module

public import proofs.«01_k».proof.Proof.D.Parts

@[expose] public section

set_option maxRecDepth 65536

noncomputable section

namespace Cert.KernelIdeal.Dispatch

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The blocks that are not flagged. -/
def clear (A : Args F) : Finset ℕ := (Finset.Ico 0 40).filter fun b => ¬ flagged A b

/-- The forty blocks are the flagged and the others. -/
theorem blocks_split (A : Args F) : Finset.range 40 = later A 0 ∪ clear A := by
  unfold later clear
  rw [Finset.filter_union_filter_not_eq, Finset.range_eq_Ico]

/-- The two do not meet. -/
theorem blocks_disjoint (A : Args F) : Disjoint (later A 0) (clear A) := Finset.disjoint_filter_filter_not _ _ _

/-- A product over the blocks splits into the flagged and the others. -/
theorem bs_blocks (A : Args F) (Φ : ℕ → sProp 𝕄) : bigSep (Finset.range 40) Φ = iprop(bigSep (later A 0) Φ ∗ bigSep (clear A) Φ) := by
  rw [blocks_split A]; exact bigSep_union (blocks_disjoint A)

/-- A product of pairs is a pair of products. -/
theorem bs_sep (s : Finset ℕ) (Φ Ψ : ℕ → sProp 𝕄) : bigSep s (fun b => iprop(Φ b ∗ Ψ b)) = iprop(bigSep s Φ ∗ bigSep s Ψ) :=
  bigSep_sep s Φ Ψ

/-- The blocks make up the result. -/
theorem out_blocks : (Finset.univ : Finset S327680x128.Idx) = (Finset.range 40).biUnion blkSet := by
  ext y
  simp only [Finset.mem_univ, Finset.mem_biUnion, Finset.mem_range, blkSet, Finset.mem_filter, true_and, true_iff]
  have h : (y 0).val < 327680 := (y 0).isLt
  exact ⟨_, by omega, rfl⟩

/-- Different blocks do not meet. -/
theorem blk_disjoint : ∀ b ∈ Finset.range 40, ∀ b' ∈ Finset.range 40, b ≠ b' → Disjoint (blkSet b) (blkSet b') := by
  intro b _ b' _ h
  rw [Finset.disjoint_left]
  intro y h1 h2
  simp only [blkSet, Finset.mem_filter, Finset.mem_univ, true_and] at h1 h2
  exact h (h1.symm.trans h2)

/-- The two slots make up the staging buffer. -/
theorem scr_slots : (Finset.univ : Finset S2x8192x128.Idx) = slotSet 0 ∪ slotSet 1 := by
  ext y
  simp only [Finset.mem_univ, Finset.mem_union, slotSet, Finset.mem_filter, true_and, true_iff]
  have h : (y 0).val < 2 := (y 0).isLt
  omega

/-- The two slots do not meet. -/
theorem slot_disjoint : Disjoint (slotSet 0) (slotSet 1) := by
  rw [Finset.disjoint_left]
  intro y h1 h2
  simp only [slotSet, Finset.mem_filter, Finset.mem_univ, true_and] at h1 h2
  omega

/-- The result once the flagged blocks are zeros. -/
def filled (A : Args F) (c : Dev nD) (f : Buf (Elt F) (ℓo c)) : Buf (Elt F) (ℓo c) :=
  fun (y : S327680x128.Idx) => if flagged A ((y 0).val / 8192) then zero else (f : S327680x128.Idx → F .f32) y

/-- What the transfers of the zero phase leave aside. -/
def aside (A : Args F) (c : Dev nD) (f : Buf (Elt F) (ℓo c)) : sProp 𝕄 :=
  iprop((ℓs c ↦[slotSet 0]{fullShare} zS c) ∗ (ℓs c ↦[slotSet 1]{Transfers.shareDrop fullShare 40} zS c)
    ∗ bigSep (clear A) (takes c f))

/-- What the zero phase starts from, the scratch cleared. -/
def beforeZ (A : Args F) (c : Dev nD) (f : Buf (Elt F) (ℓo c)) : sProp 𝕄 :=
  iprop(flags A c ∗ (ℓs c ↦[Finset.univ]{fullShare} zS c) ∗ (ℓo c ↦[Finset.univ]{fullShare} f) ∗ semVal ((c : Thread nD τ), SemLoc.dma (semOf 1)) 0)

/-- What the zero fill owns at its start. -/
theorem zero_init (A : Args F) (c : Dev nD) (f : Buf (Elt F) (ℓo c)) :
    beforeZ A c f ⊢ |={Set.univ}=> iprop(zAt A c f 0 ∗ aside A c f) := by
  unfold beforeZ aside zAt
  have hO : (ℓo c ↦[Finset.univ]{fullShare} f : sProp 𝕄) = bigSep (Finset.range 40) (fun b => iprop(ℓo c ↦[blkSet b]{fullShare} f)) :=
    (congrArg (fun S => (ℓo c ↦[S]{fullShare} f : sProp 𝕄)) out_blocks).trans (pointsTo_biUnion _ _ blk_disjoint)
  have hS : (ℓs c ↦[Finset.univ]{fullShare} zS c : sProp 𝕄) = iprop(ℓs c ↦[slotSet 0 ∪ slotSet 1]{fullShare} zS c) :=
    congrArg (fun S => (ℓs c ↦[S]{fullShare} zS c : sProp 𝕄)) scr_slots
  rw [hO, hS, cnt_zero]
  iintro ⟨Hz, Hs, Ho, Hv⟩
  imod (Transfers.batch_alloc' (Lvl := ℕ) EC (c : Thread nD τ) () creditBlk (delivZ A c) (sm := .dma (semOf 1)) (E := Set.univ)) $$ Hv with HB
  imodintro
  ihave Hs := (pointsTo_union slot_disjoint).1 $$ Hs
  icases Hs with ⟨Hs0, Hs1⟩
  ihave Hs1 := (Transfers.pointsTo_toks_range fullShare 40).1 $$ Hs1
  icases Hs1 with ⟨Hd, Ht⟩
  icombine Ho Ht as H
  ihave H := (show iprop(bigSep (Finset.range 40) (fun b => (ℓo c ↦[blkSet b]{fullShare} f : sProp 𝕄))
      ∗ bigSep (Finset.range 40) (fun b => (ℓs c ↦[slotSet 1]{Transfers.shareTokN fullShare b} zS c : sProp 𝕄)))
      ⊢ iprop(bigSep (later A 0) (takes c f) ∗ bigSep (clear A) (takes c f)) from by
    rw [← bs_sep, ← bs_blocks]; exact .rfl) $$ H
  icases H with ⟨Hl, Hc⟩
  isplitl [Hz HB Hl]
  · isplitl [Hz]; · iexact Hz
    isplitl [HB]; · iexact HB
    iexact Hl
  isplitl [Hs0]; · iexact Hs0
  isplitl [Hd]; · iexact Hd
  iexact Hc

/-- The flagged blocks, by their order. -/
theorem later_nth (A : Args F) : later A 0 = (Finset.univ : Finset (Fin (cnt A 40))).biUnion fun j => nth A j.val := by
  ext b
  simp only [Finset.mem_biUnion, Finset.mem_univ, true_and, nth, Finset.mem_filter]
  constructor
  · intro h
    have h' := h
    simp only [later, Finset.mem_filter, Finset.mem_Ico] at h'
    exact ⟨⟨cnt A b, cnt_lt_all h'.1.2 h'.2⟩, h, rfl⟩
  · rintro ⟨_, h, _⟩; exact h

/-- Flagged blocks of different order do not meet. -/
theorem nth_disjoint (A : Args F) : ∀ j ∈ (Finset.univ : Finset (Fin (cnt A 40))), ∀ j' ∈ (Finset.univ : Finset (Fin (cnt A 40))), j ≠ j'
    → Disjoint (nth A j.val) (nth A j'.val) := by
  intro j _ j' _ h
  rw [Finset.disjoint_left]
  intro b h1 h2
  simp only [nth, Finset.mem_filter] at h1 h2
  exact h (Fin.ext (h1.2.symm.trans h2.2))

/-- A flagged block is taken for the fill. -/
theorem takes_flagged (A : Args F) (c : Dev nD) (f : Buf (Elt F) (ℓo c)) (b : ℕ) (h : flagged A b) :
    (takes c (zO c) b : sProp 𝕄) = takes c (filled A c f) b := by
  unfold takes
  rw [pointsTo_congr (g := filled A c f)]
  intro y hy
  simp only [blkSet, Finset.mem_filter, Finset.mem_univ, true_and] at hy
  show zero = if flagged A (((y : S327680x128.Idx) 0).val / 8192) then zero else _
  rw [if_pos (by rw [hy]; exact h)]

/-- A block without a flag is left as it is. -/
theorem takes_clear (A : Args F) (c : Dev nD) (f : Buf (Elt F) (ℓo c)) (b : ℕ) (h : ¬ flagged A b) :
    (takes c f b : sProp 𝕄) = takes c (filled A c f) b := by
  unfold takes
  rw [pointsTo_congr (g := filled A c f)]
  intro y hy
  simp only [blkSet, Finset.mem_filter, Finset.mem_univ, true_and] at hy
  show _ = if flagged A (((y : S327680x128.Idx) 0).val / 8192) then zero else (f : S327680x128.Idx → F .f32) y
  rw [if_neg (by rw [hy]; exact h)]

/-- What the zero fill owns at its end. -/
theorem zero_fin (A : Args F) (c : Dev nD) (f : Buf (Elt F) (ℓo c)) :
    iprop(wAt A c 40 ∗ aside A c f) ⊢ |={Set.univ}=> iprop(beforeZ A c (filled A c f) ∗ ∃ W : Waits sig Unit, owes (c : Thread nD τ) 0 W) := by
  unfold beforeZ aside wAt
  have hO : (ℓo c ↦[Finset.univ]{fullShare} (filled A c f) : sProp 𝕄) = bigSep (Finset.range 40) (fun b => iprop(ℓo c ↦[blkSet b]{fullShare} (filled A c f))) :=
    (congrArg (fun S => (ℓo c ↦[S]{fullShare} (filled A c f) : sProp 𝕄)) out_blocks).trans (pointsTo_biUnion _ _ blk_disjoint)
  have hS : (ℓs c ↦[Finset.univ]{fullShare} zS c : sProp 𝕄) = iprop(ℓs c ↦[slotSet 0 ∪ slotSet 1]{fullShare} zS c) :=
    congrArg (fun S => (ℓs c ↦[S]{fullShare} zS c : sProp 𝕄)) scr_slots
  have hD : bigSep Finset.univ (delivZ A c) = bigSep (later A 0) (takes c (filled A c f) : ℕ → sProp 𝕄) := by
    rw [show bigSep (later A 0) (takes c (filled A c f) : ℕ → sProp 𝕄) = bigSep (later A 0) (takes c (zO c) : ℕ → sProp 𝕄) from
      bigSep_congr fun b hb => (takes_flagged A c f b (Finset.mem_filter.mp hb).2).symm]
    conv_rhs => rw [later_nth A]
    exact (bigSep_biUnion_eq _ _ _ (nth_disjoint A)).symm
  have hC : bigSep (clear A) (takes c f : ℕ → sProp 𝕄) = bigSep (clear A) (takes c (filled A c f)) :=
    bigSep_congr fun b hb => takes_clear A c f b (Finset.mem_filter.mp hb).2
  rw [hO, hS, hC]
  iintro ⟨⟨Hz, HB, HO⟩, Hs0, Hd, Hc⟩
  imod (Transfers.batch_collect' EC (c : Thread nD τ) (D := delivZ A c) creditBlk_pos) $$ HB with ⟨HD, Hv⟩
  imodintro
  ihave HD := (Entails.of_eq hD) $$ HD
  icombine HD Hc as H
  ihave H := (show iprop(bigSep (later A 0) (takes c (filled A c f)) ∗ bigSep (clear A) (takes c (filled A c f)))
      ⊢ iprop(bigSep (Finset.range 40) (fun b => (ℓo c ↦[blkSet b]{fullShare} (filled A c f) : sProp 𝕄))
      ∗ bigSep (Finset.range 40) (fun b => (ℓs c ↦[slotSet 1]{Transfers.shareTokN fullShare b} zS c : sProp 𝕄))) from by
    rw [← bs_sep, ← bs_blocks]; exact .rfl) $$ H
  icases H with ⟨Ho, Ht⟩
  isplitr [HO]
  · isplitl [Hz]; · iexact Hz
    isplitl [Hs0 Hd Ht]
    · iapply (pointsTo_union slot_disjoint).2
      isplitl [Hs0]; · iexact Hs0
      iapply (Transfers.pointsTo_toks_range fullShare 40).2
      isplitl [Hd] <;> iassumption
    isplitl [Ho]; · iexact Ho
    iexact Hv
  iexact HO

/-- The start of the body, up to the first block's fill. -/
theorem part1 {A : Args F} (c : Dev nD) (f : Buf (Elt F) (ℓo c)) (i : grid0.Coords) (hw1 : (Memref.whole main_arg0).IsWhole) (hw2 : (Memref.whole main_arg1).IsWhole)
    (hw5 : (Memref.whole main_v0).IsWhole) (hw6 : (Memref.whole cc0_scratch0).IsWhole)
    (a3 : Memref sig .tc .vmem S512x1024 .f32) (h3 : a3.IsWhole) (a4 : Memref sig .tc .vmem S512x128 .f32) (h4 : a4.IsWhole) (g : Buf (Elt F) (ℓs c)) :
    iprop(flags A c ∗ (ℓs c ↦[Finset.univ]{fullShare} g) ∗ (ℓo c ↦[Finset.univ]{fullShare} f) ∗ semVal ((c : Thread nD τ), SemLoc.dma (semOf 1)) 0)
      ⊢ wpc c (k0_part1 i (Memref.whole main_arg0) hw1 (Memref.whole main_arg1) hw2 a3 h3 a4 h4 (Memref.whole main_v0) hw5 (Memref.whole cc0_scratch0) hw6 cc0_scratch1)
        (fun r => iprop((⌜r = (⟨A.zf (ix1 ⟨6, by decide⟩), 0#32⟩ : Σ' (_ : Elt F .i32), BitVec 32)⌝ ∗ zAt A c f 6) ∗ aside A c f)) := by
  rw [k0_part1_eq_skeleton]
  unfold k0_part1_skel
  iintro ⟨Hz, Hs, Ho, Hv⟩
  iapply (wp_load_rect Variants.none (c : Thread nD τ) none Set.univ (m := Memref.whole cc0_scratch0)
    (r := Rect.unit (s := S2x8192x128) ![0, 0, 0] S2x8192x128.size inb_S2x8192x128_S2x8192x128_0_0_0) (S := Finset.univ) (q := fullShare) (f := g) (Finset.subset_univ _)) $$ Hs
  iintro Hs
  iapply (wp_store Variants.none (c : Thread nD τ) none Set.univ (m := Memref.whole cc0_scratch0)
    (r := Rect.unit (s := S2x8192x128) ![0, 0, 0] S2x8192x128.size inb_S2x8192x128_S2x8192x128_0_0_0) (S := Finset.univ) (f := g) (Finset.subset_univ _)) $$ Hs
  iintro Hs
  ihave Hs := (show _ ⊢ (ℓs c ↦[Finset.univ]{fullShare} zS c : sProp 𝕄) from Entails.of_eq (pointsTo_congr fun y _ => by
    have hy : y = ((Memref.whole cc0_scratch0).access (Rect.unit (s := S2x8192x128) ![0, 0, 0] S2x8192x128.size inb_S2x8192x128_S2x8192x128_0_0_0)).emb y := by
      refine funext fun a => Fin.ext ?_
      show (y a).val = ((Rect.unit (s := S2x8192x128) ![0, 0, 0] S2x8192x128.size inb_S2x8192x128_S2x8192x128_0_0_0).emb y a).val
      rw [ValueKit.rect_emb_unit_val]
      match a with
      | 0 => exact (Nat.zero_add _).symm
      | 1 => exact (Nat.zero_add _).symm
      | 2 => exact (Nat.zero_add _).symm
    rw [hy, View.write_emb_of_mem _ _ (Finset.mem_univ y)]
    rfl)) $$ Hs
  imod (zero_init A c f) $$ [Hz Hs Ho Hv] with ⟨H, Ha⟩
  · unfold beforeZ
    isplitl [Hz]; · iexact Hz
    isplitl [Hs]; · iexact Hs
    isplitl [Ho]; · iexact Ho
    iexact Hv
  iapply (load_zAt c f 0 0 (by decide) ![0] inb_S40_S1_0 rfl) $$ H
  iintro H
  iapply (start_block c f 0 (by decide) _ (bit_iff (by decide)) ![1, 0, 0] inb_S2x8192x128_S1x8192x128_1_0_0 rfl ![0, 0] inb_S327680x128_S8192x128_0_0 rfl ![1] inb_S2_S1_1 rfl) $$ H
  iintro H
  iapply (load_zAt c f 1 1 (by decide) ![1] inb_S40_S1_1 rfl) $$ H
  iintro H
  iapply (start_block c f 1 (by decide) _ (bit_iff (by decide)) ![1, 0, 0] inb_S2x8192x128_S1x8192x128_1_0_0 rfl ![8192, 0] inb_S327680x128_S8192x128_8192_0 rfl ![1] inb_S2_S1_1 rfl) $$ H
  iintro H
  iapply (load_zAt c f 2 2 (by decide) ![2] inb_S40_S1_2 rfl) $$ H
  iintro H
  iapply (start_block c f 2 (by decide) _ (bit_iff (by decide)) ![1, 0, 0] inb_S2x8192x128_S1x8192x128_1_0_0 rfl ![16384, 0] inb_S327680x128_S8192x128_16384_0 rfl ![1] inb_S2_S1_1 rfl) $$ H
  iintro H
  iapply (load_zAt c f 3 3 (by decide) ![3] inb_S40_S1_3 rfl) $$ H
  iintro H
  iapply (start_block c f 3 (by decide) _ (bit_iff (by decide)) ![1, 0, 0] inb_S2x8192x128_S1x8192x128_1_0_0 rfl ![24576, 0] inb_S327680x128_S8192x128_24576_0 rfl ![1] inb_S2_S1_1 rfl) $$ H
  iintro H
  iapply (load_zAt c f 4 4 (by decide) ![4] inb_S40_S1_4 rfl) $$ H
  iintro H
  iapply (start_block c f 4 (by decide) _ (bit_iff (by decide)) ![1, 0, 0] inb_S2x8192x128_S1x8192x128_1_0_0 rfl ![32768, 0] inb_S327680x128_S8192x128_32768_0 rfl ![1] inb_S2_S1_1 rfl) $$ H
  iintro H
  iapply (load_zAt c f 5 5 (by decide) ![5] inb_S40_S1_5 rfl) $$ H
  iintro H
  iapply (start_block c f 5 (by decide) _ (bit_iff (by decide)) ![1, 0, 0] inb_S2x8192x128_S1x8192x128_1_0_0 rfl ![40960, 0] inb_S327680x128_S8192x128_40960_0 rfl ![1] inb_S2_S1_1 rfl) $$ H
  iintro H
  iapply (load_zAt c f 6 6 (by decide) ![6] inb_S40_S1_6 rfl) $$ H
  iintro H
  iapply (wpc_ret c _ _)
  isplitr [Ha]
  · isplitr [H]
    · ipureintro; rfl
    iexact H
  iexact Ha

end Cert.KernelIdeal.Dispatch
-- ==== Proof.D.Lay.lean ====
/- A tile laid out in its slot: nine stores, each a sublane of every token. -/
module

public import proofs.«01_k».proof.Proof.D.Fill

@[expose] public section

set_option maxRecDepth 16384

noncomputable section

namespace Cert.KernelIdeal.Dispatch

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The slot's sublanes below `r` and from 9 on hold tile `i`. -/
def Laid (A : Args F) (i r : ℕ) (f : S2x8192x128.Idx → F .f32) : Prop :=
  ∀ y : S2x8192x128.Idx, (y 0).val = i % 2 → ((y 1).val % 16 < r ∨ 9 ≤ (y 1).val % 16) → f y = Sc A i y

def laidAt (A : Args F) (c : Dev nD) (i r : ℕ) : sProp 𝕄 :=
  iprop(∃ f : Buf (Elt F) (ℓs c), ⌜Laid A i r f⌝ ∗ (ℓs c ↦[slotSet (i % 2)]{fullShare} f))

/-- A slot with nothing in flight: its last seven sublanes of every token are zeros, its semaphore is at zero. -/
def slotFree (c : Dev nD) (s : ℕ) : sProp 𝕄 :=
  iprop((∃ f : Buf (Elt F) (ℓs c), ⌜∀ y : S2x8192x128.Idx, (y 0).val = s → 9 ≤ (y 1).val % 16 → (f : S2x8192x128.Idx → F .f32) y = zero⌝ ∗ (ℓs c ↦[slotSet s]{fullShare} f))
    ∗ semVal ((c : Thread nD τ), SemLoc.dma (semOf s)) 0)

/-- The rows after the metadata are zeros. -/
theorem Sc_pad (A : Args F) (i : ℕ) (y : S2x8192x128.Idx) (h : 9 ≤ (y 1).val % 16) : Sc A i y = zero := by
  unfold Sc rowval
  rw [dif_neg (by omega), if_neg (by omega)]

/-- Before the stores nothing of a tile is laid out. -/
theorem laid_start (A : Args F) (c : Dev nD) (i : ℕ) :
    slotFree c (i % 2) ⊢ iprop(laidAt A c i 0 ∗ semVal ((c : Thread nD τ), SemLoc.dma (semOf (i % 2))) 0) := by
  unfold slotFree laidAt
  iintro ⟨⟨%f, %hf, Hs⟩, Hv⟩
  isplitr [Hv]
  · iexists f
    isplitr [Hs]
    · ipureintro
      intro y h0 h1
      have h1' : 9 ≤ (y 1).val % 16 := by omega
      rw [Sc_pad A i y h1']
      exact hf y h0 h1'
    iexact Hs
  iexact Hv

/-- After the stores all of it is. -/
theorem laid_end (A : Args F) (c : Dev nD) (i : ℕ) :
    laidAt A c i 9 ⊢ (ℓs c ↦[slotSet (i % 2)]{fullShare} (Sc A i : Buf (Elt F) (ℓs c)) : sProp 𝕄) := by
  unfold laidAt
  iintro ⟨%f, %hf, Hs⟩
  have e : (ℓs c ↦[slotSet (i % 2)]{fullShare} f : sProp 𝕄) = (ℓs c ↦[slotSet (i % 2)]{fullShare} (Sc A i : Buf (Elt F) (ℓs c))) := by
    apply pointsTo_congr
    intro y hy
    exact hf y (Finset.mem_filter.mp hy).2 (by omega)
  iapply (Entails.of_eq e) $$ Hs

/-- One store lays out one row of every token. -/
theorem lay_row (A : Args F) (c : Dev nD) (i r : ℕ) (hr : r < 9)
    (o1 : Fin 3 → ℕ) (h1 : ∀ a, o1 a + S1x8192x128.size a ≤ S2x8192x128.size a) (e1 : o1 = ![i % 2, 0, 0])
    (inb : ∀ a, S512x128.size a = 0 ∨ (![r, 0] : Fin 2 → Nat) a + (![16, 1] : Fin 2 → Nat) a * (S512x128.size a - 1) < S8192x128.size a)
    (sp : ∀ a, 0 < (![16, 1] : Fin 2 → Nat) a)
    (w : S512x128.Idx → F .f32) (hw : ∀ x : S512x128.Idx, w x = rowval A (tok i (x 0).val) r (x 1))
    {g1 g2 g3}
    {α : Type} {kk : Prog (TpuEff nD τ sig (Elt F) Λ₀ .tc) α} {Q : α → sProp 𝕄} :
    laidAt A c i r ⊢ iprop((laidAt A c i (r + 1) -∗ wpc c kk Q)
      -∗ wpc c (.op (.load (slotM o1 h1) (⟨![r, 0], S512x128.size, ![16, 1], inb⟩ : LoadRect S8192x128) g1) fun _ =>
          .op (.store (slotM o1 h1) ⟨(⟨![r, 0], S512x128.size, ![16, 1], inb⟩ : LoadRect S8192x128), sp⟩ w Finset.univ g2 g3) fun _ => kk) Q) := by
  unfold laidAt
  iintro ⟨%f, %hf, Hs⟩ Hk
  have hsub : ((slotM o1 h1).view.set : Finset S2x8192x128.Idx) = slotSet (i % 2) := slotM_set (i % 2) o1 h1 e1
  iapply (wp_load Variants.none (c : Thread nD τ) none Set.univ (m := slotM o1 h1) (S := slotSet (i % 2)) (q := fullShare) (f := f)
    (by rw [← hsub]; exact Finset.map_subset_map.mpr (Finset.subset_univ _))) $$ Hs
  iintro Hs
  iapply (wp_store Variants.none (c : Thread nD τ) none Set.univ (m := slotM o1 h1)
    (r := ⟨(⟨![r, 0], S512x128.size, ![16, 1], inb⟩ : LoadRect S8192x128), sp⟩) (S := slotSet (i % 2)) (f := f)
    (by
      rw [← hsub]
      intro y hy
      obtain ⟨x, -, rfl⟩ := Finset.mem_map.mp hy
      exact Finset.mem_map.mpr ⟨(⟨(⟨![r, 0], S512x128.size, ![16, 1], inb⟩ : LoadRect S8192x128), sp⟩ : Rect S8192x128).emb x, Finset.mem_univ _, rfl⟩)) $$ Hs
  iintro Hs
  iapply Hk
  iexists _
  isplitr [Hs]
  rotate_left
  · iexact Hs
  ipureintro
  intro y h0 hy
  by_cases hm : (y 1).val % 16 = r
  · have hlt : (y 1).val < 8192 := (y 1).isLt
    have hlt2 : (y 2).val < 128 := (y 2).isLt
    set x : S512x128.Idx := ix2 (⟨(y 1).val / 16, by omega⟩ : Fin 512) (y 2) with hx
    obtain ⟨s0, s1, s2⟩ := slot_emb (i % 2) o1 h1 e1 ((⟨(⟨![r, 0], S512x128.size, ![16, 1], inb⟩ : LoadRect S8192x128), sp⟩ : Rect S8192x128).emb x)
    have hy' : y = ((slotM o1 h1).access ⟨(⟨![r, 0], S512x128.size, ![16, 1], inb⟩ : LoadRect S8192x128), sp⟩).emb x := by
      refine funext fun a => Fin.ext ?_
      match a with
      | 0 => exact h0.trans s0.symm
      | 1 =>
        refine Eq.trans ?_ s1.symm
        show (y 1).val = r + 16 * ((y 1).val / 16)
        omega
      | 2 =>
        refine Eq.trans ?_ s2.symm
        show (y 2).val = 0 + 1 * (y 2).val
        omega
    conv_lhs => rw [hy', View.write_emb_of_mem _ _ (Finset.mem_univ x)]
    show w x = _
    rw [hw]
    unfold Sc
    rw [hm]
  · rw [View.write_of_not_mem]
    · exact hf y h0 (by omega)
    · intro hy2
      obtain ⟨x, -, rfl⟩ := Finset.mem_map.mp hy2
      obtain ⟨s0, s1, s2⟩ := slot_emb (i % 2) o1 h1 e1 ((⟨(⟨![r, 0], S512x128.size, ![16, 1], inb⟩ : LoadRect S8192x128), sp⟩ : Rect S8192x128).emb x)
      apply hm
      refine (congrArg (· % 16) s1).trans ?_
      show (r + 16 * (x 0).val) % 16 = r
      omega

/-- A sublane of a tile's tokens, cut out of the tile. -/
theorem cut_row (A : Args F) (i r : ℕ) (hr : r < 8) (v : S512x1024.Idx → F .f32) (hv : ∀ x : S512x1024.Idx, v x = A.x (ix2 (tok i (x 0).val) (x 1)))
    (o : Fin 2 → ℕ) (ho : o = ![0, 128 * r]) (h : S512x1024.Slices o S512x128) (h' : S512x128.ShapeCasts S512x128) (x : S512x128.Idx) :
    (shapeCast S512x128 (extractStridedSlice S512x128 o v h) h' : S512x128.Idx → F .f32) x = rowval A (tok i (x 0).val) r (x 1) := by
  subst ho
  rw [shapeCast_self]
  have hx : (x 1).val < 128 := (x 1).isLt
  refine (extractStridedSlice_apply _ v h x (ix2 (x 0) (⟨128 * r + (x 1).val, by omega⟩ : Fin 1024)) ?_).trans ?_
  rotate_left
  · rw [hv]
    unfold rowval
    rw [dif_pos hr]
  · intro a
    match a with
    | 0 => exact (Nat.zero_add _).symm
    | 1 => rfl

/-- The metadata's row. -/
theorem meta_row (A : Args F) (i : ℕ) (v : S512x128.Idx → F .f32) (hv : ∀ x : S512x128.Idx, v x = A.mt (ix2 (tok i (x 0).val) (x 1))) (x : S512x128.Idx) :
    (k0_pay1 v : S512x128.Idx → F .f32) x = rowval A (tok i (x 0).val) 8 (x 1) := by
  unfold k0_pay1
  rw [show (shapeCast S512x128 v shapeCasts_S512x128_S512x128 : S512x128.Idx → F .f32) = v from shapeCast_self v _, hv]
  unfold rowval
  rw [dif_neg (by omega), if_pos rfl]

/-- The part of the body that lays out a tile. -/
theorem part12 (A : Args F) (c : Dev nD) (i : grid0.Coords) (hw1 : (Memref.whole main_arg0).IsWhole) (hw2 : (Memref.whole main_arg1).IsWhole)
    (hw5 : (Memref.whole main_v0).IsWhole) (hw6 : (Memref.whole cc0_scratch0).IsWhole)
    (a3 : Memref sig .tc .vmem S512x1024 .f32) (h3 : a3.IsWhole) (a4 : Memref sig .tc .vmem S512x128 .f32) (h4 : a4.IsWhole)
    (v : S512x1024.Idx → F .f32) (hv : ∀ x : S512x1024.Idx, v x = A.x (ix2 (tok (i 0).val (x 0).val) (x 1))) :
    laidAt A c (i 0).val 2
      ⊢ wpc c (k0_part12 i (Memref.whole main_arg0) hw1 (Memref.whole main_arg1) hw2 a3 h3 a4 h4 (Memref.whole main_v0) hw5 (Memref.whole cc0_scratch0) hw6 cc0_scratch1
          v (k0_pay5 v))
        (fun _ => laidAt A c (i 0).val 8) := by
  rw [k0_part12_eq_skeleton]
  unfold k0_part12_skel
  iintro H
  iapply (lay_row A c (i 0).val 2 (by decide) (k0_off3 i) (k0_off3_inb i) (off3_eq i) inb_S8192x128_S512x128_2_0_s_16_1 spos_16_1 (k0_pay6 (k0_pay5 v)) (fun x => cut_row A _ 2 (by decide) v hv ![0, 256] rfl (by decide) (by decide) x)) $$ H
  iintro H
  iapply (lay_row A c (i 0).val 3 (by decide) (k0_off3 i) (k0_off3_inb i) (off3_eq i) inb_S8192x128_S512x128_3_0_s_16_1 spos_16_1 (k0_pay7 v) (fun x => cut_row A _ 3 (by decide) v hv ![0, 384] rfl (by decide) (by decide) x)) $$ H
  iintro H
  iapply (lay_row A c (i 0).val 4 (by decide) (k0_off3 i) (k0_off3_inb i) (off3_eq i) inb_S8192x128_S512x128_4_0_s_16_1 spos_16_1 (k0_pay8 v) (fun x => cut_row A _ 4 (by decide) v hv ![0, 512] rfl (by decide) (by decide) x)) $$ H
  iintro H
  iapply (lay_row A c (i 0).val 5 (by decide) (k0_off3 i) (k0_off3_inb i) (off3_eq i) inb_S8192x128_S512x128_5_0_s_16_1 spos_16_1 (k0_pay9 v) (fun x => cut_row A _ 5 (by decide) v hv ![0, 640] rfl (by decide) (by decide) x)) $$ H
  iintro H
  iapply (lay_row A c (i 0).val 6 (by decide) (k0_off3 i) (k0_off3_inb i) (off3_eq i) inb_S8192x128_S512x128_6_0_s_16_1 spos_16_1 (k0_pay10 v) (fun x => cut_row A _ 6 (by decide) v hv ![0, 768] rfl (by decide) (by decide) x)) $$ H
  iintro H
  iapply (lay_row A c (i 0).val 7 (by decide) (k0_off3 i) (k0_off3_inb i) (off3_eq i) inb_S8192x128_S512x128_7_0_s_16_1 spos_16_1 (k0_pay11 v) (fun x => cut_row A _ 7 (by decide) v hv ![0, 896] rfl (by decide) (by decide) x)) $$ H
  iintro H
  iapply (wpc_ret c _ _)
  iexact H

end Cert.KernelIdeal.Dispatch
-- ==== Proof.D.Drain.lean ====
/- A tile collected, and what the grid holds between two of its points. -/
module

public import proofs.«01_k».proof.Proof.D.Lay

@[expose] public section

set_option maxRecDepth 16384

noncomputable section

namespace Cert.KernelIdeal.Dispatch

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A tile's transfers collected: its rows of the result filled, its slot free again. -/
theorem drain {A : Args F} (hA : Ok A) (c : Dev nD) (i : ℕ) (hi : i < 32)
    (o4 : Fin 1 → ℕ) (h4 : ∀ a, o4 a + S1.size a ≤ S2.size a) (e4 : o4 = ![i % 2])
    {s' : Shape} {e' : EltTy} {sp' : Space} {srcw : Memref sig .tc sp' s' e'}
    (o3 : Fin 2 → ℕ) (h3 : ∀ a, o3 a + S8192x128.size a ≤ S327680x128.size a)
    {g1 : srcw.view.WordExact} {g2 : (blkM o3 h3).view.WordExact}
    {α : Type} {kk : PUnit → Prog (TpuEff nD τ sig (Elt F) Λ₀ .tc) α} {Q : α → sProp 𝕄} :
    iprop(sent A c i 512 ∗ (∃ W : Waits sig Unit, owes (c : Thread nD τ) 0 W))
      ⊢ iprop((iprop((ℓo c ↦[toks A (512 * i) (512 * (i + 1))]{fullShare} (G A : Buf (Elt F) (ℓo c))) ∗ slotFree c (i % 2) ∗ (∃ W : Waits sig Unit, owes (c : Thread nD τ) 0 W)) -∗ wpc c (kk ⟨⟩) Q)
        -∗ wpc c (.op (.waitDma2 (semAt o4 h4) srcw (blkM o3 h3) g1 g2) kk) Q) := by
  have hO : (ℓo c ↦[toks A (512 * i) (512 * (i + 1))]{fullShare} (G A : Buf (Elt F) (ℓo c)) : sProp 𝕄)
      = bigSep Finset.univ (fun k : Fin 512 => iprop(ℓo c ↦[rowSet (dst A (512 * i + k.val))]{fullShare} (G A : Buf (Elt F) (ℓo c)))) :=
    (congrArg (fun S => (ℓo c ↦[S]{fullShare} (G A : Buf (Elt F) (ℓo c)) : sProp 𝕄)) (toks_tile i)).trans (pointsTo_biUnion _ _ (rowSet_disjoint hA i hi))
  have hS : (ℓs c ↦[slotSet (i % 2)]{fullShare} (Sc A i : Buf (Elt F) (ℓs c)) : sProp 𝕄)
      = bigSep Finset.univ (fun k : Fin 512 => iprop(ℓs c ↦[winSet (i % 2) k.val]{fullShare} (Sc A i : Buf (Elt F) (ℓs c)))) :=
    (congrArg (fun S => (ℓs c ↦[S]{fullShare} (Sc A i : Buf (Elt F) (ℓs c)) : sProp 𝕄)) (slotSet_wins (i % 2))).trans (pointsTo_biUnion _ _ (winSet_disjoint (i % 2)))
  have hD : bigSep Finset.univ (deliv A c i) = iprop((ℓo c ↦[toks A (512 * i) (512 * (i + 1))]{fullShare} (G A : Buf (Elt F) (ℓo c)))
      ∗ (ℓs c ↦[slotSet (i % 2)]{fullShare} (Sc A i : Buf (Elt F) (ℓs c)))) := by
    rw [hO, hS]; exact bigSep_sep _ _ _
  unfold sent slotFree
  rw [← semAt_eq (i % 2) (by omega) o4 h4 e4]
  iintro ⟨HB, %W, HO⟩ Hk
  iapply (Transfers.wp_waitBatchAll EC Variants.none (c : Thread nD τ) none (dstw := blkM o3 h3) () (J := creditBlk)
    (blk_credit _ _) creditRow_pos (show 0 + creditBlk = creditRow * 512 by rw [creditBlk_eq, Nat.zero_add])) $$ [HB HO]
  · isplitl [HB]; · iexact HB
    iexact HO
  iintro ⟨HD, Hv, HO⟩
  ihave HD := (Entails.of_eq hD) $$ HD
  icases HD with ⟨Ho, Hs⟩
  iapply Hk
  isplitl [Ho]; · iexact Ho
  isplitr [HO]
  · isplitr [Hv]
    · iexists (Sc A i : Buf (Elt F) (ℓs c))
      isplitr [Hs]
      · ipureintro
        intro y _ h9
        exact Sc_pad A i y h9
      iexact Hs
    iexact Hv
  iexists _
  iexact HO

/-- The rows of the result no token goes to. -/
def unhit (A : Args F) : Finset S327680x128.Idx := Finset.univ \ toks A 0 16384

/-- The other slot while tile `i` is laid out: free at first, then tile `i - 1` on its way. -/
def other (A : Args F) (c : Dev nD) : ℕ → sProp 𝕄
  | 0 => slotFree c 1
  | i + 1 => sent A c i 512

/-- Before the first point. -/
def atStart (A : Args F) (c : Dev nD) (V : Buf (Elt F) (ℓo c)) : sProp 𝕄 :=
  iprop((∃ g : Buf (Elt F) (ℓs c), ℓs c ↦[Finset.univ]{fullShare} g) ∗ (ℓo c ↦[Finset.univ]{fullShare} V)
    ∗ semVal ((c : Thread nD τ), SemLoc.dma (semOf 0)) 0 ∗ semVal ((c : Thread nD τ), SemLoc.dma (semOf 1)) 0)

/-- Before tile `i` is laid out. -/
def ready (A : Args F) (c : Dev nD) (f : Buf (Elt F) (ℓo c)) (i : ℕ) : sProp 𝕄 :=
  iprop(slotFree c (i % 2) ∗ other A c i ∗ (ℓo c ↦[toks A 0 (512 * (i - 1))]{fullShare} (G A : Buf (Elt F) (ℓo c)))
    ∗ (ℓo c ↦[toks A (512 * i) 16384]{fullShare} f) ∗ (ℓo c ↦[unhit A]{fullShare} f))

/-- After point `i`. -/
def after (A : Args F) (c : Dev nD) (f : Buf (Elt F) (ℓo c)) (i : ℕ) : sProp 𝕄 :=
  iprop(other A c i ∗ sent A c i 512 ∗ (ℓo c ↦[toks A 0 (512 * (i - 1))]{fullShare} (G A : Buf (Elt F) (ℓo c)))
    ∗ (ℓo c ↦[toks A (512 * (i + 1)) 16384]{fullShare} f) ∗ (ℓo c ↦[unhit A]{fullShare} f))

/-- After the last point. -/
def atEnd (A : Args F) (c : Dev nD) : sProp 𝕄 :=
  iprop((∃ g : Buf (Elt F) (ℓs c), ℓs c ↦[Finset.univ]{fullShare} g) ∗ (ℓo c ↦[Finset.univ]{fullShare} (G A : Buf (Elt F) (ℓo c)))
    ∗ semVal ((c : Thread nD τ), SemLoc.dma (semOf 0)) 0 ∗ semVal ((c : Thread nD τ), SemLoc.dma (semOf 1)) 0)

/-- The result's places are those of the tokens and those that no token reaches. -/
theorem unhit_split (A : Args F) : (Finset.univ : Finset S327680x128.Idx) = toks A 0 16384 ∪ unhit A :=
  (Finset.union_sdiff_of_subset (Finset.subset_univ _)).symm

/-- The two do not meet. -/
theorem unhit_disjoint (A : Args F) : Disjoint (toks A 0 16384) (unhit A) := Finset.disjoint_sdiff

/-- What no token reaches holds zeros. -/
theorem unhit_filled {A : Args F} (hA : Ok A) (c : Dev nD) (V : Buf (Elt F) (ℓo c)) :
    (ℓo c ↦[unhit A]{fullShare} filled A c V : sProp 𝕄) = (ℓo c ↦[unhit A]{fullShare} (G A : Buf (Elt F) (ℓo c))) := by
  apply pointsTo_congr
  intro y hy
  have hn : ¬ ∃ s < 16384, dst A s = ((y : S327680x128.Idx) 0).val / 16 := by
    rintro ⟨s, hs, h⟩
    refine (Finset.mem_sdiff.mp hy).2 ?_
    simp only [toks, Finset.mem_filter, Finset.mem_univ, _root_.true_and]
    exact ⟨s, Nat.zero_le _, hs, h⟩
  have hlt : ((y : S327680x128.Idx) 0).val < 327680 := ((y : S327680x128.Idx) 0).isLt
  show (if flagged A (((y : S327680x128.Idx) 0).val / 8192) then zero else _) = G A y
  rw [G_miss _ hn, if_pos]
  rcases hA.cover (((y : S327680x128.Idx) 0).val / 16) (by omega) with h | h
  · exact absurd h hn
  · rwa [show ((y : S327680x128.Idx) 0).val / 16 / 512 = ((y : S327680x128.Idx) 0).val / 8192 by omega] at h

end Cert.KernelIdeal.Dispatch
-- ==== Proof.D.Head.lean ====
/- The zero phase and the first part of a point. -/
module

public import proofs.«01_k».proof.Proof.D.Drain

@[expose] public section

set_option maxRecDepth 65536

noncomputable section

namespace Cert.KernelIdeal.Dispatch

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The tile's rows as the point finds them in the staging buffer. -/
def TileX (A : Args F) (i : ℕ) (v : S512x1024.Idx → F .f32) : Prop := ∀ x : S512x1024.Idx, v x = A.x (ix2 (tok i (x 0).val) (x 1))
def TileM (A : Args F) (i : ℕ) (v : S512x128.Idx → F .f32) : Prop := ∀ x : S512x128.Idx, v x = A.mt (ix2 (tok i (x 0).val) (x 1))

/-- A read of the whole buffer. -/
theorem readAt_all {sp : Space} {s : Shape} {e : EltTy} (v : View sig .tc sp s e) (f : v.ty.Contents (Elt F)) {off : Fin s.rank → ℕ} (inb : ∀ a, off a + s.size a ≤ s.size a) :
    v.readAt (Elt F) (Rect.unit off s.size inb).toLoadRect f = v.read (Elt F) f := by
  funext y
  exact congrArg (v.read (Elt F) f) (funext fun a => Fin.ext (by
    show off a + 1 * (y a).val = (y a).val
    have := inb a; omega))

/-- The load of the tile's entries. -/
theorem load_stage_x (c : Dev nD) (a3 : Memref sig .tc .vmem S512x1024 .f32) (d : S512x1024.Idx → F .f32) {g}
    {α : Type} {kk : (S512x1024.Idx → F .f32) → Prog (TpuEff nD τ sig (Elt F) Λ₀ .tc) α} {Q : α → sProp 𝕄} :
    (owns (c : Thread nD τ) a3 fullShare (d : S512x1024.Idx → Elt F .f32) : sProp 𝕄) ⊢ iprop((owns (c : Thread nD τ) a3 fullShare (d : S512x1024.Idx → Elt F .f32) -∗ wpc c (kk d) Q)
      -∗ wpc c (.op (.load a3 (Rect.unit (s := S512x1024) ![0, 0] S512x1024.size inb_S512x1024_S512x1024_0_0).toLoadRect g) kk) Q) := by
  unfold owns
  iintro ⟨%f, %hf, H⟩ Hk
  iapply (wp_load Variants.none (c : Thread nD τ) none Set.univ (m := a3) (S := a3.view.set) (q := fullShare) (f := f)
    (Finset.map_subset_map.mpr (Finset.subset_univ _))) $$ H
  iintro H
  rw [readAt_all, hf]
  iapply Hk
  iexists f
  isplitr [H]
  · ipureintro; exact hf
  iexact H

/-- The load of the tile's metadata. -/
theorem load_stage_m (c : Dev nD) (a4 : Memref sig .tc .vmem S512x128 .f32) (d : S512x128.Idx → F .f32) {g}
    {α : Type} {kk : (S512x128.Idx → F .f32) → Prog (TpuEff nD τ sig (Elt F) Λ₀ .tc) α} {Q : α → sProp 𝕄} :
    (owns (c : Thread nD τ) a4 fullShare (d : S512x128.Idx → Elt F .f32) : sProp 𝕄) ⊢ iprop((owns (c : Thread nD τ) a4 fullShare (d : S512x128.Idx → Elt F .f32) -∗ wpc c (kk d) Q)
      -∗ wpc c (.op (.load a4 (Rect.unit (s := S512x128) ![0, 0] S512x128.size inb_S512x128_S512x128_0_0).toLoadRect g) kk) Q) := by
  unfold owns
  iintro ⟨%f, %hf, H⟩ Hk
  iapply (wp_load Variants.none (c : Thread nD τ) none Set.univ (m := a4) (S := a4.view.set) (q := fullShare) (f := f)
    (Finset.map_subset_map.mpr (Finset.subset_univ _))) $$ H
  iintro H
  rw [readAt_all, hf]
  iapply Hk
  iexists f
  isplitr [H]
  · ipureintro; exact hf
  iexact H

/-- After the zero phase both slots are free. -/
theorem zero_ready {A : Args F} (c : Dev nD) (f : Buf (Elt F) (ℓo c)) :
    iprop(beforeZ A c f ∗ semVal ((c : Thread nD τ), SemLoc.dma (semOf 0)) 0) ⊢ iprop(ready A c f 0 ∗ flags A c) := by
  unfold beforeZ ready other slotFree
  have hS : (ℓs c ↦[Finset.univ]{fullShare} zS c : sProp 𝕄) = iprop(ℓs c ↦[slotSet 0 ∪ slotSet 1]{fullShare} zS c) :=
    congrArg (fun S => (ℓs c ↦[S]{fullShare} zS c : sProp 𝕄)) scr_slots
  have hO : (ℓo c ↦[Finset.univ]{fullShare} f : sProp 𝕄) = iprop(ℓo c ↦[toks A 0 16384 ∪ unhit A]{fullShare} f) :=
    congrArg (fun S => (ℓo c ↦[S]{fullShare} f : sProp 𝕄)) (unhit_split A)
  rw [hS, hO, show (0 : ℕ) - 1 = 0 from rfl, Nat.mul_zero, toks_self]
  iintro ⟨⟨Hz, Hs, Ho, Hv1⟩, Hv0⟩
  ihave Hs := (pointsTo_union slot_disjoint).1 $$ Hs
  icases Hs with ⟨Hs0, Hs1⟩
  ihave Ho := (pointsTo_union (unhit_disjoint A)).1 $$ Ho
  icases Ho with ⟨Ho, Hu⟩
  isplitr [Hz]
  · isplitl [Hs0 Hv0]
    · isplitl [Hs0]
      · iexists zS c
        isplitr [Hs0]
        · ipureintro; intro y _ _; rfl
        iexact Hs0
      iexact Hv0
    isplitl [Hs1 Hv1]
    · isplitl [Hs1]
      · iexists zS c
        isplitr [Hs1]
        · ipureintro; intro y _ _; rfl
        iexact Hs1
      iexact Hv1
    isplitr
    · rw [pointsTo_empty]; iempintro
    isplitl [Ho]; · iexact Ho
    iexact Hu
  iexact Hz

/-- A condition that holds: its branch runs. -/
theorem wpc_take (c : Dev nD) {p : Prop} [Decidable p] {α : Type} {P : p → Prog (TpuEff nD τ sig (Elt F) Λ₀ .tc) α} {R : ¬ p → Prog (TpuEff nD τ sig (Elt F) Λ₀ .tc) α}
    {Q : α → sProp 𝕄} (h : p) : wpc c (P h) Q ⊢ wpc c (if h : p then P h else R h) Q := by
  rw [dif_pos h]
/-- A condition that fails: its branch is skipped. -/
theorem wpc_skip (c : Dev nD) {p : Prop} [Decidable p] {α : Type} {P : p → Prog (TpuEff nD τ sig (Elt F) Λ₀ .tc) α} {R : ¬ p → Prog (TpuEff nD τ sig (Elt F) Λ₀ .tc) α}
    {Q : α → sProp 𝕄} (h : ¬ p) : wpc c (R h) Q ⊢ wpc c (if h : p then P h else R h) Q := by
  rw [dif_neg h]

/-- The first tile is the one at which the zero fill runs. -/
theorem first_iff : ∀ i : grid0.Coords,
    (Scalar.cmpi .ne (Scalar.extui (Scalar.cmpi .eq (BitVec.ofNat 32 (i 0).val) 0#32) : BitVec 32) 0#32 : BitVec 1) = 1#1 ↔ (i 0).val = 0 := by
  decide +kernel

/-- After the first tile the second may begin. -/
theorem second_ready (A : Args F) (c : Dev nD) (f : Buf (Elt F) (ℓo c)) : after A c f 0 ⊢ ready A c f 1 := .rfl

/-- After a tile's waits the slot is free and its rows have arrived. -/
theorem drained {A : Args F} (hA : Ok A) (c : Dev nD) (f : Buf (Elt F) (ℓo c)) (k : ℕ) (hk : k < 32) :
    iprop((ℓo c ↦[toks A (512 * k) (512 * (k + 1))]{fullShare} (G A : Buf (Elt F) (ℓo c))) ∗ slotFree c (k % 2) ∗ sent A c (k + 1) 512
      ∗ (ℓo c ↦[toks A 0 (512 * (k + 1 - 1))]{fullShare} (G A : Buf (Elt F) (ℓo c))) ∗ (ℓo c ↦[toks A (512 * (k + 1 + 1)) 16384]{fullShare} f) ∗ (ℓo c ↦[unhit A]{fullShare} f))
      ⊢ ready A c f (k + 2) := by
  unfold ready
  have e : other A c (k + 2) = sent A c (k + 1) 512 := rfl
  rw [e, show (k + 2) % 2 = k % 2 by omega, show k + 2 - 1 = k + 1 by omega, show k + 1 - 1 = k by omega, show k + 1 + 1 = k + 2 by omega,
    toks_append (A := A) 0 (512 * k) (512 * (k + 1)) (by omega) (by omega)]
  iintro ⟨Hg, Hs, Hq, Hd, Ht, Hu⟩
  isplitl [Hs]; · iexact Hs
  isplitl [Hq]; · iexact Hq
  isplitl [Hd Hg]
  · iapply (pointsTo_union (toks_append_disjoint hA 0 (512 * k) (512 * (k + 1)) (by omega))).2
    isplitl [Hd] <;> iassumption
  isplitl [Ht]; · iexact Ht
  iexact Hu

/-- What the first part leaves: two sublanes of the tile laid out. -/
def midAt (A : Args F) (c : Dev nD) (f : Buf (Elt F) (ℓo c)) (i : ℕ) (r : ℕ) : sProp 𝕄 :=
  iprop((laidAt A c i r ∗ semVal ((c : Thread nD τ), SemLoc.dma (semOf (i % 2))) 0) ∗ other A c i ∗ (ℓo c ↦[toks A 0 (512 * (i - 1))]{fullShare} (G A : Buf (Elt F) (ℓo c)))
    ∗ (ℓo c ↦[toks A (512 * i) 16384]{fullShare} f) ∗ (ℓo c ↦[unhit A]{fullShare} f))

/-- What a tile finds is what it needs before its waits. -/
theorem ready_mid (A : Args F) (c : Dev nD) (f : Buf (Elt F) (ℓo c)) (i : ℕ) : ready A c f i ⊢ midAt A c f i 0 := by
  unfold ready midAt
  exact sep_mono (laid_start A c i) .rfl

section Head

variable {A : Args F} (hA : Ok A) (c : Dev nD) (i : grid0.Coords) (hw1 : (Memref.whole main_arg0).IsWhole) (hw2 : (Memref.whole main_arg1).IsWhole)
    (hw5 : (Memref.whole main_v0).IsWhole) (hw6 : (Memref.whole cc0_scratch0).IsWhole)
    (a3 : Memref sig .tc .vmem S512x1024 .f32) (h3 : a3.IsWhole) (a4 : Memref sig .tc .vmem S512x128 .f32) (h4 : a4.IsWhole)
    (f : Buf (Elt F) (ℓo c)) (v : S512x1024.Idx → F .f32) (hv : TileX A (i 0).val v)
include hA hv

/-- That part, at a later tile. -/
theorem part11_later (j : ℕ) (hj : (i 0).val = j + 1) :
    iprop(after A c f j ∗ flags A c ∗ (∃ W : Waits sig Unit, owes (c : Thread nD τ) 0 W) ∗ owns (c : Thread nD τ) a3 fullShare (v : S512x1024.Idx → Elt F .f32))
      ⊢ wpc c (k0_part11 i (Memref.whole main_arg0) hw1 (Memref.whole main_arg1) hw2 a3 h3 a4 h4 (Memref.whole main_v0) hw5 (Memref.whole cc0_scratch0) hw6 cc0_scratch1)
        (fun r => iprop(⌜r.2.2.1 = v ∧ r.2.2.2 = k0_pay5 v⌝ ∗ midAt A c f (i 0).val 2 ∗ flags A c ∗ (∃ W : Waits sig Unit, owes (c : Thread nD τ) 0 W)
          ∗ owns (c : Thread nD τ) a3 fullShare (v : S512x1024.Idx → Elt F .f32))) := by
  have hi : (i 0).val < 32 := (i 0).isLt
  rw [k0_part11_eq_skeleton]
  unfold k0_part11_skel
  have hn := mt (first_iff i).mp (show ¬ (i 0).val = 0 by omega)
  iintro ⟨H, Hz, HO, Hx⟩
  iapply (wpc_skip c hn)
  by_cases h2 : 2 ≤ (i 0).val
  · have hc := (cond82_iff i).mpr h2
    iapply (wpc_take c hc)
    obtain ⟨k, rfl⟩ : ∃ k, j = k + 1 := ⟨j - 1, by omega⟩
    unfold after other
    icases H with ⟨Hp, Hq, Hd, Ht, Hu⟩
    icombine Hp HO as Hp
    iapply (drain hA c k (by omega) (k0_off1 i) (k0_off1_inb i hc) (by rw [off1_eq i, hj, show (k + 1 + 1) % 2 = k % 2 by omega]) ![0, 0] inb_S327680x128_S8192x128_0_0) $$ Hp
    iintro ⟨Hg, Hs, HO⟩
    ihave H := (drained hA c f k (by omega)) $$ [Hg Hs Hd Hq Ht Hu]
    · isplitl [Hg]; · iexact Hg
      isplitl [Hs]; · iexact Hs
      isplitl [Hq]; · iexact Hq
      isplitl [Hd]; · iexact Hd
      isplitl [Ht]; · iexact Ht
      iexact Hu
    ihave H := (Entails.of_eq (congrArg (ready A c f) (show k + 2 = (i 0).val from hj.symm))) $$ H
    iapply (load_stage_x c a3 v) $$ Hx
    iintro Hx
    ihave H := (ready_mid A c f (i 0).val) $$ H
    unfold midAt
    icases H with ⟨⟨Hl, Hv⟩, H⟩
    iapply (lay_row A c (i 0).val 0 (by decide) (k0_off3 i) (k0_off3_inb i) (off3_eq i) inb_S8192x128_S512x128_0_0_s_16_1 spos_16_1 (k0_pay3 v) (fun x => cut_row A _ 0 (by decide) v hv ![0, 0] rfl (by decide) (by decide) x)) $$ Hl
    iintro Hl
    iapply (lay_row A c (i 0).val 1 (by decide) (k0_off3 i) (k0_off3_inb i) (off3_eq i) inb_S8192x128_S512x128_1_0_s_16_1 spos_16_1 (k0_pay4 v) (fun x => cut_row A _ 1 (by decide) v hv ![0, 128] rfl (by decide) (by decide) x)) $$ Hl
    iintro Hl
    iapply (wpc_ret c _ _)
    isplitr [Hz HO Hx Hl Hv H]
    · ipureintro; exact ⟨rfl, rfl⟩
    isplitl [Hl Hv H]
    · isplitl [Hl Hv]
      · isplitl [Hl] <;> iassumption
      iexact H
    isplitl [Hz]; · iexact Hz
    isplitl [HO]; · iexact HO
    iexact Hx
  · iapply (wpc_skip c (mt (cond82_iff i).mp h2))
    obtain rfl : j = 0 := by omega
    ihave H := (second_ready A c f) $$ H
    ihave H := (Entails.of_eq (congrArg (ready A c f) (show 1 = (i 0).val from hj.symm))) $$ H
    iapply (load_stage_x c a3 v) $$ Hx
    iintro Hx
    ihave H := (ready_mid A c f (i 0).val) $$ H
    unfold midAt
    icases H with ⟨⟨Hl, Hv⟩, H⟩
    iapply (lay_row A c (i 0).val 0 (by decide) (k0_off3 i) (k0_off3_inb i) (off3_eq i) inb_S8192x128_S512x128_0_0_s_16_1 spos_16_1 (k0_pay3 v) (fun x => cut_row A _ 0 (by decide) v hv ![0, 0] rfl (by decide) (by decide) x)) $$ Hl
    iintro Hl
    iapply (lay_row A c (i 0).val 1 (by decide) (k0_off3 i) (k0_off3_inb i) (off3_eq i) inb_S8192x128_S512x128_1_0_s_16_1 spos_16_1 (k0_pay4 v) (fun x => cut_row A _ 1 (by decide) v hv ![0, 128] rfl (by decide) (by decide) x)) $$ Hl
    iintro Hl
    iapply (wpc_ret c _ _)
    isplitr [Hz HO Hx Hl Hv H]
    · ipureintro; exact ⟨rfl, rfl⟩
    isplitl [Hl Hv H]
    · isplitl [Hl Hv]
      · isplitl [Hl] <;> iassumption
      iexact H
    isplitl [Hz]; · iexact Hz
    isplitl [HO]; · iexact HO
    iexact Hx

omit hA in
/-- That part, at the first tile. -/
theorem part11_first (V : Buf (Elt F) (ℓo c)) (h0 : (i 0).val = 0) :
    iprop(atStart A c V ∗ flags A c ∗ (∃ W : Waits sig Unit, owes (c : Thread nD τ) 0 W) ∗ owns (c : Thread nD τ) a3 fullShare (v : S512x1024.Idx → Elt F .f32))
      ⊢ wpc c (k0_part11 i (Memref.whole main_arg0) hw1 (Memref.whole main_arg1) hw2 a3 h3 a4 h4 (Memref.whole main_v0) hw5 (Memref.whole cc0_scratch0) hw6 cc0_scratch1)
        (fun r => iprop(⌜r.2.2.1 = v ∧ r.2.2.2 = k0_pay5 v⌝ ∗ midAt A c (filled A c V) (i 0).val 2 ∗ flags A c ∗ (∃ W : Waits sig Unit, owes (c : Thread nD τ) 0 W)
          ∗ owns (c : Thread nD τ) a3 fullShare (v : S512x1024.Idx → Elt F .f32))) := by
  rw [k0_part11_eq_skeleton]
  unfold k0_part11_skel atStart
  have hn := (first_iff i).mpr h0
  have h2 : ¬ 2 ≤ (i 0).val := by omega
  iintro ⟨⟨⟨%g, Hs⟩, Ho, Hv0, Hv1⟩, Hz, HO, Hx⟩
  iapply (wpc_take c hn)
  icombine Hz Hs Ho Hv1 as H
  iapply (wpc_cut c (part1 c V i hw1 hw2 hw5 hw6 a3 h3 a4 h4 g)) $$ H
  iintro %r ⟨⟨%hr, H⟩, Ha⟩
  subst hr
  iapply (wpc_cut c (part2 c V i hw1 hw2 hw5 hw6 a3 h3 a4 h4)) $$ H
  iintro %w2 ⟨%hb2, H⟩
  iapply (wpc_cut c (part3 c V i hw1 hw2 hw5 hw6 a3 h3 a4 h4 w2 hb2)) $$ H
  iintro %r ⟨%hr, H⟩
  subst hr
  iapply (wpc_cut c (part4 c V i hw1 hw2 hw5 hw6 a3 h3 a4 h4)) $$ H
  iintro %w4 ⟨%hb4, H⟩
  iapply (wpc_cut c (part5 c V i hw1 hw2 hw5 hw6 a3 h3 a4 h4 w4 hb4)) $$ H
  iintro %r ⟨%hr, H⟩
  subst hr
  icombine H HO as H
  iapply (wpc_cut c (part6 c V i hw1 hw2 hw5 hw6 a3 h3 a4 h4)) $$ H
  iintro %w6 ⟨%hb6, H⟩
  iapply (wpc_cut c (part7 c i hw1 hw2 hw5 hw6 a3 h3 a4 h4 w6 hb6)) $$ H
  iintro %r ⟨%hr, H⟩
  subst hr
  iapply (wpc_cut c (part8 c i hw1 hw2 hw5 hw6 a3 h3 a4 h4)) $$ H
  iintro %w8 ⟨%hb8, H⟩
  iapply (wpc_cut c (part9 c i hw1 hw2 hw5 hw6 a3 h3 a4 h4 w8 hb8)) $$ H
  iintro %r ⟨%hr, H⟩
  subst hr
  iapply (wpc_cut c (part10 c i hw1 hw2 hw5 hw6 a3 h3 a4 h4)) $$ H
  iintro %w10 ⟨%hb10, H⟩
  iapply (wait_block c 33 (by decide) _ hb10 ![1, 0, 0] inb_S2x8192x128_S1x8192x128_1_0_0 ![270336, 0] inb_S327680x128_S8192x128_270336_0 ![1] inb_S2_S1_1 rfl) $$ H
  iintro H
  iapply (load_wAt c 34 34 (by decide) ![34] inb_S40_S1_34 rfl) $$ H
  iintro H
  iapply (wait_block c 34 (by decide) _ (bit_iff (by decide)) ![1, 0, 0] inb_S2x8192x128_S1x8192x128_1_0_0 ![278528, 0] inb_S327680x128_S8192x128_278528_0 ![1] inb_S2_S1_1 rfl) $$ H
  iintro H
  iapply (load_wAt c 35 35 (by decide) ![35] inb_S40_S1_35 rfl) $$ H
  iintro H
  iapply (wait_block c 35 (by decide) _ (bit_iff (by decide)) ![1, 0, 0] inb_S2x8192x128_S1x8192x128_1_0_0 ![286720, 0] inb_S327680x128_S8192x128_286720_0 ![1] inb_S2_S1_1 rfl) $$ H
  iintro H
  iapply (load_wAt c 36 36 (by decide) ![36] inb_S40_S1_36 rfl) $$ H
  iintro H
  iapply (wait_block c 36 (by decide) _ (bit_iff (by decide)) ![1, 0, 0] inb_S2x8192x128_S1x8192x128_1_0_0 ![294912, 0] inb_S327680x128_S8192x128_294912_0 ![1] inb_S2_S1_1 rfl) $$ H
  iintro H
  iapply (load_wAt c 37 37 (by decide) ![37] inb_S40_S1_37 rfl) $$ H
  iintro H
  iapply (wait_block c 37 (by decide) _ (bit_iff (by decide)) ![1, 0, 0] inb_S2x8192x128_S1x8192x128_1_0_0 ![303104, 0] inb_S327680x128_S8192x128_303104_0 ![1] inb_S2_S1_1 rfl) $$ H
  iintro H
  iapply (load_wAt c 38 38 (by decide) ![38] inb_S40_S1_38 rfl) $$ H
  iintro H
  iapply (wait_block c 38 (by decide) _ (bit_iff (by decide)) ![1, 0, 0] inb_S2x8192x128_S1x8192x128_1_0_0 ![311296, 0] inb_S327680x128_S8192x128_311296_0 ![1] inb_S2_S1_1 rfl) $$ H
  iintro H
  iapply (load_wAt c 39 39 (by decide) ![39] inb_S40_S1_39 rfl) $$ H
  iintro H
  iapply (wait_block c 39 (by decide) _ (bit_iff (by decide)) ![1, 0, 0] inb_S2x8192x128_S1x8192x128_1_0_0 ![319488, 0] inb_S327680x128_S8192x128_319488_0 ![1] inb_S2_S1_1 rfl) $$ H
  iintro H
  icombine H Ha as H
  imod (zero_fin A c V) $$ H with ⟨H, HO⟩
  icombine H Hv0 as H
  ihave H := (zero_ready c (filled A c V)) $$ H
  icases H with ⟨H, Hz⟩
  ihave H := (Entails.of_eq (congrArg (ready A c (filled A c V)) h0.symm)) $$ H
  iapply (wpc_skip c (mt (cond82_iff i).mp h2))
  iapply (load_stage_x c a3 v) $$ Hx
  iintro Hx
  ihave H := (ready_mid A c (filled A c V) (i 0).val) $$ H
  unfold midAt
  icases H with ⟨⟨Hl, Hv⟩, H⟩
  iapply (lay_row A c (i 0).val 0 (by decide) (k0_off3 i) (k0_off3_inb i) (off3_eq i) inb_S8192x128_S512x128_0_0_s_16_1 spos_16_1 (k0_pay3 v) (fun x => cut_row A _ 0 (by decide) v hv ![0, 0] rfl (by decide) (by decide) x)) $$ Hl
  iintro Hl
  iapply (lay_row A c (i 0).val 1 (by decide) (k0_off3 i) (k0_off3_inb i) (off3_eq i) inb_S8192x128_S512x128_1_0_s_16_1 spos_16_1 (k0_pay4 v) (fun x => cut_row A _ 1 (by decide) v hv ![0, 128] rfl (by decide) (by decide) x)) $$ Hl
  iintro Hl
  iapply (wpc_ret c _ _)
  isplitr [Hz HO Hx Hl Hv H]
  · ipureintro; exact ⟨rfl, rfl⟩
  isplitl [Hl Hv H]
  · isplitl [Hl Hv]
    · isplitl [Hl] <;> iassumption
    iexact H
  isplitl [Hz]; · iexact Hz
  isplitl [HO]; · iexact HO
  iexact Hx

end Head

end Cert.KernelIdeal.Dispatch
-- ==== Proof.D.Body.lean ====
/- One point of the grid. -/
module

public import proofs.«01_k».proof.Proof.D.Head

@[expose] public section

set_option maxRecDepth 65536

noncomputable section

namespace Cert.KernelIdeal.Dispatch

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What the grid holds before its point `t`, and after its last. -/
def st (A : Args F) (c : Dev nD) (V : Buf (Elt F) (ℓo c)) : ℕ → sProp 𝕄
  | 0 => atStart A c V
  | t + 1 => if t + 1 = 32 then atEnd A c else after A c (filled A c V) t

/-- A tile laid out, with its slot's semaphore at zero, is a tile to send. -/
theorem to_send (A : Args F) (c : Dev nD) (f : Buf (Elt F) (ℓo c)) (i : ℕ) :
    iprop((ℓd c ↦[Finset.univ]{fullShare.right} (A.dest : Buf (Elt F) (ℓd c))) ∗ laidAt A c i 9 ∗ semVal ((c : Thread nD τ), SemLoc.dma (semOf (i % 2))) 0
      ∗ (ℓo c ↦[toks A (512 * i) 16384]{fullShare} f)) ⊢ |={Set.univ}=> loopAt A c f i 0 := by
  unfold loopAt tileAt sent
  rw [Nat.mul_zero, Nat.add_zero, winFrom_zero]
  iintro ⟨Hd, Hl, Hv, Ho⟩
  ihave Hl := (laid_end A c i) $$ Hl
  imod (Transfers.batch_alloc' (Lvl := ℕ) EC (c : Thread nD τ) () creditRow (deliv A c i) (sm := .dma (semOf (i % 2))) (E := Set.univ)) $$ Hv with HB
  imodintro
  isplitl [Hd]; · iexact Hd
  isplitl [Hl]; · iexact Hl
  isplitl [Ho]; · iexact Ho
  iexact HB

/-- After the last tile every token's copy has been sent. -/
theorem sent_all (A : Args F) (c : Dev nD) (f : Buf (Elt F) (ℓo c)) (i : ℕ) :
    loopAt A c f i 256 ⊢ iprop((ℓd c ↦[Finset.univ]{fullShare.right} (A.dest : Buf (Elt F) (ℓd c))) ∗ sent A c i 512
      ∗ (ℓo c ↦[toks A (512 * (i + 1)) 16384]{fullShare} f)) := by
  unfold loopAt tileAt
  rw [show 2 * 256 = 512 from rfl, show 512 * i + 512 = 512 * (i + 1) by ring]
  iintro ⟨Hd, -, Ho, HB⟩
  isplitl [Hd]; · iexact Hd
  isplitl [HB]; · iexact HB
  iexact Ho

/-- The two slots make up the staging buffer. -/
theorem slots_join (c : Dev nD) (f0 f1 : Buf (Elt F) (ℓs c)) :
    iprop((ℓs c ↦[slotSet 0]{fullShare} f0) ∗ (ℓs c ↦[slotSet 1]{fullShare} f1)) ⊢ (∃ g : Buf (Elt F) (ℓs c), ℓs c ↦[Finset.univ]{fullShare} g : sProp 𝕄) := by
  have hS : ∀ g : Buf (Elt F) (ℓs c), (ℓs c ↦[Finset.univ]{fullShare} g : sProp 𝕄) = iprop(ℓs c ↦[slotSet 0 ∪ slotSet 1]{fullShare} g) := fun g =>
    congrArg (fun S => (ℓs c ↦[S]{fullShare} g : sProp 𝕄)) scr_slots
  set g : Buf (Elt F) (ℓs c) := (fun (y : S2x8192x128.Idx) => if (y 0).val = 0 then (f0 : S2x8192x128.Idx → F .f32) y else (f1 : S2x8192x128.Idx → F .f32) y) with hg
  have e0 : (ℓs c ↦[slotSet 0]{fullShare} f0 : sProp 𝕄) = iprop(ℓs c ↦[slotSet 0]{fullShare} g) :=
    pointsTo_congr fun y hy => (if_pos (Finset.mem_filter.mp hy).2).symm
  have e1 : (ℓs c ↦[slotSet 1]{fullShare} f1 : sProp 𝕄) = iprop(ℓs c ↦[slotSet 1]{fullShare} g) :=
    pointsTo_congr fun y hy => (if_neg (by have := (Finset.mem_filter.mp hy).2; omega)).symm
  rw [e0, e1]
  iintro ⟨H0, H1⟩
  iexists g
  rw [hS]
  iapply (pointsTo_union slot_disjoint).2
  isplitl [H0] <;> iassumption

/-- The last two tiles collected: everything is back, the result whole. -/
theorem finish {A : Args F} (hA : Ok A) (c : Dev nD) (V : Buf (Elt F) (ℓo c)) :
    iprop((ℓo c ↦[toks A (512 * 31) (512 * (31 + 1))]{fullShare} (G A : Buf (Elt F) (ℓo c))) ∗ slotFree c (31 % 2)
      ∗ (ℓo c ↦[toks A (512 * 30) (512 * (30 + 1))]{fullShare} (G A : Buf (Elt F) (ℓo c))) ∗ slotFree c (30 % 2)
      ∗ (ℓo c ↦[toks A 0 (512 * (31 - 1))]{fullShare} (G A : Buf (Elt F) (ℓo c))) ∗ (ℓo c ↦[unhit A]{fullShare} filled A c V))
      ⊢ atEnd A c := by
  unfold atEnd slotFree
  have hO : (ℓo c ↦[Finset.univ]{fullShare} (G A : Buf (Elt F) (ℓo c)) : sProp 𝕄) = iprop(ℓo c ↦[toks A 0 16384 ∪ unhit A]{fullShare} (G A : Buf (Elt F) (ℓo c))) :=
    congrArg (fun S => (ℓo c ↦[S]{fullShare} (G A : Buf (Elt F) (ℓo c)) : sProp 𝕄)) (unhit_split A)
  have hT : toks A 0 16384 = (toks A 0 (512 * 30) ∪ toks A (512 * 30) (512 * 31)) ∪ toks A (512 * 31) 16384 := by
    rw [← toks_append (A := A) 0 (512 * 30) (512 * 31) (by omega) (by omega), ← toks_append (A := A) 0 (512 * 31) 16384 (by omega) (by omega)]
  rw [hO, unhit_filled hA]
  iintro ⟨H1, ⟨⟨%f1, -, Hs1⟩, Hv1⟩, H0, ⟨⟨%f0, -, Hs0⟩, Hv0⟩, Hd, Hu⟩
  isplitl [Hs0 Hs1]
  · iapply (slots_join c f0 f1)
    isplitl [Hs0] <;> iassumption
  isplitl [H1 H0 Hd Hu]
  · iapply (pointsTo_union (unhit_disjoint A)).2
    isplitr [Hu]
    · rw [hT]
      iapply (pointsTo_union (by
        rw [← toks_append (A := A) 0 (512 * 30) (512 * 31) (by omega) (by omega)]; exact toks_append_disjoint hA 0 (512 * 31) 16384 le_rfl)).2
      isplitr [H1]
      · iapply (pointsTo_union (toks_append_disjoint hA 0 (512 * 30) (512 * 31) (by omega))).2
        isplitl [Hd] <;> iassumption
      iexact H1
    iexact Hu
  isplitl [Hv0] <;> iassumption

section Body

variable {A : Args F} (hA : Ok A) (c : Dev nD) (i : grid0.Coords) (hw1 : (Memref.whole main_arg0).IsWhole) (hw2 : (Memref.whole main_arg1).IsWhole)
    (hw5 : (Memref.whole main_v0).IsWhole) (hw6 : (Memref.whole cc0_scratch0).IsWhole)
    (a3 : Memref sig .tc .vmem S512x1024 .f32) (h3 : a3.IsWhole) (a4 : Memref sig .tc .vmem S512x128 .f32) (h4 : a4.IsWhole)
    (V : Buf (Elt F) (ℓo c)) (v : S512x1024.Idx → F .f32) (hv : TileX A (i 0).val v) (u : S512x128.Idx → F .f32) (hu : TileM A (i 0).val u)
include hA hv hu

/-- The part of the body before the last tile's waits. -/
theorem part11 :
    iprop(st A c V (i 0).val ∗ flags A c ∗ (∃ W : Waits sig Unit, owes (c : Thread nD τ) 0 W) ∗ owns (c : Thread nD τ) a3 fullShare (v : S512x1024.Idx → Elt F .f32))
      ⊢ wpc c (k0_part11 i (Memref.whole main_arg0) hw1 (Memref.whole main_arg1) hw2 a3 h3 a4 h4 (Memref.whole main_v0) hw5 (Memref.whole cc0_scratch0) hw6 cc0_scratch1)
        (fun r => iprop(⌜r.2.2.1 = v ∧ r.2.2.2 = k0_pay5 v⌝ ∗ midAt A c (filled A c V) (i 0).val 2 ∗ flags A c ∗ (∃ W : Waits sig Unit, owes (c : Thread nD τ) 0 W)
          ∗ owns (c : Thread nD τ) a3 fullShare (v : S512x1024.Idx → Elt F .f32))) := by
  have hi : (i 0).val < 32 := (i 0).isLt
  rcases Nat.eq_zero_or_pos (i 0).val with h0 | h0
  · have e : st A c V (i 0).val = atStart A c V := by rw [h0]; rfl
    rw [e]
    exact part11_first c i hw1 hw2 hw5 hw6 a3 h3 a4 h4 v hv V h0
  · have e : st A c V (i 0).val = after A c (filled A c V) ((i 0).val - 1) := by
      obtain ⟨j, hj⟩ : ∃ j, (i 0).val = j + 1 := ⟨(i 0).val - 1, by omega⟩
      rw [hj]
      exact if_neg (by omega)
    rw [e]
    exact part11_later hA c i hw1 hw2 hw5 hw6 a3 h3 a4 h4 (filled A c V) v hv ((i 0).val - 1) (by omega)

/-- A step of the grid keeps the dispatch's invariant. -/
theorem body :
    iprop(st A c V (i 0).val ∗ flags A c ∗ (ℓd c ↦[Finset.univ]{fullShare.right} (A.dest : Buf (Elt F) (ℓd c))) ∗ (∃ W : Waits sig Unit, owes (c : Thread nD τ) 0 W)
        ∗ owns (c : Thread nD τ) a3 fullShare (v : S512x1024.Idx → Elt F .f32) ∗ owns (c : Thread nD τ) a4 fullShare (u : S512x128.Idx → Elt F .f32))
      ⊢ wpc c (cc0_moe_dispatch i (Memref.whole main_arg0) hw1 (Memref.whole main_arg1) hw2 a3 h3 a4 h4 (Memref.whole main_v0) hw5 (Memref.whole cc0_scratch0) hw6 cc0_scratch1)
        (fun _ => iprop(st A c V ((i 0).val + 1) ∗ flags A c ∗ (ℓd c ↦[Finset.univ]{fullShare.right} (A.dest : Buf (Elt F) (ℓd c))) ∗ (∃ W : Waits sig Unit, owes (c : Thread nD τ) 0 W)
        ∗ owns (c : Thread nD τ) a3 fullShare (v : S512x1024.Idx → Elt F .f32) ∗ owns (c : Thread nD τ) a4 fullShare (u : S512x128.Idx → Elt F .f32))) := by
  have hi : (i 0).val < 32 := (i 0).isLt
  rw [cc0_moe_dispatch_eq_skeleton]
  unfold cc0_moe_dispatch_skel
  iintro ⟨H, Hz, Hd, HO, Hx, Hm⟩
  icombine H Hz HO Hx as H
  iapply (wpc_cut c (part11 hA c i hw1 hw2 hw5 hw6 a3 h3 a4 h4 V v hv u hu)) $$ H
  iintro %r ⟨%hr, H, Hz, HO, Hx⟩
  obtain ⟨r0, r1, r2, r3⟩ := r
  obtain ⟨hr2, hr3⟩ := hr
  have hr2' : r2 = v := hr2
  have hr3' : r3 = k0_pay5 v := hr3
  subst hr2' hr3'
  unfold midAt
  icases H with ⟨⟨Hl, Hv⟩, Hq, Hg, Ht, Hu⟩
  iapply (wpc_cut c (part12 A c i hw1 hw2 hw5 hw6 a3 h3 a4 h4 _ hv)) $$ Hl
  iintro %r Hl
  iapply (load_stage_m c a4 u) $$ Hm
  iintro Hm
  iapply (lay_row A c (i 0).val 8 (by decide) (k0_off3 i) (k0_off3_inb i) (off3_eq i) inb_S8192x128_S512x128_8_0_s_16_1 spos_16_1 (k0_pay1 u) (fun x => meta_row A _ u hu x)) $$ Hl
  iintro Hl
  icombine Hd Hl Hv Ht as Hl
  imod (to_send A c (filled A c V) (i 0).val) $$ Hl with Hl
  iapply (sendLoop hA c (filled A c V) i hw1 hw2 hw5 hw6 a3 h3 a4 h4) $$ Hl
  iintro Hl
  ihave Hl := (sent_all A c (filled A c V) (i 0).val) $$ Hl
  icases Hl with ⟨Hd, HB, Ht⟩
  by_cases h31 : (i 0).val = 31
  · have hc := (cond83_iff i).mpr h31
    iapply (wpc_take c hc)
    icombine HB HO as HB
    iapply (drain hA c (i 0).val hi (k0_off14 i) (k0_off14_inb i hc) (off14_eq i) ![0, 0] inb_S327680x128_S8192x128_0_0) $$ HB
    iintro ⟨H1, Hs1, HO⟩
    have eq : other A c (i 0).val = sent A c 30 512 := by rw [h31]; rfl
    ihave Hq := (Entails.of_eq eq) $$ Hq
    icombine Hq HO as HB
    iapply (drain hA c 30 (by decide) (k0_off16 i) (k0_off16_inb i hc) (by rw [off16_eq i, h31]) ![0, 0] inb_S327680x128_S8192x128_0_0) $$ HB
    iintro ⟨H0, Hs0, HO⟩
    iapply (wpc_ret c _ _)
    isplitl [H1 Hs1 H0 Hs0 Hg Hu]
    · have e : st A c V ((i 0).val + 1) = atEnd A c := by
        rw [h31]
        show (if 31 + 1 = 32 then atEnd A c else after A c (filled A c V) 31) = _
        exact if_pos rfl
      rw [e, h31]
      iapply (finish hA c V)
      isplitl [H1]; · iexact H1
      isplitl [Hs1]; · iexact Hs1
      isplitl [H0]; · iexact H0
      isplitl [Hs0]; · iexact Hs0
      isplitl [Hg] <;> iassumption
    isplitl [Hz]; · iexact Hz
    isplitl [Hd]; · iexact Hd
    isplitl [HO]; · iexact HO
    isplitl [Hx] <;> iassumption
  · iapply (wpc_skip c (mt (cond83_iff i).mp h31))
    iapply (wpc_ret c _ _)
    isplitl [HB Ht Hq Hg Hu]
    · have e : st A c V ((i 0).val + 1) = after A c (filled A c V) (i 0).val := if_neg (by omega)
      rw [e]
      unfold after
      isplitl [Hq]; · iexact Hq
      isplitl [HB]; · iexact HB
      isplitl [Hg]; · iexact Hg
      isplitl [Ht] <;> iassumption
    isplitl [Hz]; · iexact Hz
    isplitl [Hd]; · iexact Hd
    isplitl [HO]; · iexact HO
    isplitl [Hx] <;> iassumption

end Body

end Cert.KernelIdeal.Dispatch
-- ==== Proof.D.Run.lean ====
/- The run of the whole grid. -/
module

public import proofs.«01_k».proof.Proof.D.Body

@[expose] public section

set_option maxRecDepth 65536

noncomputable section

namespace Cert.KernelIdeal.Dispatch

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

/-- The tables' contents at launch: there is one device. -/
def tables : pre0.Contents (Elt F) := fun k => V m 0 (pre0.ref k)
def adm : (p : Fin 1) → (pcfgs (F := F) p).Adm := fun _ => ⟨tables m, trivial⟩

/-- The four arguments at launch. -/
def args (c : Dev nD) : Args F := ⟨V m c main_arg0, V m c main_arg1, V m c main_arg2, V m c main_arg3⟩

def osem0 : Fin 2 → SemLoc sig := ![SemLoc.dma 4, SemLoc.dma 5]
/-- The body's own semaphores are its own. -/
theorem ownSemFacts0 : Pipeline.OwnSemFacts spec0 osem0 := by decide

/-- The body's own semaphores, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0) :=
  Pipeline.ownSems0_eq_of_list c osem0 [0, 1] (by decide) (by decide)

def H0 : Finset (Ref sig .tc) := ∅
def R0 : Finset (Ref sig .tc) := {main_v0}
/-- The buffers the body shares lie among those that no window stages. -/
theorem H0_sub : H0 ⊆ Pipeline.restRefsP sig pre0 spec0 := by decide
/-- The buffers the body only reads lie among the rest. -/
theorem R0_sub : R0 ⊆ Pipeline.restRefsP sig pre0 spec0 \ H0 := by decide

abbrev cfgA : Cfg sig Λ₀ := Pipeline.pin (pcfgs (F := F)) (adm m) 0

/-- The contents of the buffers at the end: the result filled. -/
def Gend (c : Dev nD) (b : Ref sig .tc) : Buf (Elt F) ((c : Thread nD τ).loc b) :=
  if h : b = main_v0 then h ▸ (G (args m c) : Buf (Elt F) ((c : Thread nD τ).loc main_v0)) else V m c b

/-- A window's block at a point. -/
def iblk (c : Dev nD) (w : Fin 2) (t : Fin (cfgA m).N) : (((cfgA m).win w).xblock ((cfgA m).grid.coords t)).Idx → Elt F ((cfgA m).win w).elt :=
  (((cfgA m).win w).blk t).view.read (Elt F) (V m c (Pipeline.arrRef spec0 w))

/-- The grid's invariant: what its point finds, the tables, the generator's register. -/
def Inv (c : Dev nD) (t : ℕ) : sProp 𝕄 :=
  iprop(st (args m c) c (V m c main_v0) t ∗ (flags (args m c) c ∗ (ℓd c ↦[Finset.univ]{fullShare.right} ((args m c).dest : Buf (Elt F) (ℓd c))))
    ∗ (∃ r, prngReg c r))

def dats (p : Fin 1) (c : Dev nD) : Dat τ (Elt F) Unit ℕ (Pipeline.UD sig nD τ) ℕ (Pipeline.pin (pcfgs (F := F)) (adm m) p) c where
  A w := V m c (Pipeline.arrRef spec0 w)
  after w t := match w with
    | ⟨0, _⟩ => iblk m c 0 t
    | ⟨1, _⟩ => iblk m c 1 t
  Φ t := Inv m c t.val
  q _ := fullShare
  owed _ := 0

/-- What a window's array holds at the start. -/
theorem A_eq (c : Dev nD) (w : Fin 2) : (dats m 0 c).A w = V m c (Pipeline.arrRef spec0 w) := by
  dsimp only [dats]
/-- What a point leaves in the first window. -/
theorem after0_0 (c : Dev nD) (t : Fin (cfgA m).N) : (dats m 0 c).after 0 t = iblk m c 0 t := by dsimp only [dats]; rfl
/-- What a point leaves in the second window. -/
theorem after0_1 (c : Dev nD) (t : Fin (cfgA m).N) : (dats m 0 c).after 1 t = iblk m c 1 t := by dsimp only [dats]; rfl

/-- What a point finds in the first window. -/
theorem before0_0 (c : Dev nD) (t : Fin (cfgA m).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; rfl) t d).trans
    (by unfold Dat.fetched Dat.blockOf iblk; rw [A_eq]; try rfl)
/-- What a point finds in the second window. -/
theorem before0_1 (c : Dev nD) (t : Fin (cfgA m).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; rfl) t d).trans
    (by unfold Dat.fetched Dat.blockOf iblk; rw [A_eq]; try rfl)

/-- A point's coordinate is its number. -/
theorem coords0 : ∀ t : Fin grid0.N, ((grid0.coords t) 0).val = t.val := by decide +kernel

/-- A tile's block of the entries. -/
theorem blk_x (c : Dev nD) (t : Fin (cfgA m).N) (x) :
    iblk m c 0 t x = V m c main_arg2 ((((cfgA m).win 0).rect t).emb x) := rfl

/-- The block is the tile's tokens. -/
theorem tile_x (c : Dev nD) (t : Fin (cfgA m).N) : TileX (args m c) ((grid0.coords t) 0).val (iblk m c 0 t) := by
  intro x
  have ht : ((grid0.coords t) 0).val < 32 := ((grid0.coords t) 0).isLt
  have hx : (x 0).val < 512 := (x 0).isLt
  have e0 : ((((cfgA m).win 0).rect t).emb x (0 : Fin 2) : Nat) = (BitVec.ofNat 32 ((grid0.coords t) 0).val).toNat * 512 + (x 0).val :=
    Pipeline.Window.rect_emb_val ((cfgA m).win 0) t x (0 : Fin 2) rfl
  have e1 : ((((cfgA m).win 0).rect t).emb x (1 : Fin 2) : Nat) = (0#32).toNat * 1024 + (x 1).val :=
    Pipeline.Window.rect_emb_val ((cfgA m).win 0) t x (1 : Fin 2) rfl
  rw [blk_x]
  refine congrArg (V m c main_arg2) (funext fun (a : Fin 2) => Fin.ext ?_)
  match a with
  | 0 =>
    refine e0.trans (Eq.trans ?_ (tok_val ht hx).symm)
    rw [BitVec.toNat_ofNat]; omega
  | 1 => exact e1.trans (by rw [show (0#32).toNat = 0 from rfl, Nat.zero_mul, Nat.zero_add])

/-- A tile's block of the metadata. -/
theorem blk_m (c : Dev nD) (t : Fin (cfgA m).N) (x) :
    iblk m c 1 t x = V m c main_arg3 ((((cfgA m).win 1).rect t).emb x) := rfl

/-- The block is the tile's tokens. -/
theorem tile_m (c : Dev nD) (t : Fin (cfgA m).N) : TileM (args m c) ((grid0.coords t) 0).val (iblk m c 1 t) := by
  intro x
  have ht : ((grid0.coords t) 0).val < 32 := ((grid0.coords t) 0).isLt
  have hx : (x 0).val < 512 := (x 0).isLt
  have e0 : ((((cfgA m).win 1).rect t).emb x (0 : Fin 2) : Nat) = (BitVec.ofNat 32 ((grid0.coords t) 0).val).toNat * 512 + (x 0).val :=
    Pipeline.Window.rect_emb_val ((cfgA m).win 1) t x (0 : Fin 2) rfl
  have e1 : ((((cfgA m).win 1).rect t).emb x (1 : Fin 2) : Nat) = (0#32).toNat * 128 + (x 1).val :=
    Pipeline.Window.rect_emb_val ((cfgA m).win 1) t x (1 : Fin 2) rfl
  rw [blk_m]
  refine congrArg (V m c main_arg3) (funext fun (a : Fin 2) => Fin.ext ?_)
  match a with
  | 0 =>
    refine e0.trans (Eq.trans ?_ (tok_val ht hx).symm)
    rw [BitVec.toNat_ofNat]; omega
  | 1 => exact e1.trans (by rw [show (0#32).toNat = 0 from rfl, Nat.zero_mul, Nat.zero_add])

/-! ## A point of the grid -/

abbrev st0 (t : Fin (cfgA m).N) : Memref sig .tc .vmem S512x1024 .f32 := spec0_0.stage ((cfgA m).slots t 0)
abbrev st1 (t : Fin (cfgA m).N) : Memref sig .tc .vmem S512x128 .f32 := spec0_1.stage ((cfgA m).slots t 1)

abbrev bodyAt (t : Fin (cfgA m).N) :=
  cc0_moe_dispatch (F := F) (grid0.coords t) (Memref.whole main_arg0) (Memref.isWhole_whole _) (Memref.whole main_arg1) (Memref.isWhole_whole _)
    (st0 m t) (hstage0_0 (((cfgA m).slots t 0).cast nbuf0_0)) (st1 m t) (hstage0_1 (((cfgA m).slots t 1).cast nbuf0_1))
    (Memref.whole main_v0) (Memref.isWhole_whole _) (Memref.whole cc0_scratch0) (Memref.isWhole_whole _) cc0_scratch1

def bodyPre (c : Dev nD) (t : Fin (cfgA m).N) : sProp 𝕄 :=
  iprop((dats m 0 c).Φ t.castSucc ∗ (dats m 0 c).owesAt () t.castSucc
    ∗ (∃ d, owns (c : Thread nD τ) (st0 m t) fullShare ((dats m 0 c).before 0 t d))
    ∗ (∃ d, owns (c : Thread nD τ) (st1 m t) fullShare ((dats m 0 c).before 1 t d)))
def bodyPost (c : Dev nD) (t : Fin (cfgA m).N) : sProp 𝕄 :=
  iprop((dats m 0 c).Φ t.succ ∗ (dats m 0 c).owesAt () t.succ
    ∗ owns (c : Thread nD τ) (st0 m t) fullShare ((dats m 0 c).after 0 t)
    ∗ owns (c : Thread nD τ) (st1 m t) fullShare ((dats m 0 c).after 1 t))

/-- A program cut before its end. -/
theorem wpc_cut_last (c : Dev nD) {α : Type} {P : sProp 𝕄} {p : Prog (TpuEff nD τ sig (Elt F) Λ₀ .tc) α} {R Q : α → sProp 𝕄} (h : P ⊢ wpc c p R) :
    P ⊢ iprop((∀ a, R a -∗ Q a) -∗ wpc c p Q) := by
  iintro HP Hk
  iapply (wp_wand_r frame (wpE (defs₀ (F := F)) Variants.none (c : Thread nD τ) none) Set.univ)
  isplitl [HP]
  · iapply h; iexact HP
  iexact Hk

variable (hok : ∀ c, Ok (args m c))
include hok

/-- A point of the grid keeps the invariant. -/
theorem sound_body (c : Dev nD) (t : Fin (cfgA m).N) :
    bodyPre m c t ⊢ wp frame (wpE (defs₀ (F := F)) Variants.none c none) Set.univ (bodyAt m t) (fun _ => bodyPost m c t) := by
  unfold bodyPre bodyPost
  have ht : ((grid0.coords t) 0).val = t.val := coords0 t
  rw [show (dats m 0 c).Φ t.succ = Inv m c (((grid0.coords t) 0).val + 1) from by rw [ht]; rfl, after0_0, after0_1]
  rw [show (dats m 0 c).Φ t.castSucc = Inv m c ((grid0.coords t) 0).val from by rw [ht]; rfl]
  unfold Dat.owesAt Pipeline.owesWithin Inv
  rw [show (dats m 0 c).owed t.castSucc = 0 from rfl, show (dats m 0 c).owed t.succ = 0 from rfl]
  simp only [before0_0, before0_1]
  iintro ⟨⟨Hs, ⟨Hz, Hd⟩, Hg⟩, ⟨%W, -, HW⟩, ⟨%d0, H0⟩, ⟨%d1, H1⟩⟩
  ihave HW := (show owes (c : Thread nD τ) 0 W ⊢ (iprop(∃ W : Waits sig Unit, owes (c : Thread nD τ) 0 W) : sProp 𝕄) from by
    iintro H; iexists W; iexact H) $$ HW
  icombine Hs Hz Hd HW H0 H1 as H
  iapply (wpc_cut_last c (body (hok c) c (grid0.coords t) (Memref.isWhole_whole _) (Memref.isWhole_whole _) (Memref.isWhole_whole _) (Memref.isWhole_whole _)
    (st0 m t) (hstage0_0 (((cfgA m).slots t 0).cast nbuf0_0)) (st1 m t) (hstage0_1 (((cfgA m).slots t 1).cast nbuf0_1)) (V m c main_v0)
    (iblk m c 0 t) (tile_x m c t) (iblk m c 1 t) (tile_m m c t))) $$ H
  iintro %r ⟨Hs, Hz, Hd, ⟨%W', HW⟩, H0, H1⟩
  isplitl [Hs Hz Hd Hg]
  · isplitl [Hs]; · iexact Hs
    isplitl [Hz Hd]
    · isplitl [Hz]; · iexact Hz
      iexact Hd
    iexact Hg
  isplitl [HW]
  · iexists W'; isplitr; · ipureintro; exact fun _ _ => Or.inl trivial
    iexact HW
  isplitl [H0]; · iexact H0
  iexact H1

omit hok in
/-- The body at a point is the kernel function on the point's windows. -/
theorem defs₀_row (t : Fin (cfgA m).N) :
    defs₀ (F := F) .tc (cfgA m).body ((cfgA m).bodyArgs t ((cfgA m).slots t)) = bodyAt m t := by
  unfold defs₀; rw [Defs.onTc_tc]

/-- The body keeps the invariant at every point. -/
theorem body_obligation (c : Dev nD) : BodyObligation (dats (F := F) m 0 c) (defs₀ (F := F)) Variants.none () Set.univ := fun t => by
  rw [bigSep_W0, bigSep_W0, defs₀_row]
  exact triple_restated (sound_body m hok c t) rfl .rfl fun _ => .rfl

/-! ## The launch -/

omit hok in
/-- The tables' shares, one by one. -/
theorem ΦT0_eq (c : Dev nD) : (Pipeline.ΦT pre0 (adm m 0).1 c : sProp 𝕄)
    = iprop((ℓd c ↦[Finset.univ]{fullShare.right} ((args m c).dest : Buf (Elt F) (ℓd c))) ∗ flags (args m c) c) := by
  obtain rfl : c = 0 := Subsingleton.elim _ _
  exact bigSep_W0 _

omit hok in
/-- The buffers routed to the body, one by one. -/
theorem routed0_eq (c : Dev nD) (W : (b : Ref sig .tc) → Buf (Elt F) ((c : Thread nD τ).loc b)) :
    (Pipeline.routed R0 c W : sProp 𝕄) = iprop(ℓo c ↦[Finset.univ]{fullShare} (W main_v0 : Buf (Elt F) (ℓo c))) :=
  bigSep_singleton

omit hok in
/-- The result at the end. -/
theorem Gend_v0 (c : Dev nD) : Gend m c main_v0 = (G (args m c) : Buf (Elt F) (ℓo c)) := by
  unfold Gend; rw [dif_pos rfl]

/-- The launch gives the invariant of the first point. -/
theorem hin (c : Dev nD) : iprop(Pipeline.ΦDRG osem0 spec0 H0 R0 (V m) (V m) c ∗ Pipeline.ΦT pre0 (adm m 0).1 c) ⊢ (dats m 0 c).Φ 0 := by
  rw [show (dats m 0 c).Φ 0 = Inv m c 0 from rfl, Pipeline.ΦDRG_eq, ΦT0_eq, routed0_eq, ownSems00_eq, scopedRest0_eq]
  unfold Inv
  rw [show st (args m c) c (V m c main_v0) 0 = atStart (args m c) c (V m c main_v0) from rfl]
  unfold atStart
  iintro ⟨⟨Hs, Hg, ⟨Hq0, Hq1⟩, -, Ho⟩, Hd, Hz⟩
  isplitl [Hs Hq0 Hq1 Ho]
  · isplitl [Hs]; · iexact Hs
    isplitl [Ho]; · iexact Ho
    isplitl [Hq0]; · iexact Hq0
    iexact Hq1
  isplitl [Hd Hz]
  · isplitl [Hz]; · iexact Hz
    iexact Hd
  iexact Hg

/-- The invariant of the last point gives back what the launch lent. -/
theorem hout (c : Dev nD) : (dats m 0 c).Φ (Fin.last _) ⊢ Pipeline.ΦDRG osem0 spec0 H0 R0 (V m) (Gend m) c := by
  rw [show (dats m 0 c).Φ (Fin.last _) = Inv m c 32 from rfl, Pipeline.ΦDRG_eq, routed0_eq, ownSems00_eq, scopedRest0_eq, Gend_v0]
  unfold Inv
  rw [show st (args m c) c (V m c main_v0) 32 = atEnd (args m c) c from by show (if 31 + 1 = 32 then atEnd (args m c) c else after (args m c) c (filled (args m c) c (V m c main_v0)) 31) = _; exact if_pos rfl]
  unfold atEnd
  iintro ⟨⟨Hs, Ho, Hq0, Hq1⟩, -, Hg⟩
  isplitl [Hs]; · iexact Hs
  isplitl [Hg]; · iexact Hg
  isplitl [Hq0 Hq1]
  · isplitl [Hq0]; · iexact Hq0
    iexact Hq1
  isplitr [Ho]
  · unfold H0; rw [bigSep_empty]; iempintro
  iexact Ho

set_option backward.isDefEq.respectTransparency.types false in
/-- The run of the program, as the grid's schema states it. -/
theorem run_raw : θ_run defs (onTc (τ := τ) (main (F := F))) (s₀ m ρ)
    (fun r => Pipeline.FramePostRG (Pipeline.pin pcfgs (adm m)) (dats m) 0 R0 (V m) (Gend m) r ∧ r.2.sem = fun _ => 0) :=
  Pipeline.θ_run_frameP_dmaRG (Q' := _) pcfgs (adm m) (dats m) (0 : Fin 1) launch0 osem0 defs₀ Variants.none ownSemFacts0 H0 R0 H0_sub R0_sub m ρ main
    (hbody := fun c => (body_obligation m hok c).loose) (hshare := fun c => (dats m 0 c).share_full fun _ => rfl)
    (howed := fun _ _ => rfl) (V := V m)
    (hmain := Pipeline.hmainP_region pcfgs 0 defs₀ Variants.none m main fun c => (main_chain c).trans rfl) (hA := A_eq m)
    (hpf := fun c k => by obtain rfl : c = 0 := Subsingleton.elim _ _; rfl)
    (G := Gend m) (hin := hin m hok) (hout := hout m hok)

/-- The run of the program: the result ends filled, the arguments as they were, the counters at zero. -/
theorem run_main : θ_run defs (onTc (τ := τ) (main (F := F))) (s₀ m ρ) (fun r => (∀ c : Dev nD,
      r.2.mem ((c.tc : Thread nD τ).loc main_v0) = (G (args m c) : Buf (Elt F) (ℓo c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1.2 c main_v0 (by decide)).trans (Gend_v0 m c),
      (h.1.1 c).2 main_arg0 (Finset.mem_sdiff.mpr ⟨Pipeline.mem_restRefs_of main_arg0 (by decide) (show ∀ w : Fin 2, (spec0 w).arr.view.ref ≠ main_arg0 from by decide), by decide⟩),
      (h.1.1 c).2 main_arg1 (Finset.mem_sdiff.mpr ⟨Pipeline.mem_restRefs_of main_arg1 (by decide) (show ∀ w : Fin 2, (spec0 w).arr.view.ref ≠ main_arg1 from by decide), by decide⟩),
      ((h.1.1 c).1 0).trans (((dats m 0 c).arrAt_in 0 rfl _).trans (A_eq m c 0)),
      ((h.1.1 c).1 1).trans (((dats m 0 c).arrAt_in 1 rfl _).trans (A_eq m c 1))⟩, h.2⟩) (run_raw m ρ hok)

end Cert.KernelIdeal.Dispatch
-- ==== Proof.D.Ref.lean ====
/- The host reference read at one element: the rows laid out, put at their places. -/
module

public import proofs.«01_k».proof.Proof.D.Spec
public import proofs.«01_k».proof.Proof.Gen.ReferenceIdeal.Run
public import Idealize.ShloMosaic.Lib.Routing.OpsPair
public import Idealize.ShloMosaic.Lib.Pipeline.Value

@[expose] public section

set_option maxRecDepth 16384

noncomputable section

namespace Cert.ReferenceIdeal.Dispatch

open Idealize.ShloMosaic Idealize.ShloMosaic.ValueIdx
open Cert.ReferenceIdeal Cert.ReferenceIdeal.Gen
open Cert.KernelIdeal.Dispatch (Args Ok dst flagged rowval zero G G_hit G_miss)

variable {F : FTy → Type} [FloatOps F]

/-- A fold of updates of which at most one hits. -/
theorem foldl_hits {ι α : Type} (P : ι → Prop) [DecidablePred P] (g : ι → α) (v : α) :
    ∀ (l : List ι) (x0 : α), (∀ n ∈ l, P n → g n = v) → (x0 = v ∨ ∃ n ∈ l, P n) →
      l.foldl (fun a n => if P n then g n else a) x0 = v
  | [], x0, _, h => by
    rcases h with h | ⟨n, hn, _⟩
    · exact h
    · exact nomatch hn
  | a :: l, x0, hg, h => by
    rw [List.foldl_cons]
    refine foldl_hits P g v l _ (fun n hn => hg n (List.mem_cons_of_mem _ hn)) ?_
    by_cases ha : P a
    · rw [if_pos ha]; exact Or.inl (hg a (List.mem_cons_self ..) ha)
    · rw [if_neg ha]
      rcases h with h | ⟨n, hn, hp⟩
      · exact Or.inl h
      · rcases List.mem_cons.1 hn with rfl | hn
        · exact absurd hp ha
        · exact Or.inr ⟨n, hn, hp⟩

abbrev D := scatter_S20480x2048_S16384x1_S16384x2048_1_0_0_1

/-- An update's row within its window. -/
theorem window0 (k : S16384x2048.Idx) : D.window k 0 = 0 := rfl
/-- An update's column within its window. -/
theorem window1 (k : S16384x2048.Idx) : D.window k 1 = (k 1).val := rfl
/-- An update's window starts at the first column. -/
theorem start1 (k : S16384x2048.Idx) (idx : IVec S16384x1 32) : D.start k idx 1 = 0 := rfl
/-- An update's window starts at its token's destination. -/
theorem start0 (k : S16384x2048.Idx) (idx : IVec S16384x1 32) : D.start k idx 0 = (idx (ix2 (k 0) (0 : Fin 1))).toInt := by
  have hsi : D.siIdx k ⟨0, by decide⟩ = ix2 (k 0) (0 : Fin 1) := by
    funext b
    apply Fin.ext
    match b with
    | ⟨0, _⟩ => rfl
    | ⟨1, _⟩ => rfl
  exact congrArg (fun z => (idx z).toInt) hsi

/-- Where an update lands. -/
theorem lands (s : Fin 16384) (q : Fin 2048) (idx : IVec S16384x1 32) (r : Fin 20480) (l : Fin 2048) :
    D.resultIdx? (ix2 s q) idx = some (ix2 r l) ↔ (idx (ix2 s (0 : Fin 1))).toInt = r.val ∧ q = l := by
  rw [Routing.resultIdx?_ix2, window0, window1, start1, start0]
  show (idx (ix2 s (0 : Fin 1))).toInt + ((0 : ℕ) : ℤ) = r.val ∧ (0 : ℤ) + (q.val : ℤ) = l.val ↔ _
  constructor
  · rintro ⟨h1, h2⟩
    exact ⟨by omega, Fin.ext (by omega)⟩
  · rintro ⟨h1, rfl⟩
    exact ⟨by omega, by omega⟩

/-- The rows: a token's entries, its metadata, zeros. -/
def rows (A : Args F) : FVec F S16384x2048 .f32 :=
  concatenate S16384x2048 1 [⟨S16384x1024, A.x⟩, ⟨S16384x128, A.mt⟩,
    ⟨S16384x896, broadcastInDim S16384x896 ![] bcast_S_S16384x896 (constant S_ .f32 0x00000000#32)⟩] concatenates_S16384x1024_S16384x128_S16384x896_S16384x2048_d1

/-- The update's value. -/
theorem rows_at (A : Args F) (s : Fin 16384) (q : Fin 2048) :
    rows A (ix2 s q) = rowval A s (q.val / 128) ⟨q.val % 128, Nat.mod_lt _ (by decide)⟩ := by
  have hq := q.isLt
  unfold rows rowval
  by_cases h8 : q.val / 128 < 8
  · rw [dif_pos h8]
    refine concatenate_apply_piece (t := S16384x2048) 1 _ _ _ 0 (by show 0 < 3; decide) S16384x1024 _ rfl rfl 0 rfl (ix2 s ⟨128 * (q.val / 128) + q.val % 128, by omega⟩) ?_ ?_
    · intro b hb
      match b with
      | ⟨0, _⟩ => rfl
      | ⟨1, _⟩ => exact absurd rfl hb
    · show 0 + (128 * (q.val / 128) + q.val % 128) = q.val
      omega
  · rw [dif_neg h8]
    by_cases h9 : q.val / 128 = 8
    · rw [if_pos h9]
      refine concatenate_apply_piece (t := S16384x2048) 1 _ _ _ 1 (by show 1 < 3; decide) S16384x128 _ rfl rfl 1024 rfl (ix2 s ⟨q.val % 128, Nat.mod_lt _ (by decide)⟩) ?_ ?_
      · intro b hb
        match b with
        | ⟨0, _⟩ => rfl
        | ⟨1, _⟩ => exact absurd rfl hb
      · show 1024 + q.val % 128 = q.val
        omega
    · rw [if_neg h9]
      refine (concatenate_apply_piece (t := S16384x2048) 1 _ _ _ 2 (by show 2 < 3; decide) S16384x896 _ rfl rfl 1152 rfl (ix2 s ⟨q.val - 1152, by omega⟩) ?_ ?_).trans ?_
      · intro b hb
        match b with
        | ⟨0, _⟩ => rfl
        | ⟨1, _⟩ => exact absurd rfl hb
      · show 1152 + (q.val - 1152) = q.val
        omega
      · rfl

/-- The reference's result. -/
def refVal (A : Args F) : FVec F S327680x128 .f32 :=
  shapeCast _ (Host.scatter D (fun _ b => b) (broadcastInDim S20480x2048 ![] bcast_S_S20480x2048 (constant S_ .f32 0x00000000#32))
    (broadcastInDim S16384x1 ![0] bcast_S16384_S16384x1_0 (select (cmpi .slt A.dest (broadcastInDim S16384 ![] bcast_S_S16384 (constantI S_ 32 0#32)))
      (addi A.dest (broadcastInDim S16384 ![] bcast_S_S16384 (constantI S_ 32 20480#32))) A.dest)) (rows A)) shapeCasts_S20480x2048_S327680x128

/-- The update's destination. -/
theorem idx_at (A : Args F) (hA : Ok A) (s : Fin 16384) :
    (broadcastInDim S16384x1 ![0] bcast_S16384_S16384x1_0 (select (cmpi .slt A.dest (broadcastInDim S16384 ![] bcast_S_S16384 (constantI S_ 32 0#32)))
      (addi A.dest (broadcastInDim S16384 ![] bcast_S_S16384 (constantI S_ 32 20480#32))) A.dest) (ix2 s (0 : Fin 1))).toInt = (dst A s.val : ℤ) := by
  have e : dst A s.val = (A.dest (ix1 s)).toNat := by unfold dst; rw [dif_pos s.isLt]
  have hlt := hA.lt s.val s.isLt
  have e2 : broadcastInDim S16384x1 ![0] bcast_S16384_S16384x1_0 (select (cmpi .slt A.dest (broadcastInDim S16384 ![] bcast_S_S16384 (constantI S_ 32 0#32)))
      (addi A.dest (broadcastInDim S16384 ![] bcast_S_S16384 (constantI S_ 32 20480#32))) A.dest) (ix2 s (0 : Fin 1))
      = Scalar.select (IntOp.cmpi .slt (A.dest (ix1 s)) 0#32) (IntOp.addi (A.dest (ix1 s)) 20480#32) (A.dest (ix1 s)) := by
    refine congrArg (fun z : S16384.Idx => Scalar.select (IntOp.cmpi .slt (A.dest z) 0#32) (IntOp.addi (A.dest z) 20480#32) (A.dest z)) (a₂ := (ix1 s : S16384.Idx)) (funext fun (a : Fin 1) => ?_)
    obtain rfl : a = 0 := Subsingleton.elim _ _
    rfl
  rw [e2, Routing.wrap_of_lt _ _ (by rw [← e]; omega), e, BitVec.toInt_eq_toNat_of_lt (by rw [← e]; omega)]

/-- The reference's result is the dispatch's. -/
theorem refVal_eq (A : Args F) (hA : Ok A) : refVal A = (G A : FVec F S327680x128 .f32) := by
  funext y
  have hy0 : (y 0).val < 327680 := (y 0).isLt
  have hy1 : (y 1).val < 128 := (y 1).isLt
  unfold refVal
  rw [shapeCast_apply _ _ y (ix2 (⟨(y 0).val / 16, by omega⟩ : Fin 20480) (⟨128 * ((y 0).val % 16) + (y 1).val, by omega⟩ : Fin 2048)) (by
    rw [Shape.rowMajor_val_two, Shape.rowMajor_val_two]
    show (y 0).val / 16 * 2048 + (128 * ((y 0).val % 16) + (y 1).val) = (y 0).val * 128 + (y 1).val
    omega)]
  rw [Routing.scatter_at]
  refine foldl_hits (fun n => D.resultIdx? (S16384x2048.rowMajor.symm n) _ = some _) (fun n => rows A (S16384x2048.rowMajor.symm n)) _ _ _ ?_ ?_
  · intro n _ hn
    generalize S16384x2048.rowMajor.symm n = k at hn ⊢
    obtain ⟨s, q, rfl⟩ : ∃ s q, k = ix2 s q := ⟨k 0, k 1, by funext a; match a with | ⟨0, _⟩ => rfl | ⟨1, _⟩ => rfl⟩
    rw [lands, idx_at A hA] at hn
    obtain ⟨h1, rfl⟩ := hn
    rw [rows_at, G_hit hA s y (by have h1 : ((dst A s.val : ℕ) : ℤ) = (((y 0).val / 16 : ℕ) : ℤ) := h1; omega)]
    show rowval A s ((128 * ((y 0).val % 16) + (y 1).val) / 128) ⟨(128 * ((y 0).val % 16) + (y 1).val) % 128, _⟩ = _
    congr 1
    · omega
    · exact Fin.ext (by show (128 * ((y 0).val % 16) + (y 1).val) % 128 = (y 1).val; omega)
  · by_cases h : ∃ s < 16384, dst A s = (y 0).val / 16
    · obtain ⟨s, hs, h⟩ := h
      refine Or.inr ⟨S16384x2048.rowMajor (ix2 (⟨s, hs⟩ : Fin 16384) (⟨128 * ((y 0).val % 16) + (y 1).val, by omega⟩ : Fin 2048)), List.mem_finRange _, ?_⟩
      show D.resultIdx? (S16384x2048.rowMajor.symm (S16384x2048.rowMajor _)) _ = _
      rw [Equiv.symm_apply_apply, lands, idx_at A hA]
      exact ⟨congrArg Int.ofNat h, rfl⟩
    · rw [G_miss y h]
      exact Or.inl rfl

end Cert.ReferenceIdeal.Dispatch

end
-- ==== Proof.D.Pre.lean ====
/- What the precondition says of the two tables: the destinations are in range, all different, and reach every row of a
   block whose flag is zero. -/
module

public import proofs.«01_k».proof.Proof.D.Spec
public import proofs.«01_k».proof.Proof.Gen.Pre_tables_ok
public import Idealize.ShloMosaic.Lib.ReduceAll
public import Idealize.ShloMosaic.Lib.Pipeline.Value

@[expose] public section

set_option maxRecDepth 16384

noncomputable section

namespace Cert.Pre_tables_ok.Dispatch

open Idealize.ShloMosaic Idealize.ShloMosaic.ValueIdx
open Cert.Pre_tables_ok Cert.Pre_tables_ok.Gen
open Cert.KernelIdeal.Dispatch (Args Ok dst flagged)

variable {F : FTy → Type} [FloatOps F]

/-- A boolean's bit is one if the boolean is true. -/
theorem ofBool_one (p : Bool) : (BitVec.ofBool p = 1#1) ↔ p = true := by cases p <;> decide
/-- The conjunction of two bits. -/
theorem andi_one (a b : BitVec 1) : IntOp.andi a b = 1#1 ↔ a = 1#1 ∧ b = 1#1 := by revert a b; decide
/-- The disjunction of two bits. -/
theorem ori_one (a b : BitVec 1) : IntOp.ori a b = 1#1 ↔ a = 1#1 ∨ b = 1#1 := by revert a b; decide

/-- A disjunction over a list. -/
theorem foldl_ori {ι : Type} (f : ι → BitVec 1) :
    ∀ (l : List ι) (init : BitVec 1), l.foldl (fun r n => IntOp.ori r (f n)) init = 1#1 → init = 1#1 ∨ ∃ n ∈ l, f n = 1#1
  | [], init, h => Or.inl h
  | a :: l, init, h => by
    rcases foldl_ori f l _ h with h | ⟨n, hn, h⟩
    · rcases (ori_one _ _).1 h with h | h
      · exact Or.inl h
      · exact Or.inr ⟨a, List.mem_cons_self .., h⟩
    · exact Or.inr ⟨n, List.mem_cons_of_mem _ hn, h⟩

/-- A disjunction over an axis. -/
theorem reduce_ori {s t u : Shape} {axes : List (Fin s.rank)} (x : s.Idx → BitVec 1) (init : u.Idx → BitVec 1) (h : s.ReducesTo axes t) (hu : 0 < u.numel)
    (j : t.Idx) (hi : init (Shape.Idx.first hu) = 0#1) (e : Host.reduce IntOp.ori x init h hu j = 1#1) : ∃ i, h.drop i = j ∧ x i = 1#1 := by
  rw [Host.reduce_eq_foldl] at e
  rcases foldl_ori x _ _ e with e | ⟨n, hn, e⟩
  · rw [hi] at e; exact absurd e (by decide)
  · rw [List.mem_filter] at hn
    exact ⟨n, by simpa using hn.2, e⟩

/-- A test for equality that succeeds. -/
theorem eq_of_cmpi_eq {w : ℕ} (a b : BitVec w) (h : IntOp.cmpi .eq a b = 1#1) : a = b := by
  simpa [IntOp.cmpi, ofBool_one] using h
/-- A test for difference that succeeds. -/
theorem ne_of_cmpi_ne {w : ℕ} (a b : BitVec w) (h : IntOp.cmpi .ne a b = 1#1) : a ≠ b := by
  simpa [IntOp.cmpi, ofBool_one] using h

/-- The precondition gives what the run needs of the tables. -/
theorem ok_of_pre (A : Args F) (h : fn A.dest A.zf A.x A.mt = fun _ => 1#1) : Ok A := by
  have e := congrFun h (fun a => a.elim0)
  unfold fn fn_part1 at e
  dsimp only at e
  rw [show ∀ (a b : IVec S_ 1) i, andi a b i = IntOp.andi (a i) (b i) from fun _ _ _ => rfl, andi_one,
    show ∀ (a b : IVec S_ 1) i, andi a b i = IntOp.andi (a i) (b i) from fun _ _ _ => rfl, andi_one] at e
  obtain ⟨⟨e1, e2⟩, e3⟩ := e
  have hd (s : ℕ) (hs : s < 16384) : dst A s = (A.dest (ix1 ⟨s, hs⟩)).toNat := by unfold dst; rw [dif_pos hs]
  have hb : ∀ s (hs : s < 16384), (A.dest (ix1 ⟨s, hs⟩)).toNat < 20480 := by
    intro s hs
    have := Host.reduce_andi_all _ _ _ _ _ e1 (ix1 ⟨s, hs⟩)
    obtain ⟨h1, h2⟩ := (andi_one _ _).1 this
    have h1 : BitVec.ofBool ((0#32).sle (A.dest (ix1 ⟨s, hs⟩))) = 1#1 := h1
    have h2 : BitVec.ofBool ((A.dest (ix1 ⟨s, hs⟩)).slt 20480#32) = 1#1 := h2
    rw [ofBool_one] at h1 h2
    simp only [BitVec.sle, BitVec.slt, decide_eq_true_eq, BitVec.toInt, BitVec.toNat_ofNat] at h1 h2
    omega
  refine ⟨fun s hs => by rw [hd s hs]; exact hb s hs, fun s hs s' hs' he => ?_, fun b hb' => ?_⟩
  · rw [hd s hs, hd s' hs'] at he
    have := Host.reduce_andi_all _ _ _ _ _ e2 (ix2 ⟨s, hs⟩ ⟨s', hs'⟩)
    rcases (ori_one _ _).1 this with h | h
    · have h : A.dest _ ≠ A.dest _ := ne_of_cmpi_ne _ _ h
      refine absurd (BitVec.eq_of_toNat_eq he) ?_
      refine fun h' => h (Eq.trans (congrArg A.dest ?_) (h'.trans (congrArg A.dest ?_)))
      · funext (a : Fin 1); obtain rfl : a = 0 := Subsingleton.elim _ _; rfl
      · funext (a : Fin 1); obtain rfl : a = 0 := Subsingleton.elim _ _; rfl
    · have h : BitVec.ofNat 32 s = BitVec.ofNat 32 s' := eq_of_cmpi_eq _ _ h
      have := congrArg BitVec.toNat h
      rw [BitVec.toNat_ofNat, BitVec.toNat_ofNat] at this
      omega
  · have := Host.reduce_andi_all _ _ _ _ _ e3 (ix2 ⟨b / 512, by omega⟩ ⟨b % 512, by omega⟩)
    rcases (ori_one _ _).1 this with h | h
    · left
      rw [shapeCast_apply _ _ _ (ix1 (⟨b, hb'⟩ : Fin 20480)) (by
        rw [Shape.rowMajor_val_two, Shape.rowMajor_val_one]
        show b = b / 512 * 512 + b % 512
        omega)] at h
      obtain ⟨i, hi, h⟩ := reduce_ori _ _ _ _ _ rfl h
      obtain ⟨p, q, rfl⟩ : ∃ p q, i = ix2 p q := ⟨i 0, i 1, by funext a; match a with | ⟨0, _⟩ => rfl | ⟨1, _⟩ => rfl⟩
      have hp : p.val = b := congrArg Fin.val (congrFun hi 0)
      have h : BitVec.ofNat 32 p.val = A.dest _ := eq_of_cmpi_eq _ _ h
      refine ⟨q.val, q.isLt, ?_⟩
      rw [hd q.val q.isLt]
      have hq : A.dest (ix1 ⟨q.val, q.isLt⟩) = BitVec.ofNat 32 p.val := by
        rw [h]
        refine congrArg A.dest ?_
        funext (a : Fin 1); obtain rfl : a = 0 := Subsingleton.elim _ _; rfl
      rw [hq, BitVec.toNat_ofNat, hp]
      omega
    · right
      refine ⟨by omega, ?_⟩
      have h : A.zf _ ≠ 0#32 := ne_of_cmpi_ne _ _ h
      refine fun h' => h (Eq.trans (congrArg A.zf ?_) h')
      funext (a : Fin 1); obtain rfl : a = 0 := Subsingleton.elim _ _; rfl

end Cert.Pre_tables_ok.Dispatch

end
-- ==== Proof.D.Same.lean ====
/- The kernel and its ideal program are one program: part by part, up to the last. -/
module
public import proofs.«01_k».proof.Proof.Gen.Kernel
public import proofs.«01_k».proof.Proof.Gen.KernelIdeal
@[expose] public section
set_option maxHeartbeats 1000000
open Idealize.ShloMosaic
noncomputable section
variable {F : FTy → Type} [FloatOps F]
namespace Cert.Same
/-- The two programs have the same buffers. -/
theorem sig_same : Cert.Kernel.sig = Cert.KernelIdeal.sig := rfl
/-- The two programs' kernel functions are the same. -/
theorem body_same : @Cert.Kernel.cc0_moe_dispatch F _ _ = @Cert.KernelIdeal.cc0_moe_dispatch F _ _ := rfl
/-- The two programs' bodies are the same. -/
theorem defs₀_same : @Cert.Kernel.defs₀ F _ _ = @Cert.KernelIdeal.defs₀ F _ _ := by
  refine congrArg Defs.onTc (funext fun l => funext fun x => ?_)
  match l with
  | (0 : Fin 1) =>
    obtain ⟨t, s⟩ : Fin Cert.Kernel.grid0.N × ((w : Fin 2) → Fin (Cert.Kernel.spec0 w).nbuf) := x
    rfl
/-- The two programs' grids are the same. -/
theorem pcfg0_same : @Cert.Kernel.pcfg0 F _ _ = @Cert.KernelIdeal.pcfg0 F _ _ := rfl
/-- The two programs' grids, as a family, are the same. -/
theorem pcfgs_same : @Cert.Kernel.pcfgs F _ _ = @Cert.KernelIdeal.pcfgs F _ _ := rfl
/-- The two programs' functions are the same. -/
theorem defs_same : @Cert.Kernel.defs F _ _ = @Cert.KernelIdeal.defs F _ _ := congrArg (Pipeline.defs Cert.KernelIdeal.pcfgs) defs₀_same
/-- The two programs' main functions are the same. -/
theorem main_same : @Cert.Kernel.main F _ _ = @Cert.KernelIdeal.main F _ _ := rfl
end Cert.Same
end
-- ==== Proof.G.Spec.lean ====
/- What the gMLP layer call computes, over the extended reals, element by element. -/
module

public import Idealize.ShloMosaic.Lib.Pointwise

@[expose] public section

noncomputable section

open Idealize.ShloMosaic

namespace Cert.Gmlp

/-- The number a stored float word stands for. -/
abbrev lit (w : BitVec 32) : EReal := Ideal.ofBits .f32 w

/-- The activation: half of `a`, times one plus the error function of `a / √2`. -/
def act (a : EReal) : EReal := (lit 0x3F000000#32 * a) * (1 + Ideal.erf (a * lit 0x3F3504F3#32))

/-- The mean of `n` numbers, the count given as the float word `cnt`. -/
def mean {n : ℕ} (cnt : BitVec 32) (y : Fin n → EReal) : EReal := Ideal.div (∑ k, y k) (lit cnt)

/-- Layer norm of `y` at `j`: centred, scaled by the reciprocal root of the variance, then by `g j`, and shifted by `b j`. -/
def norm {n : ℕ} (cnt : BitVec 32) (y g b : Fin n → EReal) (j : Fin n) : EReal :=
  (y j - mean cnt y)
      * Ideal.rsqrt (Ideal.div (∑ k, (y k - mean cnt y) * (y k - mean cnt y)) (lit cnt) + lit 0x3727C5AC#32)
      * g j + b j

/-- The layer's weights. -/
structure Wts where
  win : Fin 1024 → Fin 6144 → EReal
  bin : Fin 6144 → EReal
  lg : Fin 3072 → EReal
  lb : Fin 3072 → EReal
  ws : Fin 8 → Fin 128 → Fin 128 → EReal
  bs : Fin 8 → Fin 128 → EReal
  wo : Fin 3072 → Fin 1024 → EReal
  g1 : Fin 1024 → EReal
  b1 : Fin 1024 → EReal

variable (W : Wts)

/-- The activated input projection of one row, at feature `n`. -/
def hid (x : Fin 1024 → EReal) (n : Fin 6144) : EReal := act ((∑ k, x k * W.win k n) + W.bin n)

/-- The first half of the projection. -/
def hu (x : Fin 1024 → EReal) (n : Fin 3072) : EReal := hid W x ⟨n.val, by omega⟩

/-- The second half of the projection. -/
def hv (x : Fin 1024 → EReal) (n : Fin 3072) : EReal := hid W x ⟨3072 + n.val, by omega⟩

/-- The normed second half. -/
def vn (x : Fin 1024 → EReal) (n : Fin 3072) : EReal := norm 0x45400000#32 (hv W x) W.lg W.lb n

/-- The group of feature `n`. -/
def grp (n : Fin 3072) : Fin 8 := ⟨n.val / 384, by omega⟩

/-- The mixed second half at row `t` of a chunk: the rows up to `t`, weighted by the group's mixing matrix, plus its bias. -/
def mix (X : Fin 128 → Fin 1024 → EReal) (t : Fin 128) (n : Fin 3072) : EReal :=
  (∑ s : Fin 128, (if s.val ≤ t.val then W.ws (grp n) t s else 0) * vn W (X s) n) + W.bs (grp n) t

/-- The gate's product at row `t` of a chunk. -/
def gate (X : Fin 128 → Fin 1024 → EReal) (t : Fin 128) (n : Fin 3072) : EReal := hu W (X t) n * mix W X t n

/-- The scaled residual plus the output projection, at row `t` of a chunk. -/
def res (X : Fin 128 → Fin 1024 → EReal) (t : Fin 128) (d : Fin 1024) : EReal :=
  lit 0x3FD744FD#32 * X t d + ∑ n : Fin 3072, gate W X t n * W.wo n d

/-- The layer's result at row `t` of a chunk. -/
def out (X : Fin 128 → Fin 1024 → EReal) (t : Fin 128) (d : Fin 1024) : EReal :=
  norm 0x44800000#32 (res W X t) W.g1 W.b1 d

/-- The weights, out of the call's arguments. -/
def ofArgs (a1 : Vec Ideal ⟨2, ![1024, 6144]⟩ .f32) (a2 : Vec Ideal ⟨1, ![6144]⟩ .f32) (a3 a4 : Vec Ideal ⟨1, ![3072]⟩ .f32)
    (a5 : Vec Ideal ⟨3, ![8, 128, 128]⟩ .f32) (a6 : Vec Ideal ⟨2, ![8, 128]⟩ .f32) (a7 : Vec Ideal ⟨2, ![3072, 1024]⟩ .f32)
    (a8 a9 : Vec Ideal ⟨1, ![1024]⟩ .f32) : Wts where
  win k n := a1 (ix2 k n)
  bin n := a2 (ix1 n)
  lg n := a3 (ix1 n)
  lb n := a4 (ix1 n)
  ws g t s := a5 (ix3 g t s)
  bs g t := a6 (ix2 g t)
  wo n d := a7 (ix2 n d)
  g1 d := a8 (ix1 d)
  b1 d := a9 (ix1 d)

/-- The chunk of 128 positions that row `p` of the batch's 16384 rows lies in. -/
def rowsOf (a0 : Vec Ideal ⟨3, ![8, 2048, 1024]⟩ .f32) (p : Fin 16384) : Fin 128 → Fin 1024 → EReal := fun s k =>
  a0 (ix3 (⟨p.val / 2048, by omega⟩ : Fin 8) (⟨128 * (p.val % 2048 / 128) + s.val, by omega⟩ : Fin 2048) k)

/-- The layer's result: row `p` is position `p % 128` of its chunk. -/
def layer (a0 : Vec Ideal ⟨3, ![8, 2048, 1024]⟩ .f32) (W : Wts) : Vec Ideal ⟨2, ![16384, 1024]⟩ .f32 := fun y =>
  out W (rowsOf a0 (y 0)) ⟨(y 0).val % 128, by omega⟩ (y 1)

end Cert.Gmlp
-- ==== Proof.G.Pay.lean ====
/- The gMLP kernel's stored values, each read at one element. -/
module

public import proofs.«01_k».proof.Proof.G.Spec
public import proofs.«01_k».proof.Proof.Gen.Kernel2Ideal.Skeleton

@[expose] public section

set_option maxRecDepth 16384

noncomputable section

open Idealize.ShloMosaic Idealize.ShloMosaic.TcCoe Idealize.SL.Sem

namespace Cert.Gmlp

open Cert.Kernel2Ideal Cert.Kernel2Ideal.Gen

/-- A projection tile of the second half. -/
theorem projV (x : Vec Ideal S512x1024 .f32) (w : Vec Ideal S1024x768 .bf16) (b : Vec Ideal S1x768 .f32) (r : Fin 512) (j : Fin 768) :
    (k0_pay9 (k0_pay2 x) w b (ix2 r j) : EReal) = act ((∑ k : Fin 1024, x (ix2 r k) * w (ix2 k j)) + b (ix2 0 j)) := by
  pointwise [k0_pay9, k0_pay2, act]
  rfl

/-- A projection tile of the first half. -/
theorem projU (x : Vec Ideal S512x1024 .f32) (w : Vec Ideal S1024x768 .bf16) (b : Vec Ideal S1x768 .f32) (r : Fin 512) (j : Fin 768) :
    (k0_pay3 x w b (ix2 r j) : EReal) = act ((∑ k : Fin 1024, x (ix2 r k) * w (ix2 k j)) + b (ix2 0 j)) := by
  pointwise [k0_pay3, k0_pay2, act]
  rfl

/-- The normed second half. -/
theorem normV (v : Vec Ideal S512x3072 .f32) (g b : Vec Ideal S1x3072 .f32) (r : Fin 512) (n : Fin 3072) :
    (k0_pay15 v g b (ix2 r n) : EReal) = norm 0x45400000#32 (fun k => v (ix2 r k)) (fun k => g (ix2 0 k)) (fun k => b (ix2 0 k)) n := by
  pointwise [k0_pay15, norm, mean]

/-- Comparing two small numbers as signed words is comparing them. -/
theorem sle_small (a b : Fin 128) (p q : EReal) :
    Scalar.select (IntOp.cmpi .sle (BitVec.ofNat 32 a.val) (BitVec.ofNat 32 b.val)) p q = if a.val ≤ b.val then p else q := by
  have ha := a.isLt
  have hb := b.isLt
  have h : (BitVec.ofNat 32 a.val).sle (BitVec.ofNat 32 b.val) = decide (a.val ≤ b.val) := by
    rw [BitVec.sle_eq_decide, BitVec.toInt_eq_toNat_of_lt, BitVec.toInt_eq_toNat_of_lt] <;>
      simp only [BitVec.toNat_ofNat] <;> simp <;> omega
  by_cases h' : a.val ≤ b.val <;> simp [Scalar.select, IntOp.cmpi, h, h']

/-- A group's mixing matrix, kept on and below the diagonal. -/
theorem mask_tile (w : Vec Ideal S1x128x128 .f32) (t s : Fin 128) :
    (k0_pay16 w (ix2 t s) : EReal) = if s.val ≤ t.val then w (ix3 0 t s) else 0 := by
  pointwise [k0_pay16]
  exact sle_small s t _ _

/-- A group's bias column. -/
theorem bias_tile (w : Vec Ideal S128x1 .f32) (t : Fin 128) : (k0_pay17 w (ix2 t 0) : EReal) = w (ix2 t 0) := by
  pointwise [k0_pay17]

/-- The slice of the second half that one mixing tile reads, from row `a` and feature `b`. -/
abbrev Sl (a b : ℕ) : Prop := S512x3072.Slices ![a, b] S128x384

/-- A slice that lies inside. -/
theorem sl2 {a b : ℕ} (ha : a + 128 ≤ 512) (hb : b + 384 ≤ 3072) : Sl a b :=
  ⟨rfl, Fin.forall_fin_two.2 ⟨ha, hb⟩⟩

/-- One tile of the gate's product: rows from `a`, features from `b`. -/
def mixTile (a b : ℕ) (h : Sl a b) (vn : FVec Ideal S512x3072 .bf16) (w : FVec Ideal S128x128 .bf16)
    (bs : FVec Ideal S128x1 .f32) (u : Vec Ideal S128x384 .bf16) : FVec Ideal S128x384 .bf16 :=
  shapeCast S128x384
    (truncf .bf16
      (mulf (extf .f32 u bitsLt_bf16_f32)
        (addf
          (matmul dot_S128x128_S128x384_S128x384_1_0_0_1_n_n none w (extractStridedSlice S128x384 ![a, b] vn h)
            (constant S128x384 .f32 0x00000000#32))
          (broadcastTo S128x384 bs broadcasts_S128x1_S128x384)))
      bitsLt_bf16_f32)
    shapeCasts_S128x384_S128x384

/-- That tile at one element. -/
theorem mixTile_apply (a b : ℕ) (h : Sl a b) (ha : a + 128 ≤ 512) (hb : b + 384 ≤ 3072) (vn : FVec Ideal S512x3072 .bf16)
    (w : FVec Ideal S128x128 .bf16) (bs : FVec Ideal S128x1 .f32) (u : Vec Ideal S128x384 .bf16) (t : Fin 128) (j : Fin 384) :
    (mixTile a b h vn w bs u (ix2 t j) : EReal)
      = u (ix2 t j) * ((∑ s : Fin 128, w (ix2 t s) * vn (ix2 ⟨a + s.val, by omega⟩ ⟨b + j.val, by omega⟩)) + bs (ix2 t 0)) := by
  pointwise [mixTile]

/-- The residual plus the output projection. -/
theorem resid_tile (x : Vec Ideal S512x1024 .f32) (g : Vec Ideal S512x3072 .bf16) (w : Vec Ideal S3072x1024 .bf16) (r : Fin 512) (d : Fin 1024) :
    (k0_pay77 x g w (ix2 r d) : EReal) = lit 0x3FD744FD#32 * x (ix2 r d) + ∑ n : Fin 3072, g (ix2 r n) * w (ix2 n d) := by
  pointwise [k0_pay77]

/-- The last layer norm. -/
theorem norm_tile (y : Vec Ideal S512x1024 .f32) (g b : Vec Ideal S1x1024 .f32) (r : Fin 512) (d : Fin 1024) :
    (k0_pay1 y (k0_pay78 g) b (ix2 r d) : EReal)
      = norm 0x44800000#32 (fun k => y (ix2 r k)) (fun k => g (ix2 0 k)) (fun k => b (ix2 0 k)) d := by
  pointwise [k0_pay1, k0_pay78, norm, mean]

end Cert.Gmlp
-- ==== Proof.G.Scr.lean ====
/- The two projection scratches of the gMLP kernel, as their stores leave them. -/
module

public import proofs.«01_k».proof.Proof.G.Pay
public import proofs.«01_k».proof.Proof.Gen.Kernel2Ideal.Frame
public import Idealize.ShloMosaic.Lib.Pipeline.Value
public import Idealize.ShloMosaic.Lib.WholeRead

@[expose] public section

set_option maxRecDepth 16384

noncomputable section

open Idealize.ShloMosaic Idealize.ShloMosaic.TcCoe Idealize.SL.Sem

namespace Cert.Gmlp

open Cert.Kernel2Ideal Cert.Kernel2Ideal.Gen Cert.Kernel2Ideal.Gen.kernelRun0_A

/-- A box inside a matrix, from its two bounds. -/
theorem inb2 {n0 n1 p q a b : ℕ} (h0 : a + p ≤ n0) (h1 : b + q ≤ n1) :
    ∀ i, (![a, b] : Fin 2 → ℕ) i + (⟨2, ![p, q]⟩ : Shape).size i ≤ (⟨2, ![n0, n1]⟩ : Shape).size i :=
  Fin.forall_fin_two.2 ⟨h0, h1⟩

/-- An index of a matrix is its two coordinates. -/
theorem ex2 {p q : ℕ} (x : (⟨2, ![p, q]⟩ : Shape).Idx) : ∃ (i : Fin p) (j : Fin q), x = ix2 i j :=
  ⟨x 0, x 1, funext fun k => by fin_cases k <;> rfl⟩

/-- The place of a box's element in the matrix. -/
theorem emb2 {n0 n1 p q a b : ℕ} (h0 : a + p ≤ n0) (h1 : b + q ≤ n1) (i : Fin p) (j : Fin q) :
    (Rect.unit (s := ⟨2, ![n0, n1]⟩) ![a, b] (⟨2, ![p, q]⟩ : Shape).size (inb2 h0 h1)).emb (ix2 i j)
      = ix2 (⟨a + i.val, by omega⟩ : Fin n0) (⟨b + j.val, by omega⟩ : Fin n1) := by
  funext k
  apply Fin.ext
  fin_cases k
  · show a + 1 * i.val = a + i.val
    omega
  · show b + 1 * j.val = b + j.val
    omega

/-- A read through a box of an operand's whole block. -/
theorem rd2 {n0 n1 p q : ℕ} {e : EltTy} {sp : Space} (a b : ℕ) (h0 : a + p ≤ n0) (h1 : b + q ≤ n1)
    (A : Memref Cert.Kernel2Ideal.sig .tc sp ⟨2, ![n0, n1]⟩ e) (hA : A.IsWhole) (X : Vec Ideal ⟨2, ![n0, n1]⟩ e) (i : Fin p) (j : Fin q) :
    View.readAt (Elt Ideal) A.view
        (Rect.unit (s := ⟨2, ![n0, n1]⟩) ![a, b] (⟨2, ![p, q]⟩ : Shape).size (inb2 h0 h1)).toLoadRect (hA.unread X) (ix2 i j)
      = X (ix2 (⟨a + i.val, by omega⟩ : Fin n0) (⟨b + j.val, by omega⟩ : Fin n1)) := by
  rw [View.readAt_eq_ld, hA.read_unread]
  exact congrArg X (emb2 h0 h1 i j)

/-- Every store of the list puts the values of `G` at its box. -/
def Fits {s : Shape} {e : EltTy} (G : s.Idx → Elt Ideal e) (L : List (View.Piece (Elt Ideal) s e)) : Prop :=
  ∀ p ∈ L, ∀ x : p.1.shape.Idx, p.2 x = G (p.1.emb x)

/-- No stores fit any function. -/
theorem fits_nil {s : Shape} {e : EltTy} (G : s.Idx → Elt Ideal e) : Fits G [] := fun _ h => nomatch h

/-- One store more fits if its values are the function's. -/
theorem fits_cons {s : Shape} {e : EltTy} {G : s.Idx → Elt Ideal e} {r : Rect s} {w : r.shape.Idx → Elt Ideal e}
    {L : List (View.Piece (Elt Ideal) s e)} (h : ∀ x, w x = G (r.emb x)) (hL : Fits G L) : Fits G (⟨r, w⟩ :: L) :=
  List.forall_mem_cons.2 ⟨h, hL⟩

variable (W : Wts) (c : Dev nD)
  (arg1 : Memref sig .tc .vmem S512x1024 .f32) (harg1 : arg1.IsWhole)
  (arg2 : Memref sig .tc .vmem S1024x6144 .bf16) (harg2 : arg2.IsWhole)
  (arg3 : Memref sig .tc .vmem S1x6144 .f32) (harg3 : arg3.IsWhole)
  (x0 : Vec Ideal S512x1024 .f32) (x1 : Vec Ideal S1024x6144 .bf16) (x2 : Vec Ideal S1x6144 .f32)

/-- A row of the block. -/
def row (r : Fin 512) : Fin 1024 → EReal := fun k => x0 (ix2 r k)

/-- The first half of the projection, as the first scratch holds it. -/
def US : S512x3072.Idx → Elt Ideal .bf16 := fun y => hu W (row x0 (y 0)) (y 1)

/-- The second half, as the second scratch holds it. -/
def VS : S512x3072.Idx → Elt Ideal .f32 := fun y => hv W (row x0 (y 0)) (y 1)

variable (hw : ∀ k n, x1 (ix2 k n) = W.win k n) (hb : ∀ n, x2 (ix2 0 n) = W.bin n)

include hw hb in
/-- One tile of the first half, at its place. -/
theorem uTile (o : ℕ) (ho : o + 768 ≤ 3072) (x : S512x768.Idx) :
    (k0_pay3
        (View.readAt (Elt Ideal) arg1.view (Rect.unit (s := S512x1024) ![0, 0] S512x1024.size (inb2 (by decide) (by decide))).toLoadRect (harg1.unread x0))
        (View.readAt (Elt Ideal) arg2.view (Rect.unit (s := S1024x6144) ![0, o] S1024x768.size (inb2 (by decide) (by omega))).toLoadRect (harg2.unread x1))
        (View.readAt (Elt Ideal) arg3.view (Rect.unit (s := S1x6144) ![0, o] S1x768.size (inb2 (by decide) (by omega))).toLoadRect (harg3.unread x2))
        x : EReal)
      = US W x0 ((Rect.unit (s := S512x3072) ![0, o] S512x768.size (inb2 (by decide) (by omega))).emb x) := by
  obtain ⟨r, j, rfl⟩ := ex2 x
  refine (projU _ _ _ r j).trans ?_
  refine Eq.trans ?_ (congrArg (US W x0) (emb2 (by decide) (by omega) r j)).symm
  refine congrArg act (congrArg₂ (· + ·) (Finset.sum_congr rfl fun k _ => ?_) ?_)
  · refine congrArg₂ (· * ·) ((rd2 0 0 (by decide) (by decide) arg1 harg1 x0 r k).trans ?_)
      (((rd2 0 o (by decide) (by omega) arg2 harg2 x1 k j).trans ?_).trans (hw k ⟨o + j.val, by omega⟩))
    · simp only [Nat.zero_add]; rfl
    · simp only [Nat.zero_add]
  · exact ((rd2 0 o (by decide) (by omega) arg3 harg3 x2 0 j)).trans (hb ⟨o + j.val, by omega⟩)

include hw hb in
/-- One tile of the second half, at its place. -/
theorem vTile (o : ℕ) (ho : o + 768 ≤ 3072) (x : S512x768.Idx) :
    (k0_pay9
        (k0_pay2 (View.readAt (Elt Ideal) arg1.view (Rect.unit (s := S512x1024) ![0, 0] S512x1024.size (inb2 (by decide) (by decide))).toLoadRect (harg1.unread x0)))
        (View.readAt (Elt Ideal) arg2.view (Rect.unit (s := S1024x6144) ![0, 3072 + o] S1024x768.size (inb2 (by decide) (by omega))).toLoadRect (harg2.unread x1))
        (View.readAt (Elt Ideal) arg3.view (Rect.unit (s := S1x6144) ![0, 3072 + o] S1x768.size (inb2 (by decide) (by omega))).toLoadRect (harg3.unread x2))
        x : EReal)
      = VS W x0 ((Rect.unit (s := S512x3072) ![0, o] S512x768.size (inb2 (by decide) (by omega))).emb x) := by
  obtain ⟨r, j, rfl⟩ := ex2 x
  refine (projV _ _ _ r j).trans ?_
  refine Eq.trans ?_ (congrArg (VS W x0) (emb2 (by decide) (by omega) r j)).symm
  have e : (⟨3072 + o + j.val, by omega⟩ : Fin 6144) = ⟨3072 + (o + j.val), by omega⟩ := Fin.ext (by simp only; omega)
  refine congrArg act (congrArg₂ (· + ·) (Finset.sum_congr rfl fun k _ => ?_) ?_)
  · refine congrArg₂ (· * ·) ((rd2 0 0 (by decide) (by decide) arg1 harg1 x0 r k).trans ?_)
      (((rd2 0 (3072 + o) (by decide) (by omega) arg2 harg2 x1 k j).trans ?_).trans (hw k ⟨3072 + (o + j.val), by omega⟩))
    · simp only [Nat.zero_add]; rfl
    · rw [e]; simp only [Nat.zero_add]
  · refine ((rd2 0 (3072 + o) (by decide) (by omega) arg3 harg3 x2 0 j)).trans (Eq.trans ?_ (hb ⟨3072 + (o + j.val), by omega⟩))
    rw [e]; rfl

include hw hb in
/-- The first scratch holds the first half. -/
theorem canonU : View.canon (sl.HS0_4 (F := Ideal) c arg1 harg1 arg2 harg2 arg3 harg3 x0 x1 x2) = US W x0 := by
  funext y
  refine View.canon_apply_of_pieces (US W x0) _ ?_ y (View.cover_of_tiledL _ ![512, 768] (by sl_kernel_rfl) y)
  have T := uTile W arg1 harg1 arg2 harg2 arg3 harg3 x0 x1 x2 hw hb
  exact fits_cons (T 2304 (by decide)) (fits_cons (T 1536 (by decide)) (fits_cons (T 768 (by decide))
    (fits_cons (T 0 (by decide)) (fits_nil _))))

include hw hb in
/-- The second scratch holds the second half. -/
theorem canonV : View.canon (sl.HS1_4 (F := Ideal) c arg1 harg1 arg2 harg2 arg3 harg3 x0 x1 x2) = VS W x0 := by
  funext y
  refine View.canon_apply_of_pieces (VS W x0) _ ?_ y (View.cover_of_tiledL _ ![512, 768] (by sl_kernel_rfl) y)
  have T := vTile W arg1 harg1 arg2 harg2 arg3 harg3 x0 x1 x2 hw hb
  exact fits_cons (T 2304 (by decide)) (fits_cons (T 1536 (by decide)) (fits_cons (T 768 (by decide))
    (fits_cons (T 0 (by decide)) (fits_nil _))))

end Cert.Gmlp
-- ==== Proof.G.Gate.lean ====
/- The gate scratch of the gMLP kernel, and the block of results. -/
module

public import proofs.«01_k».proof.Proof.G.Scr

@[expose] public section

set_option maxRecDepth 16384

noncomputable section

open Idealize.ShloMosaic Idealize.ShloMosaic.TcCoe Idealize.SL.Sem

namespace Cert.Gmlp

open Cert.Kernel2Ideal Cert.Kernel2Ideal.Gen Cert.Kernel2Ideal.Gen.kernelRun0_A

/-- A read of one matrix out of a stack. -/
theorem rd3 {n0 n1 n2 : ℕ} {e : EltTy} {sp : Space} (a : ℕ) (h0 : a + 1 ≤ n0)
    (A : Memref Cert.Kernel2Ideal.sig .tc sp ⟨3, ![n0, n1, n2]⟩ e) (hA : A.IsWhole) (X : Vec Ideal ⟨3, ![n0, n1, n2]⟩ e)
    (inb : ∀ i, (![a, 0, 0] : Fin 3 → ℕ) i + (⟨3, ![1, n1, n2]⟩ : Shape).size i ≤ (⟨3, ![n0, n1, n2]⟩ : Shape).size i)
    (i : Fin n1) (j : Fin n2) :
    View.readAt (Elt Ideal) A.view
        (Rect.unit (s := ⟨3, ![n0, n1, n2]⟩) ![a, 0, 0] (⟨3, ![1, n1, n2]⟩ : Shape).size inb).toLoadRect (hA.unread X) (ix3 0 i j)
      = X (ix3 (⟨a, by omega⟩ : Fin n0) i j) := by
  rw [View.readAt_eq_ld, hA.read_unread]
  refine congrArg X (funext fun k => Fin.ext ?_)
  fin_cases k
  · show a + 1 * 0 = a
    omega
  · show 0 + 1 * i.val = i.val
    omega
  · show 0 + 1 * j.val = j.val
    omega

variable (W : Wts) (c : Dev nD)
  (arg1 : Memref sig .tc .vmem S512x1024 .f32) (harg1 : arg1.IsWhole)
  (arg2 : Memref sig .tc .vmem S1024x6144 .bf16) (harg2 : arg2.IsWhole)
  (arg3 : Memref sig .tc .vmem S1x6144 .f32) (harg3 : arg3.IsWhole)
  (arg4 : Memref sig .tc .vmem S1x3072 .f32) (harg4 : arg4.IsWhole)
  (arg5 : Memref sig .tc .vmem S1x3072 .f32) (harg5 : arg5.IsWhole)
  (arg6 : Memref sig .tc .vmem S8x128x128 .f32) (harg6 : arg6.IsWhole)
  (arg7 : Memref sig .tc .vmem S128x8 .f32) (harg7 : arg7.IsWhole)
  (arg12 : Memref sig .tc .vmem S512x3072 .bf16) (arg13 : Memref sig .tc .vmem S512x3072 .f32)
  (arg14 : Memref sig .tc .vmem S512x3072 .bf16)
  (x0 : Vec Ideal S512x1024 .f32) (x1 : Vec Ideal S1024x6144 .bf16) (x2 : Vec Ideal S1x6144 .f32)
  (x3 x4 : Vec Ideal S1x3072 .f32) (x5 : Vec Ideal S8x128x128 .f32) (x6 : Vec Ideal S128x8 .f32)

variable (hw : ∀ k n, x1 (ix2 k n) = W.win k n) (hb : ∀ n, x2 (ix2 0 n) = W.bin n)
  (hg : ∀ n, x3 (ix2 0 n) = W.lg n) (hl : ∀ n, x4 (ix2 0 n) = W.lb n)
  (hs : ∀ g t s, x5 (ix3 g t s) = W.ws g t s) (ht : ∀ g t, x6 (ix2 t g) = W.bs g t)

/-- The chunk of 128 rows a row of the block lies in. -/
def chunk (r : Fin 512) : Fin 128 → Fin 1024 → EReal := fun s => row x0 ⟨128 * (r.val / 128) + s.val, by omega⟩

/-- A row's place in its chunk. -/
def inner (r : Fin 512) : Fin 128 := ⟨r.val % 128, by omega⟩

/-- The gate's product, as the third scratch holds it. -/
def GS : S512x3072.Idx → Elt Ideal .bf16 := fun y => gate W (chunk x0 (y 0)) (inner (y 0)) (y 1)

include hw hb hg hl in
/-- The normed second half at one element. -/
theorem vnAt (r : Fin 512) (n : Fin 3072) :
    (sl.r_5 (F := Ideal) c arg1 harg1 arg2 harg2 arg3 harg3 arg4 harg4 arg5 harg5 arg13 x0 x1 x2 x3 x4 (ix2 r n) : EReal)
      = vn W (row x0 r) n := by
  have hv : ∀ k : Fin 3072, sl.v151 (F := Ideal) c arg1 harg1 arg2 harg2 arg3 harg3 arg13 x0 x1 x2 (ix2 r k)
      = hv W (row x0 r) k := fun k => by
    show View.readCov _ _ _ _ = _
    rw [View.readCov_eq_canon', canonV W c arg1 harg1 arg2 harg2 arg3 harg3 x0 x1 x2 hw hb]
    refine (congrArg (VS W x0) (emb2 (by decide) (by decide) r k)).trans ?_
    simp only [Nat.zero_add]
    rfl
  have hg' : ∀ k : Fin 3072, View.readAt (Elt Ideal) arg4.view
      (Rect.unit (s := S1x3072) ![0, 0] S1x3072.size (inb2 (by decide) (by decide))).toLoadRect (harg4.unread x3) (ix2 0 k) = W.lg k :=
    fun k => (rd2 0 0 (by decide) (by decide) arg4 harg4 x3 0 k).trans (by simp only [Nat.zero_add]; exact hg k)
  have hl' : ∀ k : Fin 3072, View.readAt (Elt Ideal) arg5.view
      (Rect.unit (s := S1x3072) ![0, 0] S1x3072.size (inb2 (by decide) (by decide))).toLoadRect (harg5.unread x4) (ix2 0 k) = W.lb k :=
    fun k => (rd2 0 0 (by decide) (by decide) arg5 harg5 x4 0 k).trans (by simp only [Nat.zero_add]; exact hl k)
  refine (normV _ _ _ r n).trans ?_
  unfold vn
  congr 1
  · exact funext hv
  · exact funext hg'
  · exact funext hl'

include hw hb hg hl hs ht in
/-- One tile of the gate's product, at its place. -/
theorem gTile (q g : ℕ) (hq : q < 4) (hg8 : g < 8) (x : S128x384.Idx) :
    (mixTile (128 * q) (384 * g) (sl2 (by omega) (by omega))
        (sl.r_5 (F := Ideal) c arg1 harg1 arg2 harg2 arg3 harg3 arg4 harg4 arg5 harg5 arg13 x0 x1 x2 x3 x4)
        (k0_pay16 (View.readAt (Elt Ideal) arg6.view (Rect.unit (s := S8x128x128) ![g, 0, 0] S1x128x128.size
          (Fin.forall_fin_succ.2 ⟨hg8, fun i => by fin_cases i <;> exact le_refl 128⟩)).toLoadRect (harg6.unread x5)))
        (k0_pay17 (View.readAt (Elt Ideal) arg7.view (Rect.unit (s := S128x8) ![0, g] S128x1.size
          (inb2 (by decide) hg8)).toLoadRect (harg7.unread x6)))
        (View.readCov arg12.view (sl.HS0_4 (F := Ideal) c arg1 harg1 arg2 harg2 arg3 harg3 x0 x1 x2)
          (Rect.unit (s := S512x3072) ![128 * q, 384 * g] S128x384.size (inb2 (by omega) (by omega))).toLoadRect)
        x : EReal)
      = GS W x0 ((Rect.unit (s := S512x3072) ![128 * q, 384 * g] S128x384.size (inb2 (by omega) (by omega))).emb x) := by
  obtain ⟨t, j, rfl⟩ := ex2 x
  refine (mixTile_apply _ _ _ (by omega) (by omega) _ _ _ _ t j).trans ?_
  refine Eq.trans ?_ (congrArg (GS W x0) (emb2 (by omega) (by omega) t j)).symm
  have eq : (128 * q + t.val) / 128 = q := by omega
  have eg : grp ⟨384 * g + j.val, by omega⟩ = ⟨g, hg8⟩ := Fin.ext (by simp only [grp]; omega)
  have ei : inner ⟨128 * q + t.val, by omega⟩ = t := Fin.ext (by simp only [inner]; omega)
  have ec : ∀ s : Fin 128, chunk x0 ⟨128 * q + t.val, by omega⟩ s = row x0 ⟨128 * q + s.val, by omega⟩ := fun s => by
    simp only [chunk, eq]
  show _ = gate W (chunk x0 ⟨128 * q + t.val, by omega⟩) (inner ⟨128 * q + t.val, by omega⟩) ⟨384 * g + j.val, by omega⟩
  unfold gate mix
  rw [ei, eg, ec]
  refine congrArg₂ (· * ·) ?_ (congrArg₂ (· + ·) (Finset.sum_congr rfl fun s _ => congrArg₂ (· * ·) ?_ ?_) ?_)
  · rw [View.readCov_eq_canon', canonU W c arg1 harg1 arg2 harg2 arg3 harg3 x0 x1 x2 hw hb]
    refine (congrArg (US W x0) (emb2 (by omega) (by omega) t j)).trans ?_
    unfold US
    rfl
  · rw [mask_tile, rd3 g hg8 arg6 harg6 x5 _ t s, hs]
  · rw [ec]
    exact vnAt W c arg1 harg1 arg2 harg2 arg3 harg3 arg4 harg4 arg5 harg5 arg13 x0 x1 x2 x3 x4 hw hb hg hl _ _
  · rw [bias_tile]
    refine (rd2 0 g (by decide) hg8 arg7 harg7 x6 t 0).trans ?_
    simp only [Nat.zero_add]
    exact ht ⟨g, hg8⟩ t

include hw hb hg hl hs ht in
/-- So is a list of stores with that tile in front. -/
theorem gStep (q g : ℕ) (hq : q < 4) (hg8 : g < 8) {L : List (View.Piece (Elt Ideal) S512x3072 .bf16)} (hL : Fits (GS W x0) L) :
    Fits (GS W x0) (⟨Rect.unit (s := S512x3072) ![128 * q, 384 * g] S128x384.size (inb2 (by omega) (by omega)),
      mixTile (128 * q) (384 * g) (sl2 (by omega) (by omega))
        (sl.r_5 (F := Ideal) c arg1 harg1 arg2 harg2 arg3 harg3 arg4 harg4 arg5 harg5 arg13 x0 x1 x2 x3 x4)
        (k0_pay16 (View.readAt (Elt Ideal) arg6.view (Rect.unit (s := S8x128x128) ![g, 0, 0] S1x128x128.size
          (Fin.forall_fin_succ.2 ⟨hg8, fun i => by fin_cases i <;> exact le_refl 128⟩)).toLoadRect (harg6.unread x5)))
        (k0_pay17 (View.readAt (Elt Ideal) arg7.view (Rect.unit (s := S128x8) ![0, g] S128x1.size
          (inb2 (by decide) hg8)).toLoadRect (harg7.unread x6)))
        (View.readCov arg12.view (sl.HS0_4 (F := Ideal) c arg1 harg1 arg2 harg2 arg3 harg3 x0 x1 x2)
          (Rect.unit (s := S512x3072) ![128 * q, 384 * g] S128x384.size (inb2 (by omega) (by omega))).toLoadRect)⟩ :: L) :=
  fits_cons (gTile W c arg1 harg1 arg2 harg2 arg3 harg3 arg4 harg4 arg5 harg5 arg6 harg6 arg7 harg7 arg12 arg13
    x0 x1 x2 x3 x4 x5 x6 hw hb hg hl hs ht q g hq hg8) hL

include hw hb hg hl hs ht in
/-- The third scratch holds the gate's product. -/
theorem canonG : View.canon (sl.HS2_32 (F := Ideal) c arg1 harg1 arg2 harg2 arg3 harg3 arg4 harg4 arg5 harg5 arg6 harg6 arg7 harg7
    arg12 arg13 x0 x1 x2 x3 x4 x5 x6) = GS W x0 := by
  funext y
  refine View.canon_apply_of_pieces (GS W x0) _ ?_ y (View.cover_of_tiledL _ ![128, 384] (by sl_kernel_rfl) y)
  have T := @gStep W c arg1 harg1 arg2 harg2 arg3 harg3 arg4 harg4 arg5 harg5 arg6 harg6 arg7 harg7 arg12 arg13
    x0 x1 x2 x3 x4 x5 x6 hw hb hg hl hs ht
  have P := fun (g : ℕ) (hg8 : g < 8) {L} (hL : Fits (GS W x0) L) =>
    T 3 g (by decide) hg8 (T 2 g (by decide) hg8 (T 1 g (by decide) hg8 (T 0 g (by decide) hg8 hL)))
  exact P 7 (by decide) (P 6 (by decide) (P 5 (by decide) (P 4 (by decide) (P 3 (by decide) (P 2 (by decide)
    (P 1 (by decide) (P 0 (by decide) (fits_nil _))))))))

end Cert.Gmlp
-- ==== Proof.G.Blk.lean ====
/- One grid point's block of results. -/
module

public import proofs.«01_k».proof.Proof.G.Gate

@[expose] public section

set_option maxRecDepth 16384

noncomputable section

open Idealize.ShloMosaic Idealize.ShloMosaic.TcCoe Idealize.SL.Sem

namespace Cert.Gmlp

open Cert.Kernel2Ideal Cert.Kernel2Ideal.Gen Cert.Kernel2Ideal.Gen.kernelRun0_A

/-- The weights, out of the blocks the kernel reads. -/
def wts (x1 : Vec Ideal S1024x6144 .bf16) (x2 : Vec Ideal S1x6144 .f32)
    (x3 x4 : Vec Ideal S1x3072 .f32) (x5 : Vec Ideal S8x128x128 .f32) (x6 : Vec Ideal S128x8 .f32)
    (x7 : Vec Ideal S3072x1024 .bf16) (x8 x9 : Vec Ideal S1x1024 .f32) : Wts where
  win k n := x1 (ix2 k n)
  bin n := x2 (ix2 0 n)
  lg n := x3 (ix2 0 n)
  lb n := x4 (ix2 0 n)
  ws g t s := x5 (ix3 g t s)
  bs g t := x6 (ix2 t g)
  wo n d := x7 (ix2 n d)
  g1 d := x8 (ix2 0 d)
  b1 d := x9 (ix2 0 d)

/-- The block of results is the layer's function of the block's rows and the weights. -/
theorem block (c : Dev nD) (i : grid0.Coords)
    (arg1 : Memref sig .tc .vmem S512x1024 .f32) (harg1 : arg1.IsWhole)
    (arg2 : Memref sig .tc .vmem S1024x6144 .bf16) (harg2 : arg2.IsWhole)
    (arg3 : Memref sig .tc .vmem S1x6144 .f32) (harg3 : arg3.IsWhole)
    (arg4 : Memref sig .tc .vmem S1x3072 .f32) (harg4 : arg4.IsWhole)
    (arg5 : Memref sig .tc .vmem S1x3072 .f32) (harg5 : arg5.IsWhole)
    (arg6 : Memref sig .tc .vmem S8x128x128 .f32) (harg6 : arg6.IsWhole)
    (arg7 : Memref sig .tc .vmem S128x8 .f32) (harg7 : arg7.IsWhole)
    (arg8 : Memref sig .tc .vmem S3072x1024 .bf16) (harg8 : arg8.IsWhole)
    (arg9 : Memref sig .tc .vmem S1x1024 .f32) (harg9 : arg9.IsWhole)
    (arg10 : Memref sig .tc .vmem S1x1024 .f32) (harg10 : arg10.IsWhole)
    (arg11 : Memref sig .tc .vmem S512x1024 .f32) (harg11 : arg11.IsWhole)
    (arg12 : Memref sig .tc .vmem S512x3072 .bf16) (harg12 : arg12.IsWhole)
    (arg13 : Memref sig .tc .vmem S512x3072 .f32) (harg13 : arg13.IsWhole)
    (arg14 : Memref sig .tc .vmem S512x3072 .bf16) (harg14 : arg14.IsWhole)
    (x0 : Vec Ideal S512x1024 .f32) (x1 : Vec Ideal S1024x6144 .bf16) (x2 : Vec Ideal S1x6144 .f32)
    (x3 x4 : Vec Ideal S1x3072 .f32) (x5 : Vec Ideal S8x128x128 .f32) (x6 : Vec Ideal S128x8 .f32)
    (x7 : Vec Ideal S3072x1024 .bf16) (x8 x9 : Vec Ideal S1x1024 .f32) (r : Fin 512) (d : Fin 1024) :
    (out0_A_10 c i arg1 harg1 arg2 harg2 arg3 harg3 arg4 harg4 arg5 harg5 arg6 harg6 arg7 harg7 arg8 harg8 arg9 harg9
        arg10 harg10 arg11 harg11 arg12 harg12 arg13 harg13 arg14 harg14 x0 x1 x2 x3 x4 x5 x6 x7 x8 x9 (ix2 r d) : EReal)
      = out (wts x1 x2 x3 x4 x5 x6 x7 x8 x9) (chunk x0 r) (inner r) d := by
  have hG := canonG (wts x1 x2 x3 x4 x5 x6 x7 x8 x9) c arg1 harg1 arg2 harg2 arg3 harg3 arg4 harg4 arg5 harg5 arg6 harg6
    arg7 harg7 arg12 arg13 x0 x1 x2 x3 x4 x5 x6 (fun _ _ => rfl) (fun _ => rfl) (fun _ => rfl) (fun _ => rfl)
    (fun _ _ _ => rfl) (fun _ _ => rfl)
  have hv : ∀ n : Fin 3072, sl.v599 (F := Ideal) c arg1 harg1 arg2 harg2 arg3 harg3 arg4 harg4 arg5 harg5 arg6 harg6 arg7 harg7
      arg12 arg13 arg14 x0 x1 x2 x3 x4 x5 x6 (ix2 r n) = gate (wts x1 x2 x3 x4 x5 x6 x7 x8 x9) (chunk x0 r) (inner r) n := fun n => by
    show View.readCov _ _ _ _ = _
    rw [View.readCov_eq_canon', hG]
    refine (congrArg (GS _ x0) (emb2 (by decide) (by decide) r n)).trans ?_
    simp only [Nat.zero_add]
    rfl
  have hx : ∀ k : Fin 1024, View.readAt (Elt Ideal) arg1.view
      (Rect.unit (s := S512x1024) ![0, 0] S512x1024.size (inb2 (by decide) (by decide))).toLoadRect (harg1.unread x0) (ix2 r k)
        = chunk x0 r (inner r) k := fun k =>
    (rd2 0 0 (by decide) (by decide) arg1 harg1 x0 r k).trans (by
      have e : (⟨128 * (r.val / 128) + r.val % 128, by omega⟩ : Fin 512) = r := Fin.ext (by simp only; omega)
      simp only [chunk, inner, row, Nat.zero_add, e])
  have hw : ∀ (n : Fin 3072) (k : Fin 1024), View.readAt (Elt Ideal) arg8.view
      (Rect.unit (s := S3072x1024) ![0, 0] S3072x1024.size (inb2 (by decide) (by decide))).toLoadRect (harg8.unread x7) (ix2 n k)
        = x7 (ix2 n k) := fun n k =>
    (rd2 0 0 (by decide) (by decide) arg8 harg8 x7 n k).trans (by simp only [Nat.zero_add])
  have hr : ∀ k : Fin 1024, sl.r_34 (F := Ideal) c arg1 harg1 arg2 harg2 arg3 harg3 arg4 harg4 arg5 harg5 arg6 harg6 arg7 harg7
      arg8 harg8 arg12 arg13 arg14 x0 x1 x2 x3 x4 x5 x6 x7 (ix2 r k)
        = res (wts x1 x2 x3 x4 x5 x6 x7 x8 x9) (chunk x0 r) (inner r) k := fun k => by
    refine (resid_tile _ _ _ r k).trans ?_
    refine congrArg₂ (· + ·) (congrArg _ (hx k)) (Finset.sum_congr rfl fun n _ => congrArg₂ (· * ·) (hv n) (hw n k))
  unfold out0_A_10
  rw [View.read_writes_junk_eq_canon]
  unfold kernelRun0_A
  rw [View.canon_unit_zero (S := S512x1024) (by funext a; fin_cases a <;> rfl)]
  refine (norm_tile _ _ _ r d).trans ?_
  unfold out
  congr 1
  · exact funext hr
  · funext k
    exact (rd2 0 0 (by decide) (by decide) arg9 harg9 x8 0 k).trans (by simp only [Nat.zero_add]; rfl)
  · funext k
    exact (rd2 0 0 (by decide) (by decide) arg10 harg10 x9 0 k).trans (by simp only [Nat.zero_add]; rfl)

end Cert.Gmlp
-- ==== Proof.G.Arr.lean ====
/- The gMLP kernel's result array, out of its blocks. -/
module

public import proofs.«01_k».proof.Proof.G.Blk
public import proofs.«01_k».proof.Proof.Gen.Kernel2Ideal.Value
public import Idealize.ShloMosaic.Lib.Pipeline.ValueKit

@[expose] public section

set_option maxRecDepth 16384

noncomputable section

open Idealize.ShloMosaic Idealize.ShloMosaic.TcCoe Idealize.SL.Sem

namespace Cert.Gmlp

open Cert.Kernel2Ideal Cert.Kernel2Ideal.Gen

variable (m : (ℓ : Loc nD τ sig) → Buf (Elt Ideal) ℓ) (c : Dev nD)

/-- The weights, out of the kernel's arguments. -/
abbrev Wk : Wts := ofArgs (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))
  (m ((c : Thread nD τ).loc main_arg9))

/-- The rows' block moves down with the grid point; -/
theorem index0 : ∀ t : Fin cfg0.N, win0_0.index t = ![t.val, 0] := by decide +kernel

/-- so does the results' block; -/
theorem index10 : ∀ t : Fin cfg0.N, win0_10.index t = ![t.val, 0] := by decide +kernel

/-- and the weights' blocks stay where they are. -/
theorem index_fixed : ∀ t : Fin cfg0.N, win0_1.index t = ![0, 0] ∧ win0_2.index t = ![0, 0] ∧ win0_3.index t = ![0, 0]
    ∧ win0_4.index t = ![0, 0] ∧ win0_5.index t = ![0, 0, 0] ∧ win0_6.index t = ![0, 0] ∧ win0_7.index t = ![0, 0]
    ∧ win0_8.index t = ![0, 0] ∧ win0_9.index t = ![0, 0] := by decide +kernel

/-- At every grid point the weight blocks are the arguments. -/
theorem wts_eq (t : Fin cfg0.N) : wts (iblk m c 1 t) (iblk m c 2 t) (iblk m c 3 t) (iblk m c 4 t) (iblk m c 5 t)
    (iblk m c 6 t) (iblk m c 7 t) (iblk m c 8 t) (iblk m c 9 t) = Wk m c := by
  obtain ⟨h1, h2, h3, h4, h5, h6, h7, h8, h9⟩ := index_fixed t
  unfold wts Wk ofArgs
  congr 1
  · funext k n
    blk_point [iblk, V, h1]
  · funext n
    blk_point [iblk, V, h2]
  · funext n
    blk_point [iblk, V, h3]
  · funext n
    blk_point [iblk, V, h4]
  · funext g t s
    blk_point [iblk, V, h5]
  · funext g t
    blk_point [iblk, V, h6]
  · funext n d
    blk_point [iblk, V, h7]
  · funext d
    blk_point [iblk, V, h8]
  · funext d
    blk_point [iblk, V, h9]

/-- A row of the block in the whole. -/
def gl (t : Fin cfg0.N) (r : Fin 512) : Fin 16384 :=
  ⟨512 * t.val + r.val, by have := t.isLt; have : cfg0.N = 32 := N_0; omega⟩

/-- The chunk of a block's row is the chunk of that row in the whole. -/
theorem rows_eq (t : Fin cfg0.N) (r : Fin 512) :
    chunk (iblk m c 0 t) r = rowsOf (m ((c : Thread nD τ).loc main_arg0)) (gl t r) := by
  funext s k
  unfold chunk rowsOf row gl
  blk_point [iblk, V, index0 t]

/-- The result array is the layer's function of the arguments. -/
theorem arr_eq : (dats m 0 c).arrAt 10 cfg0.N = layer (m ((c : Thread nD τ).loc main_arg0)) (Wk m c) := by
  refine (dats m 0 c).arrAt_eq_of_covers 10 _ (by decide +kernel) fun t hf y => ?_
  blk_simp
  rw [after0_10]
  unfold outsAt0
  obtain ⟨r, d, rfl⟩ : ∃ (r : Fin 512) (d : Fin 1024), y = ix2 r d := ex2 y
  refine (block c _ _ _ _ _ _ _ _ _ _ _ _ _ _ _ _ _ _ _ _ _ _ _ _ _ _ _ _ _ _ _ _ _ _ _ _ _ _ _ r d).trans ?_
  rw [wts_eq, rows_eq]
  have e : (win0_10.blk t).view.emb (ix2 r d) = ix2 (gl t r) d := by
    show (win0_10.rect t).emb (ix2 r d) = _
    funext a
    apply Fin.ext
    fin_cases a
    · refine (win0_10.rect_emb_val t _ (0 : Fin 2)).trans ?_
      rw [index10]
      show t.val * 512 + r.val = 512 * t.val + r.val
      omega
    · refine (win0_10.rect_emb_val t _ (1 : Fin 2)).trans ?_
      rw [index10]
      show 0 * 1024 + d.val = d.val
      omega
  rw [e]
  have hi : inner r = ⟨(gl t r).val % 128, by omega⟩ := Fin.ext (by simp only [inner, gl]; omega)
  rw [hi]
  rfl

end Cert.Gmlp
-- ==== Proof.G.Ref.lean ====
/- The host reference of the gMLP layer, read at one element. -/
module

public import proofs.«01_k».proof.Proof.G.Spec
public import proofs.«01_k».proof.Proof.Gen.Reference2Ideal.Run

@[expose] public section

set_option maxRecDepth 16384

noncomputable section

open Idealize.ShloMosaic Idealize.ShloMosaic.TcCoe Idealize.SL.Sem

namespace Cert.Gmlp.Host

open Cert.Reference2Ideal Cert.Reference2Ideal.Gen Cert.Reference2Ideal.Value

/-- The activated projection. -/
def proj (a0 : FVec Ideal S8x2048x1024 .f32) (a1 : FVec Ideal S1024x6144 .f32) (a2 : FVec Ideal S6144 .f32) : FVec Ideal S8x2048x6144 .f32 :=
  let a := addf (Host.dotGeneral dot_S8x2048x1024_S1024x6144_S8x2048x6144_2_0_01_1_n_n none a0 a1)
    (broadcastInDim S8x2048x6144 ![0, 1, 2] bcast_S1x1x6144_S8x2048x6144_0_1_2 (broadcastInDim S1x1x6144 ![2] bcast_S6144_S1x1x6144_2 a2))
  mulf (mulf (broadcastInDim S8x2048x6144 ![] bcast_S_S8x2048x6144 (constant S_ .f32 0x3F000000#32)) a)
    (addf (broadcastInDim S8x2048x6144 ![] bcast_S_S8x2048x6144 (constant S_ .f32 0x3F800000#32))
      (Host.erf (mulf a (broadcastInDim S8x2048x6144 ![] bcast_S_S8x2048x6144 (constant S_ .f32 0x3F3504F3#32)))))

/-- The first layer norm. -/
def norm1 (v : FVec Ideal S8x2048x3072 .f32) (g b : FVec Ideal S3072 .f32) : FVec Ideal S8x2048x3072 .f32 :=
  let z := broadcastInDim S8x2048x1 ![] bcast_S_S8x2048x1 (constant S_ .f32 0x45400000#32)
  let mu := Host.divf (broadcastInDim S8x2048x1 ![0, 1] bcast_S8x2048_S8x2048x1_0_1
    (Host.reduceAdd v (constant S_ .f32 0x00000000#32) reducesTo_S8x2048x3072_S8x2048_d2 h_S_)) z
  let d := subf v (broadcastInDim S8x2048x3072 ![0, 1, 2] bcast_S8x2048x1_S8x2048x3072_0_1_2 mu)
  let s := Host.divf (broadcastInDim S8x2048x1 ![0, 1] bcast_S8x2048_S8x2048x1_0_1
    (Host.reduceAdd (mulf d d) (constant S_ .f32 0x00000000#32) reducesTo_S8x2048x3072_S8x2048_d2 h_S_)) z
  let q := Host.rsqrt (addf s (broadcastInDim S8x2048x1 ![] bcast_S_S8x2048x1 (constant S_ .f32 0x3727C5AC#32)))
  addf (mulf (mulf d (broadcastInDim S8x2048x3072 ![0, 1, 2] bcast_S8x2048x1_S8x2048x3072_0_1_2 q))
      (broadcastInDim S8x2048x3072 ![0, 1, 2] bcast_S1x1x3072_S8x2048x3072_0_1_2 (broadcastInDim S1x1x3072 ![2] bcast_S3072_S1x1x3072_2 g)))
    (broadcastInDim S8x2048x3072 ![0, 1, 2] bcast_S1x1x3072_S8x2048x3072_0_1_2 (broadcastInDim S1x1x3072 ![2] bcast_S3072_S1x1x3072_2 b))

/-- The last layer norm. -/
def norm2 (v : FVec Ideal S8x2048x1024 .f32) (g b : FVec Ideal S1024 .f32) : FVec Ideal S8x2048x1024 .f32 :=
  let z := broadcastInDim S8x2048x1 ![] bcast_S_S8x2048x1 (constant S_ .f32 0x44800000#32)
  let mu := Host.divf (broadcastInDim S8x2048x1 ![0, 1] bcast_S8x2048_S8x2048x1_0_1
    (Host.reduceAdd v (constant S_ .f32 0x00000000#32) reducesTo_S8x2048x1024_S8x2048_d2 h_S_)) z
  let d := subf v (broadcastInDim S8x2048x1024 ![0, 1, 2] bcast_S8x2048x1_S8x2048x1024_0_1_2 mu)
  let s := Host.divf (broadcastInDim S8x2048x1 ![0, 1] bcast_S8x2048_S8x2048x1_0_1
    (Host.reduceAdd (mulf d d) (constant S_ .f32 0x00000000#32) reducesTo_S8x2048x1024_S8x2048_d2 h_S_)) z
  let q := Host.rsqrt (addf s (broadcastInDim S8x2048x1 ![] bcast_S_S8x2048x1 (constant S_ .f32 0x3727C5AC#32)))
  addf (mulf (mulf d (broadcastInDim S8x2048x1024 ![0, 1, 2] bcast_S8x2048x1_S8x2048x1024_0_1_2 q))
      (broadcastInDim S8x2048x1024 ![0, 1, 2] bcast_S1x1x1024_S8x2048x1024_0_1_2 (broadcastInDim S1x1x1024 ![2] bcast_S1024_S1x1x1024_2 g)))
    (broadcastInDim S8x2048x1024 ![0, 1, 2] bcast_S1x1x1024_S8x2048x1024_0_1_2 (broadcastInDim S1x1x1024 ![2] bcast_S1024_S1x1x1024_2 b))

/-- The mixing matrices, kept on and below the diagonal. -/
def tril (ws : FVec Ideal S8x128x128 .f32) : FVec Ideal S8x128x128 .f32 :=
  select (broadcastInDim S8x128x128 ![1, 2] bcast_S128x128_S8x128x128_1_2
      (cmpi .sge (addi (iotaInDim S128x128 32 0) (broadcastInDim S128x128 ![] bcast_S_S128x128 (constantI S_ 32 0#32))) (iotaInDim S128x128 32 1)))
    ws (broadcastInDim S8x128x128 ![] bcast_S_S8x128x128 (constant S_ .f32 0x00000000#32))

/-- The mixing, chunk by chunk and group by group. -/
def mixed (v : FVec Ideal S8x2048x3072 .f32) (w : FVec Ideal S8x128x128 .f32) (bs : FVec Ideal S8x128 .f32) : FVec Ideal S8x16x128x8x384 .f32 :=
  addf (transpose S8x16x128x8x384 [1, 2, 4, 0, 3]
      (Host.dotGeneral dot_S8x16x128x8x384_S8x128x128_S8x8x16x384x128_2_2_014_1_3_0 none
        (shapeCast S8x16x128x8x384 v shapeCasts_S8x2048x3072_S8x16x128x8x384) w)
      transposes_S8x8x16x384x128_S8x16x128x8x384_1_2_4_0_3)
    (broadcastInDim S8x16x128x8x384 ![0, 1, 2, 3, 4] bcast_S1x1x128x8x1_S8x16x128x8x384_0_1_2_3_4
      (broadcastInDim S1x1x128x8x1 ![2, 3, 4] bcast_S128x8x1_S1x1x128x8x1_2_3_4
        (broadcastInDim S128x8x1 ![0, 1] bcast_S128x8_S128x8x1_0_1 (transpose S128x8 [1, 0] bs transposes_S8x128_S128x8_1_0))))

/-- The residual plus the output projection. -/
def resid (a0 : FVec Ideal S8x2048x1024 .f32) (u mx : FVec Ideal S8x2048x3072 .f32) (wo : FVec Ideal S3072x1024 .f32) : FVec Ideal S8x2048x1024 .f32 :=
  addf (mulf (broadcastInDim S8x2048x1024 ![] bcast_S_S8x2048x1024 (constant S_ .f32 0x3FD744FD#32)) a0)
    (Host.dotGeneral dot_S8x2048x3072_S3072x1024_S8x2048x1024_2_0_01_1_n_n none (mulf u mx) wo)

/-- The widening product's entry. -/
theorem proj_at (a0 : FVec Ideal S8x2048x1024 .f32) (a1 : FVec Ideal S1024x6144 .f32) (a2 : FVec Ideal S6144 .f32) (b : Fin 8) (s : Fin 2048) (n : Fin 6144) :
    (proj a0 a1 a2 (ix3 b s n) : EReal) = act ((∑ k : Fin 1024, a0 (ix3 b s k) * a1 (ix2 k n)) + a2 (ix1 n)) := by
  pointwise [proj, act]

/-- The gate's norm's entry. -/
theorem norm1_at (v : FVec Ideal S8x2048x3072 .f32) (g b : FVec Ideal S3072 .f32) (p : Fin 8) (s : Fin 2048) (n : Fin 3072) :
    (norm1 v g b (ix3 p s n) : EReal) = norm 0x45400000#32 (fun k => v (ix3 p s k)) (fun k => g (ix1 k)) (fun k => b (ix1 k)) n := by
  pointwise [norm1, norm, mean]

/-- The last norm's entry. -/
theorem norm2_at (v : FVec Ideal S8x2048x1024 .f32) (g b : FVec Ideal S1024 .f32) (p : Fin 8) (s : Fin 2048) (n : Fin 1024) :
    (norm2 v g b (ix3 p s n) : EReal) = norm 0x44800000#32 (fun k => v (ix3 p s k)) (fun k => g (ix1 k)) (fun k => b (ix1 k)) n := by
  pointwise [norm2, norm, mean]

/-- Comparing two small numbers as signed words is comparing them. -/
theorem sge_small (a b : Fin 128) (p q : EReal) :
    Scalar.select (IntOp.cmpi .sge (IntOp.addi (BitVec.ofNat 32 a.val) 0#32) (BitVec.ofNat 32 b.val)) p q = if b.val ≤ a.val then p else q := by
  have ha := a.isLt
  have hb := b.isLt
  have h : (BitVec.ofNat 32 b.val).sle (BitVec.ofNat 32 a.val) = decide (b.val ≤ a.val) := by
    rw [BitVec.sle_eq_decide, BitVec.toInt_eq_toNat_of_lt, BitVec.toInt_eq_toNat_of_lt] <;>
      simp only [BitVec.toNat_ofNat] <;> simp <;> omega
  by_cases h' : b.val ≤ a.val <;> simp [Scalar.select, IntOp.cmpi, IntOp.addi, h, h']

/-- The causal part of a mixing matrix. -/
theorem tril_at (w : FVec Ideal S8x128x128 .f32) (g : Fin 8) (t s : Fin 128) :
    (tril w (ix3 g t s) : EReal) = if s.val ≤ t.val then w (ix3 g t s) else 0 := by
  pointwise [tril]
  exact sge_small t s _ _

/-- The mixed entry. -/
theorem mixed_at (v : FVec Ideal S8x2048x3072 .f32) (w : FVec Ideal S8x128x128 .f32) (bs : FVec Ideal S8x128 .f32) (p : Fin 8) (q : Fin 16) (t : Fin 128) (g : Fin 8) (j : Fin 384) :
    (mixed v w bs (ix5 p q t g j) : EReal)
      = (∑ s : Fin 128, v (ix3 p ⟨128 * q.val + s.val, by omega⟩ ⟨384 * g.val + j.val, by omega⟩) * w (ix3 g t s)) + bs (ix2 g t) := by
  pointwise [mixed]
  simp only [Nat.mul_comm]

/-- The residual's entry. -/
theorem resid_at (a0 : FVec Ideal S8x2048x1024 .f32) (u mx : FVec Ideal S8x2048x3072 .f32) (wo : FVec Ideal S3072x1024 .f32) (b : Fin 8) (s : Fin 2048) (d : Fin 1024) :
    (resid a0 u mx wo (ix3 b s d) : EReal) = lit 0x3FD744FD#32 * a0 (ix3 b s d) + ∑ n : Fin 3072, (u (ix3 b s n) * mx (ix3 b s n)) * wo (ix2 n d) := by
  pointwise [resid]

/-- The rows of the result are the batch's positions in turn. -/
theorem flat_at (x : FVec Ideal S8x2048x1024 .f32) (p : Fin 16384) (d : Fin 1024) :
    (shapeCast S16384x1024 x shapeCasts_S8x2048x1024_S16384x1024 (ix2 p d) : EReal)
      = x (ix3 (⟨p.val / 2048, by omega⟩ : Fin 8) (⟨p.val % 2048, by omega⟩ : Fin 2048) d) := by
  pointwise []

/-- A position is a chunk and a place in it; a feature is a group and a place in it. -/
theorem unchunk_at (x : FVec Ideal S8x16x128x8x384 .f32) (b : Fin 8) (s : Fin 2048) (n : Fin 3072) :
    (shapeCast S8x2048x3072 x shapeCasts_S8x16x128x8x384_S8x2048x3072 (ix3 b s n) : EReal)
      = x (ix5 b (⟨s.val / 128, by omega⟩ : Fin 16) (⟨s.val % 128, by omega⟩ : Fin 128) (⟨n.val / 384, by omega⟩ : Fin 8)
          (⟨n.val % 384, by omega⟩ : Fin 384)) := by
  pointwise []

/-- The first half of the projection. -/
theorem lo_at (z : FVec Ideal S8x2048x6144 .f32) (b : Fin 8) (s : Fin 2048) (n : Fin 3072) :
    (extractStridedSlice S8x2048x3072 ![0, 0, 0] z slices_S8x2048x6144_S8x2048x3072_0_0_0 (ix3 b s n) : EReal)
      = z (ix3 b s (⟨n.val, by omega⟩ : Fin 6144)) := by
  pointwise []

/-- The second half. -/
theorem hi_at (z : FVec Ideal S8x2048x6144 .f32) (b : Fin 8) (s : Fin 2048) (n : Fin 3072) :
    (extractStridedSlice S8x2048x3072 ![0, 0, 3072] z slices_S8x2048x6144_S8x2048x3072_0_0_3072 (ix3 b s n) : EReal)
      = z (ix3 b s (⟨3072 + n.val, by omega⟩ : Fin 6144)) := by
  pointwise []

section

variable (a0 : FVec Ideal S8x2048x1024 .f32) (a1 : FVec Ideal S1024x6144 .f32) (a2 : FVec Ideal S6144 .f32)
  (a3 a4 : FVec Ideal S3072 .f32) (a5 : FVec Ideal S8x128x128 .f32) (a6 : FVec Ideal S8x128 .f32)
  (a7 : FVec Ideal S3072x1024 .f32) (a8 a9 : FVec Ideal S1024 .f32)

/-- The reference's first half. -/
def uPart : FVec Ideal S8x2048x3072 .f32 :=
  extractStridedSlice S8x2048x3072 ![0, 0, 0] (proj a0 a1 a2) slices_S8x2048x6144_S8x2048x3072_0_0_0

/-- The reference's normed second half. -/
def vPart : FVec Ideal S8x2048x3072 .f32 :=
  norm1 (extractStridedSlice S8x2048x3072 ![0, 0, 3072] (proj a0 a1 a2) slices_S8x2048x6144_S8x2048x3072_0_0_3072) a3 a4

/-- The reference's mixed second half. -/
def mPart : FVec Ideal S8x2048x3072 .f32 :=
  shapeCast S8x2048x3072 (mixed (vPart a0 a1 a2 a3 a4) (tril a5) a6) shapeCasts_S8x16x128x8x384_S8x2048x3072

/-- The reference's result. -/
def whole : FVec Ideal S16384x1024 .f32 :=
  shapeCast S16384x1024 (norm2 (resid a0 (uPart a0 a1 a2) (mPart a0 a1 a2 a3 a4 a5 a6) a7) a8 a9)
    shapeCasts_S8x2048x1024_S16384x1024

/-- A position's row. -/
def at' (b : Fin 8) (s : Fin 2048) : Fin 1024 → EReal := fun k => a0 (ix3 b s k)

/-- The first half's entry. -/
theorem uPart_at (b : Fin 8) (s : Fin 2048) (n : Fin 3072) :
    (uPart a0 a1 a2 (ix3 b s n) : EReal) = hu (ofArgs a1 a2 a3 a4 a5 a6 a7 a8 a9) (at' a0 b s) n :=
  (lo_at _ b s n).trans (proj_at a0 a1 a2 b s _)

/-- The second half's entry, normed. -/
theorem vPart_at (b : Fin 8) (s : Fin 2048) (n : Fin 3072) :
    (vPart a0 a1 a2 a3 a4 (ix3 b s n) : EReal) = vn (ofArgs a1 a2 a3 a4 a5 a6 a7 a8 a9) (at' a0 b s) n := by
  refine (norm1_at _ a3 a4 b s n).trans ?_
  unfold vn
  congr 1
  funext k
  exact (hi_at _ b s k).trans (proj_at a0 a1 a2 b s _)

/-- The second half's entry, mixed. -/
theorem mPart_at (b : Fin 8) (s : Fin 2048) (n : Fin 3072) :
    (mPart a0 a1 a2 a3 a4 a5 a6 (ix3 b s n) : EReal)
      = mix (ofArgs a1 a2 a3 a4 a5 a6 a7 a8 a9) (fun i => at' a0 b ⟨128 * (s.val / 128) + i.val, by omega⟩)
          ⟨s.val % 128, by omega⟩ n := by
  refine (unchunk_at _ b s n).trans ((mixed_at _ _ _ _ _ _ _ _).trans ?_)
  have e : (⟨384 * (n.val / 384) + n.val % 384, by omega⟩ : Fin 3072) = n := Fin.ext (by simp only; omega)
  refine congrArg₂ (· + ·) (Finset.sum_congr rfl fun i _ => ?_) rfl
  rw [vPart_at a0 a1 a2 a3 a4 a5 a6 a7 a8 a9, tril_at, e]
  exact mul_comm _ _

/-- The result's entry. -/
theorem whole_at (p : Fin 16384) (d : Fin 1024) :
    (whole a0 a1 a2 a3 a4 a5 a6 a7 a8 a9 (ix2 p d) : EReal) = layer a0 (ofArgs a1 a2 a3 a4 a5 a6 a7 a8 a9) (ix2 p d) := by
  refine (flat_at _ p d).trans ((norm2_at _ a8 a9 _ _ d).trans ?_)
  have e2 : (⟨p.val % 2048 % 128, by omega⟩ : Fin 128) = ⟨p.val % 128, by omega⟩ := Fin.ext (by simp only; omega)
  have e1 : (⟨128 * (p.val % 2048 / 128) + p.val % 128, by omega⟩ : Fin 2048) = ⟨p.val % 2048, by omega⟩ :=
    Fin.ext (by simp only; omega)
  show _ = norm _ _ _ _ d
  congr 1
  funext k
  refine (resid_at a0 _ _ a7 _ _ k).trans ?_
  have er : rowsOf a0 p ⟨p.val % 128, by omega⟩ = at' a0 ⟨p.val / 2048, by omega⟩ ⟨p.val % 2048, by omega⟩ := by
    funext j
    exact congrArg (fun q => a0 (ix3 _ q j)) e1
  show _ = lit _ * rowsOf a0 p ⟨p.val % 128, by omega⟩ k + ∑ n, gate _ (rowsOf a0 p) ⟨p.val % 128, by omega⟩ n * _
  unfold gate
  rw [er]
  refine congrArg₂ (· + ·) rfl (Finset.sum_congr rfl fun n _ => congrArg₂ (· * ·) (congrArg₂ (· * ·) ?_ ?_) rfl)
  · exact uPart_at a0 a1 a2 a3 a4 a5 a6 a7 a8 a9 _ _ n
  · refine (mPart_at a0 a1 a2 a3 a4 a5 a6 a7 a8 a9 _ _ n).trans ?_
    rw [e2]
    rfl

end

variable (m : (ℓ : Loc nD τ sig) → Buf (Elt Ideal) ℓ) (c : Dev nD)

/-- The weights, out of the reference's arguments. -/
abbrev Wr : Wts := ofArgs (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))
  (m ((c : Thread nD τ).loc main_arg9))

/-- The reference's result is these steps in turn. -/
theorem res_eq : res_out0 (F := Ideal) m c = whole (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) := rfl

/-- The reference's result is the layer's function of the arguments. -/
theorem ref_eq : res_out0 (F := Ideal) m c = layer (m ((c : Thread nD τ).loc main_arg0)) (Wr m c) := by
  refine (res_eq m c).trans (funext fun y => ?_)
  obtain ⟨p, d, rfl⟩ : ∃ (p : Fin 16384) (d : Fin 1024), y = ix2 p d := ⟨y 0, y 1, funext fun k => by fin_cases k <;> rfl⟩
  exact whole_at _ _ _ _ _ _ _ _ _ _ p d

end Cert.Gmlp.Host
-- ==== Proof.G.Same.lean ====
/- The kernel and its ideal program are one program: part by part, up to the last. -/
module
public import proofs.«01_k».proof.Proof.Gen.Kernel2
public import proofs.«01_k».proof.Proof.Gen.Kernel2Ideal
@[expose] public section
set_option maxHeartbeats 1000000
open Idealize.ShloMosaic
noncomputable section
variable {F : FTy → Type} [FloatOps F]
namespace Cert.Same2
/-- The two programs have the same buffers. -/
theorem sig_same : Cert.Kernel2.sig = Cert.Kernel2Ideal.sig := rfl
/-- The two programs' kernel functions are the same. -/
theorem body_same : @Cert.Kernel2.cc0_gmlp F _ _ = @Cert.Kernel2Ideal.cc0_gmlp F _ _ := rfl
/-- The two programs' bodies are the same. -/
theorem defs₀_same : @Cert.Kernel2.defs₀ F _ _ = @Cert.Kernel2Ideal.defs₀ F _ _ := by
  refine congrArg Defs.onTc (funext fun l => funext fun x => ?_)
  match l with
  | (0 : Fin 1) =>
    obtain ⟨t, s⟩ : Fin Cert.Kernel2.grid0.N × ((w : Fin 11) → Fin (Cert.Kernel2.spec0 w).nbuf) := x
    rfl
/-- The two programs' grids, as a family, are the same. -/
theorem pcfgs_same : @Cert.Kernel2.pcfgs F _ = @Cert.Kernel2Ideal.pcfgs F _ := rfl
/-- The two programs' functions are the same. -/
theorem defs_same : @Cert.Kernel2.defs F _ _ = @Cert.Kernel2Ideal.defs F _ _ := congrArg (Pipeline.defs Cert.Kernel2Ideal.pcfgs) defs₀_same
/-- The two programs' main functions are the same. -/
theorem main_same : @Cert.Kernel2.main F _ _ = @Cert.Kernel2Ideal.main F _ _ := rfl
end Cert.Same2
end
-- ==== Proof.Q.Kern.lean ====
/- The query, key and value projections: what the call's two arrays hold. -/
module

public import proofs.«01_k».proof.Proof.Gen.Kernel3Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Qkv

/-- One projected feature of one position. -/
def feat (a : Vec Ideal ⟨3, ![8, 2048, 1024]⟩ .f32) (w : Vec Ideal ⟨2, ![1024, 3072]⟩ .f32) (p : Fin 16384) (n : Fin 3072) : EReal :=
  ∑ k : Fin 1024, a (ix3 ⟨p.val / 2048, by omega⟩ ⟨p.val % 2048, by omega⟩ k) * w (ix2 k n)

/-- The queries' scale: one eighth over the logarithm of two. -/
def scale : EReal := (((1 / 8) * (Real.log 2)⁻¹ : ℝ) : EReal)

/-- The keys, a row for each position. -/
def keys (a : Vec Ideal ⟨3, ![8, 2048, 1024]⟩ .f32) (w : Vec Ideal ⟨2, ![1024, 3072]⟩ .f32) : Vec Ideal ⟨2, ![16384, 1024]⟩ .bf16 :=
  fun y => feat a w (y 0) ⟨1024 + (y 1).val, by have := (y 1).isLt; simp at this; omega⟩

/-- One entry of the scaled queries and the values below them, a column for each position. -/
def qv (a : Vec Ideal ⟨3, ![8, 2048, 1024]⟩ .f32) (w : Vec Ideal ⟨2, ![1024, 3072]⟩ .f32) (r : Fin 2048) (p : Fin 16384) : EReal :=
  if r.val < 1024 then feat a w p ⟨r.val, by omega⟩ * scale else feat a w p ⟨1024 + r.val, by omega⟩

/-- The scaled queries and the values. -/
def qvs (a : Vec Ideal ⟨3, ![8, 2048, 1024]⟩ .f32) (w : Vec Ideal ⟨2, ![1024, 3072]⟩ .f32) : Vec Ideal ⟨2, ![2048, 16384]⟩ .bf16 :=
  fun y => qv a w (y 0) (y 1)

open Cert.Kernel3Ideal Cert.Kernel3Ideal.Gen

/-- A block of keys, entry by entry. -/
theorem block3 (x0 : Vec Ideal S512x1024 .f32) (x1 : Vec Ideal S1024x1024 .bf16) (x2 : Vec Ideal S2048x1024 .bf16) (r : Fin 512) (d : Fin 1024) :
    (out0_3 x0 x1 x2 (ix2 r d) : EReal) = ∑ k : Fin 1024, x0 (ix2 r k) * x1 (ix2 k d) := by
  have z : (![0, 0] : Fin 2 → ℕ) = fun _ => 0 := by funext a; fin_cases a <;> rfl
  unfold out0_3
  rw [View.canon_unit_zero (S := S512x1024) z, View.ld_unit_zero (S := S512x1024) z, View.ld_unit_zero (S := S1024x1024) z]
  pointwise [k0_pay2, k0_pay1]

/-- A tile of scaled queries, entry by entry; -/
theorem pay_q (x : Vec Ideal S512x1024 .f32) (w : Vec Ideal S1024x1024 .bf16) (r : Fin 1024) (d : Fin 512) :
    (k0_pay3 x w (ix2 r d) : EReal) = (∑ k : Fin 1024, w (ix2 r k) * x (ix2 d k)) * scale := by
  pointwise [k0_pay3, k0_pay1]
  rfl

/-- and a tile of values. -/
theorem pay_v (x : Vec Ideal S512x1024 .f32) (w : Vec Ideal S1024x1024 .bf16) (r : Fin 1024) (d : Fin 512) :
    (k0_pay4 x w (ix2 r d) : EReal) = ∑ k : Fin 1024, w (ix2 r k) * x (ix2 d k) := by
  pointwise [k0_pay4, k0_pay1]

/-- A block of scaled queries over values. -/
def tile (x0 : Vec Ideal S512x1024 .f32) (x2 : Vec Ideal S2048x1024 .bf16) : Vec Ideal S2048x512 .bf16 := fun y =>
  if (y 0).val < 1024 then (∑ k : Fin 1024, (x2 (ix2 (y 0) k) : EReal) * x0 (ix2 (y 1) k)) * scale
  else ∑ k : Fin 1024, (x2 (ix2 (y 0) k) : EReal) * x0 (ix2 (y 1) k)

/-- The place of a half's entry in the block of `n` columns. -/
theorem emb_half {n q a : ℕ} (h : ∀ k, (![a, 0] : Fin 2 → ℕ) k + (⟨2, ![1024, q]⟩ : Shape).size k ≤ (⟨2, ![n, q]⟩ : Shape).size k)
    (ha : a + 1024 ≤ n) (r : Fin 1024) (d : Fin q) :
    (Rect.unit (s := ⟨2, ![n, q]⟩) ![a, 0] (⟨2, ![1024, q]⟩ : Shape).size h).emb (ix2 r d) = ix2 (⟨a + r.val, by omega⟩ : Fin n) d := by
  funext k
  apply Fin.ext
  fin_cases k
  · show a + 1 * r.val = a + r.val
    omega
  · show 0 + 1 * d.val = d.val
    omega

/-- The two halves that the kernel stores make up that block. -/
theorem block4 (x0 : Vec Ideal S512x1024 .f32) (x1 : Vec Ideal S1024x1024 .bf16) (x2 : Vec Ideal S2048x1024 .bf16) :
    out0_4 x0 x1 x2 = tile x0 x2 := by
  funext y
  refine View.canon_apply_of_pieces (tile x0 x2) _ ?_ y (cover0_4 _ _ y)
  have hx : View.ld x0 r0_0 = x0 := View.ld_unit_zero (S := S512x1024) (by funext a; fin_cases a <;> rfl) _ x0
  intro q hq
  simp only [List.mem_cons, List.not_mem_nil, or_false] at hq
  rcases hq with rfl | rfl
  · intro x
    obtain ⟨r, d, rfl⟩ : ∃ (r : Fin 1024) (d : Fin 512), x = ix2 r d := ⟨x 0, x 1, funext fun k => by fin_cases k <;> rfl⟩
    show (k0_pay4 (View.ld x0 r0_0) (View.ld x2 r0_4) (ix2 r d) : EReal) = tile x0 x2 (r0_5.emb (ix2 r d))
    rw [hx, show r0_5.emb (ix2 r d) = _ from emb_half _ (by omega) r d, pay_v]
    have e2 : ∀ k : Fin 1024, View.ld x2 r0_4 (ix2 r k) = x2 (ix2 (⟨1024 + r.val, by omega⟩ : Fin 2048) k) := fun k =>
      congrArg x2 (emb_half _ (by omega) r k)
    simp only [e2]
    exact (if_neg (show ¬ 1024 + r.val < 1024 by omega)).symm
  · intro x
    obtain ⟨r, d, rfl⟩ : ∃ (r : Fin 1024) (d : Fin 512), x = ix2 r d := ⟨x 0, x 1, funext fun k => by fin_cases k <;> rfl⟩
    show (k0_pay3 (View.ld x0 r0_0) (View.ld x2 r0_2) (ix2 r d) : EReal) = tile x0 x2 (r0_3.emb (ix2 r d))
    rw [hx, show r0_3.emb (ix2 r d) = _ from emb_half _ (by omega) r d, pay_q]
    have e2 : ∀ k : Fin 1024, View.ld x2 r0_2 (ix2 r k) = x2 (ix2 (⟨0 + r.val, by omega⟩ : Fin 2048) k) := fun k =>
      congrArg x2 (emb_half _ (by omega) r k)
    simp only [e2]
    exact (if_pos (show 0 + r.val < 1024 by omega)).symm

variable (m : (ℓ : Loc nD τ sig) → Buf (Elt Ideal) ℓ) (c : Dev nD)

/-- The positions' blocks move with the grid point, and the weights' stay. -/
theorem index_eq : ∀ t : Fin cfg0.N, win0_0.index t = ![t.val, 0] ∧ win0_1.index t = ![0, 0] ∧ win0_2.index t = ![0, 0]
    ∧ win0_3.index t = ![t.val, 0] ∧ win0_4.index t = ![0, t.val] := by decide +kernel

/-- A position of the block in the whole. -/
def gl (t : Fin cfg0.N) (r : Fin 512) : Fin 16384 :=
  ⟨512 * t.val + r.val, by have := t.isLt; have : cfg0.N = 32 := N_0; omega⟩

/-- A row of a block of activations. -/
theorem rows_eq (t : Fin cfg0.N) (r : Fin 512) (k : Fin 1024) : iblk m c 0 t (ix2 r k)
    = m ((c : Thread nD τ).loc main_arg0) (ix3 ⟨(gl t r).val / 2048, by omega⟩ ⟨(gl t r).val % 2048, by omega⟩ k) := by
  have h0 := (index_eq t).1
  unfold gl
  blk_point [iblk, V, h0]

/-- The keys' weight is the middle third of the weight; -/
theorem wk_eq (t : Fin cfg0.N) (k d : Fin 1024) : iblk m c 1 t (ix2 k d)
    = m ((c : Thread nD τ).loc main_arg1) (ix2 k (⟨1024 + d.val, by omega⟩ : Fin 3072)) := by
  have h1 := (index_eq t).2.1
  blk_point [iblk, V, h1]

/-- The first and last third of the weight, turned round. -/
def stack (w : FVec Ideal S1024x3072 .f32) : FVec Ideal S2048x1024 .bf16 :=
  truncf .bf16 (transpose S2048x1024 [1, 0] (concatenate S1024x2048 1
    [⟨S1024x1024, extractStridedSlice S1024x1024 ![0, 0] w slices_S1024x3072_S1024x1024_0_0⟩,
      ⟨S1024x1024, extractStridedSlice S1024x1024 ![0, 2048] w slices_S1024x3072_S1024x1024_0_2048⟩]
    concatenates_S1024x1024_S1024x1024_S1024x2048_d1) transposes_S1024x2048_S2048x1024_1_0) bitsLt_bf16_f32

/-- What the call is given for them. -/
theorem wqv_host : V m c main_v7 = stack (m ((c : Thread nD τ).loc main_arg1)) := by
  unfold stack
  after_results <;> rfl

/-- One entry of them. -/
theorem stack_at (w : FVec Ideal S1024x3072 .f32) (r : Fin 2048) (k : Fin 1024) :
    (stack w (ix2 r k) : EReal) = w (ix2 k (⟨if r.val < 1024 then r.val else 1024 + r.val, by split <;> omega⟩ : Fin 3072)) := by
  pointwise [stack]
  by_cases hr : r.val < 1024
  · rw [dif_pos hr]
    exact congrArg (fun j => w (ix2 k j)) (Fin.ext (if_pos hr).symm)
  · rw [dif_neg hr]
    refine congrArg (fun j => w (ix2 k j)) (Fin.ext ?_)
    simp only [if_neg hr]
    omega

/-- the other weight is the first and last third, turned round. -/
theorem wqv_eq (t : Fin cfg0.N) (r : Fin 2048) (k : Fin 1024) : iblk m c 2 t (ix2 r k)
    = m ((c : Thread nD τ).loc main_arg1) (ix2 k (⟨if r.val < 1024 then r.val else 1024 + r.val, by split <;> omega⟩ : Fin 3072)) := by
  have h2 := (index_eq t).2.2.1
  have e : (win0_2.blk t).view.emb (ix2 r k) = ix2 r k := by
    show (win0_2.rect t).emb (ix2 r k) = _
    funext a
    apply Fin.ext
    fin_cases a
    · refine (win0_2.rect_emb_val t _ (0 : Fin 2)).trans ?_
      rw [h2]
      show 0 * 2048 + r.val = r.val
      omega
    · refine (win0_2.rect_emb_val t _ (1 : Fin 2)).trans ?_
      rw [h2]
      show 0 * 1024 + k.val = k.val
      omega
  blk_point [iblk, h2]
  refine (congrArg (V m c main_v7) e).trans ?_
  rw [wqv_host]
  exact stack_at _ r k

/-- The first array holds the keys. -/
theorem keys_eq : (dats m 0 c).arrAt 3 cfg0.N = keys (m ((c : Thread nD τ).loc main_arg0)) (m ((c : Thread nD τ).loc main_arg1)) := by
  refine (dats m 0 c).arrAt_eq_of_covers 3 _ (by decide +kernel) fun t hf y => ?_
  blk_simp
  rw [after0_3]
  obtain ⟨r, d, rfl⟩ : ∃ (r : Fin 512) (d : Fin 1024), y = ix2 r d := ⟨y 0, y 1, funext fun k => by fin_cases k <;> rfl⟩
  refine (block3 _ _ _ r d).trans ?_
  have h3 := (index_eq t).2.2.2.1
  have e : (win0_3.blk t).view.emb (ix2 r d) = ix2 (gl t r) d := by
    show (win0_3.rect t).emb (ix2 r d) = _
    funext a
    apply Fin.ext
    fin_cases a
    · refine (win0_3.rect_emb_val t _ (0 : Fin 2)).trans ?_
      rw [h3]
      show t.val * 512 + r.val = 512 * t.val + r.val
      omega
    · refine (win0_3.rect_emb_val t _ (1 : Fin 2)).trans ?_
      rw [h3]
      show 0 * 1024 + d.val = d.val
      omega
  rw [e]
  exact Finset.sum_congr rfl fun k _ => congrArg₂ (fun x y : EReal => x * y) (rows_eq m c t r k) (wk_eq m c t k d)

/-- The product of two numbers. -/
abbrev times (x y : EReal) : EReal := x * y

/-- The second array holds the scaled queries and the values. -/
theorem qvs_eq : (dats m 0 c).arrAt 4 cfg0.N = qvs (m ((c : Thread nD τ).loc main_arg0)) (m ((c : Thread nD τ).loc main_arg1)) := by
  refine (dats m 0 c).arrAt_eq_of_covers 4 _ (by decide +kernel) fun t hf y => ?_
  blk_simp
  rw [after0_4]
  obtain ⟨r, d, rfl⟩ : ∃ (r : Fin 2048) (d : Fin 512), y = ix2 r d := ⟨y 0, y 1, funext fun k => by fin_cases k <;> rfl⟩
  refine (congrFun (block4 _ _ _) (ix2 r d)).trans ?_
  have h4 := (index_eq t).2.2.2.2
  have e : (win0_4.blk t).view.emb (ix2 r d) = ix2 r (gl t d) := by
    show (win0_4.rect t).emb (ix2 r d) = _
    funext a
    apply Fin.ext
    fin_cases a
    · refine (win0_4.rect_emb_val t _ (0 : Fin 2)).trans ?_
      rw [h4]
      show 0 * 2048 + r.val = r.val
      omega
    · refine (win0_4.rect_emb_val t _ (1 : Fin 2)).trans ?_
      rw [h4]
      show t.val * 512 + d.val = 512 * t.val + d.val
      omega
  rw [e]
  have hs : ∀ n : Fin 3072, n.val = (if r.val < 1024 then r.val else 1024 + r.val) →
      (∑ k : Fin 1024, times (iblk m c 2 t (ix2 r k)) (iblk m c 0 t (ix2 d k)))
        = feat (m ((c : Thread nD τ).loc main_arg0)) (m ((c : Thread nD τ).loc main_arg1)) (gl t d) n := fun n hn =>
    Finset.sum_congr rfl fun k _ => (congrArg₂ times ((wqv_eq m c t r k).trans
      (congrArg (fun j => m ((c : Thread nD τ).loc main_arg1) (ix2 k j)) (Fin.ext hn.symm))) (rows_eq m c t d k)).trans (mul_comm _ _)
  show (if r.val < 1024 then (∑ k : Fin 1024, times (iblk m c 2 t (ix2 r k)) (iblk m c 0 t (ix2 d k))) * scale
    else ∑ k : Fin 1024, times (iblk m c 2 t (ix2 r k)) (iblk m c 0 t (ix2 d k)))
      = if r.val < 1024 then feat _ _ (gl t d) _ * scale else feat _ _ (gl t d) _
  by_cases hr : r.val < 1024
  · rw [if_pos hr, if_pos hr]
    exact congrArg (· * scale) (hs _ (if_pos hr).symm)
  · rw [if_neg hr, if_neg hr]
    exact hs _ (if_neg hr).symm

end Cert.Qkv
-- ==== Proof.Q.Ref.lean ====
/- The host reference of the query, key and value projections, read at one element. -/
module

public import proofs.«01_k».proof.Proof.Q.Kern
public import proofs.«01_k».proof.Proof.Gen.Reference3Ideal.Run
public import Idealize.ShloMosaic.Lib.Pointwise

@[expose] public section

set_option maxRecDepth 16384

noncomputable section

open Idealize.ShloMosaic Idealize.ShloMosaic.TcCoe Idealize.SL.Sem

namespace Cert.Qkv.Host

open Cert.Reference3Ideal Cert.Reference3Ideal.Gen

/-- The three projections side by side. -/
def proj (a : FVec Ideal S8x2048x1024 .f32) (w : FVec Ideal S1024x3072 .f32) : FVec Ideal S8x2048x3072 .f32 :=
  Host.dotGeneral dot_S8x2048x1024_S1024x3072_S8x2048x3072_2_0_01_1_n_n none a w

/-- The keys. -/
def refKeys (a : FVec Ideal S8x2048x1024 .f32) (w : FVec Ideal S1024x3072 .f32) : FVec Ideal S16384x1024 .bf16 :=
  truncf .bf16 (shapeCast S16384x1024 (extractStridedSlice S8x2048x1024 ![0, 0, 1024] (proj a w) slices_S8x2048x3072_S8x2048x1024_0_0_1024)
    shapeCasts_S8x2048x1024_S16384x1024) bitsLt_bf16_f32

/-- The queries, scaled. -/
def refQ (a : FVec Ideal S8x2048x1024 .f32) (w : FVec Ideal S1024x3072 .f32) : FVec Ideal S8x2048x1024 .f32 :=
  Host.divf (mulf (extractStridedSlice S8x2048x1024 ![0, 0, 0] (proj a w) slices_S8x2048x3072_S8x2048x1024_0_0_0)
      (broadcastInDim S8x2048x1024 ![] bcast_S_S8x2048x1024 (constant S_ .f32 0x3E000000#32)))
    (broadcastInDim S8x2048x1024 ![] bcast_S_S8x2048x1024 (Host.log (constant S_ .f32 0x40000000#32)))

/-- The scaled queries beside the values, turned round. -/
def refQv (a : FVec Ideal S8x2048x1024 .f32) (w : FVec Ideal S1024x3072 .f32) : FVec Ideal S2048x16384 .bf16 :=
  transpose S2048x16384 [1, 0] (truncf .bf16 (shapeCast S16384x2048 (concatenate S8x2048x2048 2
    [⟨S8x2048x1024, refQ a w⟩,
      ⟨S8x2048x1024, extractStridedSlice S8x2048x1024 ![0, 0, 2048] (proj a w) slices_S8x2048x3072_S8x2048x1024_0_0_2048⟩]
    concatenates_S8x2048x1024_S8x2048x1024_S8x2048x2048_d2) shapeCasts_S8x2048x2048_S16384x2048) bitsLt_bf16_f32)
    transposes_S16384x2048_S2048x16384_1_0

/-- The first printed constant is an eighth, -/
theorem eighth : Ideal.ofBits .f32 0x3E000000#32 = ((1 / 8 : ℝ) : EReal) := by
  simp [Ideal.ofBits, Ideal.ieee, -EReal.coe_mul]
  norm_num

/-- and the other is two. -/
theorem two : Ideal.ofBits .f32 0x40000000#32 = ((2 : ℝ) : EReal) := by
  simp [Ideal.ofBits, Ideal.ieee, -EReal.coe_mul]
  norm_num

/-- The logarithm of two is not nought. -/
theorem log_two_ne : Real.log 2 ≠ 0 := (Real.log_pos (by norm_num)).ne'

/-- An eighth of a number over the logarithm of two is the number scaled. -/
theorem scaled (x : EReal) : Ideal.div (x * Ideal.ofBits .f32 0x3E000000#32) (Ideal.log (Ideal.ofBits .f32 0x40000000#32)) = x * scale := by
  have hl : Ideal.log ((2 : ℝ) : EReal) = ((Real.log 2 : ℝ) : EReal) := by
    rw [Ideal.log_coe, if_neg (by norm_num)]
  rw [eighth, two, hl, Ideal.div_coe log_two_ne, mul_assoc]
  unfold scale
  rw [one_div (Real.log 2), EReal.coe_mul]

/-- One projected feature. -/
theorem proj_at (a : FVec Ideal S8x2048x1024 .f32) (w : FVec Ideal S1024x3072 .f32) (b : Fin 8) (s : Fin 2048) (n : Fin 3072) :
    (proj a w (ix3 b s n) : EReal) = ∑ k : Fin 1024, a (ix3 b s k) * w (ix2 k n) := by
  pointwise [proj]

/-- One scaled query entry. -/
theorem refQ_at (a : FVec Ideal S8x2048x1024 .f32) (w : FVec Ideal S1024x3072 .f32) (b : Fin 8) (s : Fin 2048) (n : Fin 1024) :
    (refQ a w (ix3 b s n) : EReal) = (∑ k : Fin 1024, a (ix3 b s k) * w (ix2 k (⟨n.val, by omega⟩ : Fin 3072))) * scale := by
  refine Eq.trans ?_ (scaled _)
  pointwise [refQ, proj]

/-- The reference's keys are the function `keys` of its arguments. -/
theorem refKeys_eq (a : FVec Ideal S8x2048x1024 .f32) (w : FVec Ideal S1024x3072 .f32) : refKeys a w = keys a w := by
  funext y
  obtain ⟨p, d, rfl⟩ : ∃ (p : Fin 16384) (d : Fin 1024), y = ix2 p d := ⟨y 0, y 1, funext fun k => by fin_cases k <;> rfl⟩
  show (refKeys a w (ix2 p d) : EReal) = feat a w p ⟨1024 + d.val, by omega⟩
  pointwise [refKeys, proj, feat]

/-- One entry of two arrays side by side, flattened and turned round. -/
theorem stack_at (x y : FVec Ideal S8x2048x1024 .f32) (r : Fin 2048) (p : Fin 16384) :
    (transpose S2048x16384 [1, 0] (truncf .bf16 (shapeCast S16384x2048 (concatenate S8x2048x2048 2
      [⟨S8x2048x1024, x⟩, ⟨S8x2048x1024, y⟩]
      concatenates_S8x2048x1024_S8x2048x1024_S8x2048x2048_d2) shapeCasts_S8x2048x2048_S16384x2048) bitsLt_bf16_f32)
      transposes_S16384x2048_S2048x16384_1_0 (ix2 r p) : EReal)
      = if h : r.val < 1024 then x (ix3 (⟨p.val / 2048, by omega⟩ : Fin 8) (⟨p.val % 2048, by omega⟩ : Fin 2048) ⟨r.val, h⟩)
        else y (ix3 (⟨p.val / 2048, by omega⟩ : Fin 8) (⟨p.val % 2048, by omega⟩ : Fin 2048) ⟨r.val - 1024, by omega⟩) := by
  pointwise []

/-- One value entry. -/
theorem refV_at (a : FVec Ideal S8x2048x1024 .f32) (w : FVec Ideal S1024x3072 .f32) (b : Fin 8) (s : Fin 2048) (n : Fin 1024) :
    (extractStridedSlice S8x2048x1024 ![0, 0, 2048] (proj a w) slices_S8x2048x3072_S8x2048x1024_0_0_2048 (ix3 b s n) : EReal)
      = ∑ k : Fin 1024, a (ix3 b s k) * w (ix2 k (⟨2048 + n.val, by omega⟩ : Fin 3072)) := by
  pointwise [proj]

/-- The reference's other array is the function `qvs` of its arguments. -/
theorem refQv_eq (a : FVec Ideal S8x2048x1024 .f32) (w : FVec Ideal S1024x3072 .f32) : refQv a w = qvs a w := by
  funext y
  obtain ⟨r, p, rfl⟩ : ∃ (r : Fin 2048) (p : Fin 16384), y = ix2 r p := ⟨y 0, y 1, funext fun k => by fin_cases k <;> rfl⟩
  refine (stack_at _ _ r p).trans ?_
  show _ = if r.val < 1024 then feat a w p ⟨r.val, _⟩ * scale else feat a w p ⟨1024 + r.val, _⟩
  by_cases hr : r.val < 1024
  · rw [dif_pos hr, if_pos hr]
    exact refQ_at a w _ _ _
  · rw [dif_neg hr, if_neg hr]
    refine (refV_at a w _ _ _).trans ?_
    have e : (⟨2048 + (r.val - 1024), by omega⟩ : Fin 3072) = ⟨1024 + r.val, by omega⟩ := Fin.ext (by simp only; omega)
    unfold feat
    rw [← e]

end Cert.Qkv.Host
-- ==== Proof.O.Kern.lean ====
/- The attention's output projection, with its residual and norm: what the call's array holds. -/
module

public import proofs.«01_k».proof.Proof.G.Spec
public import proofs.«01_k».proof.Proof.Gen.Kernel4Ideal.Value
public import Idealize.ShloMosaic.Lib.Pipeline.ValueKit

@[expose] public section

set_option maxRecDepth 16384

noncomputable section

open Idealize.ShloMosaic Idealize.ShloMosaic.TcCoe Idealize.SL.Sem

namespace Cert.Outp

open Cert.Gmlp (lit norm mean)

/-- One entry of the result: the norm of the residual plus the projected row. -/
def outp (o : Fin 1024 → EReal) (w : Fin 1024 → Fin 1024 → EReal) (x g b : Fin 1024 → EReal) (d : Fin 1024) : EReal :=
  norm 0x44800000#32 (fun k => lit 0x3FD744FD#32 * x k + ∑ n, o n * w n k) g b d

/-- A position's row of an activation. -/
def rowAt (a : Vec Ideal ⟨3, ![8, 2048, 1024]⟩ .f32) (p : Fin 16384) (k : Fin 1024) : EReal :=
  a (ix3 ⟨p.val / 2048, by omega⟩ ⟨p.val % 2048, by omega⟩ k)

/-- The whole result, out of the attention's output, the weight, the layer's input and the norm's vectors. -/
def layer (o : Vec Ideal ⟨3, ![8, 2048, 1024]⟩ .bf16) (w : Vec Ideal ⟨2, ![1024, 1024]⟩ .f32) (x : Vec Ideal ⟨3, ![8, 2048, 1024]⟩ .f32)
    (g b : Vec Ideal ⟨1, ![1024]⟩ .f32) : Vec Ideal ⟨2, ![16384, 1024]⟩ .f32 :=
  fun y => outp (rowAt o (y 0)) (fun n k => w (ix2 n k)) (rowAt x (y 0)) (fun k => g (ix1 k)) (fun k => b (ix1 k)) (y 1)

open Cert.Kernel4Ideal Cert.Kernel4Ideal.Gen

/-- A block of results, entry by entry. -/
theorem block (x0 : Vec Ideal S512x1024 .bf16) (x1 : Vec Ideal S1024x1024 .bf16) (x2 : Vec Ideal S512x1024 .f32)
    (x3 x4 : Vec Ideal S1x1024 .f32) (r : Fin 512) (d : Fin 1024) :
    (out0_5 x0 x1 x2 x3 x4 (ix2 r d) : EReal) = outp (fun n => x0 (ix2 r n)) (fun n k => x1 (ix2 n k)) (fun k => x2 (ix2 r k))
      (fun k => x3 (ix2 0 k)) (fun k => x4 (ix2 0 k)) d := by
  have z : (![0, 0] : Fin 2 → ℕ) = fun _ => 0 := by funext a; fin_cases a <;> rfl
  unfold out0_5
  rw [View.canon_unit_zero (S := S512x1024) z, View.ld_unit_zero (S := S512x1024) z, View.ld_unit_zero (S := S512x1024) z,
    View.ld_unit_zero (S := S1024x1024) z, View.ld_unit_zero (S := S1x1024) z, View.ld_unit_zero (S := S1x1024) z]
  pointwise [k0_pay1, outp, Cert.Gmlp.norm, Cert.Gmlp.mean]

variable (m : (ℓ : Loc nD τ sig) → Buf (Elt Ideal) ℓ) (c : Dev nD)

/-- The rows' blocks move down with the grid point, -/
theorem index_rows : ∀ t : Fin cfg0.N, win0_0.index t = ![t.val, 0] ∧ win0_2.index t = ![t.val, 0] ∧ win0_5.index t = ![t.val, 0] := by
  decide +kernel

/-- and the others stay. -/
theorem index_fixed : ∀ t : Fin cfg0.N, win0_1.index t = ![0, 0] ∧ win0_3.index t = ![0, 0] ∧ win0_4.index t = ![0, 0] := by
  decide +kernel

/-- A row of the block in the whole. -/
def gl (t : Fin cfg0.N) (r : Fin 512) : Fin 16384 :=
  ⟨512 * t.val + r.val, by have := t.isLt; have : cfg0.N = 32 := N_0; omega⟩

/-- The result array is the function `layer` of the arguments. -/
theorem arr_eq : (dats m 0 c).arrAt 5 cfg0.N = layer (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  obtain ⟨r, d, rfl⟩ : ∃ (r : Fin 512) (d : Fin 1024), y = ix2 r d := ⟨y 0, y 1, funext fun k => by fin_cases k <;> rfl⟩
  refine (block _ _ _ _ _ r d).trans ?_
  obtain ⟨h0, h2, h5⟩ := index_rows t
  obtain ⟨h1, h3, h4⟩ := index_fixed t
  have e : (win0_5.blk t).view.emb (ix2 r d) = ix2 (gl t r) d := by
    show (win0_5.rect t).emb (ix2 r d) = _
    funext a
    apply Fin.ext
    fin_cases a
    · refine (win0_5.rect_emb_val t _ (0 : Fin 2)).trans ?_
      rw [h5]
      show t.val * 512 + r.val = 512 * t.val + r.val
      omega
    · refine (win0_5.rect_emb_val t _ (1 : Fin 2)).trans ?_
      rw [h5]
      show 0 * 1024 + d.val = d.val
      omega
  rw [e]
  have e0 : (fun n => iblk m c 0 t (ix2 r n)) = rowAt (m ((c : Thread nD τ).loc main_arg0)) (gl t r) := by
    funext n
    unfold rowAt gl
    blk_point [iblk, V, h0]
  have e1 : (fun n k => iblk m c 1 t (ix2 n k)) = fun n k => m ((c : Thread nD τ).loc main_arg1) (ix2 n k) := by
    funext n k
    blk_point [iblk, V, h1]
  have e2 : (fun n => iblk m c 2 t (ix2 r n)) = rowAt (m ((c : Thread nD τ).loc main_arg2)) (gl t r) := by
    funext n
    unfold rowAt gl
    blk_point [iblk, V, h2]
  have e3 : (fun k => iblk m c 3 t (ix2 0 k)) = fun k => m ((c : Thread nD τ).loc main_arg3) (ix1 k) := by
    funext k
    blk_point [iblk, V, h3]
  have e4 : (fun k => iblk m c 4 t (ix2 0 k)) = fun k => m ((c : Thread nD τ).loc main_arg4) (ix1 k) := by
    funext k
    blk_point [iblk, V, h4]
  show outp (fun n => iblk m c 0 t (ix2 r n)) (fun n k => iblk m c 1 t (ix2 n k)) (fun n => iblk m c 2 t (ix2 r n))
    (fun k => iblk m c 3 t (ix2 0 k)) (fun k => iblk m c 4 t (ix2 0 k)) d = _
  rw [e0, e1, e2, e3, e4]
  rfl

end Cert.Outp
-- ==== Proof.O.Ref.lean ====
/- The host reference of the attention's output projection, read at one element. -/
module

public import proofs.«01_k».proof.Proof.O.Kern
public import proofs.«01_k».proof.Proof.Gen.Reference4Ideal.Run
public import Idealize.ShloMosaic.Lib.Pointwise

@[expose] public section

set_option maxRecDepth 16384

noncomputable section

open Idealize.ShloMosaic Idealize.ShloMosaic.TcCoe Idealize.SL.Sem

namespace Cert.Outp.Host

open Cert.Gmlp (lit)
open Cert.Reference4Ideal Cert.Reference4Ideal.Gen

/-- The residual plus the projected attention output. -/
def resid (o : FVec Ideal S8x2048x1024 .bf16) (w : FVec Ideal S1024x1024 .f32) (x : FVec Ideal S8x2048x1024 .f32) : FVec Ideal S8x2048x1024 .f32 :=
  addf (mulf (broadcastInDim S8x2048x1024 ![] bcast_S_S8x2048x1024 (constant S_ .f32 0x3FD744FD#32)) x)
    (Host.dotGeneral dot_S8x2048x1024_S1024x1024_S8x2048x1024_2_0_01_1_n_n none (extf .f32 o bitsLt_bf16_f32) w)

/-- The layer norm over the features. -/
def normed (v : FVec Ideal S8x2048x1024 .f32) (g b : FVec Ideal S1024 .f32) : FVec Ideal S8x2048x1024 .f32 :=
  let z := broadcastInDim S8x2048x1 ![] bcast_S_S8x2048x1 (constant S_ .f32 0x44800000#32)
  let mu := Host.divf (broadcastInDim S8x2048x1 ![0, 1] bcast_S8x2048_S8x2048x1_0_1
    (Host.reduceAdd v (constant S_ .f32 0x00000000#32) reducesTo_S8x2048x1024_S8x2048_d2 h_S_)) z
  let d := subf v (broadcastInDim S8x2048x1024 ![0, 1, 2] bcast_S8x2048x1_S8x2048x1024_0_1_2 mu)
  let s := Host.divf (broadcastInDim S8x2048x1 ![0, 1] bcast_S8x2048_S8x2048x1_0_1
    (Host.reduceAdd (mulf d d) (constant S_ .f32 0x00000000#32) reducesTo_S8x2048x1024_S8x2048_d2 h_S_)) z
  let q := Host.rsqrt (addf s (broadcastInDim S8x2048x1 ![] bcast_S_S8x2048x1 (constant S_ .f32 0x3727C5AC#32)))
  addf (mulf (mulf d (broadcastInDim S8x2048x1024 ![0, 1, 2] bcast_S8x2048x1_S8x2048x1024_0_1_2 q))
      (broadcastInDim S8x2048x1024 ![0, 1, 2] bcast_S1x1x1024_S8x2048x1024_0_1_2 (broadcastInDim S1x1x1024 ![2] bcast_S1024_S1x1x1024_2 g)))
    (broadcastInDim S8x2048x1024 ![0, 1, 2] bcast_S1x1x1024_S8x2048x1024_0_1_2 (broadcastInDim S1x1x1024 ![2] bcast_S1024_S1x1x1024_2 b))

/-- The reference's result. -/
def whole (o : FVec Ideal S8x2048x1024 .bf16) (w : FVec Ideal S1024x1024 .f32) (x : FVec Ideal S8x2048x1024 .f32)
    (g b : FVec Ideal S1024 .f32) : FVec Ideal S16384x1024 .f32 :=
  shapeCast S16384x1024 (normed (resid o w x) g b) shapeCasts_S8x2048x1024_S16384x1024

/-- The residual's entry is a scaled input plus a row of the attention output times a column of the weight. -/
theorem resid_at (o : FVec Ideal S8x2048x1024 .bf16) (w : FVec Ideal S1024x1024 .f32) (x : FVec Ideal S8x2048x1024 .f32) (b : Fin 8) (s : Fin 2048) (d : Fin 1024) :
    (resid o w x (ix3 b s d) : EReal) = lit 0x3FD744FD#32 * x (ix3 b s d) + ∑ n : Fin 1024, o (ix3 b s n) * w (ix2 n d) := by
  pointwise [resid]

/-- The layer norm's entry is the norm of its position's row. -/
theorem normed_at (v : FVec Ideal S8x2048x1024 .f32) (g b : FVec Ideal S1024 .f32) (p : Fin 8) (s : Fin 2048) (n : Fin 1024) :
    (normed v g b (ix3 p s n) : EReal)
      = Cert.Gmlp.norm 0x44800000#32 (fun k => v (ix3 p s k)) (fun k => g (ix1 k)) (fun k => b (ix1 k)) n := by
  pointwise [normed, Cert.Gmlp.norm, Cert.Gmlp.mean]

/-- The rows of the result are the batch's positions in turn. -/
theorem flat_at (x : FVec Ideal S8x2048x1024 .f32) (p : Fin 16384) (d : Fin 1024) :
    (shapeCast S16384x1024 x shapeCasts_S8x2048x1024_S16384x1024 (ix2 p d) : EReal)
      = x (ix3 (⟨p.val / 2048, by omega⟩ : Fin 8) (⟨p.val % 2048, by omega⟩ : Fin 2048) d) := by
  pointwise []

/-- The reference's result is the function `layer` of its arguments. -/
theorem whole_eq (o : FVec Ideal S8x2048x1024 .bf16) (w : FVec Ideal S1024x1024 .f32) (x : FVec Ideal S8x2048x1024 .f32)
    (g b : FVec Ideal S1024 .f32) : whole o w x g b = layer o w x g b := by
  funext y
  obtain ⟨p, d, rfl⟩ : ∃ (p : Fin 16384) (d : Fin 1024), y = ix2 p d := ⟨y 0, y 1, funext fun k => by fin_cases k <;> rfl⟩
  refine (flat_at _ p d).trans ((normed_at _ g b _ _ d).trans ?_)
  refine Eq.trans ?_ (show outp (rowAt o p) (fun n k => w (ix2 n k)) (rowAt x p) (fun k => g (ix1 k)) (fun k => b (ix1 k)) d
    = layer o w x g b (ix2 p d) from rfl)
  unfold outp
  congr 1
  funext k
  exact resid_at o w x _ _ k

end Cert.Outp.Host
-- ==== Proof.O.Same.lean ====
/- The kernel and its ideal program are one program: part by part, up to the last. -/
module
public import proofs.«01_k».proof.Proof.Gen.Kernel4
public import proofs.«01_k».proof.Proof.Gen.Kernel4Ideal
@[expose] public section
set_option maxHeartbeats 1000000
open Idealize.ShloMosaic
noncomputable section
variable {F : FTy → Type} [FloatOps F]
namespace Cert.Same4
/-- The two programs have the same buffers. -/
theorem sig_same : Cert.Kernel4.sig = Cert.Kernel4Ideal.sig := rfl
/-- The two programs' kernel functions are the same. -/
theorem body_same : @Cert.Kernel4.cc0_moba_out_ln F _ _ = @Cert.Kernel4Ideal.cc0_moba_out_ln F _ _ := rfl
/-- The two programs' bodies are the same. -/
theorem defs₀_same : @Cert.Kernel4.defs₀ F _ _ = @Cert.Kernel4Ideal.defs₀ F _ _ := by
  refine congrArg Defs.onTc (funext fun l => funext fun x => ?_)
  match l with
  | (0 : Fin 1) =>
    obtain ⟨t, s⟩ : Fin Cert.Kernel4.grid0.N × ((w : Fin 6) → Fin (Cert.Kernel4.spec0 w).nbuf) := x
    rfl
/-- The two programs' grids, as a family, are the same. -/
theorem pcfgs_same : @Cert.Kernel4.pcfgs F _ = @Cert.Kernel4Ideal.pcfgs F _ := rfl
/-- The two programs' functions are the same. -/
theorem defs_same : @Cert.Kernel4.defs F _ _ = @Cert.Kernel4Ideal.defs F _ _ := congrArg (Pipeline.defs Cert.Kernel4Ideal.pcfgs) defs₀_same
/-- The two programs' main functions are the same. -/
theorem main_same : @Cert.Kernel4.main F _ _ = @Cert.Kernel4Ideal.main F _ _ := rfl
end Cert.Same4
end
-- ==== Proof.E.Kit.lean ====
/- The experts' call: running a program on a core's thread, and the words of its tables. -/
module

public import proofs.«01_k».proof.Defs
public import proofs.«01_k».proof.Proof.Gen.Kernel5Ideal
public import proofs.«01_k».proof.Proof.Gen.Kernel5Ideal.Skeleton
public import proofs.«01_k».proof.Proof.Gen.Kernel5Ideal.Launch
public import Idealize.ShloMosaic.Lib.Transfers
public import Idealize.ShloMosaic.Lib.Exec
public import Idealize.ShloMosaic.Lib.Pipeline.FrameValue
public import Idealize.ShloMosaic.Lib.Pipeline.ValueKit.Geometry
public import Idealize.ShloMosaic.Lib.Tactic
public import Idealize.ShloMosaic.Lib.ValueIdxCore

@[expose] public section

set_option maxRecDepth 16384

noncomputable section

namespace Cert.Kernel5Ideal.Experts

open Cert.Kernel5Ideal Cert.Kernel5Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Running a program of this launch on a core's thread. -/
abbrev wpc (c : Dev nD) {α : Type} (p : Prog (TpuEff nD τ sig (Elt F) Λ₀ .tc) α) (Q : α → sProp (MT nD τ sig Unit (Elt F) ℕ (Pipeline.UD sig nD τ) ℕ)) :
    sProp (MT nD τ sig Unit (Elt F) ℕ (Pipeline.UD sig nD τ) ℕ) :=
  wp frame (wpE (defs₀ (F := F)) Variants.none (c : Thread nD τ) none) Set.univ p Q

/-- A program run up to a point, and what holds there run on from. -/
theorem wpc_cut (c : Dev nD) {α β : Type} {P : sProp 𝕄} {p : Prog (TpuEff nD τ sig (Elt F) Λ₀ .tc) α} {R : α → sProp 𝕄} (h : P ⊢ wpc c p R)
    {kk : α → Prog (TpuEff nD τ sig (Elt F) Λ₀ .tc) β} {Q : β → sProp 𝕄} :
    P ⊢ iprop((∀ a, R a -∗ wpc c (kk a) Q) -∗ wpc c (p >>= kk) Q) := by
  show P ⊢ iprop((∀ a, R a -∗ wpc c (kk a) Q) -∗ wp frame (wpE (defs₀ (F := F)) Variants.none (c : Thread nD τ) none) Set.univ (p >>= kk) Q)
  rw [wp_bind]
  iintro HP Hk
  iapply (wp_wand_r frame (wpE (defs₀ (F := F)) Variants.none (c : Thread nD τ) none) Set.univ)
  isplitl [HP]
  · iapply h; iexact HP
  iexact Hk

/-- The same, nothing following. -/
theorem wpc_cut_last (c : Dev nD) {α : Type} {P : sProp 𝕄} {p : Prog (TpuEff nD τ sig (Elt F) Λ₀ .tc) α} {R Q : α → sProp 𝕄} (h : P ⊢ wpc c p R) :
    P ⊢ iprop((∀ a, R a -∗ Q a) -∗ wpc c p Q) := by
  iintro HP Hk
  iapply (wp_wand_r frame (wpE (defs₀ (F := F)) Variants.none (c : Thread nD τ) none) Set.univ)
  isplitl [HP]
  · iapply h; iexact HP
  iexact Hk

/-- A condition that holds: its branch runs. -/
theorem wpc_take (c : Dev nD) {p : Prop} [Decidable p] {α : Type} {P : p → Prog (TpuEff nD τ sig (Elt F) Λ₀ .tc) α} {R : ¬ p → Prog (TpuEff nD τ sig (Elt F) Λ₀ .tc) α}
    {Q : α → sProp 𝕄} (h : p) : wpc c (P h) Q ⊢ wpc c (if h : p then P h else R h) Q := by
  rw [dif_pos h]
/-- A condition that fails: its branch is skipped. -/
theorem wpc_skip (c : Dev nD) {p : Prop} [Decidable p] {α : Type} {P : p → Prog (TpuEff nD τ sig (Elt F) Λ₀ .tc) α} {R : ¬ p → Prog (TpuEff nD τ sig (Elt F) Λ₀ .tc) α}
    {Q : α → sProp 𝕄} (h : ¬ p) : wpc c (R h) Q ⊢ wpc c (if h : p then P h else R h) Q := by
  rw [dif_neg h]

/-! ## The words of the tables -/

abbrev ℓb (c : Dev nD) : Loc nD τ sig := (c : Thread nD τ).loc main_arg0
abbrev ℓu (c : Dev nD) : Loc nD τ sig := (c : Thread nD τ).loc main_arg1
abbrev ℓx (c : Dev nD) : Loc nD τ sig := (c : Thread nD τ).loc main_arg2
abbrev ℓn (c : Dev nD) : Loc nD τ sig := (c : Thread nD τ).loc main_arg3

/-- A load from a table of forty words. -/
theorem word40 (f : S40.Idx → BitVec 32) (t : ℕ) (h : ∀ a, ![t] a + S1.size a ≤ S40.size a) (ht : t < 40) (x : (Rect.unit (s := S40) ![t] S1.size h).shape.Idx) :
    f ((Rect.unit (s := S40) ![t] S1.size h).emb x) = f (ix1 ⟨t, ht⟩) := by
  congr 1
  funext a
  refine Fin.ext ?_
  obtain rfl : a = (0 : Fin 1) := Subsingleton.elim _ _
  rw [ValueKit.rect_emb_unit_val]
  have hx : (x (0 : Fin 1)).val < 1 := (x (0 : Fin 1)).isLt
  show t + (x (0 : Fin 1)).val = t
  omega

/-- A load of the number of used blocks. -/
theorem word1 (f : S1.Idx → BitVec 32) (h : ∀ a, ![0] a + S1.size a ≤ S1.size a) (x : (Rect.unit (s := S1) ![0] S1.size h).shape.Idx) :
    f ((Rect.unit (s := S1) ![0] S1.size h).emb x) = f (ix1 0) := by
  congr 1
  funext a
  refine Fin.ext ?_
  obtain rfl : a = (0 : Fin 1) := Subsingleton.elim _ _
  rw [ValueKit.rect_emb_unit_val]
  have hx : (x (0 : Fin 1)).val < 1 := (x (0 : Fin 1)).isLt
  show 0 + (x (0 : Fin 1)).val = 0
  omega

/-- A word of the table of the blocks' groups. -/
theorem load_bg (c : Dev nD) (f : Buf (Elt F) (ℓb c)) (q : PosShare TreeShare) (o : Fin 1 → ℕ) (h : ∀ a, o a + S1.size a ≤ S40.size a)
    (t : ℕ) (ht : t < 40) (e : o = ![t]) {α : Type} {kk : Elt F .i32 → Prog (TpuEff nD τ sig (Elt F) Λ₀ .tc) α} {Q : α → sProp 𝕄} :
    (ℓb c ↦[Finset.univ]{q} f : sProp 𝕄) ⊢ iprop(((ℓb c ↦[Finset.univ]{q} f) -∗ wpc c (kk ((f : S40.Idx → BitVec 32) (ix1 ⟨t, ht⟩))) Q)
      -∗ wpc c (smemLoad (Memref.whole main_arg0) (Rect.unit (s := S40) o S1.size h) numel1_S1 rfl >>= kk) Q) := by
  subst e
  unfold smemLoad smemLoadElt
  iintro H Hk
  iapply (wp_load_rect Variants.none (c : Thread nD τ) none Set.univ (m := Memref.whole main_arg0) (r := Rect.unit (s := S40) ![t] S1.size h) (S := Finset.univ) (q := q) (f := f) (Finset.subset_univ _)) $$ H
  iintro H
  ispecialize Hk $$ H
  rw [← word40 f t h ht (Shape.Idx.first (numel1_S1.symm ▸ Nat.one_pos))]
  iexact Hk

/-- The number of blocks in use. -/
theorem load_used (c : Dev nD) (f : Buf (Elt F) (ℓu c)) (q : PosShare TreeShare) (h : ∀ a, ![0] a + S1.size a ≤ S1.size a)
    {α : Type} {kk : Elt F .i32 → Prog (TpuEff nD τ sig (Elt F) Λ₀ .tc) α} {Q : α → sProp 𝕄} :
    (ℓu c ↦[Finset.univ]{q} f : sProp 𝕄) ⊢ iprop(((ℓu c ↦[Finset.univ]{q} f) -∗ wpc c (kk ((f : S1.Idx → BitVec 32) (ix1 0))) Q)
      -∗ wpc c (smemLoad (Memref.whole main_arg1) (Rect.unit (s := S1) ![0] S1.size h) numel1_S1 rfl >>= kk) Q) := by
  unfold smemLoad smemLoadElt
  iintro H Hk
  iapply (wp_load_rect Variants.none (c : Thread nD τ) none Set.univ (m := Memref.whole main_arg1) (r := Rect.unit (s := S1) ![0] S1.size h) (S := Finset.univ) (q := q) (f := f) (Finset.subset_univ _)) $$ H
  iintro H
  ispecialize Hk $$ H
  rw [← word1 f h (Shape.Idx.first (numel1_S1.symm ▸ Nat.one_pos))]
  iexact Hk

/-- A word of the table of the groups to come. -/
theorem load_nxt (c : Dev nD) (f : Buf (Elt F) (ℓx c)) (q : PosShare TreeShare) (o : Fin 1 → ℕ) (h : ∀ a, o a + S1.size a ≤ S40.size a)
    (t : ℕ) (ht : t < 40) (e : o = ![t]) {α : Type} {kk : Elt F .i32 → Prog (TpuEff nD τ sig (Elt F) Λ₀ .tc) α} {Q : α → sProp 𝕄} :
    (ℓx c ↦[Finset.univ]{q} f : sProp 𝕄) ⊢ iprop(((ℓx c ↦[Finset.univ]{q} f) -∗ wpc c (kk ((f : S40.Idx → BitVec 32) (ix1 ⟨t, ht⟩))) Q)
      -∗ wpc c (smemLoad (Memref.whole main_arg2) (Rect.unit (s := S40) o S1.size h) numel1_S1 rfl >>= kk) Q) := by
  subst e
  unfold smemLoad smemLoadElt
  iintro H Hk
  iapply (wp_load_rect Variants.none (c : Thread nD τ) none Set.univ (m := Memref.whole main_arg2) (r := Rect.unit (s := S40) ![t] S1.size h) (S := Finset.univ) (q := q) (f := f) (Finset.subset_univ _)) $$ H
  iintro H
  ispecialize Hk $$ H
  rw [← word40 f t h ht (Shape.Idx.first (numel1_S1.symm ▸ Nat.one_pos))]
  iexact Hk

/-- A word of the table of the blocks' fillings. -/
theorem load_cnt (c : Dev nD) (f : Buf (Elt F) (ℓn c)) (q : PosShare TreeShare) (o : Fin 1 → ℕ) (h : ∀ a, o a + S1.size a ≤ S40.size a)
    (t : ℕ) (ht : t < 40) (e : o = ![t]) {α : Type} {kk : Elt F .i32 → Prog (TpuEff nD τ sig (Elt F) Λ₀ .tc) α} {Q : α → sProp 𝕄} :
    (ℓn c ↦[Finset.univ]{q} f : sProp 𝕄) ⊢ iprop(((ℓn c ↦[Finset.univ]{q} f) -∗ wpc c (kk ((f : S40.Idx → BitVec 32) (ix1 ⟨t, ht⟩))) Q)
      -∗ wpc c (smemLoad (Memref.whole main_arg3) (Rect.unit (s := S40) o S1.size h) numel1_S1 rfl >>= kk) Q) := by
  subst e
  unfold smemLoad smemLoadElt
  iintro H Hk
  iapply (wp_load_rect Variants.none (c : Thread nD τ) none Set.univ (m := Memref.whole main_arg3) (r := Rect.unit (s := S40) ![t] S1.size h) (S := Finset.univ) (q := q) (f := f) (Finset.subset_univ _)) $$ H
  iintro H
  ispecialize Hk $$ H
  rw [← word40 f t h ht (Shape.Idx.first (numel1_S1.symm ▸ Nat.one_pos))]
  iexact Hk

end Cert.Kernel5Ideal.Experts
-- ==== Proof.E.Spec.lean ====
/- The experts' call: what a block of rows is taken to, over any floats: the steps of a full block's and of a half
   block's chain, and the block they leave. -/
module

public import proofs.«01_k».proof.Proof.E.Kit

@[expose] public section

set_option maxRecDepth 65536

noncomputable section

namespace Cert.Kernel5Ideal.Experts

open Cert.Kernel5Ideal Cert.Kernel5Ideal.Gen
open Idealize.ShloMosaic Idealize.ShloMosaic.TcCoe Idealize.ShloMosaic.Tactic Idealize.ShloMosaic.ValueIdx

variable {F : FTy → Type} [FloatOps F]

/-- Every sixteenth row from row `o` on: the tokens' parts at sublane `o`. -/
def rows512 (x : Vec F S8192x128 .f32) (o : ℕ) (h : ∀ a : Fin 2, S512x128.size a = 0 ∨ (![o, 0] : Fin 2 → ℕ) a + (![16, 1] : Fin 2 → ℕ) a * (S512x128.size a - 1) < S8192x128.size a) : Vec F S512x128 .f32 :=
  fun y => x ((⟨![o, 0], S512x128.size, ![16, 1], h⟩ : LoadRect S8192x128).idx y)
def rows256 (x : Vec F S8192x128 .f32) (o : ℕ) (h : ∀ a : Fin 2, S256x128.size a = 0 ∨ (![o, 0] : Fin 2 → ℕ) a + (![16, 1] : Fin 2 → ℕ) a * (S256x128.size a - 1) < S8192x128.size a) : Vec F S256x128 .f32 :=
  fun y => x ((⟨![o, 0], S256x128.size, ![16, 1], h⟩ : LoadRect S8192x128).idx y)

/-- One expert's matrix out of a group's. -/
def wide {e : EltTy} (W : S8x1024x256.Idx → Elt F e) (k : ℕ) (h : ∀ a, (![k, 0, 0] : Fin 3 → ℕ) a + S1x1024x256.size a ≤ S8x1024x256.size a) : S1x1024x256.Idx → Elt F e :=
  fun y => W ((Rect.unit (s := S8x1024x256) ![k, 0, 0] S1x1024x256.size h).toLoadRect.idx y)
def tall {e : EltTy} (W : S8x256x1024.Idx → Elt F e) (k : ℕ) (h : ∀ a, (![k, 0, 0] : Fin 3 → ℕ) a + S1x256x1024.size a ≤ S8x256x1024.size a) : S1x256x1024.Idx → Elt F e :=
  fun y => W ((Rect.unit (s := S8x256x1024) ![k, 0, 0] S1x256x1024.size h).toLoadRect.idx y)

namespace Full

def v30 (x : Vec F S8192x128 .f32) : Vec F S512x128 .f32 := rows512 x 0 inb_S8192x128_S512x128_0_0_s_16_1
def v31 (x : Vec F S8192x128 .f32) : Vec F S512x128 .f32 := rows512 x 1 inb_S8192x128_S512x128_1_0_s_16_1
def v32 (x : Vec F S8192x128 .f32) : Vec F S512x128 .f32 := rows512 x 2 inb_S8192x128_S512x128_2_0_s_16_1
def v33 (x : Vec F S8192x128 .f32) : Vec F S512x128 .f32 := rows512 x 3 inb_S8192x128_S512x128_3_0_s_16_1
def v34 (x : Vec F S8192x128 .f32) : Vec F S512x128 .f32 := rows512 x 4 inb_S8192x128_S512x128_4_0_s_16_1
def v35 (x : Vec F S8192x128 .f32) : Vec F S512x128 .f32 := rows512 x 5 inb_S8192x128_S512x128_5_0_s_16_1
def v36 (x : Vec F S8192x128 .f32) : Vec F S512x128 .f32 := rows512 x 6 inb_S8192x128_S512x128_6_0_s_16_1
def v37 (x : Vec F S8192x128 .f32) : Vec F S512x128 .f32 := rows512 x 7 inb_S8192x128_S512x128_7_0_s_16_1
def v40 (x : Vec F S8192x128 .f32) : Vec F S512x128 .f32 := rows512 x 8 inb_S8192x128_S512x128_8_0_s_16_1
def v45 (W1 : Vec F S8x1024x256 .bf16) : Vec F S1x1024x256 .bf16 := wide W1 0 inb_S8x1024x256_S1x1024x256_0_0_0
def v48 (W3 : Vec F S8x1024x256 .bf16) : Vec F S1x1024x256 .bf16 := wide W3 0 inb_S8x1024x256_S1x1024x256_0_0_0
def v39 (x : Vec F S8192x128 .f32) : FVec F S512x1024 .bf16 := k0_pay35 (v30 x) (v31 x) (v32 x) (v33 x) (v34 x) (v35 x) (v36 x) (v37 x)
def v41 (x : Vec F S8192x128 .f32) : FVec F S512x1 .f32 := k0_pay36 (v40 x)
def v42 (x : Vec F S8192x128 .f32) : FVec F S512x1 .f32 := k0_pay37 (v40 x)
def v43 (x : Vec F S8192x128 .f32) : FVec F S512x1 .f32 := k0_pay38 (v40 x)
def v44 (x : Vec F S8192x128 .f32) : FVec F S512x1 .f32 := k0_pay39 (v40 x)
def v47 (x : Vec F S8192x128 .f32) (W1 : Vec F S8x1024x256 .bf16) : FVec F S512x256 .f32 := k0_pay40 (v30 x) (v31 x) (v32 x) (v33 x) (v34 x) (v35 x) (v36 x) (v37 x) (v45 W1)
def v50 (x : Vec F S8192x128 .f32) (W3 : Vec F S8x1024x256 .bf16) : FVec F S512x256 .f32 := k0_pay41 (v30 x) (v31 x) (v32 x) (v33 x) (v34 x) (v35 x) (v36 x) (v37 x) (v48 W3)
def v53 (x : Vec F S8192x128 .f32) : FVec F S512x1 .f32 := k0_pay42 (v40 x)
def v58 (x : Vec F S8192x128 .f32) (W1 : Vec F S8x1024x256 .bf16) : FVec F S512x256 .f32 := k0_pay43 (v30 x) (v31 x) (v32 x) (v33 x) (v34 x) (v35 x) (v36 x) (v37 x) (v45 W1)
def v59 : FVec F S512x256 .f32 := k0_pay44 (F := F)
def v75 (W2 : Vec F S8x256x1024 .bf16) : Vec F S1x256x1024 .bf16 := tall W2 0 inb_S8x256x1024_S1x256x1024_0_0_0
def v78 (W1 : Vec F S8x1024x256 .bf16) : Vec F S1x1024x256 .bf16 := wide W1 1 inb_S8x1024x256_S1x1024x256_1_0_0
def v81 (W3 : Vec F S8x1024x256 .bf16) : Vec F S1x1024x256 .bf16 := wide W3 1 inb_S8x1024x256_S1x1024x256_1_0_0
def v77 (x : Vec F S8192x128 .f32) (W1 : Vec F S8x1024x256 .bf16) (W3 : Vec F S8x1024x256 .bf16) (W2 : Vec F S8x256x1024 .bf16) : FVec F S512x1024 .f32 := k0_pay45 (v41 x) (v42 x) (v47 x W1) (v50 x W3) (v53 x) (v58 x W1) v59 (v75 W2)
def v97 (x : Vec F S8192x128 .f32) (W1 : Vec F S8x1024x256 .bf16) (W3 : Vec F S8x1024x256 .bf16) : FVec F S512x256 .f32 := k0_pay46 (v39 x) (v41 x) (v43 x) (v44 x) (v78 W1) (v81 W3)
def v99 (x : Vec F S8192x128 .f32) : IVec S512x1 1 := k0_pay47 (v41 x)
def v108 (W2 : Vec F S8x256x1024 .bf16) : Vec F S1x256x1024 .bf16 := tall W2 1 inb_S8x256x1024_S1x256x1024_1_0_0
def v112 (W1 : Vec F S8x1024x256 .bf16) : Vec F S1x1024x256 .bf16 := wide W1 2 inb_S8x1024x256_S1x1024x256_2_0_0
def v115 (W3 : Vec F S8x1024x256 .bf16) : Vec F S1x1024x256 .bf16 := wide W3 2 inb_S8x1024x256_S1x1024x256_2_0_0
def cst_69 : F .f32 := Scalar.ofBits .f32 0x00000000#32
def v111 (x : Vec F S8192x128 .f32) (W1 : Vec F S8x1024x256 .bf16) (W3 : Vec F S8x1024x256 .bf16) (W2 : Vec F S8x256x1024 .bf16) : FVec F S512x1024 .f32 := k0_pay48 (v42 x) (v77 x W1 W3 W2) (v97 x W1 W3) (v99 x) (v108 W2)
def v131 (x : Vec F S8192x128 .f32) (W1 : Vec F S8x1024x256 .bf16) (W3 : Vec F S8x1024x256 .bf16) : FVec F S512x256 .f32 := k0_pay49 (v39 x) (v41 x) (v43 x) (v44 x) (v112 W1) (v115 W3)
def v138 (x : Vec F S8192x128 .f32) : IVec S512x256 1 := k0_pay50 (v41 x) (v42 x)
def v142 (W2 : Vec F S8x256x1024 .bf16) : Vec F S1x256x1024 .bf16 := tall W2 2 inb_S8x256x1024_S1x256x1024_2_0_0
def v146 (W1 : Vec F S8x1024x256 .bf16) : Vec F S1x1024x256 .bf16 := wide W1 3 inb_S8x1024x256_S1x1024x256_3_0_0
def v149 (W3 : Vec F S8x1024x256 .bf16) : Vec F S1x1024x256 .bf16 := wide W3 3 inb_S8x1024x256_S1x1024x256_3_0_0
def v176 (W2 : Vec F S8x256x1024 .bf16) : Vec F S1x256x1024 .bf16 := tall W2 3 inb_S8x256x1024_S1x256x1024_3_0_0
def v145 (x : Vec F S8192x128 .f32) (W1 : Vec F S8x1024x256 .bf16) (W3 : Vec F S8x1024x256 .bf16) (W2 : Vec F S8x256x1024 .bf16) : FVec F S512x1024 .f32 := k0_pay51 (v111 x W1 W3 W2) (v131 x W1 W3) cst_69 (v138 x) (v142 W2)
def v175 (x : Vec F S8192x128 .f32) (W1 : Vec F S8x1024x256 .bf16) (W3 : Vec F S8x1024x256 .bf16) : FVec F S512x256 .bf16 := k0_pay52 (v39 x) (v41 x) (v42 x) (v43 x) (v44 x) (v146 W1) (v149 W3)
def v180 (W1 : Vec F S8x1024x256 .bf16) : Vec F S1x1024x256 .bf16 := wide W1 4 inb_S8x1024x256_S1x1024x256_4_0_0
def v183 (W3 : Vec F S8x1024x256 .bf16) : Vec F S1x1024x256 .bf16 := wide W3 4 inb_S8x1024x256_S1x1024x256_4_0_0
def v210 (W2 : Vec F S8x256x1024 .bf16) : Vec F S1x256x1024 .bf16 := tall W2 4 inb_S8x256x1024_S1x256x1024_4_0_0
def v213 (x : Vec F S8192x128 .f32) (W1 : Vec F S8x1024x256 .bf16) (W3 : Vec F S8x1024x256 .bf16) (W2 : Vec F S8x256x1024 .bf16) : FVec F S512x1024 .f32 := k0_pay53 (v39 x) (v41 x) (v42 x) (v43 x) (v44 x) (v145 x W1 W3 W2) (v175 x W1 W3) (v176 W2) (v180 W1) (v183 W3) (v210 W2)
def v214 (W1 : Vec F S8x1024x256 .bf16) : Vec F S1x1024x256 .bf16 := wide W1 5 inb_S8x1024x256_S1x1024x256_5_0_0
def v217 (W3 : Vec F S8x1024x256 .bf16) : Vec F S1x1024x256 .bf16 := wide W3 5 inb_S8x1024x256_S1x1024x256_5_0_0
def v244 (W2 : Vec F S8x256x1024 .bf16) : Vec F S1x256x1024 .bf16 := tall W2 5 inb_S8x256x1024_S1x256x1024_5_0_0
def v248 (W1 : Vec F S8x1024x256 .bf16) : Vec F S1x1024x256 .bf16 := wide W1 6 inb_S8x1024x256_S1x1024x256_6_0_0
def v247 (x : Vec F S8192x128 .f32) (W1 : Vec F S8x1024x256 .bf16) (W3 : Vec F S8x1024x256 .bf16) (W2 : Vec F S8x256x1024 .bf16) : FVec F S512x1024 .f32 := k0_pay54 (v39 x) (v41 x) (v42 x) (v43 x) (v44 x) (v213 x W1 W3 W2) (v214 W1) (v217 W3) (v244 W2)
def v250 (x : Vec F S8192x128 .f32) (W1 : Vec F S8x1024x256 .bf16) : FVec F S512x256 .f32 := k0_pay55 (v39 x) (v248 W1)
def v251 (W3 : Vec F S8x1024x256 .bf16) : Vec F S1x1024x256 .bf16 := wide W3 6 inb_S8x1024x256_S1x1024x256_6_0_0
def v278 (W2 : Vec F S8x256x1024 .bf16) : Vec F S1x256x1024 .bf16 := tall W2 6 inb_S8x256x1024_S1x256x1024_6_0_0
def v282 (W1 : Vec F S8x1024x256 .bf16) : Vec F S1x1024x256 .bf16 := wide W1 7 inb_S8x1024x256_S1x1024x256_7_0_0
def v285 (W3 : Vec F S8x1024x256 .bf16) : Vec F S1x1024x256 .bf16 := wide W3 7 inb_S8x1024x256_S1x1024x256_7_0_0
def v281 (x : Vec F S8192x128 .f32) (W1 : Vec F S8x1024x256 .bf16) (W3 : Vec F S8x1024x256 .bf16) (W2 : Vec F S8x256x1024 .bf16) : FVec F S512x1024 .f32 := k0_pay56 (v39 x) (v41 x) (v42 x) (v43 x) (v44 x) (v247 x W1 W3 W2) (v250 x W1) (v251 W3) (v278 W2)
def v284 (x : Vec F S8192x128 .f32) (W1 : Vec F S8x1024x256 .bf16) : FVec F S512x256 .f32 := k0_pay57 (v39 x) (v282 W1)
def v287 (x : Vec F S8192x128 .f32) (W3 : Vec F S8x1024x256 .bf16) : FVec F S512x256 .f32 := k0_pay58 (v39 x) (v285 W3)
def v289 (x : Vec F S8192x128 .f32) : IVec S512x1 1 := k0_pay59 (v41 x)
def v312 (W2 : Vec F S8x256x1024 .bf16) : Vec F S1x256x1024 .bf16 := tall W2 7 inb_S8x256x1024_S1x256x1024_7_0_0
def o0 (x : Vec F S8192x128 .f32) (W1 : Vec F S8x1024x256 .bf16) (W3 : Vec F S8x1024x256 .bf16) (W2 : Vec F S8x256x1024 .bf16) : FVec F S512x128 .f32 := k0_pay61 (v41 x) (v42 x) (v43 x) (v44 x) (v281 x W1 W3 W2) (v284 x W1) (v287 x W3) (v289 x) (v312 W2)
def o1 (x : Vec F S8192x128 .f32) (W1 : Vec F S8x1024x256 .bf16) (W3 : Vec F S8x1024x256 .bf16) (W2 : Vec F S8x256x1024 .bf16) : FVec F S512x128 .f32 := k0_pay62 (v41 x) (v42 x) (v43 x) (v44 x) (v281 x W1 W3 W2) (v284 x W1) (v287 x W3) (v289 x) (v312 W2)
def o2 (x : Vec F S8192x128 .f32) (W1 : Vec F S8x1024x256 .bf16) (W3 : Vec F S8x1024x256 .bf16) (W2 : Vec F S8x256x1024 .bf16) : FVec F S512x128 .f32 := k0_pay63 (v41 x) (v42 x) (v43 x) (v44 x) (v281 x W1 W3 W2) (v284 x W1) (v287 x W3) (v289 x) (v312 W2)
def o3 (x : Vec F S8192x128 .f32) (W1 : Vec F S8x1024x256 .bf16) (W3 : Vec F S8x1024x256 .bf16) (W2 : Vec F S8x256x1024 .bf16) : FVec F S512x128 .f32 := k0_pay64 (v41 x) (v42 x) (v43 x) (v44 x) (v281 x W1 W3 W2) (v284 x W1) (v287 x W3) (v289 x) (v312 W2)
def v315 (x : Vec F S8192x128 .f32) (W1 : Vec F S8x1024x256 .bf16) (W3 : Vec F S8x1024x256 .bf16) (W2 : Vec F S8x256x1024 .bf16) : FVec F S512x1024 .f32 := k0_pay60 (v41 x) (v42 x) (v43 x) (v44 x) (v281 x W1 W3 W2) (v284 x W1) (v287 x W3) (v289 x) (v312 W2)
def o4 (x : Vec F S8192x128 .f32) (W1 : Vec F S8x1024x256 .bf16) (W3 : Vec F S8x1024x256 .bf16) (W2 : Vec F S8x256x1024 .bf16) : FVec F S512x128 .f32 := k0_pay65 (v41 x) (v42 x) (v43 x) (v44 x) (v281 x W1 W3 W2) (v284 x W1) (v287 x W3) (v289 x) (v312 W2)
def o5 (x : Vec F S8192x128 .f32) (W1 : Vec F S8x1024x256 .bf16) (W3 : Vec F S8x1024x256 .bf16) (W2 : Vec F S8x256x1024 .bf16) : FVec F S512x128 .f32 := k0_pay5 (v315 x W1 W3 W2)
def o6 (x : Vec F S8192x128 .f32) (W1 : Vec F S8x1024x256 .bf16) (W3 : Vec F S8x1024x256 .bf16) (W2 : Vec F S8x256x1024 .bf16) : FVec F S512x128 .f32 := k0_pay6 (v315 x W1 W3 W2)
def o7 (x : Vec F S8192x128 .f32) (W1 : Vec F S8x1024x256 .bf16) (W3 : Vec F S8x1024x256 .bf16) (W2 : Vec F S8x256x1024 .bf16) : FVec F S512x128 .f32 := k0_pay7 (v315 x W1 W3 W2)
def out (x : Vec F S8192x128 .f32) (W1 : Vec F S8x1024x256 .bf16) (W3 : Vec F S8x1024x256 .bf16) (W2 : Vec F S8x256x1024 .bf16) : ℕ → FVec F S512x128 .f32
  | 0 => o0 x W1 W3 W2
  | 1 => o1 x W1 W3 W2
  | 2 => o2 x W1 W3 W2
  | 3 => o3 x W1 W3 W2
  | 4 => o4 x W1 W3 W2
  | 5 => o5 x W1 W3 W2
  | 6 => o6 x W1 W3 W2
  | _ => o7 x W1 W3 W2

end Full

namespace Half

def v30 (x : Vec F S8192x128 .f32) : Vec F S256x128 .f32 := rows256 x 0 inb_S8192x128_S256x128_0_0_s_16_1
def v31 (x : Vec F S8192x128 .f32) : Vec F S256x128 .f32 := rows256 x 1 inb_S8192x128_S256x128_1_0_s_16_1
def v32 (x : Vec F S8192x128 .f32) : Vec F S256x128 .f32 := rows256 x 2 inb_S8192x128_S256x128_2_0_s_16_1
def v33 (x : Vec F S8192x128 .f32) : Vec F S256x128 .f32 := rows256 x 3 inb_S8192x128_S256x128_3_0_s_16_1
def v34 (x : Vec F S8192x128 .f32) : Vec F S256x128 .f32 := rows256 x 4 inb_S8192x128_S256x128_4_0_s_16_1
def v35 (x : Vec F S8192x128 .f32) : Vec F S256x128 .f32 := rows256 x 5 inb_S8192x128_S256x128_5_0_s_16_1
def v36 (x : Vec F S8192x128 .f32) : Vec F S256x128 .f32 := rows256 x 6 inb_S8192x128_S256x128_6_0_s_16_1
def v37 (x : Vec F S8192x128 .f32) : Vec F S256x128 .f32 := rows256 x 7 inb_S8192x128_S256x128_7_0_s_16_1
def v40 (x : Vec F S8192x128 .f32) : Vec F S256x128 .f32 := rows256 x 8 inb_S8192x128_S256x128_8_0_s_16_1
def v45 (W1 : Vec F S8x1024x256 .bf16) : Vec F S1x1024x256 .bf16 := wide W1 0 inb_S8x1024x256_S1x1024x256_0_0_0
def v48 (W3 : Vec F S8x1024x256 .bf16) : Vec F S1x1024x256 .bf16 := wide W3 0 inb_S8x1024x256_S1x1024x256_0_0_0
def v39 (x : Vec F S8192x128 .f32) : FVec F S256x1024 .bf16 := k0_pay66 (v30 x) (v31 x) (v32 x) (v33 x) (v34 x) (v35 x) (v36 x) (v37 x)
def v41 (x : Vec F S8192x128 .f32) : FVec F S256x1 .f32 := k0_pay67 (v40 x)
def v42 (x : Vec F S8192x128 .f32) : FVec F S256x1 .f32 := k0_pay68 (v40 x)
def v43 (x : Vec F S8192x128 .f32) : FVec F S256x1 .f32 := k0_pay69 (v40 x)
def v44 (x : Vec F S8192x128 .f32) : FVec F S256x1 .f32 := k0_pay70 (v40 x)
def v47 (x : Vec F S8192x128 .f32) (W1 : Vec F S8x1024x256 .bf16) : FVec F S256x256 .f32 := k0_pay71 (v30 x) (v31 x) (v32 x) (v33 x) (v34 x) (v35 x) (v36 x) (v37 x) (v45 W1)
def v50 (x : Vec F S8192x128 .f32) (W3 : Vec F S8x1024x256 .bf16) : FVec F S256x256 .f32 := k0_pay72 (v30 x) (v31 x) (v32 x) (v33 x) (v34 x) (v35 x) (v36 x) (v37 x) (v48 W3)
def v53 (x : Vec F S8192x128 .f32) : FVec F S256x1 .f32 := k0_pay73 (v40 x)
def v58 (x : Vec F S8192x128 .f32) (W1 : Vec F S8x1024x256 .bf16) : FVec F S256x256 .f32 := k0_pay74 (v30 x) (v31 x) (v32 x) (v33 x) (v34 x) (v35 x) (v36 x) (v37 x) (v45 W1)
def v59 : FVec F S256x256 .f32 := k0_pay75 (F := F)
def v75 (W2 : Vec F S8x256x1024 .bf16) : Vec F S1x256x1024 .bf16 := tall W2 0 inb_S8x256x1024_S1x256x1024_0_0_0
def v78 (W1 : Vec F S8x1024x256 .bf16) : Vec F S1x1024x256 .bf16 := wide W1 1 inb_S8x1024x256_S1x1024x256_1_0_0
def v81 (W3 : Vec F S8x1024x256 .bf16) : Vec F S1x1024x256 .bf16 := wide W3 1 inb_S8x1024x256_S1x1024x256_1_0_0
def v77 (x : Vec F S8192x128 .f32) (W1 : Vec F S8x1024x256 .bf16) (W3 : Vec F S8x1024x256 .bf16) (W2 : Vec F S8x256x1024 .bf16) : FVec F S256x1024 .f32 := k0_pay76 (v41 x) (v42 x) (v47 x W1) (v50 x W3) (v53 x) (v58 x W1) v59 (v75 W2)
def v97 (x : Vec F S8192x128 .f32) (W1 : Vec F S8x1024x256 .bf16) (W3 : Vec F S8x1024x256 .bf16) : FVec F S256x256 .f32 := k0_pay77 (v39 x) (v41 x) (v43 x) (v44 x) (v78 W1) (v81 W3)
def v99 (x : Vec F S8192x128 .f32) : IVec S256x1 1 := k0_pay78 (v41 x)
def v108 (W2 : Vec F S8x256x1024 .bf16) : Vec F S1x256x1024 .bf16 := tall W2 1 inb_S8x256x1024_S1x256x1024_1_0_0
def v112 (W1 : Vec F S8x1024x256 .bf16) : Vec F S1x1024x256 .bf16 := wide W1 2 inb_S8x1024x256_S1x1024x256_2_0_0
def v115 (W3 : Vec F S8x1024x256 .bf16) : Vec F S1x1024x256 .bf16 := wide W3 2 inb_S8x1024x256_S1x1024x256_2_0_0
def cst_69 : F .f32 := Scalar.ofBits .f32 0x00000000#32
def v111 (x : Vec F S8192x128 .f32) (W1 : Vec F S8x1024x256 .bf16) (W3 : Vec F S8x1024x256 .bf16) (W2 : Vec F S8x256x1024 .bf16) : FVec F S256x1024 .f32 := k0_pay79 (v42 x) (v77 x W1 W3 W2) (v97 x W1 W3) (v99 x) (v108 W2)
def v131 (x : Vec F S8192x128 .f32) (W1 : Vec F S8x1024x256 .bf16) (W3 : Vec F S8x1024x256 .bf16) : FVec F S256x256 .f32 := k0_pay80 (v39 x) (v41 x) (v43 x) (v44 x) (v112 W1) (v115 W3)
def v138 (x : Vec F S8192x128 .f32) : IVec S256x256 1 := k0_pay81 (v41 x) (v42 x)
def v142 (W2 : Vec F S8x256x1024 .bf16) : Vec F S1x256x1024 .bf16 := tall W2 2 inb_S8x256x1024_S1x256x1024_2_0_0
def v146 (W1 : Vec F S8x1024x256 .bf16) : Vec F S1x1024x256 .bf16 := wide W1 3 inb_S8x1024x256_S1x1024x256_3_0_0
def v149 (W3 : Vec F S8x1024x256 .bf16) : Vec F S1x1024x256 .bf16 := wide W3 3 inb_S8x1024x256_S1x1024x256_3_0_0
def v176 (W2 : Vec F S8x256x1024 .bf16) : Vec F S1x256x1024 .bf16 := tall W2 3 inb_S8x256x1024_S1x256x1024_3_0_0
def v145 (x : Vec F S8192x128 .f32) (W1 : Vec F S8x1024x256 .bf16) (W3 : Vec F S8x1024x256 .bf16) (W2 : Vec F S8x256x1024 .bf16) : FVec F S256x1024 .f32 := k0_pay82 (v111 x W1 W3 W2) (v131 x W1 W3) cst_69 (v138 x) (v142 W2)
def v175 (x : Vec F S8192x128 .f32) (W1 : Vec F S8x1024x256 .bf16) (W3 : Vec F S8x1024x256 .bf16) : FVec F S256x256 .bf16 := k0_pay83 (v39 x) (v41 x) (v42 x) (v43 x) (v44 x) (v146 W1) (v149 W3)
def v180 (W1 : Vec F S8x1024x256 .bf16) : Vec F S1x1024x256 .bf16 := wide W1 4 inb_S8x1024x256_S1x1024x256_4_0_0
def v183 (W3 : Vec F S8x1024x256 .bf16) : Vec F S1x1024x256 .bf16 := wide W3 4 inb_S8x1024x256_S1x1024x256_4_0_0
def v210 (W2 : Vec F S8x256x1024 .bf16) : Vec F S1x256x1024 .bf16 := tall W2 4 inb_S8x256x1024_S1x256x1024_4_0_0
def v213 (x : Vec F S8192x128 .f32) (W1 : Vec F S8x1024x256 .bf16) (W3 : Vec F S8x1024x256 .bf16) (W2 : Vec F S8x256x1024 .bf16) : FVec F S256x1024 .f32 := k0_pay84 (v39 x) (v41 x) (v42 x) (v43 x) (v44 x) (v145 x W1 W3 W2) (v175 x W1 W3) (v176 W2) (v180 W1) (v183 W3) (v210 W2)
def v214 (W1 : Vec F S8x1024x256 .bf16) : Vec F S1x1024x256 .bf16 := wide W1 5 inb_S8x1024x256_S1x1024x256_5_0_0
def v217 (W3 : Vec F S8x1024x256 .bf16) : Vec F S1x1024x256 .bf16 := wide W3 5 inb_S8x1024x256_S1x1024x256_5_0_0
def v244 (W2 : Vec F S8x256x1024 .bf16) : Vec F S1x256x1024 .bf16 := tall W2 5 inb_S8x256x1024_S1x256x1024_5_0_0
def v248 (W1 : Vec F S8x1024x256 .bf16) : Vec F S1x1024x256 .bf16 := wide W1 6 inb_S8x1024x256_S1x1024x256_6_0_0
def v247 (x : Vec F S8192x128 .f32) (W1 : Vec F S8x1024x256 .bf16) (W3 : Vec F S8x1024x256 .bf16) (W2 : Vec F S8x256x1024 .bf16) : FVec F S256x1024 .f32 := k0_pay85 (v39 x) (v41 x) (v42 x) (v43 x) (v44 x) (v213 x W1 W3 W2) (v214 W1) (v217 W3) (v244 W2)
def v250 (x : Vec F S8192x128 .f32) (W1 : Vec F S8x1024x256 .bf16) : FVec F S256x256 .f32 := k0_pay86 (v39 x) (v248 W1)
def v251 (W3 : Vec F S8x1024x256 .bf16) : Vec F S1x1024x256 .bf16 := wide W3 6 inb_S8x1024x256_S1x1024x256_6_0_0
def v278 (W2 : Vec F S8x256x1024 .bf16) : Vec F S1x256x1024 .bf16 := tall W2 6 inb_S8x256x1024_S1x256x1024_6_0_0
def v282 (W1 : Vec F S8x1024x256 .bf16) : Vec F S1x1024x256 .bf16 := wide W1 7 inb_S8x1024x256_S1x1024x256_7_0_0
def v285 (W3 : Vec F S8x1024x256 .bf16) : Vec F S1x1024x256 .bf16 := wide W3 7 inb_S8x1024x256_S1x1024x256_7_0_0
def v281 (x : Vec F S8192x128 .f32) (W1 : Vec F S8x1024x256 .bf16) (W3 : Vec F S8x1024x256 .bf16) (W2 : Vec F S8x256x1024 .bf16) : FVec F S256x1024 .f32 := k0_pay87 (v39 x) (v41 x) (v42 x) (v43 x) (v44 x) (v247 x W1 W3 W2) (v250 x W1) (v251 W3) (v278 W2)
def v284 (x : Vec F S8192x128 .f32) (W1 : Vec F S8x1024x256 .bf16) : FVec F S256x256 .f32 := k0_pay88 (v39 x) (v282 W1)
def v287 (x : Vec F S8192x128 .f32) (W3 : Vec F S8x1024x256 .bf16) : FVec F S256x256 .f32 := k0_pay89 (v39 x) (v285 W3)
def v289 (x : Vec F S8192x128 .f32) : IVec S256x1 1 := k0_pay90 (v41 x)
def v312 (W2 : Vec F S8x256x1024 .bf16) : Vec F S1x256x1024 .bf16 := tall W2 7 inb_S8x256x1024_S1x256x1024_7_0_0
def o0 (x : Vec F S8192x128 .f32) (W1 : Vec F S8x1024x256 .bf16) (W3 : Vec F S8x1024x256 .bf16) (W2 : Vec F S8x256x1024 .bf16) : FVec F S256x128 .f32 := k0_pay92 (v41 x) (v42 x) (v43 x) (v44 x) (v281 x W1 W3 W2) (v284 x W1) (v287 x W3) (v289 x) (v312 W2)
def o1 (x : Vec F S8192x128 .f32) (W1 : Vec F S8x1024x256 .bf16) (W3 : Vec F S8x1024x256 .bf16) (W2 : Vec F S8x256x1024 .bf16) : FVec F S256x128 .f32 := k0_pay93 (v41 x) (v42 x) (v43 x) (v44 x) (v281 x W1 W3 W2) (v284 x W1) (v287 x W3) (v289 x) (v312 W2)
def o2 (x : Vec F S8192x128 .f32) (W1 : Vec F S8x1024x256 .bf16) (W3 : Vec F S8x1024x256 .bf16) (W2 : Vec F S8x256x1024 .bf16) : FVec F S256x128 .f32 := k0_pay94 (v41 x) (v42 x) (v43 x) (v44 x) (v281 x W1 W3 W2) (v284 x W1) (v287 x W3) (v289 x) (v312 W2)
def o3 (x : Vec F S8192x128 .f32) (W1 : Vec F S8x1024x256 .bf16) (W3 : Vec F S8x1024x256 .bf16) (W2 : Vec F S8x256x1024 .bf16) : FVec F S256x128 .f32 := k0_pay95 (v41 x) (v42 x) (v43 x) (v44 x) (v281 x W1 W3 W2) (v284 x W1) (v287 x W3) (v289 x) (v312 W2)
def v315 (x : Vec F S8192x128 .f32) (W1 : Vec F S8x1024x256 .bf16) (W3 : Vec F S8x1024x256 .bf16) (W2 : Vec F S8x256x1024 .bf16) : FVec F S256x1024 .f32 := k0_pay91 (v41 x) (v42 x) (v43 x) (v44 x) (v281 x W1 W3 W2) (v284 x W1) (v287 x W3) (v289 x) (v312 W2)
def o4 (x : Vec F S8192x128 .f32) (W1 : Vec F S8x1024x256 .bf16) (W3 : Vec F S8x1024x256 .bf16) (W2 : Vec F S8x256x1024 .bf16) : FVec F S256x128 .f32 := k0_pay96 (v41 x) (v42 x) (v43 x) (v44 x) (v281 x W1 W3 W2) (v284 x W1) (v287 x W3) (v289 x) (v312 W2)
def o5 (x : Vec F S8192x128 .f32) (W1 : Vec F S8x1024x256 .bf16) (W3 : Vec F S8x1024x256 .bf16) (W2 : Vec F S8x256x1024 .bf16) : FVec F S256x128 .f32 := k0_pay8 (v315 x W1 W3 W2)
def o6 (x : Vec F S8192x128 .f32) (W1 : Vec F S8x1024x256 .bf16) (W3 : Vec F S8x1024x256 .bf16) (W2 : Vec F S8x256x1024 .bf16) : FVec F S256x128 .f32 := k0_pay9 (v315 x W1 W3 W2)
def o7 (x : Vec F S8192x128 .f32) (W1 : Vec F S8x1024x256 .bf16) (W3 : Vec F S8x1024x256 .bf16) (W2 : Vec F S8x256x1024 .bf16) : FVec F S256x128 .f32 := k0_pay10 (v315 x W1 W3 W2)
def out (x : Vec F S8192x128 .f32) (W1 : Vec F S8x1024x256 .bf16) (W3 : Vec F S8x1024x256 .bf16) (W2 : Vec F S8x256x1024 .bf16) : ℕ → FVec F S256x128 .f32
  | 0 => o0 x W1 W3 W2
  | 1 => o1 x W1 W3 W2
  | 2 => o2 x W1 W3 W2
  | 3 => o3 x W1 W3 W2
  | 4 => o4 x W1 W3 W2
  | 5 => o5 x W1 W3 W2
  | 6 => o6 x W1 W3 W2
  | _ => o7 x W1 W3 W2

end Half

/-- A full block's result: row `8 r + k` is lane group `k` of token `r`. -/
def blk512 (x : Vec F S8192x128 .f32) (W1 W3 : Vec F S8x1024x256 .bf16) (W2 : Vec F S8x256x1024 .bf16) : Vec F S4096x128 .f32 :=
  fun y => Full.out x W1 W3 W2 ((y 0).val % 8) (ix2 (n0 := 512) ⟨(y 0).val / 8, by have : (y 0).val < 4096 := (y 0).isLt; omega⟩ (y 1))

/-- A half block's: its first 256 tokens, the rest zero. -/
def blk256 (x : Vec F S8192x128 .f32) (W1 W3 : Vec F S8x1024x256 .bf16) (W2 : Vec F S8x256x1024 .bf16) : Vec F S4096x128 .f32 :=
  fun y => if h : (y 0).val < 2048 then Half.out x W1 W3 W2 ((y 0).val % 8) (ix2 (n0 := 256) ⟨(y 0).val / 8, by omega⟩ (y 1))
    else Scalar.ofBits .f32 0x00000000#32

/-- An unused block's. -/
def blk0 : Vec F S4096x128 .f32 := fun _ => Scalar.ofBits .f32 0x00000000#32

end Cert.Kernel5Ideal.Experts
-- ==== Proof.E.Tail.lean ====
/- The experts' call: the end of its body, which takes a block's rows to its result. -/
module

public import proofs.«01_k».proof.Proof.E.Spec

@[expose] public section

set_option maxRecDepth 65536

noncomputable section

namespace Cert.Kernel5Ideal.Experts

open Cert.Kernel5Ideal Cert.Kernel5Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The end of the body: by how the block is filled, the full block's chain, the half block's, or zeros. -/
def tail (i : grid0.Coords) (arg1 : Memref sig .tc .smem S40 .i32) (harg1 : arg1.IsWhole) (arg2 : Memref sig .tc .smem S1 .i32) (harg2 : arg2.IsWhole) (arg3 : Memref sig .tc .smem S40 .i32) (harg3 : arg3.IsWhole) (arg4 : Memref sig .tc .smem S40 .i32) (harg4 : arg4.IsWhole) (arg5 : Memref sig .tc .vmem S8192x128 .f32) (harg5 : arg5.IsWhole) (arg6 : Memref sig .tc .hbm S4x64x1024x256 .f32) (harg6 : arg6.IsWhole) (arg7 : Memref sig .tc .hbm S4x64x1024x256 .f32) (harg7 : arg7.IsWhole) (arg8 : Memref sig .tc .hbm S4x64x256x1024 .f32) (harg8 : arg8.IsWhole) (arg9 : Memref sig .tc .vmem S4096x128 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S8x256x1024 .f32) (harg12 : arg12.IsWhole) (arg13 : Memref sig .tc .vmem S8x1024x256 .bf16) (harg13 : arg13.IsWhole) (arg14 : Memref sig .tc .vmem S8x1024x256 .bf16) (harg14 : arg14.IsWhole) (arg15 : Memref sig .tc .vmem S8x256x1024 .bf16) (harg15 : arg15.IsWhole) (arg16 : DmaSems sig S3) (v0 v18 : BitVec 32) :
    Prog (TpuEff nD τ sig (Elt F) Λ₀ .tc) PUnit := do
  if k0_h4 : k0_cond4 i v0 v18 = 1#1 then do
    let ⟨v39, v41, v42, v43, v44, v47, v50, v53, v58, v59⟩ : Σ' (v39 : FVec F S512x1024 .bf16) (v41 : FVec F S512x1 .f32) (v42 : FVec F S512x1 .f32) (v43 : FVec F S512x1 .f32) (v44 : FVec F S512x1 .f32) (v47 : FVec F S512x256 .f32) (v50 : FVec F S512x256 .f32) (v53 : FVec F S512x1 .f32) (v58 : FVec F S512x256 .f32), FVec F S512x256 .f32 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16
    let ⟨v77, v97, v99⟩ : Σ' (v77 : FVec F S512x1024 .f32) (v97 : FVec F S512x256 .f32), IVec S512x1 1 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v39 v41 v42 v43 v44 v47 v50 v53 v58 v59
    let ⟨v111, v131, cst_69, v138⟩ : Σ' (v111 : FVec F S512x1024 .f32) (v131 : FVec F S512x256 .f32) (cst_69 : F .f32), IVec S512x256 1 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v39 v41 v42 v43 v44 v77 v97 v99
    let ⟨v145, v175, v176⟩ : Σ' (v145 : FVec F S512x1024 .f32) (v175 : FVec F S512x256 .bf16), Vec F S1x256x1024 .bf16 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v39 v41 v42 v43 v44 v111 v131 cst_69 v138
    let v213 : FVec F S512x1024 .f32 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v39 v41 v42 v43 v44 v145 v175 v176
    let ⟨v247, v250⟩ : Σ' (v247 : FVec F S512x1024 .f32), FVec F S512x256 .f32 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v39 v41 v42 v43 v44 v213
    let ⟨v281, v284, v287, v289⟩ : Σ' (v281 : FVec F S512x1024 .f32) (v284 : FVec F S512x256 .f32) (v287 : FVec F S512x256 .f32), IVec S512x1 1 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v39 v41 v42 v43 v44 v247 v250
    let ⟨v315, v324⟩ : Σ' (v315 : FVec F S512x1024 .f32), FVec F S512x128 .f32 ← k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v41 v42 v43 v44 v281 v284 v287 v289
    Prog.lift (.store arg9 ⟨(⟨![4, 0], S512x128.size, ![8, 1], inb_S4096x128_S512x128_4_0_s_8_1⟩ : LoadRect S4096x128), spos_8_1⟩ v324 Finset.univ (View.stores_vmem_bits_univ h_S512x128 rfl) (.inl rfl))
    let v327 : Vec F S512x128 .f32 ← Prog.lift (.load arg9 (⟨![5, 0], S512x128.size, ![8, 1], inb_S4096x128_S512x128_5_0_s_8_1⟩ : LoadRect S4096x128) (View.loadsAt_vmem h_S512x128))
    Prog.lift (.store arg9 ⟨(⟨![5, 0], S512x128.size, ![8, 1], inb_S4096x128_S512x128_5_0_s_8_1⟩ : LoadRect S4096x128), spos_8_1⟩ (k0_pay5 v315) Finset.univ (View.stores_vmem_bits_univ h_S512x128 rfl) (.inl rfl))
    let v329 : Vec F S512x128 .f32 ← Prog.lift (.load arg9 (⟨![6, 0], S512x128.size, ![8, 1], inb_S4096x128_S512x128_6_0_s_8_1⟩ : LoadRect S4096x128) (View.loadsAt_vmem h_S512x128))
    Prog.lift (.store arg9 ⟨(⟨![6, 0], S512x128.size, ![8, 1], inb_S4096x128_S512x128_6_0_s_8_1⟩ : LoadRect S4096x128), spos_8_1⟩ (k0_pay6 v315) Finset.univ (View.stores_vmem_bits_univ h_S512x128 rfl) (.inl rfl))
    let v331 : Vec F S512x128 .f32 ← Prog.lift (.load arg9 (⟨![7, 0], S512x128.size, ![8, 1], inb_S4096x128_S512x128_7_0_s_8_1⟩ : LoadRect S4096x128) (View.loadsAt_vmem h_S512x128))
    Prog.lift (.store arg9 ⟨(⟨![7, 0], S512x128.size, ![8, 1], inb_S4096x128_S512x128_7_0_s_8_1⟩ : LoadRect S4096x128), spos_8_1⟩ (k0_pay7 v315) Finset.univ (View.stores_vmem_bits_univ h_S512x128 rfl) (.inl rfl))
    pure ⟨⟩
  else do
    pure ⟨⟩
  if k0_h5 : k0_cond5 i v0 v18 = 1#1 then do
    let ⟨v39, v41, v42, v43, v44, v47, v50, v53, v58, v59⟩ : Σ' (v39 : FVec F S256x1024 .bf16) (v41 : FVec F S256x1 .f32) (v42 : FVec F S256x1 .f32) (v43 : FVec F S256x1 .f32) (v44 : FVec F S256x1 .f32) (v47 : FVec F S256x256 .f32) (v50 : FVec F S256x256 .f32) (v53 : FVec F S256x1 .f32) (v58 : FVec F S256x256 .f32), FVec F S256x256 .f32 ← k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16
    let ⟨v77, v97, v99⟩ : Σ' (v77 : FVec F S256x1024 .f32) (v97 : FVec F S256x256 .f32), IVec S256x1 1 ← k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v39 v41 v42 v43 v44 v47 v50 v53 v58 v59
    let ⟨v111, v131, cst_69, v138⟩ : Σ' (v111 : FVec F S256x1024 .f32) (v131 : FVec F S256x256 .f32) (cst_69 : F .f32), IVec S256x256 1 ← k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v39 v41 v42 v43 v44 v77 v97 v99
    let ⟨v145, v175, v176⟩ : Σ' (v145 : FVec F S256x1024 .f32) (v175 : FVec F S256x256 .bf16), Vec F S1x256x1024 .bf16 ← k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v39 v41 v42 v43 v44 v111 v131 cst_69 v138
    let v213 : FVec F S256x1024 .f32 ← k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v39 v41 v42 v43 v44 v145 v175 v176
    let ⟨v247, v250⟩ : Σ' (v247 : FVec F S256x1024 .f32), FVec F S256x256 .f32 ← k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v39 v41 v42 v43 v44 v213
    let ⟨v281, v284, v287, v289⟩ : Σ' (v281 : FVec F S256x1024 .f32) (v284 : FVec F S256x256 .f32) (v287 : FVec F S256x256 .f32), IVec S256x1 1 ← k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v39 v41 v42 v43 v44 v247 v250
    let ⟨v315, v324⟩ : Σ' (v315 : FVec F S256x1024 .f32), FVec F S256x128 .f32 ← k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v41 v42 v43 v44 v281 v284 v287 v289
    Prog.lift (.store arg9 ⟨(⟨![4, 0], S256x128.size, ![8, 1], inb_S4096x128_S256x128_4_0_s_8_1⟩ : LoadRect S4096x128), spos_8_1⟩ v324 Finset.univ (View.stores_vmem_bits_univ h_S256x128 rfl) (.inl rfl))
    let v327 : Vec F S256x128 .f32 ← Prog.lift (.load arg9 (⟨![5, 0], S256x128.size, ![8, 1], inb_S4096x128_S256x128_5_0_s_8_1⟩ : LoadRect S4096x128) (View.loadsAt_vmem h_S256x128))
    Prog.lift (.store arg9 ⟨(⟨![5, 0], S256x128.size, ![8, 1], inb_S4096x128_S256x128_5_0_s_8_1⟩ : LoadRect S4096x128), spos_8_1⟩ (k0_pay8 v315) Finset.univ (View.stores_vmem_bits_univ h_S256x128 rfl) (.inl rfl))
    let v329 : Vec F S256x128 .f32 ← Prog.lift (.load arg9 (⟨![6, 0], S256x128.size, ![8, 1], inb_S4096x128_S256x128_6_0_s_8_1⟩ : LoadRect S4096x128) (View.loadsAt_vmem h_S256x128))
    Prog.lift (.store arg9 ⟨(⟨![6, 0], S256x128.size, ![8, 1], inb_S4096x128_S256x128_6_0_s_8_1⟩ : LoadRect S4096x128), spos_8_1⟩ (k0_pay9 v315) Finset.univ (View.stores_vmem_bits_univ h_S256x128 rfl) (.inl rfl))
    let v331 : Vec F S256x128 .f32 ← Prog.lift (.load arg9 (⟨![7, 0], S256x128.size, ![8, 1], inb_S4096x128_S256x128_7_0_s_8_1⟩ : LoadRect S4096x128) (View.loadsAt_vmem h_S256x128))
    Prog.lift (.store arg9 ⟨(⟨![7, 0], S256x128.size, ![8, 1], inb_S4096x128_S256x128_7_0_s_8_1⟩ : LoadRect S4096x128), spos_8_1⟩ (k0_pay10 v315) Finset.univ (View.stores_vmem_bits_univ h_S256x128 rfl) (.inl rfl))
    let v333 : Vec F S2048x128 .f32 ← Prog.lift (.load arg9 (Rect.unit (s := S4096x128) ![2048, 0] S2048x128.size inb_S4096x128_S2048x128_2048_0).toLoadRect (View.loadsAt_vmem h_S2048x128))
    Prog.lift (.store arg9 (Rect.unit (s := S4096x128) ![2048, 0] S2048x128.size inb_S4096x128_S2048x128_2048_0) (k0_pay11 (F := F)) Finset.univ (View.stores_vmem_bits_univ h_S2048x128 rfl) (.inl rfl))
    pure ⟨⟩
  else do
    pure ⟨⟩
  if k0_h6 : k0_cond6 i v0 = 1#1 then do
    let v31 : Vec F S4096x128 .f32 ← Prog.lift (.load arg9 (Rect.unit (s := S4096x128) ![0, 0] S4096x128.size inb_S4096x128_S4096x128_0_0).toLoadRect (View.loadsAt_vmem h_S4096x128))
    Prog.lift (.store arg9 (Rect.unit (s := S4096x128) ![0, 0] S4096x128.size inb_S4096x128_S4096x128_0_0) (k0_pay12 (F := F)) Finset.univ (View.stores_vmem_bits_univ h_S4096x128 rfl) (.inl rfl))
    pure ⟨⟩
  else do
    pure ⟨⟩
  pure ⟨⟩

/-- Where a strided row of the result's view lies. -/
theorem stride_val {n r : ℕ} {inb spos} (y : (⟨2, ![n, 128]⟩ : Shape).Idx) :
    ((Rect.emb (s := S4096x128) ⟨⟨![r, 0], (⟨2, ![n, 128]⟩ : Shape).size, ![8, 1], inb⟩, spos⟩ y) 0).val = r + 8 * (y 0).val
    ∧ ((Rect.emb (s := S4096x128) ⟨⟨![r, 0], (⟨2, ![n, 128]⟩ : Shape).size, ![8, 1], inb⟩, spos⟩ y) 1) = y 1 := by
  constructor
  · show r + _ = _
    first | rfl | simp [Nat.mul_comm]
  · refine Fin.ext ?_
    show 0 + _ = _
    simp

/-- A row lies in the strided piece of its residue. -/
theorem stride_mem {n r : ℕ} {inb spos} (y : S4096x128.Idx) (h : (y 0).val % 8 = r) (hn : (y 0).val / 8 < n) :
    y ∈ (⟨⟨![r, 0], (⟨2, ![n, 128]⟩ : Shape).size, ![8, 1], inb⟩, spos⟩ : Rect S4096x128).set := by
  refine (LoadRect.mem_set _).mpr fun a => ?_
  match a with
  | ⟨0, _⟩ => exact ⟨(y 0).val / 8, hn, by show (y 0).val = r + 8 * _; omega⟩
  | ⟨1, _⟩ => exact ⟨(y 1).val, (y 1).isLt, by show (y 1).val = 0 + 1 * _; omega⟩

/-- The full block at a strided row's element. -/
theorem piece512 (x : Vec F S8192x128 .f32) (W1 W3 : Vec F S8x1024x256 .bf16) (W2 : Vec F S8x256x1024 .bf16) (r : ℕ) (hr : r < 8)
    {inb spos} (y : S512x128.Idx) : Full.out x W1 W3 W2 r y
      = blk512 x W1 W3 W2 (Rect.emb (s := S4096x128) ⟨⟨![r, 0], S512x128.size, ![8, 1], inb⟩, spos⟩ y) := by
  obtain ⟨h0, h1⟩ := stride_val (n := 512) (r := r) (inb := inb) (spos := spos) y
  have hy : (y 0).val < 512 := (y 0).isLt
  unfold blk512
  have e0 : ((Rect.emb (s := S4096x128) ⟨⟨![r, 0], S512x128.size, ![8, 1], inb⟩, spos⟩ y) 0).val % 8 = r := by rw [show _ = _ from h0]; omega
  have e1 : ((Rect.emb (s := S4096x128) ⟨⟨![r, 0], S512x128.size, ![8, 1], inb⟩, spos⟩ y) 0).val / 8 = (y 0).val := by rw [show _ = _ from h0]; omega
  rw [e0]
  congr 1
  funext a
  match a with
  | ⟨0, _⟩ => exact Fin.ext e1.symm
  | ⟨1, _⟩ => exact h1.symm

/-- The half block at a strided row's element. -/
theorem piece256 (x : Vec F S8192x128 .f32) (W1 W3 : Vec F S8x1024x256 .bf16) (W2 : Vec F S8x256x1024 .bf16) (r : ℕ) (hr : r < 8)
    {inb spos} (y : S256x128.Idx) : Half.out x W1 W3 W2 r y
      = blk256 x W1 W3 W2 (Rect.emb (s := S4096x128) ⟨⟨![r, 0], S256x128.size, ![8, 1], inb⟩, spos⟩ y) := by
  obtain ⟨h0, h1⟩ := stride_val (n := 256) (r := r) (inb := inb) (spos := spos) y
  have hy : (y 0).val < 256 := (y 0).isLt
  unfold blk256
  have e0 : ((Rect.emb (s := S4096x128) ⟨⟨![r, 0], S256x128.size, ![8, 1], inb⟩, spos⟩ y) 0).val % 8 = r := by rw [show _ = _ from h0]; omega
  have e1 : ((Rect.emb (s := S4096x128) ⟨⟨![r, 0], S256x128.size, ![8, 1], inb⟩, spos⟩ y) 0).val / 8 = (y 0).val := by rw [show _ = _ from h0]; omega
  rw [dif_pos (by rw [show _ = _ from h0]; omega), e0]
  congr 1
  funext a
  match a with
  | ⟨0, _⟩ => exact Fin.ext e1.symm
  | ⟨1, _⟩ => exact h1.symm

/-- The half block's zero rows. -/
theorem piece0 (x : Vec F S8192x128 .f32) (W1 W3 : Vec F S8x1024x256 .bf16) (W2 : Vec F S8x256x1024 .bf16)
    {inb} (y : S2048x128.Idx) : k0_pay11 (F := F) y
      = blk256 x W1 W3 W2 ((Rect.unit (s := S4096x128) ![2048, 0] S2048x128.size inb).emb y) := by
  unfold blk256
  have h0 : (((Rect.unit (s := S4096x128) ![2048, 0] S2048x128.size inb).emb y) 0).val = 2048 + 1 * (y 0).val := rfl
  rw [dif_neg (by rw [h0]; omega)]
  rfl

/-- The end of the body at a full block: the result is the full chain of the block and of the group's matrices, everything else as it was. -/
theorem tail512 (c : Dev nD) (i : grid0.Coords) (arg1 : Memref sig .tc .smem S40 .i32) (harg1 : arg1.IsWhole) (arg2 : Memref sig .tc .smem S1 .i32) (harg2 : arg2.IsWhole) (arg3 : Memref sig .tc .smem S40 .i32) (harg3 : arg3.IsWhole) (arg4 : Memref sig .tc .smem S40 .i32) (harg4 : arg4.IsWhole) (arg5 : Memref sig .tc .vmem S8192x128 .f32) (harg5 : arg5.IsWhole) (arg6 : Memref sig .tc .hbm S4x64x1024x256 .f32) (harg6 : arg6.IsWhole) (arg7 : Memref sig .tc .hbm S4x64x1024x256 .f32) (harg7 : arg7.IsWhole) (arg8 : Memref sig .tc .hbm S4x64x256x1024 .f32) (harg8 : arg8.IsWhole) (arg9 : Memref sig .tc .vmem S4096x128 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S8x256x1024 .f32) (harg12 : arg12.IsWhole) (arg13 : Memref sig .tc .vmem S8x1024x256 .bf16) (harg13 : arg13.IsWhole) (arg14 : Memref sig .tc .vmem S8x1024x256 .bf16) (harg14 : arg14.IsWhole) (arg15 : Memref sig .tc .vmem S8x256x1024 .bf16) (harg15 : arg15.IsWhole) (arg16 : DmaSems sig S3) (v0 v18 : BitVec 32)
    (hc4 : k0_cond4 i v0 v18 = 1#1) (hc5 : ¬ k0_cond5 i v0 v18 = 1#1) (hc6 : ¬ k0_cond6 i v0 = 1#1)
    (x : Vec F S8192x128 .f32) (W1 W3 : Vec F S8x1024x256 .bf16) (W2 : Vec F S8x256x1024 .bf16) (K : PUnit → sProp 𝕄) :
    iprop(owns (c : Thread nD τ) arg5 fullShare x ∗ (∃ d, owns (c : Thread nD τ) arg9 fullShare d)
      ∗ owns (c : Thread nD τ) arg13 fullShare W1 ∗ owns (c : Thread nD τ) arg14 fullShare W3 ∗ owns (c : Thread nD τ) arg15 fullShare W2
      ∗ (iprop(owns (c : Thread nD τ) arg5 fullShare x ∗ owns (c : Thread nD τ) arg9 fullShare (blk512 x W1 W3 W2)
        ∗ owns (c : Thread nD τ) arg13 fullShare W1 ∗ owns (c : Thread nD τ) arg14 fullShare W3 ∗ owns (c : Thread nD τ) arg15 fullShare W2) -∗ K ⟨⟩))
    ⊢ wpc c (tail (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v18) K := by
  unfold tail wpc owns
  iintro ⟨⟨%f0, %hf0, H0⟩, ⟨%d9, %f9, -, H9⟩, ⟨%f13, %hf13, H13⟩, ⟨%f14, %hf14, H14⟩, ⟨%f15, %hf15, H15⟩, Hk⟩
  subst hf0 hf13 hf14 hf15
  sl_exec
  sl_step
  iapply Hk
  isplitl [H0]
  · iexists f0; isplitr; · ipureintro; rfl
    iexact H0
  isplitl [H9]
  · iexists _; isplitr
    swap; · iexact H9
    ipureintro
    refine funext fun y => View.read_writes_apply_of_pieces _ _ (blk512 _ _ _ _) _ ?_ y ?_
    · simp only [List.forall_mem_cons]
      refine ⟨fun z => Eq.trans (congrFun (?_ : _ = Full.out _ _ _ _ 7) z) (piece512 _ _ _ _ 7 (by decide) z), fun z => Eq.trans (congrFun (?_ : _ = Full.out _ _ _ _ 6) z) (piece512 _ _ _ _ 6 (by decide) z), fun z => Eq.trans (congrFun (?_ : _ = Full.out _ _ _ _ 5) z) (piece512 _ _ _ _ 5 (by decide) z), fun z => Eq.trans (congrFun (?_ : _ = Full.out _ _ _ _ 4) z) (piece512 _ _ _ _ 4 (by decide) z), fun z => Eq.trans (congrFun (?_ : _ = Full.out _ _ _ _ 3) z) (piece512 _ _ _ _ 3 (by decide) z), fun z => Eq.trans (congrFun (?_ : _ = Full.out _ _ _ _ 2) z) (piece512 _ _ _ _ 2 (by decide) z), fun z => Eq.trans (congrFun (?_ : _ = Full.out _ _ _ _ 1) z) (piece512 _ _ _ _ 1 (by decide) z), fun z => Eq.trans (congrFun (?_ : _ = Full.out _ _ _ _ 0) z) (piece512 _ _ _ _ 0 (by decide) z), fun p hp => absurd hp List.not_mem_nil⟩
      all_goals try delta tail512.sl.r_26 tail512.sl.r_25 tail512.sl.r_24 tail512.sl.r_23 tail512.sl.r_22 tail512.sl.r_21 tail512.sl.r_20 tail512.sl.r_19 tail512.sl.r_18 tail512.sl.r_17 tail512.sl.r_16 tail512.sl.r_15 tail512.sl.r_14 tail512.sl.r_13 tail512.sl.r_12 tail512.sl.r_11 tail512.sl.r_10 tail512.sl.r_9 tail512.sl.r_8 tail512.sl.r_7 tail512.sl.r_6 tail512.sl.r_5 tail512.sl.r_4 tail512.sl.r_3 tail512.sl.r_2 tail512.sl.r_1 tail512.sl.r
      all_goals (simp only [Full.v30, Full.v31, Full.v32, Full.v33, Full.v34, Full.v35, Full.v36, Full.v37, Full.v40, Full.v45, Full.v48, Full.v39, Full.v41, Full.v42, Full.v43, Full.v44, Full.v47, Full.v50, Full.v53, Full.v58, Full.v59, Full.v75, Full.v78, Full.v81, Full.v77, Full.v97, Full.v99, Full.v108, Full.v112, Full.v115, Full.cst_69, Full.v111, Full.v131, Full.v138, Full.v142, Full.v146, Full.v149, Full.v176, Full.v145, Full.v175, Full.v180, Full.v183, Full.v210, Full.v213, Full.v214, Full.v217, Full.v244, Full.v248, Full.v247, Full.v250, Full.v251, Full.v278, Full.v282, Full.v285, Full.v281, Full.v284, Full.v287, Full.v289, Full.v312, Full.o0, Full.o1, Full.o2, Full.o3, Full.v315, Full.o4, Full.o5, Full.o6, Full.o7, Full.out]; rfl)
    · have hy : (y 0).val < 4096 := (y 0).isLt
      obtain h | h | h | h | h | h | h | h : (y 0).val % 8 = 7 ∨ (y 0).val % 8 = 6 ∨ (y 0).val % 8 = 5 ∨ (y 0).val % 8 = 4 ∨ (y 0).val % 8 = 3
        ∨ (y 0).val % 8 = 2 ∨ (y 0).val % 8 = 1 ∨ (y 0).val % 8 = 0 := by omega
      · exact ⟨_, List.Mem.head _, stride_mem (n := 512) y h (by omega)⟩
      · exact ⟨_, List.Mem.tail _ (List.Mem.head _), stride_mem (n := 512) y h (by omega)⟩
      · exact ⟨_, List.Mem.tail _ (List.Mem.tail _ (List.Mem.head _)), stride_mem (n := 512) y h (by omega)⟩
      · exact ⟨_, List.Mem.tail _ (List.Mem.tail _ (List.Mem.tail _ (List.Mem.head _))), stride_mem (n := 512) y h (by omega)⟩
      · exact ⟨_, List.Mem.tail _ (List.Mem.tail _ (List.Mem.tail _ (List.Mem.tail _ (List.Mem.head _)))), stride_mem (n := 512) y h (by omega)⟩
      · exact ⟨_, List.Mem.tail _ (List.Mem.tail _ (List.Mem.tail _ (List.Mem.tail _ (List.Mem.tail _ (List.Mem.head _))))), stride_mem (n := 512) y h (by omega)⟩
      · exact ⟨_, List.Mem.tail _ (List.Mem.tail _ (List.Mem.tail _ (List.Mem.tail _ (List.Mem.tail _ (List.Mem.tail _ (List.Mem.head _)))))), stride_mem (n := 512) y h (by omega)⟩
      · exact ⟨_, List.Mem.tail _ (List.Mem.tail _ (List.Mem.tail _ (List.Mem.tail _ (List.Mem.tail _ (List.Mem.tail _ (List.Mem.tail _ (List.Mem.head _))))))), stride_mem (n := 512) y h (by omega)⟩
  isplitl [H13]
  · iexists f13; isplitr; · ipureintro; rfl
    iexact H13
  isplitl [H14]
  · iexists f14; isplitr; · ipureintro; rfl
    iexact H14
  iexists f15; isplitr; · ipureintro; rfl
  iexact H15

/-- The end of the body at a half block. -/
theorem tail256 (c : Dev nD) (i : grid0.Coords) (arg1 : Memref sig .tc .smem S40 .i32) (harg1 : arg1.IsWhole) (arg2 : Memref sig .tc .smem S1 .i32) (harg2 : arg2.IsWhole) (arg3 : Memref sig .tc .smem S40 .i32) (harg3 : arg3.IsWhole) (arg4 : Memref sig .tc .smem S40 .i32) (harg4 : arg4.IsWhole) (arg5 : Memref sig .tc .vmem S8192x128 .f32) (harg5 : arg5.IsWhole) (arg6 : Memref sig .tc .hbm S4x64x1024x256 .f32) (harg6 : arg6.IsWhole) (arg7 : Memref sig .tc .hbm S4x64x1024x256 .f32) (harg7 : arg7.IsWhole) (arg8 : Memref sig .tc .hbm S4x64x256x1024 .f32) (harg8 : arg8.IsWhole) (arg9 : Memref sig .tc .vmem S4096x128 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S8x256x1024 .f32) (harg12 : arg12.IsWhole) (arg13 : Memref sig .tc .vmem S8x1024x256 .bf16) (harg13 : arg13.IsWhole) (arg14 : Memref sig .tc .vmem S8x1024x256 .bf16) (harg14 : arg14.IsWhole) (arg15 : Memref sig .tc .vmem S8x256x1024 .bf16) (harg15 : arg15.IsWhole) (arg16 : DmaSems sig S3) (v0 v18 : BitVec 32)
    (hc4 : ¬ k0_cond4 i v0 v18 = 1#1) (hc5 : k0_cond5 i v0 v18 = 1#1) (hc6 : ¬ k0_cond6 i v0 = 1#1)
    (x : Vec F S8192x128 .f32) (W1 W3 : Vec F S8x1024x256 .bf16) (W2 : Vec F S8x256x1024 .bf16) (K : PUnit → sProp 𝕄) :
    iprop(owns (c : Thread nD τ) arg5 fullShare x ∗ (∃ d, owns (c : Thread nD τ) arg9 fullShare d)
      ∗ owns (c : Thread nD τ) arg13 fullShare W1 ∗ owns (c : Thread nD τ) arg14 fullShare W3 ∗ owns (c : Thread nD τ) arg15 fullShare W2
      ∗ (iprop(owns (c : Thread nD τ) arg5 fullShare x ∗ owns (c : Thread nD τ) arg9 fullShare (blk256 x W1 W3 W2)
        ∗ owns (c : Thread nD τ) arg13 fullShare W1 ∗ owns (c : Thread nD τ) arg14 fullShare W3 ∗ owns (c : Thread nD τ) arg15 fullShare W2) -∗ K ⟨⟩))
    ⊢ wpc c (tail (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v18) K := by
  unfold tail wpc owns
  iintro ⟨⟨%f0, %hf0, H0⟩, ⟨%d9, %f9, -, H9⟩, ⟨%f13, %hf13, H13⟩, ⟨%f14, %hf14, H14⟩, ⟨%f15, %hf15, H15⟩, Hk⟩
  subst hf0 hf13 hf14 hf15
  sl_exec
  sl_step
  iapply Hk
  isplitl [H0]
  · iexists f0; isplitr; · ipureintro; rfl
    iexact H0
  isplitl [H9]
  · iexists _; isplitr
    swap; · iexact H9
    ipureintro
    refine funext fun y => View.read_writes_apply_of_pieces _ _ (blk256 _ _ _ _) _ ?_ y ?_
    · simp only [List.forall_mem_cons]
      refine ⟨fun z => piece0 _ _ _ _ z, fun z => Eq.trans (congrFun (?_ : _ = Half.out _ _ _ _ 7) z) (piece256 _ _ _ _ 7 (by decide) z), fun z => Eq.trans (congrFun (?_ : _ = Half.out _ _ _ _ 6) z) (piece256 _ _ _ _ 6 (by decide) z), fun z => Eq.trans (congrFun (?_ : _ = Half.out _ _ _ _ 5) z) (piece256 _ _ _ _ 5 (by decide) z), fun z => Eq.trans (congrFun (?_ : _ = Half.out _ _ _ _ 4) z) (piece256 _ _ _ _ 4 (by decide) z), fun z => Eq.trans (congrFun (?_ : _ = Half.out _ _ _ _ 3) z) (piece256 _ _ _ _ 3 (by decide) z), fun z => Eq.trans (congrFun (?_ : _ = Half.out _ _ _ _ 2) z) (piece256 _ _ _ _ 2 (by decide) z), fun z => Eq.trans (congrFun (?_ : _ = Half.out _ _ _ _ 1) z) (piece256 _ _ _ _ 1 (by decide) z), fun z => Eq.trans (congrFun (?_ : _ = Half.out _ _ _ _ 0) z) (piece256 _ _ _ _ 0 (by decide) z), fun p hp => absurd hp List.not_mem_nil⟩
      all_goals try delta tail256.sl.r_26 tail256.sl.r_25 tail256.sl.r_24 tail256.sl.r_23 tail256.sl.r_22 tail256.sl.r_21 tail256.sl.r_20 tail256.sl.r_19 tail256.sl.r_18 tail256.sl.r_17 tail256.sl.r_16 tail256.sl.r_15 tail256.sl.r_14 tail256.sl.r_13 tail256.sl.r_12 tail256.sl.r_11 tail256.sl.r_10 tail256.sl.r_9 tail256.sl.r_8 tail256.sl.r_7 tail256.sl.r_6 tail256.sl.r_5 tail256.sl.r_4 tail256.sl.r_3 tail256.sl.r_2 tail256.sl.r_1 tail256.sl.r
      all_goals (simp only [Half.v30, Half.v31, Half.v32, Half.v33, Half.v34, Half.v35, Half.v36, Half.v37, Half.v40, Half.v45, Half.v48, Half.v39, Half.v41, Half.v42, Half.v43, Half.v44, Half.v47, Half.v50, Half.v53, Half.v58, Half.v59, Half.v75, Half.v78, Half.v81, Half.v77, Half.v97, Half.v99, Half.v108, Half.v112, Half.v115, Half.cst_69, Half.v111, Half.v131, Half.v138, Half.v142, Half.v146, Half.v149, Half.v176, Half.v145, Half.v175, Half.v180, Half.v183, Half.v210, Half.v213, Half.v214, Half.v217, Half.v244, Half.v248, Half.v247, Half.v250, Half.v251, Half.v278, Half.v282, Half.v285, Half.v281, Half.v284, Half.v287, Half.v289, Half.v312, Half.o0, Half.o1, Half.o2, Half.o3, Half.v315, Half.o4, Half.o5, Half.o6, Half.o7, Half.out]; rfl)
    · have hy : (y 0).val < 4096 := (y 0).isLt
      by_cases h2 : (y 0).val < 2048
      · obtain h | h | h | h | h | h | h | h : (y 0).val % 8 = 7 ∨ (y 0).val % 8 = 6 ∨ (y 0).val % 8 = 5 ∨ (y 0).val % 8 = 4 ∨ (y 0).val % 8 = 3
          ∨ (y 0).val % 8 = 2 ∨ (y 0).val % 8 = 1 ∨ (y 0).val % 8 = 0 := by omega
        · exact ⟨_, List.Mem.tail _ (List.Mem.head _), stride_mem (n := 256) y h (by omega)⟩
        · exact ⟨_, List.Mem.tail _ (List.Mem.tail _ (List.Mem.head _)), stride_mem (n := 256) y h (by omega)⟩
        · exact ⟨_, List.Mem.tail _ (List.Mem.tail _ (List.Mem.tail _ (List.Mem.head _))), stride_mem (n := 256) y h (by omega)⟩
        · exact ⟨_, List.Mem.tail _ (List.Mem.tail _ (List.Mem.tail _ (List.Mem.tail _ (List.Mem.head _)))), stride_mem (n := 256) y h (by omega)⟩
        · exact ⟨_, List.Mem.tail _ (List.Mem.tail _ (List.Mem.tail _ (List.Mem.tail _ (List.Mem.tail _ (List.Mem.head _))))), stride_mem (n := 256) y h (by omega)⟩
        · exact ⟨_, List.Mem.tail _ (List.Mem.tail _ (List.Mem.tail _ (List.Mem.tail _ (List.Mem.tail _ (List.Mem.tail _ (List.Mem.head _)))))), stride_mem (n := 256) y h (by omega)⟩
        · exact ⟨_, List.Mem.tail _ (List.Mem.tail _ (List.Mem.tail _ (List.Mem.tail _ (List.Mem.tail _ (List.Mem.tail _ (List.Mem.tail _ (List.Mem.head _))))))), stride_mem (n := 256) y h (by omega)⟩
        · exact ⟨_, List.Mem.tail _ (List.Mem.tail _ (List.Mem.tail _ (List.Mem.tail _ (List.Mem.tail _ (List.Mem.tail _ (List.Mem.tail _ (List.Mem.tail _ (List.Mem.head _)))))))), stride_mem (n := 256) y h (by omega)⟩
      · refine ⟨_, List.Mem.head _, (Rect.mem_set_unit (inb := inb_S4096x128_S2048x128_2048_0)).mpr fun a => ?_⟩
        match a with
        | ⟨0, _⟩ => exact ⟨by show 2048 ≤ (y 0).val; omega, by show (y 0).val < 2048 + 2048; omega⟩
        | ⟨1, _⟩ => exact ⟨Nat.zero_le _, by show (y 1).val < 0 + 128; have : (y 1).val < 128 := (y 1).isLt; omega⟩
  isplitl [H13]
  · iexists f13; isplitr; · ipureintro; rfl
    iexact H13
  isplitl [H14]
  · iexists f14; isplitr; · ipureintro; rfl
    iexact H14
  iexists f15; isplitr; · ipureintro; rfl
  iexact H15

/-- The end of the body at a block that is not used. -/
theorem tail0 (c : Dev nD) (i : grid0.Coords) (arg1 : Memref sig .tc .smem S40 .i32) (harg1 : arg1.IsWhole) (arg2 : Memref sig .tc .smem S1 .i32) (harg2 : arg2.IsWhole) (arg3 : Memref sig .tc .smem S40 .i32) (harg3 : arg3.IsWhole) (arg4 : Memref sig .tc .smem S40 .i32) (harg4 : arg4.IsWhole) (arg5 : Memref sig .tc .vmem S8192x128 .f32) (harg5 : arg5.IsWhole) (arg6 : Memref sig .tc .hbm S4x64x1024x256 .f32) (harg6 : arg6.IsWhole) (arg7 : Memref sig .tc .hbm S4x64x1024x256 .f32) (harg7 : arg7.IsWhole) (arg8 : Memref sig .tc .hbm S4x64x256x1024 .f32) (harg8 : arg8.IsWhole) (arg9 : Memref sig .tc .vmem S4096x128 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S8x256x1024 .f32) (harg12 : arg12.IsWhole) (arg13 : Memref sig .tc .vmem S8x1024x256 .bf16) (harg13 : arg13.IsWhole) (arg14 : Memref sig .tc .vmem S8x1024x256 .bf16) (harg14 : arg14.IsWhole) (arg15 : Memref sig .tc .vmem S8x256x1024 .bf16) (harg15 : arg15.IsWhole) (arg16 : DmaSems sig S3) (v0 v18 : BitVec 32)
    (hc4 : ¬ k0_cond4 i v0 v18 = 1#1) (hc5 : ¬ k0_cond5 i v0 v18 = 1#1) (hc6 : k0_cond6 i v0 = 1#1)
    (x : Vec F S8192x128 .f32) (W1 W3 : Vec F S8x1024x256 .bf16) (W2 : Vec F S8x256x1024 .bf16) (K : PUnit → sProp 𝕄) :
    iprop(owns (c : Thread nD τ) arg5 fullShare x ∗ (∃ d, owns (c : Thread nD τ) arg9 fullShare d)
      ∗ owns (c : Thread nD τ) arg13 fullShare W1 ∗ owns (c : Thread nD τ) arg14 fullShare W3 ∗ owns (c : Thread nD τ) arg15 fullShare W2
      ∗ (iprop(owns (c : Thread nD τ) arg5 fullShare x ∗ owns (c : Thread nD τ) arg9 fullShare (blk0)
        ∗ owns (c : Thread nD τ) arg13 fullShare W1 ∗ owns (c : Thread nD τ) arg14 fullShare W3 ∗ owns (c : Thread nD τ) arg15 fullShare W2) -∗ K ⟨⟩))
    ⊢ wpc c (tail (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v18) K := by
  unfold tail wpc owns
  iintro ⟨⟨%f0, %hf0, H0⟩, ⟨%d9, %f9, -, H9⟩, ⟨%f13, %hf13, H13⟩, ⟨%f14, %hf14, H14⟩, ⟨%f15, %hf15, H15⟩, Hk⟩
  subst hf0 hf13 hf14 hf15
  sl_exec
  sl_step
  iapply Hk
  isplitl [H0]
  · iexists f0; isplitr; · ipureintro; rfl
    iexact H0
  isplitl [H9]
  · iexists _; isplitr
    swap; · iexact H9
    ipureintro
    refine funext fun y => View.read_writes_apply_of_pieces _ _ blk0 _ ?_ y ?_
    · simp only [List.forall_mem_cons]
      exact ⟨fun z => rfl, fun p hp => absurd hp List.not_mem_nil⟩
    · refine ⟨_, List.Mem.head _, (Rect.mem_set_unit (inb := inb_S4096x128_S4096x128_0_0)).mpr fun a => ?_⟩
      match a with
      | ⟨0, _⟩ => exact ⟨Nat.zero_le _, by show (y 0).val < 0 + 4096; have : (y 0).val < 4096 := (y 0).isLt; omega⟩
      | ⟨1, _⟩ => exact ⟨Nat.zero_le _, by show (y 1).val < 0 + 128; have : (y 1).val < 128 := (y 1).isLt; omega⟩
  isplitl [H13]
  · iexists f13; isplitr; · ipureintro; rfl
    iexact H13
  isplitl [H14]
  · iexists f14; isplitr; · ipureintro; rfl
    iexact H14
  iexists f15; isplitr; · ipureintro; rfl
  iexact H15

end Cert.Kernel5Ideal.Experts
-- ==== Proof.E.Head.lean ====
/- The experts' call: the start of its body, which brings a group's matrices in and asks for the next group's. -/
module

public import proofs.«01_k».proof.Proof.E.Tail

@[expose] public section

set_option maxRecDepth 65536

noncomputable section

namespace Cert.Kernel5Ideal.Experts

open Cert.Kernel5Ideal Cert.Kernel5Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A group's matrices in the weights: the eight experts' of the layer's first array, as the copy reads them. -/
abbrev src (w : Memref sig .tc .hbm S4x64x1024x256 .f32) (v : BitVec 32) (h : ∀ a, (k0_off1 v) a + S1x8x1024x256.size a ≤ S4x64x1024x256.size a) :
    Memref sig .tc .hbm S8x1024x256 .f32 :=
  (w.slice (Rect.unit (s := S4x64x1024x256) (k0_off1 v) S1x8x1024x256.size h) (fun _ => rfl)).squeeze S8x1024x256 squeezes_S1x8x1024x256_S8x1024x256
abbrev srcT (w : Memref sig .tc .hbm S4x64x256x1024 .f32) (v : BitVec 32) (h : ∀ a, (k0_off2 v) a + S1x8x256x1024.size a ≤ S4x64x256x1024.size a) :
    Memref sig .tc .hbm S8x256x1024 .f32 :=
  (w.slice (Rect.unit (s := S4x64x256x1024) (k0_off2 v) S1x8x256x1024.size h) (fun _ => rfl)).squeeze S8x256x1024 squeezes_S1x8x256x1024_S8x256x1024

/-- A group's first expert. -/
theorem eight (v : BitVec 32) (hv : v.toNat < 8) : (Scalar.muli v 8#32).toNat = v.toNat * 8 := by
  show (v * 8#32).toNat = _
  rw [BitVec.toNat_mul]
  show (v.toNat * 8) % 4294967296 = _
  omega

/-- A group below eight lies in the weights. -/
theorem fits (v : BitVec 32) (hv : v.toNat < 8) : ∀ a, (k0_off1 v) a + S1x8x1024x256.size a ≤ S4x64x1024x256.size a := by
  have h := eight v hv
  intro a
  match a with
  | ⟨0, _⟩ => show 0 + 1 ≤ 4; decide
  | ⟨1, _⟩ => show (Scalar.muli v 8#32).toNat + 8 ≤ 64; omega
  | ⟨2, _⟩ => show 0 + 1024 ≤ 1024; decide
  | ⟨3, _⟩ => show 0 + 256 ≤ 256; decide
/-- The same of the matrices back. -/
theorem fitsT (v : BitVec 32) (hv : v.toNat < 8) : ∀ a, (k0_off2 v) a + S1x8x256x1024.size a ≤ S4x64x256x1024.size a := by
  have h := eight v hv
  intro a
  match a with
  | ⟨0, _⟩ => show 0 + 1 ≤ 4; decide
  | ⟨1, _⟩ => show (Scalar.muli v 8#32).toNat + 8 ≤ 64; omega
  | ⟨2, _⟩ => show 0 + 256 ≤ 256; decide
  | ⟨3, _⟩ => show 0 + 1024 ≤ 1024; decide

/-- The first copies' sources lie in the weights. -/
theorem chk1 (i : grid0.Coords) (v : BitVec 32) (hv : v.toNat < 8) : k0_chk1 i v := by
  refine ⟨fun _ => ?_, fun _ => fits v hv, fun _ => fitsT v hv⟩
  show 8 ∣ (Scalar.muli v 8#32).toNat
  rw [eight v hv]; exact Dvd.intro_left _ rfl
/-- The waits' sources do. -/
theorem chk2 (i : grid0.Coords) (v0 v7 v11 v : BitVec 32) (hv : v.toNat < 8) : k0_chk2 i v0 v7 v11 v := by
  refine ⟨fun _ => ?_, fun _ => fits v hv, fun _ => fitsT v hv⟩
  show 8 ∣ (Scalar.muli v 8#32).toNat
  rw [eight v hv]; exact Dvd.intro_left _ rfl
/-- The next copies' sources do. -/
theorem chk3 (i : grid0.Coords) (v0 v7 v11 v191 v : BitVec 32) (hv : v.toNat < 8) : k0_chk3 i v0 v7 v11 v191 v := by
  refine ⟨fun _ _ => ?_, fun _ _ => fits v hv, fun _ _ => fitsT v hv⟩
  show 8 ∣ (Scalar.muli v 8#32).toNat
  rw [eight v hv]; exact Dvd.intro_left _ rfl

/-- A group's matrices at half the width, expert by expert. -/
def castWAt (g : Vec F S8x1024x256 .f32) (k : Fin 8) (a : Fin 1024) (b : Fin 256) : Elt F .bf16 :=
  k0_pay13 (wide g k.val (by have := k.isLt; intro a; match a with
    | ⟨0, _⟩ => show k.val + 1 ≤ 8; omega
    | ⟨1, _⟩ => show 0 + 1024 ≤ 1024; decide
    | ⟨2, _⟩ => show 0 + 256 ≤ 256; decide)) (ix3 (n0 := 1) (n1 := 1024) (n2 := 256) 0 a b)
def castW (g : Vec F S8x1024x256 .f32) : Vec F S8x1024x256 .bf16 := fun y => castWAt g (y 0) (y 1) (y 2)
def castTAt (g : Vec F S8x256x1024 .f32) (k : Fin 8) (a : Fin 256) (b : Fin 1024) : Elt F .bf16 :=
  k0_pay15 (tall g k.val (by have := k.isLt; intro a; match a with
    | ⟨0, _⟩ => show k.val + 1 ≤ 8; omega
    | ⟨1, _⟩ => show 0 + 256 ≤ 256; decide
    | ⟨2, _⟩ => show 0 + 1024 ≤ 1024; decide)) (ix3 (n0 := 1) (n1 := 256) (n2 := 1024) 0 a b)
def castT (g : Vec F S8x256x1024 .f32) : Vec F S8x256x1024 .bf16 := fun y => castTAt g (y 0) (y 1) (y 2)

/-- A copy of a group's matrices under way: what it will deliver, and the rest of the weights. -/
def flyW (c : Dev nD) (w : Memref sig .tc .hbm S4x64x1024x256 .f32) (d : Memref sig .tc .vmem S8x1024x256 .f32) (s : DmaSem sig)
    (f : Buf (Elt F) (w.view.loc (c : Thread nD τ))) (v : BitVec 32) (hv : v.toNat < 8) : sProp 𝕄 :=
  iprop(∃ g : Buf (Elt F) (d.view.loc (c : Thread nD τ)), ⌜d.view.read (Elt F) g = (src w v (fits v hv)).view.read (Elt F) f⌝
    ∗ Transfers.Flight (countersEmb (U := Pipeline.UD sig nD τ)) (c : Thread nD τ) (SemLoc.dma s) (default : Unit) 262144
      iprop(((d.view.loc (c : Thread nD τ)) ↦[d.view.set]{fullShare} g) ∗ ((w.view.loc (c : Thread nD τ)) ↦[(src w v (fits v hv)).view.set]{fullShare} f))
    ∗ ((w.view.loc (c : Thread nD τ)) ↦[w.view.set \ (src w v (fits v hv)).view.set]{fullShare} f))
def flyT (c : Dev nD) (w : Memref sig .tc .hbm S4x64x256x1024 .f32) (d : Memref sig .tc .vmem S8x256x1024 .f32) (s : DmaSem sig)
    (f : Buf (Elt F) (w.view.loc (c : Thread nD τ))) (v : BitVec 32) (hv : v.toNat < 8) : sProp 𝕄 :=
  iprop(∃ g : Buf (Elt F) (d.view.loc (c : Thread nD τ)), ⌜d.view.read (Elt F) g = (srcT w v (fitsT v hv)).view.read (Elt F) f⌝
    ∗ Transfers.Flight (countersEmb (U := Pipeline.UD sig nD τ)) (c : Thread nD τ) (SemLoc.dma s) (default : Unit) 262144
      iprop(((d.view.loc (c : Thread nD τ)) ↦[d.view.set]{fullShare} g) ∗ ((w.view.loc (c : Thread nD τ)) ↦[(srcT w v (fitsT v hv)).view.set]{fullShare} f))
    ∗ ((w.view.loc (c : Thread nD τ)) ↦[w.view.set \ (srcT w v (fitsT v hv)).view.set]{fullShare} f))

/-- A whole write leaves what it wrote. -/
theorem read_whole {S : Shape} {e : EltTy} {sp : Space} (v : View sig .tc sp S e) (f : v.ty.Contents (Elt F)) (d : S.Idx → Elt F e) :
    v.read (Elt F) (v.writes (Elt F) f [⟨Rect.whole S, d⟩]) = d := by
  refine funext fun y => View.read_writes_apply_of_pieces _ _ d _ ?_ y ⟨_, List.Mem.head _, by rw [show (Rect.whole S).set = Finset.univ from Rect.set_whole S]; exact Finset.mem_univ y⟩
  intro p hp x
  obtain rfl : p = ⟨Rect.whole S, d⟩ := by simpa using hp
  exact congrArg d (Rect.emb_whole_apply S x).symm

/-- A place in one matrix of eight. -/
theorem slab_val {n0 n1 n2 k : ℕ} {inb} (x : (⟨3, ![1, n1, n2]⟩ : Shape).Idx) (hk : k < n0) :
    ((Rect.unit (s := ⟨3, ![n0, n1, n2]⟩) ![k, 0, 0] (⟨3, ![1, n1, n2]⟩ : Shape).size inb).emb x) = ix3 (n0 := n0) (n1 := n1) (n2 := n2) ⟨k, hk⟩ (x 1) (x 2) := by
  funext a
  refine Fin.ext ?_
  rw [ValueKit.rect_emb_unit_val]
  match a with
  | ⟨0, _⟩ => have hx : (x 0).val < 1 := (x 0).isLt; show k + (x 0).val = k; omega
  | ⟨1, _⟩ => show 0 + (x 1).val = (x 1).val; omega
  | ⟨2, _⟩ => show 0 + (x 2).val = (x 2).val; omega

/-- A place is in the matrix of its first coordinate. -/
theorem slab_mem {n0 n1 n2 k : ℕ} {inb} (y : (⟨3, ![n0, n1, n2]⟩ : Shape).Idx) (hk : (y 0).val = k) :
    y ∈ (Rect.unit (s := ⟨3, ![n0, n1, n2]⟩) ![k, 0, 0] (⟨3, ![1, n1, n2]⟩ : Shape).size inb).set := by
  refine (Rect.mem_set_unit).mpr fun a => ?_
  match a with
  | ⟨0, _⟩ => exact ⟨by show k ≤ (y 0).val; omega, by show (y 0).val < k + 1; omega⟩
  | ⟨1, _⟩ => exact ⟨Nat.zero_le _, by show (y 1).val < 0 + n1; have : (y 1).val < n1 := (y 1).isLt; omega⟩
  | ⟨2, _⟩ => exact ⟨Nat.zero_le _, by show (y 2).val < 0 + n2; have : (y 2).val < n2 := (y 2).isLt; omega⟩

/-- An index whose first coordinate can only be zero. -/
theorem unit_first {n1 n2 : ℕ} (x : (⟨3, ![1, n1, n2]⟩ : Shape).Idx) : x = ix3 (n0 := 1) (n1 := n1) (n2 := n2) 0 (x 1) (x 2) := by
  funext a
  match a with
  | ⟨0, _⟩ => exact Fin.ext (by have hx : (x 0).val < 1 := (x 0).isLt; show (x 0).val = 0; omega)
  | ⟨1, _⟩ => rfl
  | ⟨2, _⟩ => rfl

/-- A cast group's matrix is the cast of its matrix. -/
theorem castW_at (g : Vec F S8x1024x256 .f32) (k : ℕ) (hk : k < 8) {h} (x : S1x1024x256.Idx) :
    k0_pay13 (wide g k h) x = castW g ((Rect.unit (s := S8x1024x256) ![k, 0, 0] S1x1024x256.size h).emb x) :=
  Eq.trans (congrArg (k0_pay13 (wide g k h)) (unit_first x)) (congrArg (castW g) (slab_val (n0 := 8) (n1 := 1024) (n2 := 256) x hk)).symm
/-- The same of the matrices back. -/
theorem castT_at (g : Vec F S8x256x1024 .f32) (k : ℕ) (hk : k < 8) {h} (x : S1x256x1024.Idx) :
    k0_pay15 (tall g k h) x = castT g ((Rect.unit (s := S8x256x1024) ![k, 0, 0] S1x256x1024.size h).emb x) :=
  Eq.trans (congrArg (k0_pay15 (tall g k h)) (unit_first x)) (congrArg (castT g) (slab_val (n0 := 8) (n1 := 256) (n2 := 1024) x hk)).symm

/-- Eight experts written one by one leave the group at half the width. -/
theorem castW_writes {sp : Space} (v : View sig .tc sp S8x1024x256 .bf16) (f : v.ty.Contents (Elt F)) (g : Vec F S8x1024x256 .f32)
    (p0 : S1x1024x256.Idx → Elt F .bf16) (p1 : S1x1024x256.Idx → Elt F .bf16) (p2 : S1x1024x256.Idx → Elt F .bf16) (p3 : S1x1024x256.Idx → Elt F .bf16) (p4 : S1x1024x256.Idx → Elt F .bf16) (p5 : S1x1024x256.Idx → Elt F .bf16) (p6 : S1x1024x256.Idx → Elt F .bf16) (p7 : S1x1024x256.Idx → Elt F .bf16)
    (e0 : p0 = k0_pay13 (wide g 0 inb_S8x1024x256_S1x1024x256_0_0_0)) (e1 : p1 = k0_pay13 (wide g 1 inb_S8x1024x256_S1x1024x256_1_0_0)) (e2 : p2 = k0_pay13 (wide g 2 inb_S8x1024x256_S1x1024x256_2_0_0)) (e3 : p3 = k0_pay13 (wide g 3 inb_S8x1024x256_S1x1024x256_3_0_0)) (e4 : p4 = k0_pay13 (wide g 4 inb_S8x1024x256_S1x1024x256_4_0_0)) (e5 : p5 = k0_pay13 (wide g 5 inb_S8x1024x256_S1x1024x256_5_0_0)) (e6 : p6 = k0_pay13 (wide g 6 inb_S8x1024x256_S1x1024x256_6_0_0)) (e7 : p7 = k0_pay13 (wide g 7 inb_S8x1024x256_S1x1024x256_7_0_0)) :
    v.read (Elt F) (v.writes (Elt F) f [⟨Rect.unit (s := S8x1024x256) ![7, 0, 0] S1x1024x256.size inb_S8x1024x256_S1x1024x256_7_0_0, p7⟩, ⟨Rect.unit (s := S8x1024x256) ![6, 0, 0] S1x1024x256.size inb_S8x1024x256_S1x1024x256_6_0_0, p6⟩, ⟨Rect.unit (s := S8x1024x256) ![5, 0, 0] S1x1024x256.size inb_S8x1024x256_S1x1024x256_5_0_0, p5⟩, ⟨Rect.unit (s := S8x1024x256) ![4, 0, 0] S1x1024x256.size inb_S8x1024x256_S1x1024x256_4_0_0, p4⟩, ⟨Rect.unit (s := S8x1024x256) ![3, 0, 0] S1x1024x256.size inb_S8x1024x256_S1x1024x256_3_0_0, p3⟩, ⟨Rect.unit (s := S8x1024x256) ![2, 0, 0] S1x1024x256.size inb_S8x1024x256_S1x1024x256_2_0_0, p2⟩, ⟨Rect.unit (s := S8x1024x256) ![1, 0, 0] S1x1024x256.size inb_S8x1024x256_S1x1024x256_1_0_0, p1⟩, ⟨Rect.unit (s := S8x1024x256) ![0, 0, 0] S1x1024x256.size inb_S8x1024x256_S1x1024x256_0_0_0, p0⟩]) = castW g := by
  subst e0 e1 e2 e3 e4 e5 e6 e7
  refine funext fun y => View.read_writes_apply_of_pieces _ _ (castW g) _ ?_ y ?_
  · simp only [List.forall_mem_cons]
    exact ⟨fun z => castW_at g 7 (by decide) z, fun z => castW_at g 6 (by decide) z, fun z => castW_at g 5 (by decide) z, fun z => castW_at g 4 (by decide) z, fun z => castW_at g 3 (by decide) z, fun z => castW_at g 2 (by decide) z, fun z => castW_at g 1 (by decide) z, fun z => castW_at g 0 (by decide) z, fun p hp => absurd hp List.not_mem_nil⟩
  · have hy : (y 0).val < 8 := (y 0).isLt
    obtain h | h | h | h | h | h | h | h : (y 0).val = 7 ∨ (y 0).val = 6 ∨ (y 0).val = 5 ∨ (y 0).val = 4 ∨ (y 0).val = 3 ∨ (y 0).val = 2 ∨ (y 0).val = 1 ∨ (y 0).val = 0 := by omega
    · exact ⟨_, List.Mem.head _, slab_mem (n0 := 8) (n1 := 1024) (n2 := 256) (inb := inb_S8x1024x256_S1x1024x256_7_0_0) y h⟩
    · exact ⟨_, List.Mem.tail _ (List.Mem.head _), slab_mem (n0 := 8) (n1 := 1024) (n2 := 256) (inb := inb_S8x1024x256_S1x1024x256_6_0_0) y h⟩
    · exact ⟨_, List.Mem.tail _ (List.Mem.tail _ (List.Mem.head _)), slab_mem (n0 := 8) (n1 := 1024) (n2 := 256) (inb := inb_S8x1024x256_S1x1024x256_5_0_0) y h⟩
    · exact ⟨_, List.Mem.tail _ (List.Mem.tail _ (List.Mem.tail _ (List.Mem.head _))), slab_mem (n0 := 8) (n1 := 1024) (n2 := 256) (inb := inb_S8x1024x256_S1x1024x256_4_0_0) y h⟩
    · exact ⟨_, List.Mem.tail _ (List.Mem.tail _ (List.Mem.tail _ (List.Mem.tail _ (List.Mem.head _)))), slab_mem (n0 := 8) (n1 := 1024) (n2 := 256) (inb := inb_S8x1024x256_S1x1024x256_3_0_0) y h⟩
    · exact ⟨_, List.Mem.tail _ (List.Mem.tail _ (List.Mem.tail _ (List.Mem.tail _ (List.Mem.tail _ (List.Mem.head _))))), slab_mem (n0 := 8) (n1 := 1024) (n2 := 256) (inb := inb_S8x1024x256_S1x1024x256_2_0_0) y h⟩
    · exact ⟨_, List.Mem.tail _ (List.Mem.tail _ (List.Mem.tail _ (List.Mem.tail _ (List.Mem.tail _ (List.Mem.tail _ (List.Mem.head _)))))), slab_mem (n0 := 8) (n1 := 1024) (n2 := 256) (inb := inb_S8x1024x256_S1x1024x256_1_0_0) y h⟩
    · exact ⟨_, List.Mem.tail _ (List.Mem.tail _ (List.Mem.tail _ (List.Mem.tail _ (List.Mem.tail _ (List.Mem.tail _ (List.Mem.tail _ (List.Mem.head _))))))), slab_mem (n0 := 8) (n1 := 1024) (n2 := 256) (inb := inb_S8x1024x256_S1x1024x256_0_0_0) y h⟩

/-- Eight experts written one by one leave the group at half the width. -/
theorem castT_writes {sp : Space} (v : View sig .tc sp S8x256x1024 .bf16) (f : v.ty.Contents (Elt F)) (g : Vec F S8x256x1024 .f32)
    (p0 : S1x256x1024.Idx → Elt F .bf16) (p1 : S1x256x1024.Idx → Elt F .bf16) (p2 : S1x256x1024.Idx → Elt F .bf16) (p3 : S1x256x1024.Idx → Elt F .bf16) (p4 : S1x256x1024.Idx → Elt F .bf16) (p5 : S1x256x1024.Idx → Elt F .bf16) (p6 : S1x256x1024.Idx → Elt F .bf16) (p7 : S1x256x1024.Idx → Elt F .bf16)
    (e0 : p0 = k0_pay15 (tall g 0 inb_S8x256x1024_S1x256x1024_0_0_0)) (e1 : p1 = k0_pay15 (tall g 1 inb_S8x256x1024_S1x256x1024_1_0_0)) (e2 : p2 = k0_pay15 (tall g 2 inb_S8x256x1024_S1x256x1024_2_0_0)) (e3 : p3 = k0_pay15 (tall g 3 inb_S8x256x1024_S1x256x1024_3_0_0)) (e4 : p4 = k0_pay15 (tall g 4 inb_S8x256x1024_S1x256x1024_4_0_0)) (e5 : p5 = k0_pay15 (tall g 5 inb_S8x256x1024_S1x256x1024_5_0_0)) (e6 : p6 = k0_pay15 (tall g 6 inb_S8x256x1024_S1x256x1024_6_0_0)) (e7 : p7 = k0_pay15 (tall g 7 inb_S8x256x1024_S1x256x1024_7_0_0)) :
    v.read (Elt F) (v.writes (Elt F) f [⟨Rect.unit (s := S8x256x1024) ![7, 0, 0] S1x256x1024.size inb_S8x256x1024_S1x256x1024_7_0_0, p7⟩, ⟨Rect.unit (s := S8x256x1024) ![6, 0, 0] S1x256x1024.size inb_S8x256x1024_S1x256x1024_6_0_0, p6⟩, ⟨Rect.unit (s := S8x256x1024) ![5, 0, 0] S1x256x1024.size inb_S8x256x1024_S1x256x1024_5_0_0, p5⟩, ⟨Rect.unit (s := S8x256x1024) ![4, 0, 0] S1x256x1024.size inb_S8x256x1024_S1x256x1024_4_0_0, p4⟩, ⟨Rect.unit (s := S8x256x1024) ![3, 0, 0] S1x256x1024.size inb_S8x256x1024_S1x256x1024_3_0_0, p3⟩, ⟨Rect.unit (s := S8x256x1024) ![2, 0, 0] S1x256x1024.size inb_S8x256x1024_S1x256x1024_2_0_0, p2⟩, ⟨Rect.unit (s := S8x256x1024) ![1, 0, 0] S1x256x1024.size inb_S8x256x1024_S1x256x1024_1_0_0, p1⟩, ⟨Rect.unit (s := S8x256x1024) ![0, 0, 0] S1x256x1024.size inb_S8x256x1024_S1x256x1024_0_0_0, p0⟩]) = castT g := by
  subst e0 e1 e2 e3 e4 e5 e6 e7
  refine funext fun y => View.read_writes_apply_of_pieces _ _ (castT g) _ ?_ y ?_
  · simp only [List.forall_mem_cons]
    exact ⟨fun z => castT_at g 7 (by decide) z, fun z => castT_at g 6 (by decide) z, fun z => castT_at g 5 (by decide) z, fun z => castT_at g 4 (by decide) z, fun z => castT_at g 3 (by decide) z, fun z => castT_at g 2 (by decide) z, fun z => castT_at g 1 (by decide) z, fun z => castT_at g 0 (by decide) z, fun p hp => absurd hp List.not_mem_nil⟩
  · have hy : (y 0).val < 8 := (y 0).isLt
    obtain h | h | h | h | h | h | h | h : (y 0).val = 7 ∨ (y 0).val = 6 ∨ (y 0).val = 5 ∨ (y 0).val = 4 ∨ (y 0).val = 3 ∨ (y 0).val = 2 ∨ (y 0).val = 1 ∨ (y 0).val = 0 := by omega
    · exact ⟨_, List.Mem.head _, slab_mem (n0 := 8) (n1 := 256) (n2 := 1024) (inb := inb_S8x256x1024_S1x256x1024_7_0_0) y h⟩
    · exact ⟨_, List.Mem.tail _ (List.Mem.head _), slab_mem (n0 := 8) (n1 := 256) (n2 := 1024) (inb := inb_S8x256x1024_S1x256x1024_6_0_0) y h⟩
    · exact ⟨_, List.Mem.tail _ (List.Mem.tail _ (List.Mem.head _)), slab_mem (n0 := 8) (n1 := 256) (n2 := 1024) (inb := inb_S8x256x1024_S1x256x1024_5_0_0) y h⟩
    · exact ⟨_, List.Mem.tail _ (List.Mem.tail _ (List.Mem.tail _ (List.Mem.head _))), slab_mem (n0 := 8) (n1 := 256) (n2 := 1024) (inb := inb_S8x256x1024_S1x256x1024_4_0_0) y h⟩
    · exact ⟨_, List.Mem.tail _ (List.Mem.tail _ (List.Mem.tail _ (List.Mem.tail _ (List.Mem.head _)))), slab_mem (n0 := 8) (n1 := 256) (n2 := 1024) (inb := inb_S8x256x1024_S1x256x1024_3_0_0) y h⟩
    · exact ⟨_, List.Mem.tail _ (List.Mem.tail _ (List.Mem.tail _ (List.Mem.tail _ (List.Mem.tail _ (List.Mem.head _))))), slab_mem (n0 := 8) (n1 := 256) (n2 := 1024) (inb := inb_S8x256x1024_S1x256x1024_2_0_0) y h⟩
    · exact ⟨_, List.Mem.tail _ (List.Mem.tail _ (List.Mem.tail _ (List.Mem.tail _ (List.Mem.tail _ (List.Mem.tail _ (List.Mem.head _)))))), slab_mem (n0 := 8) (n1 := 256) (n2 := 1024) (inb := inb_S8x256x1024_S1x256x1024_1_0_0) y h⟩
    · exact ⟨_, List.Mem.tail _ (List.Mem.tail _ (List.Mem.tail _ (List.Mem.tail _ (List.Mem.tail _ (List.Mem.tail _ (List.Mem.tail _ (List.Mem.head _))))))), slab_mem (n0 := 8) (n1 := 256) (n2 := 1024) (inb := inb_S8x256x1024_S1x256x1024_0_0_0) y h⟩

/-- Nothing under way: the weights whole, the buffers for the copies at some contents, the counters at zero. -/
def still (c : Dev nD) (arg6 arg7 : Memref sig .tc .hbm S4x64x1024x256 .f32) (arg8 : Memref sig .tc .hbm S4x64x256x1024 .f32)
    (arg10 arg11 : Memref sig .tc .vmem S8x1024x256 .f32) (arg12 : Memref sig .tc .vmem S8x256x1024 .f32) (arg16 : DmaSems sig S3)
    (f6 : Buf (Elt F) (arg6.view.loc (c : Thread nD τ))) (f7 : Buf (Elt F) (arg7.view.loc (c : Thread nD τ))) (f8 : Buf (Elt F) (arg8.view.loc (c : Thread nD τ))) : sProp 𝕄 :=
  iprop(((arg6.view.loc (c : Thread nD τ)) ↦[arg6.view.set]{fullShare} f6) ∗ ((arg7.view.loc (c : Thread nD τ)) ↦[arg7.view.set]{fullShare} f7) ∗ ((arg8.view.loc (c : Thread nD τ)) ↦[arg8.view.set]{fullShare} f8)
      ∗ (∃ d, owns (c : Thread nD τ) arg10 fullShare d) ∗ (∃ d, owns (c : Thread nD τ) arg11 fullShare d) ∗ (∃ d, owns (c : Thread nD τ) arg12 fullShare d)
      ∗ semVal ((c : Thread nD τ), SemLoc.dma (((arg16.slice (Rect.unit (s := S3) ![0] S1.size inb_S3_S1_0)).squeeze S_ squeezes_S1_S_).sem)) 0
      ∗ semVal ((c : Thread nD τ), SemLoc.dma (((arg16.slice (Rect.unit (s := S3) ![1] S1.size inb_S3_S1_1)).squeeze S_ squeezes_S1_S_).sem)) 0
      ∗ semVal ((c : Thread nD τ), SemLoc.dma (((arg16.slice (Rect.unit (s := S3) ![2] S1.size inb_S3_S1_2)).squeeze S_ squeezes_S1_S_).sem)) 0)

/-- A group's three copies under way. -/
def moving (c : Dev nD) (arg6 arg7 : Memref sig .tc .hbm S4x64x1024x256 .f32) (arg8 : Memref sig .tc .hbm S4x64x256x1024 .f32)
    (arg10 arg11 : Memref sig .tc .vmem S8x1024x256 .f32) (arg12 : Memref sig .tc .vmem S8x256x1024 .f32) (arg16 : DmaSems sig S3)
    (f6 : Buf (Elt F) (arg6.view.loc (c : Thread nD τ))) (f7 : Buf (Elt F) (arg7.view.loc (c : Thread nD τ))) (f8 : Buf (Elt F) (arg8.view.loc (c : Thread nD τ)))
    (v : BitVec 32) (hv : v.toNat < 8) : sProp 𝕄 :=
  iprop(flyW c arg6 arg10 (((arg16.slice (Rect.unit (s := S3) ![0] S1.size inb_S3_S1_0)).squeeze S_ squeezes_S1_S_).sem) f6 v hv
      ∗ flyW c arg7 arg11 (((arg16.slice (Rect.unit (s := S3) ![1] S1.size inb_S3_S1_1)).squeeze S_ squeezes_S1_S_).sem) f7 v hv
      ∗ flyT c arg8 arg12 (((arg16.slice (Rect.unit (s := S3) ![2] S1.size inb_S3_S1_2)).squeeze S_ squeezes_S1_S_).sem) f8 v hv)

/-- A step that loads no weights goes straight to the end of the body. -/
theorem head_keep (c : Dev nD) (i : grid0.Coords) (arg5 : Memref sig .tc .vmem S8192x128 .f32) (harg5 : arg5.IsWhole) (arg6 : Memref sig .tc .hbm S4x64x1024x256 .f32) (harg6 : arg6.IsWhole) (arg7 : Memref sig .tc .hbm S4x64x1024x256 .f32) (harg7 : arg7.IsWhole) (arg8 : Memref sig .tc .hbm S4x64x256x1024 .f32) (harg8 : arg8.IsWhole) (arg9 : Memref sig .tc .vmem S4096x128 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S8x256x1024 .f32) (harg12 : arg12.IsWhole) (arg13 : Memref sig .tc .vmem S8x1024x256 .bf16) (harg13 : arg13.IsWhole) (arg14 : Memref sig .tc .vmem S8x1024x256 .bf16) (harg14 : arg14.IsWhole) (arg15 : Memref sig .tc .vmem S8x256x1024 .bf16) (harg15 : arg15.IsWhole) (arg16 : DmaSems sig S3)
    (fb : Buf (Elt F) (ℓb c)) (fu : Buf (Elt F) (ℓu c)) (fx : Buf (Elt F) (ℓx c)) (fn : Buf (Elt F) (ℓn c)) (q : PosShare TreeShare)
    (hi : (i 0).val < 40) (o4 : ℕ) (ho4 : o4 < 40) (e4 : k0_off4 i = ![o4]) (hc1 : ¬ k0_cond1 i = 1#1)
    (hc2 : ¬ k0_cond2 i ((fu : S1.Idx → BitVec 32) (ix1 0)) ((fb : S40.Idx → BitVec 32) (ix1 ⟨(i 0).val, hi⟩)) ((fb : S40.Idx → BitVec 32) (ix1 ⟨o4, ho4⟩)) = 1#1)
    (K : PUnit → sProp 𝕄) :
    iprop(((ℓb c ↦[Finset.univ]{q} fb) ∗ (ℓu c ↦[Finset.univ]{q} fu) ∗ (ℓx c ↦[Finset.univ]{q} fx) ∗ (ℓn c ↦[Finset.univ]{q} fn))
      ∗ (((ℓb c ↦[Finset.univ]{q} fb) ∗ (ℓu c ↦[Finset.univ]{q} fu) ∗ (ℓx c ↦[Finset.univ]{q} fx) ∗ (ℓn c ↦[Finset.univ]{q} fn)) -∗ wpc c (tail (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 arg9 harg9 arg10 harg10 arg11 harg11 arg12 harg12 arg13 harg13 arg14 harg14 arg15 harg15 arg16 ((fu : S1.Idx → BitVec 32) (ix1 0)) ((fn : S40.Idx → BitVec 32) (ix1 ⟨(i 0).val, hi⟩))) K))
    ⊢ wpc c (cc0_moe_ffn (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 arg9 harg9 arg10 harg10 arg11 harg11 arg12 harg12 arg13 harg13 arg14 harg14 arg15 harg15 arg16) K := by
  simp only [cc0_moe_ffn_eq_skeleton]
  unfold cc0_moe_ffn_skel
  iintro ⟨⟨Hb, Hu, Hx, Hn⟩, Hk⟩
  iapply (load_used c fu q _) $$ Hu; iintro Hu
  iapply (wpc_skip c hc1)
  iapply (load_bg c fb q _ _ (i 0).val hi (k0_off3_eq i)) $$ Hb; iintro Hb
  iapply (load_bg c fb q _ _ o4 ho4 e4) $$ Hb; iintro Hb
  iapply (wpc_skip c hc2)
  iapply (load_cnt c fn q _ _ (i 0).val hi (k0_off12_eq i)) $$ Hn; iintro Hn
  iapply Hk
  isplitl [Hb]; · iexact Hb
  isplitl [Hu]; · iexact Hu
  isplitl [Hx]; · iexact Hx
  iexact Hn

set_option maxHeartbeats 4000000 in
/-- The first step, another group to come: its group's matrices are copied and cast, the next group's copies start. -/
theorem head_first_next (c : Dev nD) (i : grid0.Coords) (arg5 : Memref sig .tc .vmem S8192x128 .f32) (harg5 : arg5.IsWhole) (arg6 : Memref sig .tc .hbm S4x64x1024x256 .f32) (harg6 : arg6.IsWhole) (arg7 : Memref sig .tc .hbm S4x64x1024x256 .f32) (harg7 : arg7.IsWhole) (arg8 : Memref sig .tc .hbm S4x64x256x1024 .f32) (harg8 : arg8.IsWhole) (arg9 : Memref sig .tc .vmem S4096x128 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S8x256x1024 .f32) (harg12 : arg12.IsWhole) (arg13 : Memref sig .tc .vmem S8x1024x256 .bf16) (harg13 : arg13.IsWhole) (arg14 : Memref sig .tc .vmem S8x1024x256 .bf16) (harg14 : arg14.IsWhole) (arg15 : Memref sig .tc .vmem S8x256x1024 .bf16) (harg15 : arg15.IsWhole) (arg16 : DmaSems sig S3)
    (fb : Buf (Elt F) (ℓb c)) (fu : Buf (Elt F) (ℓu c)) (fx : Buf (Elt F) (ℓx c)) (fn : Buf (Elt F) (ℓn c)) (q : PosShare TreeShare)
    (hi : (i 0).val < 40) (o4 : ℕ) (ho4 : o4 < 40) (e4 : k0_off4 i = ![o4])
    (hc1 : k0_cond1 i = 1#1) (hv : ((fb : S40.Idx → BitVec 32) (ix1 ⟨0, by decide⟩)).toNat < 8)
    (hc2 : k0_cond2 i ((fu : S1.Idx → BitVec 32) (ix1 0)) ((fb : S40.Idx → BitVec 32) (ix1 ⟨(i 0).val, hi⟩)) ((fb : S40.Idx → BitVec 32) (ix1 ⟨o4, ho4⟩)) = 1#1) (hvi : ((fb : S40.Idx → BitVec 32) (ix1 ⟨(i 0).val, hi⟩)).toNat < 8)
    (hc3 : k0_cond3 ((fx : S40.Idx → BitVec 32) (ix1 ⟨(i 0).val, hi⟩)) = 1#1) (hvx : ((fx : S40.Idx → BitVec 32) (ix1 ⟨(i 0).val, hi⟩)).toNat < 8)
    (f6 : Buf (Elt F) (arg6.view.loc (c : Thread nD τ))) (f7 : Buf (Elt F) (arg7.view.loc (c : Thread nD τ))) (f8 : Buf (Elt F) (arg8.view.loc (c : Thread nD τ)))
    (K : PUnit → sProp 𝕄) :
    iprop(((ℓb c ↦[Finset.univ]{q} fb) ∗ (ℓu c ↦[Finset.univ]{q} fu) ∗ (ℓx c ↦[Finset.univ]{q} fx) ∗ (ℓn c ↦[Finset.univ]{q} fn))
      ∗ still c arg6 arg7 arg8 arg10 arg11 arg12 arg16 f6 f7 f8
      ∗ ((∃ d, owns (c : Thread nD τ) arg13 fullShare d) ∗ (∃ d, owns (c : Thread nD τ) arg14 fullShare d) ∗ (∃ d, owns (c : Thread nD τ) arg15 fullShare d))
      ∗ (∃ W : Waits sig Unit, owes (c : Thread nD τ) 0 W)
      ∗ (iprop(((ℓb c ↦[Finset.univ]{q} fb) ∗ (ℓu c ↦[Finset.univ]{q} fu) ∗ (ℓx c ↦[Finset.univ]{q} fx) ∗ (ℓn c ↦[Finset.univ]{q} fn))
        ∗ moving c arg6 arg7 arg8 arg10 arg11 arg12 arg16 f6 f7 f8 ((fx : S40.Idx → BitVec 32) (ix1 ⟨(i 0).val, hi⟩)) hvx
        ∗ (owns (c : Thread nD τ) arg13 fullShare (castW ((src arg6 ((fb : S40.Idx → BitVec 32) (ix1 ⟨0, by decide⟩)) (fits ((fb : S40.Idx → BitVec 32) (ix1 ⟨0, by decide⟩)) hv)).view.read (Elt F) f6))
          ∗ owns (c : Thread nD τ) arg14 fullShare (castW ((src arg7 ((fb : S40.Idx → BitVec 32) (ix1 ⟨0, by decide⟩)) (fits ((fb : S40.Idx → BitVec 32) (ix1 ⟨0, by decide⟩)) hv)).view.read (Elt F) f7))
          ∗ owns (c : Thread nD τ) arg15 fullShare (castT ((srcT arg8 ((fb : S40.Idx → BitVec 32) (ix1 ⟨0, by decide⟩)) (fitsT ((fb : S40.Idx → BitVec 32) (ix1 ⟨0, by decide⟩)) hv)).view.read (Elt F) f8)))
        ∗ (∃ W : Waits sig Unit, owes (c : Thread nD τ) 0 W))
        -∗ wpc c (tail (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 arg9 harg9 arg10 harg10 arg11 harg11 arg12 harg12 arg13 harg13 arg14 harg14 arg15 harg15 arg16 ((fu : S1.Idx → BitVec 32) (ix1 0)) ((fn : S40.Idx → BitVec 32) (ix1 ⟨(i 0).val, hi⟩))) K))
    ⊢ wpc c (cc0_moe_ffn (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 arg9 harg9 arg10 harg10 arg11 harg11 arg12 harg12 arg13 harg13 arg14 harg14 arg15 harg15 arg16) K := by
  have hk1 := chk1 i ((fb : S40.Idx → BitVec 32) (ix1 ⟨0, by decide⟩)) hv
  have hk2 := chk2 i ((fu : S1.Idx → BitVec 32) (ix1 0)) ((fb : S40.Idx → BitVec 32) (ix1 ⟨(i 0).val, hi⟩)) ((fb : S40.Idx → BitVec 32) (ix1 ⟨o4, ho4⟩)) ((fb : S40.Idx → BitVec 32) (ix1 ⟨(i 0).val, hi⟩)) hvi
  have hk3 := chk3 i ((fu : S1.Idx → BitVec 32) (ix1 0)) ((fb : S40.Idx → BitVec 32) (ix1 ⟨(i 0).val, hi⟩)) ((fb : S40.Idx → BitVec 32) (ix1 ⟨o4, ho4⟩)) ((fx : S40.Idx → BitVec 32) (ix1 ⟨(i 0).val, hi⟩)) ((fx : S40.Idx → BitVec 32) (ix1 ⟨(i 0).val, hi⟩)) hvx
  simp only [cc0_moe_ffn_eq_skeleton]
  unfold cc0_moe_ffn_skel
  unfold still owns
  iintro ⟨⟨Hb, Hu, Hx, Hn⟩, ⟨H6, H7, H8, ⟨%d10, %f10, -, H10⟩, ⟨%d11, %f11, -, H11⟩, ⟨%d12, %f12, -, H12⟩, Hs0, Hs1, Hs2⟩,
    ⟨⟨%d13, %f13, -, H13⟩, ⟨%d14, %f14, -, H14⟩, ⟨%d15, %f15, -, H15⟩⟩, ⟨%W, HW⟩, Hk⟩
  iapply (load_used c fu q _) $$ Hu; iintro Hu
  iapply (wpc_take c hc1)
  iapply (load_bg c fb q _ _ 0 (by decide) rfl) $$ Hb; iintro Hb
  unfold wpc
  sl_exec
  ihave Hf : flyW c arg6 arg10 (((arg16.slice (Rect.unit (s := S3) ![0] S1.size inb_S3_S1_0)).squeeze S_ squeezes_S1_S_).sem) f6 ((fb : S40.Idx → BitVec 32) (ix1 ⟨0, by decide⟩)) hv $$ [Hs0 H6]
  · unfold flyW
    iexists _; isplitr
    swap
    · isplitl [Hs0]; · iexact Hs0
      iexact H6
    ipureintro
    exact read_whole _ _ _
  unfold flyW src
  icases Hf with ⟨%g0, %hg0, Hs0, H6⟩
  ihave Hf : flyW c arg7 arg11 (((arg16.slice (Rect.unit (s := S3) ![1] S1.size inb_S3_S1_1)).squeeze S_ squeezes_S1_S_).sem) f7 ((fb : S40.Idx → BitVec 32) (ix1 ⟨0, by decide⟩)) hv $$ [Hs1 H7]
  · unfold flyW
    iexists _; isplitr
    swap
    · isplitl [Hs1]; · iexact Hs1
      iexact H7
    ipureintro
    exact read_whole _ _ _
  unfold flyW src
  icases Hf with ⟨%g1, %hg1, Hs1, H7⟩
  ihave Hf : flyT c arg8 arg12 (((arg16.slice (Rect.unit (s := S3) ![2] S1.size inb_S3_S1_2)).squeeze S_ squeezes_S1_S_).sem) f8 ((fb : S40.Idx → BitVec 32) (ix1 ⟨0, by decide⟩)) hv $$ [Hs2 H8]
  · unfold flyT
    iexists _; isplitr
    swap
    · isplitl [Hs2]; · iexact Hs2
      iexact H8
    ipureintro
    exact read_whole _ _ _
  unfold flyT srcT
  icases Hf with ⟨%g2, %hg2, Hs2, H8⟩
  iapply (load_bg c fb q _ _ (i 0).val hi (k0_off3_eq i)) $$ Hb; iintro Hb
  unfold wpc
  sl_step
  iapply (load_bg c fb q _ _ o4 ho4 e4) $$ Hb; iintro Hb
  iapply (wpc_take c hc2)
  unfold wpc
  sl_exec
  iapply (load_bg c fb q _ _ (i 0).val hi (k0_off5_eq i)) $$ Hb; iintro Hb
  unfold wpc
  sl_exec
  iapply (load_nxt c fx q _ _ (i 0).val hi (k0_off8_eq i)) $$ Hx; iintro Hx
  unfold wpc
  sl_step
  iapply (wpc_take c hc3)
  unfold wpc
  sl_exec
  iapply (load_nxt c fx q _ _ (i 0).val hi (k0_off9_eq i)) $$ Hx; iintro Hx
  unfold wpc
  sl_exec
  iapply (load_cnt c fn q _ _ (i 0).val hi (k0_off12_eq i)) $$ Hn; iintro Hn
  unfold wpc
  sl_step
  iapply Hk
  isplitl [Hb Hu Hx Hn]
  · isplitl [Hb]; · iexact Hb
    isplitl [Hu]; · iexact Hu
    isplitl [Hx]; · iexact Hx
    iexact Hn
  isplitl [Hs0 Hs1 Hs2 H6 H7 H8]
  · try unfold moving
    isplitl [Hs0 H6]
    · try unfold flyW
      iexists _; isplitr
      swap
      · isplitl [Hs0]; · iexact Hs0
        iexact H6
      ipureintro
      exact read_whole _ _ _
    isplitl [Hs1 H7]
    · try unfold flyW
      iexists _; isplitr
      swap
      · isplitl [Hs1]; · iexact Hs1
        iexact H7
      ipureintro
      exact read_whole _ _ _
    try unfold flyT
    iexists _; isplitr
    swap
    · isplitl [Hs2]; · iexact Hs2
      iexact H8
    ipureintro
    exact read_whole _ _ _
  isplitr [HW]
  · isplitl [H13]
    · iexists _; isplitr; swap; · iexact H13
      ipureintro
      exact (castW_writes _ _ (arg10.view.read (Elt F) g0) _ _ _ _ _ _ _ _ rfl rfl rfl rfl rfl rfl rfl rfl).trans (congrArg castW hg0)
    isplitl [H14]
    · iexists _; isplitr; swap; · iexact H14
      ipureintro
      exact (castW_writes _ _ (arg11.view.read (Elt F) g1) _ _ _ _ _ _ _ _ rfl rfl rfl rfl rfl rfl rfl rfl).trans (congrArg castW hg1)
    iexists _; isplitr; swap; · iexact H15
    ipureintro
    exact (castT_writes _ _ (arg12.view.read (Elt F) g2) _ _ _ _ _ _ _ _ rfl rfl rfl rfl rfl rfl rfl rfl).trans (congrArg castT hg2)
  iexists _; iexact HW

set_option maxHeartbeats 4000000 in
/-- The first step, no other group to come. -/
theorem head_first_last (c : Dev nD) (i : grid0.Coords) (arg5 : Memref sig .tc .vmem S8192x128 .f32) (harg5 : arg5.IsWhole) (arg6 : Memref sig .tc .hbm S4x64x1024x256 .f32) (harg6 : arg6.IsWhole) (arg7 : Memref sig .tc .hbm S4x64x1024x256 .f32) (harg7 : arg7.IsWhole) (arg8 : Memref sig .tc .hbm S4x64x256x1024 .f32) (harg8 : arg8.IsWhole) (arg9 : Memref sig .tc .vmem S4096x128 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S8x256x1024 .f32) (harg12 : arg12.IsWhole) (arg13 : Memref sig .tc .vmem S8x1024x256 .bf16) (harg13 : arg13.IsWhole) (arg14 : Memref sig .tc .vmem S8x1024x256 .bf16) (harg14 : arg14.IsWhole) (arg15 : Memref sig .tc .vmem S8x256x1024 .bf16) (harg15 : arg15.IsWhole) (arg16 : DmaSems sig S3)
    (fb : Buf (Elt F) (ℓb c)) (fu : Buf (Elt F) (ℓu c)) (fx : Buf (Elt F) (ℓx c)) (fn : Buf (Elt F) (ℓn c)) (q : PosShare TreeShare)
    (hi : (i 0).val < 40) (o4 : ℕ) (ho4 : o4 < 40) (e4 : k0_off4 i = ![o4])
    (hc1 : k0_cond1 i = 1#1) (hv : ((fb : S40.Idx → BitVec 32) (ix1 ⟨0, by decide⟩)).toNat < 8)
    (hc2 : k0_cond2 i ((fu : S1.Idx → BitVec 32) (ix1 0)) ((fb : S40.Idx → BitVec 32) (ix1 ⟨(i 0).val, hi⟩)) ((fb : S40.Idx → BitVec 32) (ix1 ⟨o4, ho4⟩)) = 1#1) (hvi : ((fb : S40.Idx → BitVec 32) (ix1 ⟨(i 0).val, hi⟩)).toNat < 8)
    (hc3 : ¬ k0_cond3 ((fx : S40.Idx → BitVec 32) (ix1 ⟨(i 0).val, hi⟩)) = 1#1)
    (f6 : Buf (Elt F) (arg6.view.loc (c : Thread nD τ))) (f7 : Buf (Elt F) (arg7.view.loc (c : Thread nD τ))) (f8 : Buf (Elt F) (arg8.view.loc (c : Thread nD τ)))
    (K : PUnit → sProp 𝕄) :
    iprop(((ℓb c ↦[Finset.univ]{q} fb) ∗ (ℓu c ↦[Finset.univ]{q} fu) ∗ (ℓx c ↦[Finset.univ]{q} fx) ∗ (ℓn c ↦[Finset.univ]{q} fn))
      ∗ still c arg6 arg7 arg8 arg10 arg11 arg12 arg16 f6 f7 f8
      ∗ ((∃ d, owns (c : Thread nD τ) arg13 fullShare d) ∗ (∃ d, owns (c : Thread nD τ) arg14 fullShare d) ∗ (∃ d, owns (c : Thread nD τ) arg15 fullShare d))
      ∗ (∃ W : Waits sig Unit, owes (c : Thread nD τ) 0 W)
      ∗ (iprop(((ℓb c ↦[Finset.univ]{q} fb) ∗ (ℓu c ↦[Finset.univ]{q} fu) ∗ (ℓx c ↦[Finset.univ]{q} fx) ∗ (ℓn c ↦[Finset.univ]{q} fn))
        ∗ still c arg6 arg7 arg8 arg10 arg11 arg12 arg16 f6 f7 f8
        ∗ (owns (c : Thread nD τ) arg13 fullShare (castW ((src arg6 ((fb : S40.Idx → BitVec 32) (ix1 ⟨0, by decide⟩)) (fits ((fb : S40.Idx → BitVec 32) (ix1 ⟨0, by decide⟩)) hv)).view.read (Elt F) f6))
          ∗ owns (c : Thread nD τ) arg14 fullShare (castW ((src arg7 ((fb : S40.Idx → BitVec 32) (ix1 ⟨0, by decide⟩)) (fits ((fb : S40.Idx → BitVec 32) (ix1 ⟨0, by decide⟩)) hv)).view.read (Elt F) f7))
          ∗ owns (c : Thread nD τ) arg15 fullShare (castT ((srcT arg8 ((fb : S40.Idx → BitVec 32) (ix1 ⟨0, by decide⟩)) (fitsT ((fb : S40.Idx → BitVec 32) (ix1 ⟨0, by decide⟩)) hv)).view.read (Elt F) f8)))
        ∗ (∃ W : Waits sig Unit, owes (c : Thread nD τ) 0 W))
        -∗ wpc c (tail (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 arg9 harg9 arg10 harg10 arg11 harg11 arg12 harg12 arg13 harg13 arg14 harg14 arg15 harg15 arg16 ((fu : S1.Idx → BitVec 32) (ix1 0)) ((fn : S40.Idx → BitVec 32) (ix1 ⟨(i 0).val, hi⟩))) K))
    ⊢ wpc c (cc0_moe_ffn (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 arg9 harg9 arg10 harg10 arg11 harg11 arg12 harg12 arg13 harg13 arg14 harg14 arg15 harg15 arg16) K := by
  have hk1 := chk1 i ((fb : S40.Idx → BitVec 32) (ix1 ⟨0, by decide⟩)) hv
  have hk2 := chk2 i ((fu : S1.Idx → BitVec 32) (ix1 0)) ((fb : S40.Idx → BitVec 32) (ix1 ⟨(i 0).val, hi⟩)) ((fb : S40.Idx → BitVec 32) (ix1 ⟨o4, ho4⟩)) ((fb : S40.Idx → BitVec 32) (ix1 ⟨(i 0).val, hi⟩)) hvi
  skip
  simp only [cc0_moe_ffn_eq_skeleton]
  unfold cc0_moe_ffn_skel
  unfold still owns
  iintro ⟨⟨Hb, Hu, Hx, Hn⟩, ⟨H6, H7, H8, ⟨%d10, %f10, -, H10⟩, ⟨%d11, %f11, -, H11⟩, ⟨%d12, %f12, -, H12⟩, Hs0, Hs1, Hs2⟩,
    ⟨⟨%d13, %f13, -, H13⟩, ⟨%d14, %f14, -, H14⟩, ⟨%d15, %f15, -, H15⟩⟩, ⟨%W, HW⟩, Hk⟩
  iapply (load_used c fu q _) $$ Hu; iintro Hu
  iapply (wpc_take c hc1)
  iapply (load_bg c fb q _ _ 0 (by decide) rfl) $$ Hb; iintro Hb
  unfold wpc
  sl_exec
  ihave Hf : flyW c arg6 arg10 (((arg16.slice (Rect.unit (s := S3) ![0] S1.size inb_S3_S1_0)).squeeze S_ squeezes_S1_S_).sem) f6 ((fb : S40.Idx → BitVec 32) (ix1 ⟨0, by decide⟩)) hv $$ [Hs0 H6]
  · unfold flyW
    iexists _; isplitr
    swap
    · isplitl [Hs0]; · iexact Hs0
      iexact H6
    ipureintro
    exact read_whole _ _ _
  unfold flyW src
  icases Hf with ⟨%g0, %hg0, Hs0, H6⟩
  ihave Hf : flyW c arg7 arg11 (((arg16.slice (Rect.unit (s := S3) ![1] S1.size inb_S3_S1_1)).squeeze S_ squeezes_S1_S_).sem) f7 ((fb : S40.Idx → BitVec 32) (ix1 ⟨0, by decide⟩)) hv $$ [Hs1 H7]
  · unfold flyW
    iexists _; isplitr
    swap
    · isplitl [Hs1]; · iexact Hs1
      iexact H7
    ipureintro
    exact read_whole _ _ _
  unfold flyW src
  icases Hf with ⟨%g1, %hg1, Hs1, H7⟩
  ihave Hf : flyT c arg8 arg12 (((arg16.slice (Rect.unit (s := S3) ![2] S1.size inb_S3_S1_2)).squeeze S_ squeezes_S1_S_).sem) f8 ((fb : S40.Idx → BitVec 32) (ix1 ⟨0, by decide⟩)) hv $$ [Hs2 H8]
  · unfold flyT
    iexists _; isplitr
    swap
    · isplitl [Hs2]; · iexact Hs2
      iexact H8
    ipureintro
    exact read_whole _ _ _
  unfold flyT srcT
  icases Hf with ⟨%g2, %hg2, Hs2, H8⟩
  iapply (load_bg c fb q _ _ (i 0).val hi (k0_off3_eq i)) $$ Hb; iintro Hb
  unfold wpc
  sl_step
  iapply (load_bg c fb q _ _ o4 ho4 e4) $$ Hb; iintro Hb
  iapply (wpc_take c hc2)
  unfold wpc
  sl_exec
  iapply (load_bg c fb q _ _ (i 0).val hi (k0_off5_eq i)) $$ Hb; iintro Hb
  unfold wpc
  sl_exec
  iapply (load_nxt c fx q _ _ (i 0).val hi (k0_off8_eq i)) $$ Hx; iintro Hx
  unfold wpc
  sl_step
  iapply (wpc_skip c hc3)
  unfold wpc
  sl_exec
  iapply (load_cnt c fn q _ _ (i 0).val hi (k0_off12_eq i)) $$ Hn; iintro Hn
  unfold wpc
  sl_step
  iapply Hk
  isplitl [Hb Hu Hx Hn]
  · isplitl [Hb]; · iexact Hb
    isplitl [Hu]; · iexact Hu
    isplitl [Hx]; · iexact Hx
    iexact Hn
  isplitl [Hs0 Hs1 Hs2 H6 H7 H8 Hs0_dst Hs1_dst Hs2_dst]
  · try unfold still
    isplitl [H6]; · iexact H6
    isplitl [H7]; · iexact H7
    isplitl [H8]; · iexact H8
    isplitl [Hs0_dst]
    · iexists _; try unfold owns
      iexists _; isplitr; swap; · iexact Hs0_dst
      ipureintro; rfl
    isplitl [Hs1_dst]
    · iexists _; try unfold owns
      iexists _; isplitr; swap; · iexact Hs1_dst
      ipureintro; rfl
    isplitl [Hs2_dst]
    · iexists _; try unfold owns
      iexists _; isplitr; swap; · iexact Hs2_dst
      ipureintro; rfl
    isplitl [Hs0]; · iexact Hs0
    isplitl [Hs1]; · iexact Hs1
    iexact Hs2
  isplitr [HW]
  · isplitl [H13]
    · iexists _; isplitr; swap; · iexact H13
      ipureintro
      exact (castW_writes _ _ (arg10.view.read (Elt F) g0) _ _ _ _ _ _ _ _ rfl rfl rfl rfl rfl rfl rfl rfl).trans (congrArg castW hg0)
    isplitl [H14]
    · iexists _; isplitr; swap; · iexact H14
      ipureintro
      exact (castW_writes _ _ (arg11.view.read (Elt F) g1) _ _ _ _ _ _ _ _ rfl rfl rfl rfl rfl rfl rfl rfl).trans (congrArg castW hg1)
    iexists _; isplitr; swap; · iexact H15
    ipureintro
    exact (castT_writes _ _ (arg12.view.read (Elt F) g2) _ _ _ _ _ _ _ _ rfl rfl rfl rfl rfl rfl rfl rfl).trans (congrArg castT hg2)
  iexists _; iexact HW

set_option maxHeartbeats 4000000 in
/-- A step at which the group changes, another group to come: the copies under way are waited for and cast, the next start. -/
theorem head_turn_next (c : Dev nD) (i : grid0.Coords) (arg5 : Memref sig .tc .vmem S8192x128 .f32) (harg5 : arg5.IsWhole) (arg6 : Memref sig .tc .hbm S4x64x1024x256 .f32) (harg6 : arg6.IsWhole) (arg7 : Memref sig .tc .hbm S4x64x1024x256 .f32) (harg7 : arg7.IsWhole) (arg8 : Memref sig .tc .hbm S4x64x256x1024 .f32) (harg8 : arg8.IsWhole) (arg9 : Memref sig .tc .vmem S4096x128 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S8x256x1024 .f32) (harg12 : arg12.IsWhole) (arg13 : Memref sig .tc .vmem S8x1024x256 .bf16) (harg13 : arg13.IsWhole) (arg14 : Memref sig .tc .vmem S8x1024x256 .bf16) (harg14 : arg14.IsWhole) (arg15 : Memref sig .tc .vmem S8x256x1024 .bf16) (harg15 : arg15.IsWhole) (arg16 : DmaSems sig S3)
    (fb : Buf (Elt F) (ℓb c)) (fu : Buf (Elt F) (ℓu c)) (fx : Buf (Elt F) (ℓx c)) (fn : Buf (Elt F) (ℓn c)) (q : PosShare TreeShare)
    (hi : (i 0).val < 40) (o4 : ℕ) (ho4 : o4 < 40) (e4 : k0_off4 i = ![o4])
    (hc1 : ¬ k0_cond1 i = 1#1) (v : BitVec 32) (hv : v.toNat < 8)
    (hc2 : k0_cond2 i ((fu : S1.Idx → BitVec 32) (ix1 0)) ((fb : S40.Idx → BitVec 32) (ix1 ⟨(i 0).val, hi⟩)) ((fb : S40.Idx → BitVec 32) (ix1 ⟨o4, ho4⟩)) = 1#1) (hvi : ((fb : S40.Idx → BitVec 32) (ix1 ⟨(i 0).val, hi⟩)).toNat < 8)
    (hc3 : k0_cond3 ((fx : S40.Idx → BitVec 32) (ix1 ⟨(i 0).val, hi⟩)) = 1#1) (hvx : ((fx : S40.Idx → BitVec 32) (ix1 ⟨(i 0).val, hi⟩)).toNat < 8)
    (f6 : Buf (Elt F) (arg6.view.loc (c : Thread nD τ))) (f7 : Buf (Elt F) (arg7.view.loc (c : Thread nD τ))) (f8 : Buf (Elt F) (arg8.view.loc (c : Thread nD τ)))
    (K : PUnit → sProp 𝕄) :
    iprop(((ℓb c ↦[Finset.univ]{q} fb) ∗ (ℓu c ↦[Finset.univ]{q} fu) ∗ (ℓx c ↦[Finset.univ]{q} fx) ∗ (ℓn c ↦[Finset.univ]{q} fn))
      ∗ moving c arg6 arg7 arg8 arg10 arg11 arg12 arg16 f6 f7 f8 v hv
      ∗ ((∃ d, owns (c : Thread nD τ) arg13 fullShare d) ∗ (∃ d, owns (c : Thread nD τ) arg14 fullShare d) ∗ (∃ d, owns (c : Thread nD τ) arg15 fullShare d))
      ∗ (∃ W : Waits sig Unit, owes (c : Thread nD τ) 0 W)
      ∗ (iprop(((ℓb c ↦[Finset.univ]{q} fb) ∗ (ℓu c ↦[Finset.univ]{q} fu) ∗ (ℓx c ↦[Finset.univ]{q} fx) ∗ (ℓn c ↦[Finset.univ]{q} fn))
        ∗ moving c arg6 arg7 arg8 arg10 arg11 arg12 arg16 f6 f7 f8 ((fx : S40.Idx → BitVec 32) (ix1 ⟨(i 0).val, hi⟩)) hvx
        ∗ (owns (c : Thread nD τ) arg13 fullShare (castW ((src arg6 v (fits v hv)).view.read (Elt F) f6))
          ∗ owns (c : Thread nD τ) arg14 fullShare (castW ((src arg7 v (fits v hv)).view.read (Elt F) f7))
          ∗ owns (c : Thread nD τ) arg15 fullShare (castT ((srcT arg8 v (fitsT v hv)).view.read (Elt F) f8)))
        ∗ (∃ W : Waits sig Unit, owes (c : Thread nD τ) 0 W))
        -∗ wpc c (tail (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 arg9 harg9 arg10 harg10 arg11 harg11 arg12 harg12 arg13 harg13 arg14 harg14 arg15 harg15 arg16 ((fu : S1.Idx → BitVec 32) (ix1 0)) ((fn : S40.Idx → BitVec 32) (ix1 ⟨(i 0).val, hi⟩))) K))
    ⊢ wpc c (cc0_moe_ffn (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 arg9 harg9 arg10 harg10 arg11 harg11 arg12 harg12 arg13 harg13 arg14 harg14 arg15 harg15 arg16) K := by
  skip
  have hk2 := chk2 i ((fu : S1.Idx → BitVec 32) (ix1 0)) ((fb : S40.Idx → BitVec 32) (ix1 ⟨(i 0).val, hi⟩)) ((fb : S40.Idx → BitVec 32) (ix1 ⟨o4, ho4⟩)) ((fb : S40.Idx → BitVec 32) (ix1 ⟨(i 0).val, hi⟩)) hvi
  have hk3 := chk3 i ((fu : S1.Idx → BitVec 32) (ix1 0)) ((fb : S40.Idx → BitVec 32) (ix1 ⟨(i 0).val, hi⟩)) ((fb : S40.Idx → BitVec 32) (ix1 ⟨o4, ho4⟩)) ((fx : S40.Idx → BitVec 32) (ix1 ⟨(i 0).val, hi⟩)) ((fx : S40.Idx → BitVec 32) (ix1 ⟨(i 0).val, hi⟩)) hvx
  simp only [cc0_moe_ffn_eq_skeleton]
  unfold cc0_moe_ffn_skel
  unfold moving flyW flyT src srcT owns
  iintro ⟨⟨Hb, Hu, Hx, Hn⟩, ⟨⟨%g0, %hg0, Hs0, H6⟩, ⟨%g1, %hg1, Hs1, H7⟩, ⟨%g2, %hg2, Hs2, H8⟩⟩,
    ⟨⟨%d13, %f13, -, H13⟩, ⟨%d14, %f14, -, H14⟩, ⟨%d15, %f15, -, H15⟩⟩, ⟨%W, HW⟩, Hk⟩
  iapply (load_used c fu q _) $$ Hu; iintro Hu
  iapply (wpc_skip c hc1)
  iapply (load_bg c fb q _ _ (i 0).val hi (k0_off3_eq i)) $$ Hb; iintro Hb
  iapply (load_bg c fb q _ _ o4 ho4 e4) $$ Hb; iintro Hb
  iapply (wpc_take c hc2)
  unfold wpc
  sl_exec
  iapply (load_bg c fb q _ _ (i 0).val hi (k0_off5_eq i)) $$ Hb; iintro Hb
  unfold wpc
  sl_exec
  iapply (load_nxt c fx q _ _ (i 0).val hi (k0_off8_eq i)) $$ Hx; iintro Hx
  unfold wpc
  sl_step
  iapply (wpc_take c hc3)
  unfold wpc
  sl_exec
  iapply (load_nxt c fx q _ _ (i 0).val hi (k0_off9_eq i)) $$ Hx; iintro Hx
  unfold wpc
  sl_exec
  iapply (load_cnt c fn q _ _ (i 0).val hi (k0_off12_eq i)) $$ Hn; iintro Hn
  unfold wpc
  sl_step
  iapply Hk
  isplitl [Hb Hu Hx Hn]
  · isplitl [Hb]; · iexact Hb
    isplitl [Hu]; · iexact Hu
    isplitl [Hx]; · iexact Hx
    iexact Hn
  isplitl [Hs0 Hs1 Hs2 H6 H7 H8]
  · try unfold moving
    isplitl [Hs0 H6]
    · try unfold flyW
      iexists _; isplitr
      swap
      · isplitl [Hs0]; · iexact Hs0
        iexact H6
      ipureintro
      exact read_whole _ _ _
    isplitl [Hs1 H7]
    · try unfold flyW
      iexists _; isplitr
      swap
      · isplitl [Hs1]; · iexact Hs1
        iexact H7
      ipureintro
      exact read_whole _ _ _
    try unfold flyT
    iexists _; isplitr
    swap
    · isplitl [Hs2]; · iexact Hs2
      iexact H8
    ipureintro
    exact read_whole _ _ _
  isplitr [HW]
  · isplitl [H13]
    · iexists _; isplitr; swap; · iexact H13
      ipureintro
      exact (castW_writes _ _ (arg10.view.read (Elt F) g0) _ _ _ _ _ _ _ _ rfl rfl rfl rfl rfl rfl rfl rfl).trans (congrArg castW hg0)
    isplitl [H14]
    · iexists _; isplitr; swap; · iexact H14
      ipureintro
      exact (castW_writes _ _ (arg11.view.read (Elt F) g1) _ _ _ _ _ _ _ _ rfl rfl rfl rfl rfl rfl rfl rfl).trans (congrArg castW hg1)
    iexists _; isplitr; swap; · iexact H15
    ipureintro
    exact (castT_writes _ _ (arg12.view.read (Elt F) g2) _ _ _ _ _ _ _ _ rfl rfl rfl rfl rfl rfl rfl rfl).trans (congrArg castT hg2)
  iexists _; iexact HW

set_option maxHeartbeats 4000000 in
/-- A step at which the group changes for the last time. -/
theorem head_turn_last (c : Dev nD) (i : grid0.Coords) (arg5 : Memref sig .tc .vmem S8192x128 .f32) (harg5 : arg5.IsWhole) (arg6 : Memref sig .tc .hbm S4x64x1024x256 .f32) (harg6 : arg6.IsWhole) (arg7 : Memref sig .tc .hbm S4x64x1024x256 .f32) (harg7 : arg7.IsWhole) (arg8 : Memref sig .tc .hbm S4x64x256x1024 .f32) (harg8 : arg8.IsWhole) (arg9 : Memref sig .tc .vmem S4096x128 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S8x256x1024 .f32) (harg12 : arg12.IsWhole) (arg13 : Memref sig .tc .vmem S8x1024x256 .bf16) (harg13 : arg13.IsWhole) (arg14 : Memref sig .tc .vmem S8x1024x256 .bf16) (harg14 : arg14.IsWhole) (arg15 : Memref sig .tc .vmem S8x256x1024 .bf16) (harg15 : arg15.IsWhole) (arg16 : DmaSems sig S3)
    (fb : Buf (Elt F) (ℓb c)) (fu : Buf (Elt F) (ℓu c)) (fx : Buf (Elt F) (ℓx c)) (fn : Buf (Elt F) (ℓn c)) (q : PosShare TreeShare)
    (hi : (i 0).val < 40) (o4 : ℕ) (ho4 : o4 < 40) (e4 : k0_off4 i = ![o4])
    (hc1 : ¬ k0_cond1 i = 1#1) (v : BitVec 32) (hv : v.toNat < 8)
    (hc2 : k0_cond2 i ((fu : S1.Idx → BitVec 32) (ix1 0)) ((fb : S40.Idx → BitVec 32) (ix1 ⟨(i 0).val, hi⟩)) ((fb : S40.Idx → BitVec 32) (ix1 ⟨o4, ho4⟩)) = 1#1) (hvi : ((fb : S40.Idx → BitVec 32) (ix1 ⟨(i 0).val, hi⟩)).toNat < 8)
    (hc3 : ¬ k0_cond3 ((fx : S40.Idx → BitVec 32) (ix1 ⟨(i 0).val, hi⟩)) = 1#1)
    (f6 : Buf (Elt F) (arg6.view.loc (c : Thread nD τ))) (f7 : Buf (Elt F) (arg7.view.loc (c : Thread nD τ))) (f8 : Buf (Elt F) (arg8.view.loc (c : Thread nD τ)))
    (K : PUnit → sProp 𝕄) :
    iprop(((ℓb c ↦[Finset.univ]{q} fb) ∗ (ℓu c ↦[Finset.univ]{q} fu) ∗ (ℓx c ↦[Finset.univ]{q} fx) ∗ (ℓn c ↦[Finset.univ]{q} fn))
      ∗ moving c arg6 arg7 arg8 arg10 arg11 arg12 arg16 f6 f7 f8 v hv
      ∗ ((∃ d, owns (c : Thread nD τ) arg13 fullShare d) ∗ (∃ d, owns (c : Thread nD τ) arg14 fullShare d) ∗ (∃ d, owns (c : Thread nD τ) arg15 fullShare d))
      ∗ (∃ W : Waits sig Unit, owes (c : Thread nD τ) 0 W)
      ∗ (iprop(((ℓb c ↦[Finset.univ]{q} fb) ∗ (ℓu c ↦[Finset.univ]{q} fu) ∗ (ℓx c ↦[Finset.univ]{q} fx) ∗ (ℓn c ↦[Finset.univ]{q} fn))
        ∗ still c arg6 arg7 arg8 arg10 arg11 arg12 arg16 f6 f7 f8
        ∗ (owns (c : Thread nD τ) arg13 fullShare (castW ((src arg6 v (fits v hv)).view.read (Elt F) f6))
          ∗ owns (c : Thread nD τ) arg14 fullShare (castW ((src arg7 v (fits v hv)).view.read (Elt F) f7))
          ∗ owns (c : Thread nD τ) arg15 fullShare (castT ((srcT arg8 v (fitsT v hv)).view.read (Elt F) f8)))
        ∗ (∃ W : Waits sig Unit, owes (c : Thread nD τ) 0 W))
        -∗ wpc c (tail (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 arg9 harg9 arg10 harg10 arg11 harg11 arg12 harg12 arg13 harg13 arg14 harg14 arg15 harg15 arg16 ((fu : S1.Idx → BitVec 32) (ix1 0)) ((fn : S40.Idx → BitVec 32) (ix1 ⟨(i 0).val, hi⟩))) K))
    ⊢ wpc c (cc0_moe_ffn (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 arg9 harg9 arg10 harg10 arg11 harg11 arg12 harg12 arg13 harg13 arg14 harg14 arg15 harg15 arg16) K := by
  skip
  have hk2 := chk2 i ((fu : S1.Idx → BitVec 32) (ix1 0)) ((fb : S40.Idx → BitVec 32) (ix1 ⟨(i 0).val, hi⟩)) ((fb : S40.Idx → BitVec 32) (ix1 ⟨o4, ho4⟩)) ((fb : S40.Idx → BitVec 32) (ix1 ⟨(i 0).val, hi⟩)) hvi
  skip
  simp only [cc0_moe_ffn_eq_skeleton]
  unfold cc0_moe_ffn_skel
  unfold moving flyW flyT src srcT owns
  iintro ⟨⟨Hb, Hu, Hx, Hn⟩, ⟨⟨%g0, %hg0, Hs0, H6⟩, ⟨%g1, %hg1, Hs1, H7⟩, ⟨%g2, %hg2, Hs2, H8⟩⟩,
    ⟨⟨%d13, %f13, -, H13⟩, ⟨%d14, %f14, -, H14⟩, ⟨%d15, %f15, -, H15⟩⟩, ⟨%W, HW⟩, Hk⟩
  iapply (load_used c fu q _) $$ Hu; iintro Hu
  iapply (wpc_skip c hc1)
  iapply (load_bg c fb q _ _ (i 0).val hi (k0_off3_eq i)) $$ Hb; iintro Hb
  iapply (load_bg c fb q _ _ o4 ho4 e4) $$ Hb; iintro Hb
  iapply (wpc_take c hc2)
  unfold wpc
  sl_exec
  iapply (load_bg c fb q _ _ (i 0).val hi (k0_off5_eq i)) $$ Hb; iintro Hb
  unfold wpc
  sl_exec
  iapply (load_nxt c fx q _ _ (i 0).val hi (k0_off8_eq i)) $$ Hx; iintro Hx
  unfold wpc
  sl_step
  iapply (wpc_skip c hc3)
  unfold wpc
  sl_exec
  iapply (load_cnt c fn q _ _ (i 0).val hi (k0_off12_eq i)) $$ Hn; iintro Hn
  unfold wpc
  sl_step
  iapply Hk
  isplitl [Hb Hu Hx Hn]
  · isplitl [Hb]; · iexact Hb
    isplitl [Hu]; · iexact Hu
    isplitl [Hx]; · iexact Hx
    iexact Hn
  isplitl [Hs0 Hs1 Hs2 H6 H7 H8 Hs0_dst Hs1_dst Hs2_dst]
  · try unfold still
    isplitl [H6]; · iexact H6
    isplitl [H7]; · iexact H7
    isplitl [H8]; · iexact H8
    isplitl [Hs0_dst]
    · iexists _; try unfold owns
      iexists _; isplitr; swap; · iexact Hs0_dst
      ipureintro; rfl
    isplitl [Hs1_dst]
    · iexists _; try unfold owns
      iexists _; isplitr; swap; · iexact Hs1_dst
      ipureintro; rfl
    isplitl [Hs2_dst]
    · iexists _; try unfold owns
      iexists _; isplitr; swap; · iexact Hs2_dst
      ipureintro; rfl
    isplitl [Hs0]; · iexact Hs0
    isplitl [Hs1]; · iexact Hs1
    iexact Hs2
  isplitr [HW]
  · isplitl [H13]
    · iexists _; isplitr; swap; · iexact H13
      ipureintro
      exact (castW_writes _ _ (arg10.view.read (Elt F) g0) _ _ _ _ _ _ _ _ rfl rfl rfl rfl rfl rfl rfl rfl).trans (congrArg castW hg0)
    isplitl [H14]
    · iexists _; isplitr; swap; · iexact H14
      ipureintro
      exact (castW_writes _ _ (arg11.view.read (Elt F) g1) _ _ _ _ _ _ _ _ rfl rfl rfl rfl rfl rfl rfl rfl).trans (congrArg castW hg1)
    iexists _; isplitr; swap; · iexact H15
    ipureintro
    exact (castT_writes _ _ (arg12.view.read (Elt F) g2) _ _ _ _ _ _ _ _ rfl rfl rfl rfl rfl rfl rfl rfl).trans (congrArg castT hg2)
  iexists _; iexact HW

end Cert.Kernel5Ideal.Experts
-- ==== Proof.E.Step.lean ====
/- The experts' call: a whole step, whichever way it goes. -/
module

public import proofs.«01_k».proof.Proof.E.Head

@[expose] public section

set_option maxRecDepth 65536

noncomputable section

namespace Cert.Kernel5Ideal.Experts

open Cert.Kernel5Ideal Cert.Kernel5Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A word of a table of forty, by its number. -/
def at40 (f : S40.Idx → BitVec 32) (k : ℕ) : BitVec 32 := if h : k < 40 then f (ix1 ⟨k, h⟩) else 0#32
/-- A table's word by its number. -/
theorem at40_eq (f : S40.Idx → BitVec 32) (k : ℕ) (h : k < 40) : f (ix1 ⟨k, h⟩) = at40 f k := by unfold at40; rw [dif_pos h]

/-- What the tables are given to hold: some blocks used, the groups in range, and as a used block's next group that of
    the first used block after it of another group, or a minus one. -/
structure Ok (fb : S40.Idx → BitVec 32) (fu : S1.Idx → BitVec 32) (fx : S40.Idx → BitVec 32) : Prop where
  pos : 1 ≤ (fu (ix1 0)).toNat
  le : (fu (ix1 0)).toNat ≤ 40
  grp : ∀ k, k < 40 → (at40 fb k).toNat < 8
  same : ∀ k, k + 1 < (fu (ix1 0)).toNat → at40 fb (k + 1) = at40 fb k → at40 fx (k + 1) = at40 fx k
  change : ∀ k, k + 1 < (fu (ix1 0)).toNat → at40 fb (k + 1) ≠ at40 fb k → at40 fx k = at40 fb (k + 1)
  last : ∀ k, k + 1 = (fu (ix1 0)).toNat → at40 fx k = 4294967295#32

/-- A used block's next group is a group or a minus one. -/
theorem Ok.next {fb fx : S40.Idx → BitVec 32} {fu : S1.Idx → BitVec 32} (h : Ok fb fu fx) :
    ∀ d k, k + 1 + d = (fu (ix1 0)).toNat → (at40 fx k).toNat < 8 ∨ at40 fx k = 4294967295#32
  | 0, k, e => Or.inr (h.last k (by omega))
  | d + 1, k, e => by
    by_cases hb : at40 fb (k + 1) = at40 fb k
    · rw [← h.same k (by omega) hb]; exact h.next d (k + 1) (by omega)
    · rw [h.change k (by omega) hb]; exact Or.inl (h.grp _ (by have := h.le; omega))

/-! ## The conditions in words -/

/-- A bit widened is not zero if it is one. -/
theorem extui_ne (b : BitVec 1) : Scalar.cmpi .ne (Scalar.extui b : BitVec 32) 0#32 = b := by revert b; decide
/-- The conjunction of two bits. -/
theorem andi_iff (a b : BitVec 1) : Scalar.andi a b = 1#1 ↔ a = 1#1 ∧ b = 1#1 := by revert a b; decide
/-- The disjunction of two bits. -/
theorem ori_iff (a b : BitVec 1) : Scalar.ori a b = 1#1 ↔ a = 1#1 ∨ b = 1#1 := by revert a b; decide
/-- The negation of a bit. -/
theorem xori_iff (a : BitVec 1) : Scalar.xori a 1#1 = 1#1 ↔ ¬ a = 1#1 := by revert a; decide
/-- A boolean's bit is one if the boolean is true. -/
theorem ofBool_iff (p : Bool) : (BitVec.ofBool p = 1#1) ↔ p = true := by cases p <;> decide

/-- A comparison of a block's number with the number of used blocks. -/
theorem slt_iff (k : ℕ) (v : BitVec 32) (hk : k < 40) (hv : v.toNat ≤ 40) : Scalar.cmpi .slt (BitVec.ofNat 32 k) v = 1#1 ↔ k < v.toNat := by
  show BitVec.ofBool ((BitVec.ofNat 32 k).slt v) = 1#1 ↔ _
  rw [ofBool_iff]
  simp only [BitVec.slt, decide_eq_true_eq, BitVec.toInt, BitVec.toNat_ofNat]
  omega

/-- The first step is the one that starts the first copies. -/
theorem cond1_iff : ∀ i : grid0.Coords, k0_cond1 i = 1#1 ↔ (i 0).val = 0 := by decide +kernel
/-- The word before a step's own. -/
theorem off4_eq : ∀ i : grid0.Coords, k0_off4 i = ![(i 0).val - 1] := by decide +kernel

/-- A step takes up new matrices if it is used and is the first or of another group than the one before it. -/
theorem cond2_iff (i : grid0.Coords) (v0 v7 v11 : BitVec 32) (hv : v0.toNat ≤ 40) :
    k0_cond2 i v0 v7 v11 = 1#1 ↔ (i 0).val < v0.toNat ∧ ((i 0).val = 0 ∨ v7 ≠ v11) := by
  have hi : (i 0).val < 40 := (i 0).isLt
  unfold k0_cond2
  dsimp only
  rw [extui_ne, andi_iff, ori_iff, slt_iff _ _ hi hv]
  refine and_congr Iff.rfl (or_congr ?_ ?_)
  · show BitVec.ofBool (BitVec.ofNat 32 (i 0).val == 0#32) = 1#1 ↔ _
    rw [ofBool_iff, beq_iff_eq]
    refine ⟨fun h => ?_, fun h => by rw [h]⟩
    have := congrArg BitVec.toNat h
    simp only [BitVec.toNat_ofNat] at this
    omega
  · show BitVec.ofBool (v7 != v11) = 1#1 ↔ _
    rw [ofBool_iff, bne_iff_ne]

/-- A next group is one to be fetched. -/
theorem cond3_group (v : BitVec 32) (hv : v.toNat < 8) : k0_cond3 v = 1#1 := by
  unfold k0_cond3
  dsimp only
  rw [extui_ne]
  show BitVec.ofBool ((0#32).sle v) = 1#1
  rw [ofBool_iff]
  simp only [BitVec.sle, decide_eq_true_eq, BitVec.toInt, BitVec.toNat_ofNat]
  omega
/-- A minus one is not. -/
theorem cond3_none : ¬ k0_cond3 4294967295#32 = 1#1 := by decide

/-- When a step computes all its rows. -/
theorem cond4_iff (i : grid0.Coords) (v0 v18 : BitVec 32) (hv : v0.toNat ≤ 40) :
    k0_cond4 i v0 v18 = 1#1 ↔ (i 0).val < v0.toNat ∧ ¬ Scalar.cmpi .sle v18 256#32 = 1#1 := by
  unfold k0_cond4
  dsimp only
  rw [extui_ne, andi_iff, xori_iff, slt_iff _ _ (i 0).isLt hv]
/-- When it computes half of them. -/
theorem cond5_iff (i : grid0.Coords) (v0 v18 : BitVec 32) (hv : v0.toNat ≤ 40) :
    k0_cond5 i v0 v18 = 1#1 ↔ (i 0).val < v0.toNat ∧ Scalar.cmpi .sle v18 256#32 = 1#1 := by
  unfold k0_cond5
  dsimp only
  rw [extui_ne, andi_iff, slt_iff _ _ (i 0).isLt hv]
/-- When it writes zeros. -/
theorem cond6_iff (i : grid0.Coords) (v0 : BitVec 32) (hv : v0.toNat ≤ 40) :
    k0_cond6 i v0 = 1#1 ↔ ¬ (i 0).val < v0.toNat := by
  unfold k0_cond6
  dsimp only
  rw [extui_ne, xori_iff, slt_iff _ _ (i 0).isLt hv]

/-! ## What a step leaves -/

/-- A group's matrices at half the width, as a copy out of the weights reads them. -/
def matW (w : Memref sig .tc .hbm S4x64x1024x256 .f32) (f : w.view.ty.Contents (Elt F)) (v : BitVec 32) : Vec F S8x1024x256 .bf16 :=
  if h : v.toNat < 8 then castW ((src w v (fits v h)).view.read (Elt F) f) else fun _ => Scalar.ofBits .bf16 0
def matT (w : Memref sig .tc .hbm S4x64x256x1024 .f32) (f : w.view.ty.Contents (Elt F)) (v : BitVec 32) : Vec F S8x256x1024 .bf16 :=
  if h : v.toNat < 8 then castT ((srcT w v (fitsT v h)).view.read (Elt F) f) else fun _ => Scalar.ofBits .bf16 0

/-- The block a step leaves: of all the rows, of half of them, or zeros past the used blocks. -/
def left (k : ℕ) (v0 v18 : BitVec 32) (x : Vec F S8192x128 .f32) (W1 W3 : Vec F S8x1024x256 .bf16) (W2 : Vec F S8x256x1024 .bf16) : Vec F S4096x128 .f32 :=
  if k < v0.toNat then (if Scalar.cmpi .sle v18 256#32 = 1#1 then blk256 x W1 W3 W2 else blk512 x W1 W3 W2) else blk0

variable (c : Dev nD) (i : grid0.Coords) (arg5 : Memref sig .tc .vmem S8192x128 .f32) (harg5 : arg5.IsWhole) (arg6 : Memref sig .tc .hbm S4x64x1024x256 .f32) (harg6 : arg6.IsWhole) (arg7 : Memref sig .tc .hbm S4x64x1024x256 .f32) (harg7 : arg7.IsWhole) (arg8 : Memref sig .tc .hbm S4x64x256x1024 .f32) (harg8 : arg8.IsWhole) (arg9 : Memref sig .tc .vmem S4096x128 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S8x256x1024 .f32) (harg12 : arg12.IsWhole) (arg13 : Memref sig .tc .vmem S8x1024x256 .bf16) (harg13 : arg13.IsWhole) (arg14 : Memref sig .tc .vmem S8x1024x256 .bf16) (harg14 : arg14.IsWhole) (arg15 : Memref sig .tc .vmem S8x256x1024 .bf16) (harg15 : arg15.IsWhole) (arg16 : DmaSems sig S3)

/-- The end of a step, whichever way it goes. -/
theorem tail_any (v0 v18 : BitVec 32) (hv : v0.toNat ≤ 40)
    (x : Vec F S8192x128 .f32) (W1 W3 : Vec F S8x1024x256 .bf16) (W2 : Vec F S8x256x1024 .bf16) (K : PUnit → sProp 𝕄) :
    iprop(owns (c : Thread nD τ) arg5 fullShare x ∗ (∃ d, owns (c : Thread nD τ) arg9 fullShare d)
      ∗ owns (c : Thread nD τ) arg13 fullShare W1 ∗ owns (c : Thread nD τ) arg14 fullShare W3 ∗ owns (c : Thread nD τ) arg15 fullShare W2
      ∗ (iprop(owns (c : Thread nD τ) arg5 fullShare x ∗ owns (c : Thread nD τ) arg9 fullShare (left (i 0).val v0 v18 x W1 W3 W2)
        ∗ owns (c : Thread nD τ) arg13 fullShare W1 ∗ owns (c : Thread nD τ) arg14 fullShare W3 ∗ owns (c : Thread nD τ) arg15 fullShare W2) -∗ K ⟨⟩))
    ⊢ wpc c (tail (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 arg9 harg9 arg10 harg10 arg11 harg11 arg12 harg12 arg13 harg13 arg14 harg14 arg15 harg15 arg16 v0 v18) K := by
  by_cases hu : (i 0).val < v0.toNat
  · by_cases hh : Scalar.cmpi .sle v18 256#32 = 1#1
    · have e : left (i 0).val v0 v18 x W1 W3 W2 = blk256 x W1 W3 W2 := by unfold left; rw [if_pos hu, if_pos hh]
      rw [e]
      exact tail256 c i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 arg9 harg9 arg10 harg10 arg11 harg11 arg12 harg12 arg13 harg13 arg14 harg14 arg15 harg15 arg16 v0 v18 (fun h => ((cond4_iff i v0 v18 hv).1 h).2 hh) ((cond5_iff i v0 v18 hv).2 ⟨hu, hh⟩) (fun h => (cond6_iff i v0 hv).1 h hu) x W1 W3 W2 K
    · have e : left (i 0).val v0 v18 x W1 W3 W2 = blk512 x W1 W3 W2 := by unfold left; rw [if_pos hu, if_neg hh]
      rw [e]
      exact tail512 c i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 arg9 harg9 arg10 harg10 arg11 harg11 arg12 harg12 arg13 harg13 arg14 harg14 arg15 harg15 arg16 v0 v18 ((cond4_iff i v0 v18 hv).2 ⟨hu, hh⟩) (fun h => hh ((cond5_iff i v0 v18 hv).1 h).2) (fun h => (cond6_iff i v0 hv).1 h hu) x W1 W3 W2 K
  · have e : left (i 0).val v0 v18 x W1 W3 W2 = blk0 := by unfold left; rw [if_neg hu]
    rw [e]
    exact tail0 c i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 arg9 harg9 arg10 harg10 arg11 harg11 arg12 harg12 arg13 harg13 arg14 harg14 arg15 harg15 arg16 v0 v18 (fun h => hu ((cond4_iff i v0 v18 hv).1 h).1) (fun h => hu ((cond5_iff i v0 v18 hv).1 h).1) ((cond6_iff i v0 hv).2 hu) x W1 W3 W2 K

variable (fb : Buf (Elt F) (ℓb c)) (fu : Buf (Elt F) (ℓu c)) (fx : Buf (Elt F) (ℓx c)) (fn : Buf (Elt F) (ℓn c)) (q : PosShare TreeShare)
  (f6 : Buf (Elt F) (arg6.view.loc (c : Thread nD τ))) (f7 : Buf (Elt F) (arg7.view.loc (c : Thread nD τ))) (f8 : Buf (Elt F) (arg8.view.loc (c : Thread nD τ)))

/-- The copies between two steps: the next group's under way, or none where there is no next. -/
def copies (v : BitVec 32) : sProp 𝕄 :=
  if h : v.toNat < 8 then moving c arg6 arg7 arg8 arg10 arg11 arg12 arg16 f6 f7 f8 v h else still c arg6 arg7 arg8 arg10 arg11 arg12 arg16 f6 f7 f8

/-- A group's matrices in the buffers of half width. -/
def loaded (v : BitVec 32) : sProp 𝕄 :=
  iprop(owns (c : Thread nD τ) arg13 fullShare (matW arg6 f6 v) ∗ owns (c : Thread nD τ) arg14 fullShare (matW arg7 f7 v) ∗ owns (c : Thread nD τ) arg15 fullShare (matT arg8 f8 v))

/-- What a step finds: before the first nothing, later the last used block's group loaded and the next on its way. -/
def found (t : ℕ) : sProp 𝕄 :=
  if t = 0 then iprop(still c arg6 arg7 arg8 arg10 arg11 arg12 arg16 f6 f7 f8 ∗ ((∃ d, owns (c : Thread nD τ) arg13 fullShare d) ∗ (∃ d, owns (c : Thread nD τ) arg14 fullShare d) ∗ (∃ d, owns (c : Thread nD τ) arg15 fullShare d)))
  else iprop(copies c arg6 arg7 arg8 arg10 arg11 arg12 arg16 f6 f7 f8 (at40 (fx : S40.Idx → BitVec 32) (min t ((fu : S1.Idx → BitVec 32) (ix1 0)).toNat - 1))
    ∗ loaded c arg6 arg7 arg8 arg13 arg14 arg15 f6 f7 f8 (at40 (fb : S40.Idx → BitVec 32) (min t ((fu : S1.Idx → BitVec 32) (ix1 0)).toNat - 1)))

/-- The block of step `t` out of its rows. -/
def blockOut (t : ℕ) (x : Vec F S8192x128 .f32) : Vec F S4096x128 .f32 :=
  left t ((fu : S1.Idx → BitVec 32) (ix1 0)) (at40 (fn : S40.Idx → BitVec 32) t) x (matW arg6 f6 (at40 (fb : S40.Idx → BitVec 32) t))
    (matW arg7 f7 (at40 (fb : S40.Idx → BitVec 32) t)) (matT arg8 f8 (at40 (fb : S40.Idx → BitVec 32) t))

set_option maxHeartbeats 4000000 in
/-- A step of the grid. -/
theorem step (hok : Ok (fb : S40.Idx → BitVec 32) (fu : S1.Idx → BitVec 32) (fx : S40.Idx → BitVec 32)) (x : Vec F S8192x128 .f32) (K : PUnit → sProp 𝕄) :
    iprop(((ℓb c ↦[Finset.univ]{q} fb) ∗ (ℓu c ↦[Finset.univ]{q} fu) ∗ (ℓx c ↦[Finset.univ]{q} fx) ∗ (ℓn c ↦[Finset.univ]{q} fn)) ∗ found c arg6 arg7 arg8 arg10 arg11 arg12 arg13 arg14 arg15 arg16 fb fu fx f6 f7 f8 (i 0).val ∗ (∃ W : Waits sig Unit, owes (c : Thread nD τ) 0 W) ∗ owns (c : Thread nD τ) arg5 fullShare x ∗ (∃ d, owns (c : Thread nD τ) arg9 fullShare d)
      ∗ (iprop(((ℓb c ↦[Finset.univ]{q} fb) ∗ (ℓu c ↦[Finset.univ]{q} fu) ∗ (ℓx c ↦[Finset.univ]{q} fx) ∗ (ℓn c ↦[Finset.univ]{q} fn)) ∗ found c arg6 arg7 arg8 arg10 arg11 arg12 arg13 arg14 arg15 arg16 fb fu fx f6 f7 f8 ((i 0).val + 1) ∗ (∃ W : Waits sig Unit, owes (c : Thread nD τ) 0 W) ∗ owns (c : Thread nD τ) arg5 fullShare x
          ∗ owns (c : Thread nD τ) arg9 fullShare (blockOut c arg6 arg7 arg8 fb fu fn f6 f7 f8 (i 0).val x)) -∗ K ⟨⟩))
    ⊢ wpc c (cc0_moe_ffn (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 arg9 harg9 arg10 harg10 arg11 harg11 arg12 harg12 arg13 harg13 arg14 harg14 arg15 harg15 arg16) K := by
  have hi : (i 0).val < 40 := (i 0).isLt
  have hpos := hok.pos
  have hle := hok.le
  have eb := at40_eq (fb : S40.Idx → BitVec 32) (i 0).val hi
  have eo := at40_eq (fb : S40.Idx → BitVec 32) ((i 0).val - 1) (by omega)
  have ex := at40_eq (fx : S40.Idx → BitVec 32) (i 0).val hi
  have en := at40_eq (fn : S40.Idx → BitVec 32) (i 0).val hi
  have hb := hok.grp (i 0).val hi
  have hbi : ((fb : S40.Idx → BitVec 32) (ix1 ⟨(i 0).val, hi⟩)).toNat < 8 := by rw [eb]; exact hb
  have c2 := cond2_iff i ((fu : S1.Idx → BitVec 32) (ix1 0)) ((fb : S40.Idx → BitVec 32) (ix1 ⟨(i 0).val, hi⟩)) ((fb : S40.Idx → BitVec 32) (ix1 ⟨(i 0).val - 1, by omega⟩)) hle
  by_cases h0 : (i 0).val = 0
  · have hc1 := (cond1_iff i).2 h0
    have hc2 := c2.2 ⟨by omega, Or.inl h0⟩
    have e0 : ((fb : S40.Idx → BitVec 32) (ix1 ⟨0, by decide⟩)) = at40 (fb : S40.Idx → BitVec 32) (i 0).val := (at40_eq (fb : S40.Idx → BitVec 32) 0 (by decide)).trans (by rw [h0])
    have hb0 : ((fb : S40.Idx → BitVec 32) (ix1 ⟨0, by decide⟩)).toNat < 8 := by rw [e0]; exact hb
    have e1 : min ((i 0).val + 1) ((fu : S1.Idx → BitVec 32) (ix1 0)).toNat - 1 = (i 0).val := by omega
    have f0 : found c arg6 arg7 arg8 arg10 arg11 arg12 arg13 arg14 arg15 arg16 fb fu fx f6 f7 f8 (i 0).val = iprop(still c arg6 arg7 arg8 arg10 arg11 arg12 arg16 f6 f7 f8 ∗ ((∃ d, owns (c : Thread nD τ) arg13 fullShare d) ∗ (∃ d, owns (c : Thread nD τ) arg14 fullShare d) ∗ (∃ d, owns (c : Thread nD τ) arg15 fullShare d))) := by
      unfold found; rw [if_pos h0]
    have f1 : found c arg6 arg7 arg8 arg10 arg11 arg12 arg13 arg14 arg15 arg16 fb fu fx f6 f7 f8 ((i 0).val + 1) = iprop(copies c arg6 arg7 arg8 arg10 arg11 arg12 arg16 f6 f7 f8 (at40 (fx : S40.Idx → BitVec 32) (i 0).val)
        ∗ loaded c arg6 arg7 arg8 arg13 arg14 arg15 f6 f7 f8 (at40 (fb : S40.Idx → BitVec 32) (i 0).val)) := by
      unfold found; rw [if_neg (Nat.succ_ne_zero _), e1]
    rw [f0, f1]
    have m6 : castW ((src arg6 ((fb : S40.Idx → BitVec 32) (ix1 ⟨0, by decide⟩)) (fits _ hb0)).view.read (Elt F) f6) = matW arg6 f6 (at40 (fb : S40.Idx → BitVec 32) (i 0).val) := by
      rw [← e0]; unfold matW; rw [dif_pos hb0]
    have m7 : castW ((src arg7 ((fb : S40.Idx → BitVec 32) (ix1 ⟨0, by decide⟩)) (fits _ hb0)).view.read (Elt F) f7) = matW arg7 f7 (at40 (fb : S40.Idx → BitVec 32) (i 0).val) := by
      rw [← e0]; unfold matW; rw [dif_pos hb0]
    have m8 : castT ((srcT arg8 ((fb : S40.Idx → BitVec 32) (ix1 ⟨0, by decide⟩)) (fitsT _ hb0)).view.read (Elt F) f8) = matT arg8 f8 (at40 (fb : S40.Idx → BitVec 32) (i 0).val) := by
      rw [← e0]; unfold matT; rw [dif_pos hb0]
    rcases hok.next (((fu : S1.Idx → BitVec 32) (ix1 0)).toNat - ((i 0).val + 1)) (i 0).val (by omega) with hx | hx
    · have hxi : ((fx : S40.Idx → BitVec 32) (ix1 ⟨(i 0).val, hi⟩)).toNat < 8 := by rw [ex]; exact hx
      have mv : moving c arg6 arg7 arg8 arg10 arg11 arg12 arg16 f6 f7 f8 ((fx : S40.Idx → BitVec 32) (ix1 ⟨(i 0).val, hi⟩)) hxi = copies c arg6 arg7 arg8 arg10 arg11 arg12 arg16 f6 f7 f8 (at40 (fx : S40.Idx → BitVec 32) (i 0).val) := by
        rw [← ex]; unfold copies; rw [dif_pos hxi]
      iintro ⟨Ht, ⟨Hs, Hm⟩, HW, H5, H9, Hk⟩
      iapply (head_first_next c i arg5 harg5 arg6 harg6 arg7 harg7 arg8 harg8 arg9 harg9 arg10 harg10 arg11 harg11 arg12 harg12 arg13 harg13 arg14 harg14 arg15 harg15 arg16 fb fu fx fn q hi ((i 0).val - 1) (by omega) (off4_eq i) hc1 hb0 hc2 hbi (by rw [ex]; exact cond3_group _ hx) hxi f6 f7 f8 K)
      isplitl [Ht]; · iexact Ht
      isplitl [Hs]; · iexact Hs
      isplitl [Hm]; · iexact Hm
      isplitl [HW]; · iexact HW
      rw [mv, m6, m7, m8]
      iintro ⟨Ht, Hs, ⟨H13, H14, H15⟩, HW⟩
      iapply (tail_any c i arg5 harg5 arg6 harg6 arg7 harg7 arg8 harg8 arg9 harg9 arg10 harg10 arg11 harg11 arg12 harg12 arg13 harg13 arg14 harg14 arg15 harg15 arg16 ((fu : S1.Idx → BitVec 32) (ix1 0)) ((fn : S40.Idx → BitVec 32) (ix1 ⟨(i 0).val, hi⟩)) hle x _ _ _ K)
      isplitl [H5]; · iexact H5
      isplitl [H9]; · iexact H9
      isplitl [H13]; · iexact H13
      isplitl [H14]; · iexact H14
      isplitl [H15]; · iexact H15
      iintro ⟨H5, H9, H13, H14, H15⟩
      iapply Hk
      isplitl [Ht]; · iexact Ht
      isplitl [Hs H13 H14 H15]
      · isplitl [Hs]; · iexact Hs
        unfold loaded
        isplitl [H13]; · iexact H13
        isplitl [H14]; · iexact H14
        iexact H15
      isplitl [HW]; · iexact HW
      isplitl [H5]; · iexact H5
      unfold blockOut
      rw [en]
      iexact H9
    · have mv : still c arg6 arg7 arg8 arg10 arg11 arg12 arg16 f6 f7 f8 = copies c arg6 arg7 arg8 arg10 arg11 arg12 arg16 f6 f7 f8 (at40 (fx : S40.Idx → BitVec 32) (i 0).val) := by
        rw [hx]; unfold copies; rw [dif_neg (by decide)]
      iintro ⟨Ht, ⟨Hs, Hm⟩, HW, H5, H9, Hk⟩
      iapply (head_first_last c i arg5 harg5 arg6 harg6 arg7 harg7 arg8 harg8 arg9 harg9 arg10 harg10 arg11 harg11 arg12 harg12 arg13 harg13 arg14 harg14 arg15 harg15 arg16 fb fu fx fn q hi ((i 0).val - 1) (by omega) (off4_eq i) hc1 hb0 hc2 hbi (by rw [ex, hx]; exact cond3_none) f6 f7 f8 K)
      isplitl [Ht]; · iexact Ht
      isplitl [Hs]; · iexact Hs
      isplitl [Hm]; · iexact Hm
      isplitl [HW]; · iexact HW
      rw [mv, m6, m7, m8]
      iintro ⟨Ht, Hs, ⟨H13, H14, H15⟩, HW⟩
      iapply (tail_any c i arg5 harg5 arg6 harg6 arg7 harg7 arg8 harg8 arg9 harg9 arg10 harg10 arg11 harg11 arg12 harg12 arg13 harg13 arg14 harg14 arg15 harg15 arg16 ((fu : S1.Idx → BitVec 32) (ix1 0)) ((fn : S40.Idx → BitVec 32) (ix1 ⟨(i 0).val, hi⟩)) hle x _ _ _ K)
      isplitl [H5]; · iexact H5
      isplitl [H9]; · iexact H9
      isplitl [H13]; · iexact H13
      isplitl [H14]; · iexact H14
      isplitl [H15]; · iexact H15
      iintro ⟨H5, H9, H13, H14, H15⟩
      iapply Hk
      isplitl [Ht]; · iexact Ht
      isplitl [Hs H13 H14 H15]
      · isplitl [Hs]; · iexact Hs
        unfold loaded
        isplitl [H13]; · iexact H13
        isplitl [H14]; · iexact H14
        iexact H15
      isplitl [HW]; · iexact HW
      isplitl [H5]; · iexact H5
      unfold blockOut
      rw [en]
      iexact H9
  · have hc1 : ¬ k0_cond1 i = 1#1 := fun h => h0 ((cond1_iff i).1 h)
    have f0 : found c arg6 arg7 arg8 arg10 arg11 arg12 arg13 arg14 arg15 arg16 fb fu fx f6 f7 f8 (i 0).val = iprop(copies c arg6 arg7 arg8 arg10 arg11 arg12 arg16 f6 f7 f8 (at40 (fx : S40.Idx → BitVec 32) (min (i 0).val ((fu : S1.Idx → BitVec 32) (ix1 0)).toNat - 1))
        ∗ loaded c arg6 arg7 arg8 arg13 arg14 arg15 f6 f7 f8 (at40 (fb : S40.Idx → BitVec 32) (min (i 0).val ((fu : S1.Idx → BitVec 32) (ix1 0)).toNat - 1))) := by
      unfold found; rw [if_neg h0]
    have f1 : found c arg6 arg7 arg8 arg10 arg11 arg12 arg13 arg14 arg15 arg16 fb fu fx f6 f7 f8 ((i 0).val + 1) = iprop(copies c arg6 arg7 arg8 arg10 arg11 arg12 arg16 f6 f7 f8 (at40 (fx : S40.Idx → BitVec 32) (min ((i 0).val + 1) ((fu : S1.Idx → BitVec 32) (ix1 0)).toNat - 1))
        ∗ loaded c arg6 arg7 arg8 arg13 arg14 arg15 f6 f7 f8 (at40 (fb : S40.Idx → BitVec 32) (min ((i 0).val + 1) ((fu : S1.Idx → BitVec 32) (ix1 0)).toNat - 1))) := by
      unfold found; rw [if_neg (Nat.succ_ne_zero _)]
    rw [f0, f1]
    by_cases hu : (i 0).val < ((fu : S1.Idx → BitVec 32) (ix1 0)).toNat
    · have e0 : min (i 0).val ((fu : S1.Idx → BitVec 32) (ix1 0)).toNat - 1 = (i 0).val - 1 := by omega
      have e1 : min ((i 0).val + 1) ((fu : S1.Idx → BitVec 32) (ix1 0)).toNat - 1 = (i 0).val := by omega
      rw [e0, e1]
      have es : (i 0).val - 1 + 1 = (i 0).val := by omega
      by_cases hg : at40 (fb : S40.Idx → BitVec 32) (i 0).val = at40 (fb : S40.Idx → BitVec 32) ((i 0).val - 1)
      · have hc2 : ¬ _ := fun h => (c2.1 h).2.elim h0 (fun h => h (by rw [eb, eo]; exact hg))
        have hx := hok.same ((i 0).val - 1) (by omega) (by rw [es]; exact hg)
        rw [es] at hx
        rw [← hx, ← hg]
        iintro ⟨Ht, ⟨Hs, Hm⟩, HW, H5, H9, Hk⟩
        iapply (head_keep c i arg5 harg5 arg6 harg6 arg7 harg7 arg8 harg8 arg9 harg9 arg10 harg10 arg11 harg11 arg12 harg12 arg13 harg13 arg14 harg14 arg15 harg15 arg16 fb fu fx fn q hi ((i 0).val - 1) (by omega) (off4_eq i) hc1 hc2 K)
        isplitl [Ht]; · iexact Ht
        iintro Ht
        unfold loaded
        icases Hm with ⟨H13, H14, H15⟩
        iapply (tail_any c i arg5 harg5 arg6 harg6 arg7 harg7 arg8 harg8 arg9 harg9 arg10 harg10 arg11 harg11 arg12 harg12 arg13 harg13 arg14 harg14 arg15 harg15 arg16 ((fu : S1.Idx → BitVec 32) (ix1 0)) ((fn : S40.Idx → BitVec 32) (ix1 ⟨(i 0).val, hi⟩)) hle x _ _ _ K)
        isplitl [H5]; · iexact H5
        isplitl [H9]; · iexact H9
        isplitl [H13]; · iexact H13
        isplitl [H14]; · iexact H14
        isplitl [H15]; · iexact H15
        iintro ⟨H5, H9, H13, H14, H15⟩
        iapply Hk
        isplitl [Ht]; · iexact Ht
        isplitl [Hs H13 H14 H15]
        · isplitl [Hs]; · iexact Hs
          isplitl [H13]; · iexact H13
          isplitl [H14]; · iexact H14
          iexact H15
        isplitl [HW]; · iexact HW
        isplitl [H5]; · iexact H5
        unfold blockOut
        rw [en]
        iexact H9
      · have hc2 := c2.2 ⟨hu, Or.inr (by rw [eb, eo]; exact hg)⟩
        have hx' := hok.change ((i 0).val - 1) (by omega) (by rw [es]; exact hg)
        rw [es] at hx'
        rw [hx']
        have mv0 : copies c arg6 arg7 arg8 arg10 arg11 arg12 arg16 f6 f7 f8 (at40 (fb : S40.Idx → BitVec 32) (i 0).val) = moving c arg6 arg7 arg8 arg10 arg11 arg12 arg16 f6 f7 f8 (at40 (fb : S40.Idx → BitVec 32) (i 0).val) hb := by
          unfold copies; rw [dif_pos hb]
        rw [mv0]
        have m6 : castW ((src arg6 (at40 (fb : S40.Idx → BitVec 32) (i 0).val) (fits _ hb)).view.read (Elt F) f6) = matW arg6 f6 (at40 (fb : S40.Idx → BitVec 32) (i 0).val) := by
          unfold matW; rw [dif_pos hb]
        have m7 : castW ((src arg7 (at40 (fb : S40.Idx → BitVec 32) (i 0).val) (fits _ hb)).view.read (Elt F) f7) = matW arg7 f7 (at40 (fb : S40.Idx → BitVec 32) (i 0).val) := by
          unfold matW; rw [dif_pos hb]
        have m8 : castT ((srcT arg8 (at40 (fb : S40.Idx → BitVec 32) (i 0).val) (fitsT _ hb)).view.read (Elt F) f8) = matT arg8 f8 (at40 (fb : S40.Idx → BitVec 32) (i 0).val) := by
          unfold matT; rw [dif_pos hb]
        rcases hok.next (((fu : S1.Idx → BitVec 32) (ix1 0)).toNat - ((i 0).val + 1)) (i 0).val (by omega) with hx | hx
        · have hxi : ((fx : S40.Idx → BitVec 32) (ix1 ⟨(i 0).val, hi⟩)).toNat < 8 := by rw [ex]; exact hx
          have mv : moving c arg6 arg7 arg8 arg10 arg11 arg12 arg16 f6 f7 f8 ((fx : S40.Idx → BitVec 32) (ix1 ⟨(i 0).val, hi⟩)) hxi = copies c arg6 arg7 arg8 arg10 arg11 arg12 arg16 f6 f7 f8 (at40 (fx : S40.Idx → BitVec 32) (i 0).val) := by
            rw [← ex]; unfold copies; rw [dif_pos hxi]
          iintro ⟨Ht, ⟨Hs, Hm⟩, HW, H5, H9, Hk⟩
          iapply (head_turn_next c i arg5 harg5 arg6 harg6 arg7 harg7 arg8 harg8 arg9 harg9 arg10 harg10 arg11 harg11 arg12 harg12 arg13 harg13 arg14 harg14 arg15 harg15 arg16 fb fu fx fn q hi ((i 0).val - 1) (by omega) (off4_eq i) hc1 (at40 (fb : S40.Idx → BitVec 32) (i 0).val) hb hc2 hbi (by rw [ex]; exact cond3_group _ hx) hxi f6 f7 f8 K)
          isplitl [Ht]; · iexact Ht
          isplitl [Hs]; · iexact Hs
          isplitl [Hm]
          · unfold loaded
            icases Hm with ⟨H13, H14, H15⟩
            isplitl [H13]; · iexists _; iexact H13
            isplitl [H14]; · iexists _; iexact H14
            iexists _; iexact H15
          isplitl [HW]; · iexact HW
          rw [mv, m6, m7, m8]
          iintro ⟨Ht, Hs, ⟨H13, H14, H15⟩, HW⟩
          iapply (tail_any c i arg5 harg5 arg6 harg6 arg7 harg7 arg8 harg8 arg9 harg9 arg10 harg10 arg11 harg11 arg12 harg12 arg13 harg13 arg14 harg14 arg15 harg15 arg16 ((fu : S1.Idx → BitVec 32) (ix1 0)) ((fn : S40.Idx → BitVec 32) (ix1 ⟨(i 0).val, hi⟩)) hle x _ _ _ K)
          isplitl [H5]; · iexact H5
          isplitl [H9]; · iexact H9
          isplitl [H13]; · iexact H13
          isplitl [H14]; · iexact H14
          isplitl [H15]; · iexact H15
          iintro ⟨H5, H9, H13, H14, H15⟩
          iapply Hk
          isplitl [Ht]; · iexact Ht
          isplitl [Hs H13 H14 H15]
          · isplitl [Hs]; · iexact Hs
            unfold loaded
            isplitl [H13]; · iexact H13
            isplitl [H14]; · iexact H14
            iexact H15
          isplitl [HW]; · iexact HW
          isplitl [H5]; · iexact H5
          unfold blockOut
          rw [en]
          iexact H9
        · have mv : still c arg6 arg7 arg8 arg10 arg11 arg12 arg16 f6 f7 f8 = copies c arg6 arg7 arg8 arg10 arg11 arg12 arg16 f6 f7 f8 (at40 (fx : S40.Idx → BitVec 32) (i 0).val) := by
            rw [hx]; unfold copies; rw [dif_neg (by decide)]
          iintro ⟨Ht, ⟨Hs, Hm⟩, HW, H5, H9, Hk⟩
          iapply (head_turn_last c i arg5 harg5 arg6 harg6 arg7 harg7 arg8 harg8 arg9 harg9 arg10 harg10 arg11 harg11 arg12 harg12 arg13 harg13 arg14 harg14 arg15 harg15 arg16 fb fu fx fn q hi ((i 0).val - 1) (by omega) (off4_eq i) hc1 (at40 (fb : S40.Idx → BitVec 32) (i 0).val) hb hc2 hbi (by rw [ex, hx]; exact cond3_none) f6 f7 f8 K)
          isplitl [Ht]; · iexact Ht
          isplitl [Hs]; · iexact Hs
          isplitl [Hm]
          · unfold loaded
            icases Hm with ⟨H13, H14, H15⟩
            isplitl [H13]; · iexists _; iexact H13
            isplitl [H14]; · iexists _; iexact H14
            iexists _; iexact H15
          isplitl [HW]; · iexact HW
          rw [mv, m6, m7, m8]
          iintro ⟨Ht, Hs, ⟨H13, H14, H15⟩, HW⟩
          iapply (tail_any c i arg5 harg5 arg6 harg6 arg7 harg7 arg8 harg8 arg9 harg9 arg10 harg10 arg11 harg11 arg12 harg12 arg13 harg13 arg14 harg14 arg15 harg15 arg16 ((fu : S1.Idx → BitVec 32) (ix1 0)) ((fn : S40.Idx → BitVec 32) (ix1 ⟨(i 0).val, hi⟩)) hle x _ _ _ K)
          isplitl [H5]; · iexact H5
          isplitl [H9]; · iexact H9
          isplitl [H13]; · iexact H13
          isplitl [H14]; · iexact H14
          isplitl [H15]; · iexact H15
          iintro ⟨H5, H9, H13, H14, H15⟩
          iapply Hk
          isplitl [Ht]; · iexact Ht
          isplitl [Hs H13 H14 H15]
          · isplitl [Hs]; · iexact Hs
            unfold loaded
            isplitl [H13]; · iexact H13
            isplitl [H14]; · iexact H14
            iexact H15
          isplitl [HW]; · iexact HW
          isplitl [H5]; · iexact H5
          unfold blockOut
          rw [en]
          iexact H9
    · have e0 : min (i 0).val ((fu : S1.Idx → BitVec 32) (ix1 0)).toNat = ((fu : S1.Idx → BitVec 32) (ix1 0)).toNat := by omega
      have e1 : min ((i 0).val + 1) ((fu : S1.Idx → BitVec 32) (ix1 0)).toNat = ((fu : S1.Idx → BitVec 32) (ix1 0)).toNat := by omega
      rw [e0, e1]
      have hc2 : ¬ _ := fun h => hu (c2.1 h).1
      iintro ⟨Ht, ⟨Hs, Hm⟩, HW, H5, H9, Hk⟩
      iapply (head_keep c i arg5 harg5 arg6 harg6 arg7 harg7 arg8 harg8 arg9 harg9 arg10 harg10 arg11 harg11 arg12 harg12 arg13 harg13 arg14 harg14 arg15 harg15 arg16 fb fu fx fn q hi ((i 0).val - 1) (by omega) (off4_eq i) hc1 hc2 K)
      isplitl [Ht]; · iexact Ht
      iintro Ht
      unfold loaded
      icases Hm with ⟨H13, H14, H15⟩
      iapply (tail_any c i arg5 harg5 arg6 harg6 arg7 harg7 arg8 harg8 arg9 harg9 arg10 harg10 arg11 harg11 arg12 harg12 arg13 harg13 arg14 harg14 arg15 harg15 arg16 ((fu : S1.Idx → BitVec 32) (ix1 0)) ((fn : S40.Idx → BitVec 32) (ix1 ⟨(i 0).val, hi⟩)) hle x _ _ _ K)
      isplitl [H5]; · iexact H5
      isplitl [H9]; · iexact H9
      isplitl [H13]; · iexact H13
      isplitl [H14]; · iexact H14
      isplitl [H15]; · iexact H15
      iintro ⟨H5, H9, H13, H14, H15⟩
      iapply Hk
      isplitl [Ht]; · iexact Ht
      isplitl [Hs H13 H14 H15]
      · isplitl [Hs]; · iexact Hs
        isplitl [H13]; · iexact H13
        isplitl [H14]; · iexact H14
        iexact H15
      isplitl [HW]; · iexact HW
      isplitl [H5]; · iexact H5
      unfold blockOut left
      rw [if_neg hu, if_neg hu]
      iexact H9

end Cert.Kernel5Ideal.Experts

end
-- ==== Proof.E.Run.lean ====
/- The experts' call: the run of the whole grid. -/
module

public import proofs.«01_k».proof.Proof.E.Step
public import proofs.«01_k».proof.Proof.Gen.Kernel5Ideal.Launch
public import Idealize.ShloMosaic.Lib.Pipeline.ValueKit
public import Idealize.ShloMosaic.Lib.Pipeline.Covers

@[expose] public section

set_option maxRecDepth 65536

noncomputable section

namespace Cert.Kernel5Ideal.Experts

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

/-- The tables' contents at launch: there is one device. -/
def tables : pre0.Contents (Elt F) := fun k => V m 0 (pre0.ref k)

/-- The tables are as the layer's routing gives them. -/
def Good (c : Dev nD) : Prop := Ok (V m c main_arg0 : S40.Idx → BitVec 32) (V m c main_arg1 : S1.Idx → BitVec 32) (V m c main_arg2 : S40.Idx → BitVec 32)

/-- The block of rows a point reads: its own, or past the used blocks the last used one's. -/
theorem rows_index (hok : Good m 0) (i : grid0.Coords) :
    cc0_transform_0 inb_S1_S1_0 numel1_S1 (tables m) i = ![min (i 0).val (((V m 0 main_arg1 : S1.Idx → BitVec 32) (ValueIdx.ix1 0)).toNat - 1), 0] := by
  have hi : (i 0).val < 40 := (i 0).isLt
  have hpos := Ok.pos hok
  have hle := Ok.le hok
  have e : (tables m).at 1 (Rect.unit (s := S1) ![0] S1.size inb_S1_S1_0) numel1_S1 = (V m 0 main_arg1 : S1.Idx → BitVec 32) (ValueIdx.ix1 0) :=
    word1 (V m 0 main_arg1 : S1.Idx → BitVec 32) _ _
  obtain ⟨n, hn⟩ : ∃ n : BitVec 32, (V m 0 main_arg1 : S1.Idx → BitVec 32) (ValueIdx.ix1 0) = n := ⟨_, rfl⟩
  rw [hn] at e hpos hle ⊢
  have key : (Scalar.minsi (BitVec.ofNat 32 (i 0).val) (Scalar.subi n 1#32)).toNat = min (i 0).val (n.toNat - 1) := by
    have hs : (Scalar.subi n 1#32).toNat = n.toNat - 1 := by
      show (n - 1#32).toNat = _
      rw [BitVec.toNat_sub]
      show (4294967296 - 1 + n.toNat) % 4294967296 = _
      omega
    have hk : (BitVec.ofNat 32 (i 0).val).toNat = (i 0).val := by rw [BitVec.toNat_ofNat]; omega
    show (if (BitVec.ofNat 32 (i 0).val).slt (Scalar.subi n 1#32) then BitVec.ofNat 32 (i 0).val else Scalar.subi n 1#32).toNat = _
    split
    · rename_i h
      simp only [BitVec.slt, decide_eq_true_eq, BitVec.toInt, hs, hk] at h
      rw [hk]; omega
    · rename_i h
      simp only [BitVec.slt, decide_eq_true_eq, BitVec.toInt, hs, hk] at h
      rw [hs]; omega
  unfold cc0_transform_0
  dsimp only
  rw [e]
  exact congrArg (fun z => ![z, 0]) key

/-- The rows' blocks lie in the array. -/
theorem admissible (hok : Good m 0) : ok0 (tables m) := by
  intro i
  have hi : (i 0).val < 40 := (i 0).isLt
  refine ⟨fun a => ?_, Or.inl rfl⟩
  rw [rows_index m hok]
  match a with
  | ⟨0, _⟩ => show (min (i 0).val (_ - 1) + 1) * 8192 ≤ 327680; omega
  | ⟨1, _⟩ => show (0 + 1) * 128 ≤ 128; decide

def osem0 : Fin 3 → SemLoc sig := ![SemLoc.dma 4, SemLoc.dma 5, SemLoc.dma 6]
/-- The body's own semaphores are its own. -/
theorem ownSemFacts0 : Pipeline.OwnSemFacts spec0 osem0 := by decide

/-- The body's own semaphores, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0 ∗ semVal ((c : Thread nD τ), SemLoc.dma 6) 0) :=
  Pipeline.ownSems0_eq_of_list c osem0 [0, 1, 2] (by decide) (by decide)

def H0 : Finset (Ref sig .tc) := ∅
def R0 : Finset (Ref sig .tc) := {main_arg5, main_arg6, main_arg7}
/-- The buffers the body shares lie among those that no window stages. -/
theorem H0_sub : H0 ⊆ Pipeline.restRefsP sig pre0 spec0 := by decide
/-- The buffers the body only reads lie among the rest. -/
theorem R0_sub : R0 ⊆ Pipeline.restRefsP sig pre0 spec0 \ H0 := by decide

variable (hok : ∀ c, Good m c)

def adm : (p : Fin 1) → (pcfgs (F := F) p).Adm := fun _ => ⟨tables m, admissible m (hok 0)⟩

abbrev cfgA : Cfg sig Λ₀ := Pipeline.pin (pcfgs (F := F)) (adm m hok) 0

/-- The rows' block at a point. -/
def iblk (c : Dev nD) (t : Fin (cfgA m hok).N) : (((cfgA m hok).win 0).xblock ((cfgA m hok).grid.coords t)).Idx → Elt F ((cfgA m hok).win 0).elt :=
  (((cfgA m hok).win 0).blk t).view.read (Elt F) (V m c (Pipeline.arrRef spec0 0))

/-- The grid's invariant: what its point finds, the tables, the generator's register. -/
def Inv (c : Dev nD) (t : ℕ) : sProp 𝕄 :=
  iprop(found c (Memref.whole main_arg5) (Memref.whole main_arg6) (Memref.whole main_arg7) (Memref.whole cc0_scratch0) (Memref.whole cc0_scratch1) (Memref.whole cc0_scratch2) (Memref.whole cc0_scratch3) (Memref.whole cc0_scratch4) (Memref.whole cc0_scratch5) cc0_scratch6 (V m c main_arg0) (V m c main_arg1) (V m c main_arg2) (V m c main_arg5) (V m c main_arg6) (V m c main_arg7) t ∗ ((ℓb c ↦[Finset.univ]{fullShare.right} V m c main_arg0) ∗ (ℓu c ↦[Finset.univ]{fullShare.right} V m c main_arg1) ∗ (ℓx c ↦[Finset.univ]{fullShare.right} V m c main_arg2) ∗ (ℓn c ↦[Finset.univ]{fullShare.right} V m c main_arg3)) ∗ (∃ r, prngReg c r))

def dats (p : Fin 1) (c : Dev nD) : Dat τ (Elt F) Unit ℕ (Pipeline.UD sig nD τ) ℕ (Pipeline.pin (pcfgs (F := F)) (adm m hok) p) c where
  A w := V m c (Pipeline.arrRef spec0 w)
  after w t := match w with
    | ⟨0, _⟩ => iblk m hok c t
    | ⟨1, _⟩ => blockOut c (Memref.whole main_arg5) (Memref.whole main_arg6) (Memref.whole main_arg7) (V m c main_arg0) (V m c main_arg1) (V m c main_arg3) (V m c main_arg5) (V m c main_arg6) (V m c main_arg7) t.val (iblk m hok c t)
  Φ t := Inv m c t.val
  q _ := fullShare
  owed _ := 0

/-- What a window's array holds at the start. -/
theorem A_eq (c : Dev nD) (w : Fin 2) : (dats m hok 0 c).A w = V m c (Pipeline.arrRef spec0 w) := by
  dsimp only [dats]
/-- What a point leaves in the first window. -/
theorem after0_0 (c : Dev nD) (t : Fin (cfgA m hok).N) : (dats m hok 0 c).after 0 t = iblk m hok c t := by dsimp only [dats]; rfl
/-- What a point leaves in the second window. -/
theorem after0_1 (c : Dev nD) (t : Fin (cfgA m hok).N) : (dats m hok 0 c).after 1 t = blockOut c (Memref.whole main_arg5) (Memref.whole main_arg6) (Memref.whole main_arg7) (V m c main_arg0) (V m c main_arg1) (V m c main_arg3) (V m c main_arg5) (V m c main_arg6) (V m c main_arg7) t.val (iblk m hok c t) := by
  dsimp only [dats]; rfl

/-- What a point finds in the first window. -/
theorem before0_0 (c : Dev nD) (t : Fin (cfgA m hok).N) (d) : (dats m hok 0 c).before 0 t d = iblk m hok c t :=
  ((dats m hok 0 c).before_in_eq_fetched 0 rfl (fun _ => rfl) (fun _ _ _ => rfl) (fun t => by rw [after0_0]; unfold Dat.blockOf iblk; rw [A_eq]; rfl) t d).trans
    (by unfold Dat.fetched Dat.blockOf iblk; rw [A_eq]; try rfl)

/-- A point's coordinate is its number. -/
theorem coords0 : ∀ t : Fin grid0.N, ((grid0.coords t) 0).val = t.val := by decide +kernel

/-! ## A point of the grid -/

abbrev st0 (t : Fin (cfgA m hok).N) : Memref sig .tc .vmem S8192x128 .f32 := spec0_0.stage ((cfgA m hok).slots t 0)
abbrev st1 (t : Fin (cfgA m hok).N) : Memref sig .tc .vmem S4096x128 .f32 := spec0_1.stage ((cfgA m hok).slots t 1)

abbrev bodyAt (t : Fin (cfgA m hok).N) :=
  cc0_moe_ffn (F := F) (grid0.coords t) (Memref.whole main_arg0) (Memref.isWhole_whole _) (Memref.whole main_arg1) (Memref.isWhole_whole _) (Memref.whole main_arg2) (Memref.isWhole_whole _) (Memref.whole main_arg3) (Memref.isWhole_whole _) (st0 m hok t) (hstage0_0 (((cfgA m hok).slots t 0).cast nbuf0_0)) (Memref.whole main_arg5) (Memref.isWhole_whole _) (Memref.whole main_arg6) (Memref.isWhole_whole _) (Memref.whole main_arg7) (Memref.isWhole_whole _) (st1 m hok t) (hstage0_1 (((cfgA m hok).slots t 1).cast nbuf0_1)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6

def bodyPre (c : Dev nD) (t : Fin (cfgA m hok).N) : sProp 𝕄 :=
  iprop((dats m hok 0 c).Φ t.castSucc ∗ (dats m hok 0 c).owesAt () t.castSucc
    ∗ (∃ d, owns (c : Thread nD τ) (st0 m hok t) fullShare ((dats m hok 0 c).before 0 t d))
    ∗ (∃ d, owns (c : Thread nD τ) (st1 m hok t) fullShare ((dats m hok 0 c).before 1 t d)))
def bodyPost (c : Dev nD) (t : Fin (cfgA m hok).N) : sProp 𝕄 :=
  iprop((dats m hok 0 c).Φ t.succ ∗ (dats m hok 0 c).owesAt () t.succ
    ∗ owns (c : Thread nD τ) (st0 m hok t) fullShare ((dats m hok 0 c).after 0 t)
    ∗ owns (c : Thread nD τ) (st1 m hok t) fullShare ((dats m hok 0 c).after 1 t))

/-- A point of the grid keeps the invariant. -/
theorem sound_body (c : Dev nD) (t : Fin (cfgA m hok).N) :
    bodyPre m hok c t ⊢ wp frame (wpE (defs₀ (F := F)) Variants.none c none) Set.univ (bodyAt m hok t) (fun _ => bodyPost m hok c t) := by
  unfold bodyPre bodyPost
  have ht : ((grid0.coords t) 0).val = t.val := coords0 t
  rw [show (dats m hok 0 c).Φ t.succ = Inv m c (((grid0.coords t) 0).val + 1) from by rw [ht]; rfl, after0_0, after0_1, ← ht]
  rw [show (dats m hok 0 c).Φ t.castSucc = Inv m c ((grid0.coords t) 0).val from by rw [ht]; rfl]
  unfold Dat.owesAt Pipeline.owesWithin Inv
  rw [show (dats m hok 0 c).owed t.castSucc = 0 from rfl, show (dats m hok 0 c).owed t.succ = 0 from rfl]
  simp only [before0_0]
  iintro ⟨⟨Hs, Ht, Hg⟩, ⟨%W, -, HW⟩, ⟨%d0, H0⟩, ⟨%d1, H1⟩⟩
  iapply (step c (grid0.coords t) (st0 m hok t) (hstage0_0 (((cfgA m hok).slots t 0).cast nbuf0_0)) (Memref.whole main_arg5) (Memref.isWhole_whole _) (Memref.whole main_arg6) (Memref.isWhole_whole _) (Memref.whole main_arg7) (Memref.isWhole_whole _) (st1 m hok t) (hstage0_1 (((cfgA m hok).slots t 1).cast nbuf0_1)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 (V m c main_arg0) (V m c main_arg1) (V m c main_arg2) (V m c main_arg3) fullShare.right
    (V m c main_arg5) (V m c main_arg6) (V m c main_arg7) (hok c) (iblk m hok c t) _)
  isplitl [Ht]; · iexact Ht
  isplitl [Hs]; · iexact Hs
  isplitl [HW]; · iexists W; iexact HW
  isplitl [H0]; · iexact H0
  isplitl [H1]; · iexists _; iexact H1
  iintro ⟨Ht, Hs, ⟨%W', HW⟩, H0, H1⟩
  isplitl [Hs Ht Hg]
  · isplitl [Hs]; · iexact Hs
    isplitl [Ht]; · iexact Ht
    iexact Hg
  isplitl [HW]
  · iexists W'; isplitr; · ipureintro; exact fun _ _ => Or.inl trivial
    iexact HW
  isplitl [H0]; · iexact H0
  iexact H1

/-- The body at a point is the kernel function on the point's windows. -/
theorem defs₀_row (t : Fin (cfgA m hok).N) :
    defs₀ (F := F) .tc (cfgA m hok).body ((cfgA m hok).bodyArgs t ((cfgA m hok).slots t)) = bodyAt m hok t := by
  unfold defs₀; rw [Defs.onTc_tc]

/-- One of the three ways a step ends always holds, so every step writes its block. -/
theorem busy (i : grid0.Coords) (v0 v18 : BitVec 32) :
    (!(k0_cond4 i v0 v18 == 1#1) && !(k0_cond5 i v0 v18 == 1#1) && !(k0_cond6 i v0 == 1#1)) = false := by
  unfold k0_cond4 k0_cond5 k0_cond6
  dsimp only
  rw [extui_ne, extui_ne, extui_ne]
  generalize Scalar.cmpi .slt (BitVec.ofNat 32 (i 0).val) v0 = a
  generalize Scalar.cmpi .sle v18 256#32 = b
  revert a b
  decide

/-- Every point writes its block. -/
theorem busy_at (t : Fin (cfgA m hok).N) : (cfgA m hok).idle 1 ((cfgA m hok).grid.coords t) = false := busy _ _ _

/-- The body keeps the invariant at every point. -/
theorem body_obligation (c : Dev nD) : BodyObligation (dats (F := F) m hok 0 c) (defs₀ (F := F)) Variants.none () Set.univ := fun t => by
  rw [bigSep_W0, bigSep_W0, defs₀_row, busy_at]
  exact triple_restated (sound_body m hok c t) rfl .rfl fun _ => .rfl

/-! ## The launch -/

/-- The tables' shares, one by one. -/
theorem ΦT0_eq (c : Dev nD) : (Pipeline.ΦT pre0 (adm m hok 0).1 c : sProp 𝕄) = iprop(((ℓb c ↦[Finset.univ]{fullShare.right} V m c main_arg0) ∗ (ℓu c ↦[Finset.univ]{fullShare.right} V m c main_arg1) ∗ (ℓx c ↦[Finset.univ]{fullShare.right} V m c main_arg2) ∗ (ℓn c ↦[Finset.univ]{fullShare.right} V m c main_arg3))) := by
  obtain rfl : c = 0 := Subsingleton.elim _ _
  exact bigSep_univ_eq_bigSepL [(0 : Fin 4), 1, 2, 3] (by decide) (by decide) _

/-- The buffers routed to the body, one by one. -/
theorem routed0_eq (c : Dev nD) (W : (b : Ref sig .tc) → Buf (Elt F) ((c : Thread nD τ).loc b)) :
    (Pipeline.routed R0 c W : sProp 𝕄) = iprop((((c : Thread nD τ).loc main_arg5) ↦{fullShare} W main_arg5)
      ∗ (((c : Thread nD τ).loc main_arg6) ↦{fullShare} W main_arg6) ∗ (((c : Thread nD τ).loc main_arg7) ↦{fullShare} W main_arg7)) :=
  bigSep_eq_bigSepL_of_eq [main_arg5, main_arg6, main_arg7] (by decide) (by decide) _

/-- Before the first step the body's buffers are as the launch gives them. -/
theorem still_eq (c : Dev nD) : (still c (Memref.whole main_arg5) (Memref.whole main_arg6) (Memref.whole main_arg7) (Memref.whole cc0_scratch0) (Memref.whole cc0_scratch1)
    (Memref.whole cc0_scratch2) cc0_scratch6 (V m c main_arg5) (V m c main_arg6) (V m c main_arg7) : sProp 𝕄)
    = iprop((((c : Thread nD τ).loc main_arg5) ↦{fullShare} V m c main_arg5) ∗ (((c : Thread nD τ).loc main_arg6) ↦{fullShare} V m c main_arg6)
      ∗ (((c : Thread nD τ).loc main_arg7) ↦{fullShare} V m c main_arg7)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ semVal ((c : Thread nD τ), SemLoc.dma 4) 0 ∗ semVal ((c : Thread nD τ), SemLoc.dma 5) 0 ∗ semVal ((c : Thread nD τ), SemLoc.dma 6) 0) := by
  unfold still
  simp only [Memref.view_whole, View.set_whole, owns_whole]
  rfl

/-- The launch gives the invariant of the first point. -/
theorem hin (c : Dev nD) : iprop(Pipeline.ΦDRG osem0 spec0 H0 R0 (V m) (V m) c ∗ Pipeline.ΦT pre0 (adm m hok 0).1 c) ⊢ (dats m hok 0 c).Φ 0 := by
  rw [show (dats m hok 0 c).Φ 0 = Inv m c 0 from rfl, Pipeline.ΦDRG_eq, ΦT0_eq, routed0_eq, ownSems00_eq, scopedRest0_eq]
  unfold Inv found
  rw [if_pos rfl, still_eq]
  simp only [owns_whole]
  iintro ⟨⟨⟨Hs0, Hs1, Hs2, Hs3, Hs4, Hs5⟩, Hg, ⟨Hq0, Hq1, Hq2⟩, -, Ho5, Ho6, Ho7⟩, Ht⟩
  isplitl [Hs0 Hs1 Hs2 Hs3 Hs4 Hs5 Hq0 Hq1 Hq2 Ho5 Ho6 Ho7]
  · isplitl [Hs0 Hs1 Hs2 Hq0 Hq1 Hq2 Ho5 Ho6 Ho7]
    · isplitl [Ho5]; · iexact Ho5
      isplitl [Ho6]; · iexact Ho6
      isplitl [Ho7]; · iexact Ho7
      isplitl [Hs0]; · iexact Hs0
      isplitl [Hs1]; · iexact Hs1
      isplitl [Hs2]; · iexact Hs2
      isplitl [Hq0]; · iexact Hq0
      isplitl [Hq1]; · iexact Hq1
      iexact Hq2
    isplitl [Hs3]; · iexact Hs3
    isplitl [Hs4]; · iexact Hs4
    iexact Hs5
  isplitl [Ht]; · iexact Ht
  iexact Hg

/-- The invariant of the last point gives back what the launch lent. -/
theorem hout (c : Dev nD) : (dats m hok 0 c).Φ (Fin.last _) ⊢ Pipeline.ΦDRG osem0 spec0 H0 R0 (V m) (V m) c := by
  rw [show (dats m hok 0 c).Φ (Fin.last _) = Inv m c 40 from rfl, Pipeline.ΦDRG_eq, routed0_eq, ownSems00_eq, scopedRest0_eq]
  have hpos := (hok c).pos
  have hle := (hok c).le
  have e : min 40 ((V m c main_arg1 : S1.Idx → BitVec 32) (ValueIdx.ix1 0)).toNat - 1 = ((V m c main_arg1 : S1.Idx → BitVec 32) (ValueIdx.ix1 0)).toNat - 1 := by omega
  have el := (hok c).last (((V m c main_arg1 : S1.Idx → BitVec 32) (ValueIdx.ix1 0)).toNat - 1) (by omega)
  unfold Inv found copies loaded
  rw [if_neg (by decide), e, el, dif_neg (by decide), still_eq]
  simp only [owns_whole]
  iintro ⟨⟨⟨Ho5, Ho6, Ho7, Hs0, Hs1, Hs2, Hq0, Hq1, Hq2⟩, Hs3, Hs4, Hs5⟩, -, Hg⟩
  isplitl [Hs0 Hs1 Hs2 Hs3 Hs4 Hs5]
  · isplitl [Hs0]; · iexact Hs0
    isplitl [Hs1]; · iexact Hs1
    isplitl [Hs2]; · iexact Hs2
    isplitl [Hs3]; · iexists _; iexact Hs3
    isplitl [Hs4]; · iexists _; iexact Hs4
    iexists _; iexact Hs5
  isplitl [Hg]; · iexact Hg
  isplitl [Hq0 Hq1 Hq2]
  · isplitl [Hq0]; · iexact Hq0
    isplitl [Hq1]; · iexact Hq1
    iexact Hq2
  isplitr [Ho5 Ho6 Ho7]
  · unfold H0; rw [bigSep_empty]; iempintro
  isplitl [Ho5]; · iexact Ho5
  isplitl [Ho6]; · iexact Ho6
  iexact Ho7

set_option backward.isDefEq.respectTransparency.types false in
/-- The run of the program, as the grid's schema states it. -/
theorem run_raw : θ_run defs (onTc (τ := τ) (main (F := F))) (s₀ m ρ)
    (fun r => Pipeline.FramePostRG (Pipeline.pin pcfgs (adm m hok)) (dats m hok) 0 R0 (V m) (V m) r ∧ r.2.sem = fun _ => 0) :=
  Pipeline.θ_run_frameP_dmaRG (Q' := _) pcfgs (adm m hok) (dats m hok) (0 : Fin 1) launch0 osem0 defs₀ Variants.none ownSemFacts0 H0 R0 H0_sub R0_sub m ρ main
    (hbody := fun c => (body_obligation m hok c).loose) (hshare := fun c => (dats m hok 0 c).share_full fun _ => rfl)
    (howed := fun _ _ => rfl) (V := V m)
    (hmain := Pipeline.hmainP_region pcfgs 0 defs₀ Variants.none m main fun c => (main_chain c).trans rfl) (hA := A_eq m hok)
    (hpf := fun c k => by obtain rfl : c = 0 := Subsingleton.elim _ _; rfl)
    (G := V m) (hin := hin m hok) (hout := hout m hok)

/-- Every block of the result is written back. -/
theorem covers : ((cfgA m hok).win 1).Covers := by
  refine Pipeline.Window.covers_of_indexMap_surj _ rfl (fun a => ?_) fun β => ?_
  · match a with
    | ⟨0, _⟩ => show 0 < 4096; decide
    | ⟨1, _⟩ => show 0 < 128; decide
  · have h0 : (β (0 : Fin 2)).val < (163840 + 4096 - 1) / 4096 := (β (0 : Fin 2)).isLt
    have h1 : (β (1 : Fin 2)).val < (128 + 128 - 1) / 128 := (β (1 : Fin 2)).isLt
    refine ⟨fun a => match a with | ⟨0, _⟩ => ⟨(β (0 : Fin 2)).val, h0⟩, fun a => ?_⟩
    match a with
    | ⟨0, _⟩ =>
      show (BitVec.ofNat 32 (β (0 : Fin 2)).val).toNat = (β (0 : Fin 2)).val
      rw [BitVec.toNat_ofNat]; omega
    | ⟨1, _⟩ => show 0 = (β (1 : Fin 2)).val; omega

/-- The result: block by block what the steps leave. -/
def whole (c : Dev nD) : Buf (Elt F) ((c : Thread nD τ).loc main_v0) := (dats m hok 0 c).arrAt 1 (cfgA m hok).N

/-- The run of the program: the result ends filled, the arguments as they were, the counters at zero. -/
theorem run_main : θ_run defs (onTc (τ := τ) (main (F := F))) (s₀ m ρ) (fun r => (∀ c : Dev nD,
      r.2.mem ((c.tc : Thread nD τ).loc main_v0) = whole m hok c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c =>
    ⟨(h.1.1 c).1 1,
      (h.1.1 c).2 main_arg0 (Finset.mem_sdiff.mpr ⟨Pipeline.mem_restRefs_of main_arg0 (by decide) (show ∀ w : Fin 2, (spec0 w).arr.view.ref ≠ main_arg0 from by decide), by decide⟩),
      (h.1.1 c).2 main_arg1 (Finset.mem_sdiff.mpr ⟨Pipeline.mem_restRefs_of main_arg1 (by decide) (show ∀ w : Fin 2, (spec0 w).arr.view.ref ≠ main_arg1 from by decide), by decide⟩),
      (h.1.1 c).2 main_arg2 (Finset.mem_sdiff.mpr ⟨Pipeline.mem_restRefs_of main_arg2 (by decide) (show ∀ w : Fin 2, (spec0 w).arr.view.ref ≠ main_arg2 from by decide), by decide⟩),
      (h.1.1 c).2 main_arg3 (Finset.mem_sdiff.mpr ⟨Pipeline.mem_restRefs_of main_arg3 (by decide) (show ∀ w : Fin 2, (spec0 w).arr.view.ref ≠ main_arg3 from by decide), by decide⟩),
      ((h.1.1 c).1 0).trans (((dats m hok 0 c).arrAt_in 0 rfl _).trans (A_eq m hok c 0)),
      h.1.2 c main_arg5 (by decide), h.1.2 c main_arg6 (by decide), h.1.2 c main_arg7 (by decide)⟩, h.2⟩) (run_raw m ρ hok)

end Cert.Kernel5Ideal.Experts

end
-- ==== Proof.E.One.lean ====
/- The experts' call: the chains are sums over the group's eight experts. -/
module

public import proofs.«01_k».proof.Proof.E.Spec
public import Idealize.ShloMosaic.Lib.Pointwise

@[expose] public section

set_option maxRecDepth 65536

noncomputable section

namespace Cert.Kernel5Ideal.Experts

open Cert.Kernel5Ideal Cert.Kernel5Ideal.Gen
open Idealize.ShloMosaic Idealize.ShloMosaic.TcCoe

variable {F : FTy → Type} [FloatOps F]

/-- A printed float word's number. -/
abbrev lit (w : BitVec 32) : EReal := Ideal.ofBits .f32 w

/-- One hidden unit of one expert: gated, and zero for a token that did not choose the expert. -/
def hidden (e1 e2 g1 g2 ω h1 h3 : EReal) : EReal :=
  if e1 = ω ∨ e2 = ω then h1 * Ideal.div 1 (1 + Ideal.exp (0 - h1)) * h3 * (if e1 = ω then g1 else g2) else 0

/-- A masked factor. -/
theorem masked (p q : Prop) [Decidable p] [Decidable q] (a b : EReal) :
    Scalar.select (IntOp.ori (BitVec.ofBool (decide p)) (BitVec.ofBool (decide q))) (a * b) 0 = (if p ∨ q then a else 0) * b := by
  by_cases hp : p <;> by_cases hq : q <;> simp [hp, hq, Scalar.select, IntOp.ori]

/-- The number of an expert within its group, as printed. -/
def word : Fin 8 → BitVec 32 := ![0x00000000#32, 0x3F800000#32, 0x40000000#32, 0x40400000#32, 0x40800000#32, 0x40A00000#32, 0x40C00000#32, 0x40E00000#32]

/-- One expert's part of one token's output feature, from a block's rows and a group's matrices. -/
def part (x : Vec Ideal S8192x128 .f32) (W1 W3 : Vec Ideal S8x1024x256 .bf16) (W2 : Vec Ideal S8x256x1024 .bf16) (r : Fin 512) (d : Fin 1024) (e : Fin 8) : EReal :=
  ∑ f : Fin 256, hidden (x (ix2 ⟨r.val * 16 + 8, by omega⟩ 0)) (x (ix2 ⟨r.val * 16 + 8, by omega⟩ 1)) (x (ix2 ⟨r.val * 16 + 8, by omega⟩ 2)) (x (ix2 ⟨r.val * 16 + 8, by omega⟩ 3)) (lit (word e))
      (∑ k : Fin 1024, x (ix2 ⟨r.val * 16 + k.val / 128, by omega⟩ ⟨k.val % 128, by omega⟩) * W1 (ix3 e k f))
      (∑ k : Fin 1024, x (ix2 ⟨r.val * 16 + k.val / 128, by omega⟩ ⟨k.val % 128, by omega⟩) * W3 (ix3 e k f)) * W2 (ix3 e f d)

/-- The expert's matrix of a group's. -/
theorem wide_at {φ : EltTy} (W : Vec F S8x1024x256 φ) (k : Fin 8) (h : ∀ a, (![k.val, 0, 0] : Fin 3 → ℕ) a + S1x1024x256.size a ≤ S8x1024x256.size a) (a : Fin 1024) (b : Fin 256) :
    wide W k.val h (ix3 0 a b) = W (ix3 k a b) :=
  congrArg W (funext fun j => match j with | ⟨0, _⟩ => Fin.ext (by show k.val + 1 * 0 = k.val; omega) | ⟨1, _⟩ => Fin.ext (by show 0 + 1 * a.val = a.val; omega) | ⟨2, _⟩ => Fin.ext (by show 0 + 1 * b.val = b.val; omega))
/-- The same of a matrix back. -/
theorem tall_at {φ : EltTy} (W : Vec F S8x256x1024 φ) (k : Fin 8) (h : ∀ a, (![k.val, 0, 0] : Fin 3 → ℕ) a + S1x256x1024.size a ≤ S8x256x1024.size a) (a : Fin 256) (b : Fin 1024) :
    tall W k.val h (ix3 0 a b) = W (ix3 k a b) :=
  congrArg W (funext fun j => match j with | ⟨0, _⟩ => Fin.ext (by show k.val + 1 * 0 = k.val; omega) | ⟨1, _⟩ => Fin.ext (by show 0 + 1 * a.val = a.val; omega) | ⟨2, _⟩ => Fin.ext (by show 0 + 1 * b.val = b.val; omega))

namespace Full

/-- One expert's part: its two projections, the gate, the mask, the product back. -/
def one (ω : BitVec 32) (X : FVec F S512x1024 .bf16) (e1 e2 g1 g2 : FVec F S512x1 .f32) (A B : Vec F S1x1024x256 .bf16) (C : Vec F S1x256x1024 .bf16) : FVec F S512x1024 .f32 :=
  have h1 : FVec F S512x256 .f32 := matmul dot_S512x1024_S1024x256_S512x256_1_0_0_1_n_n none X (shapeCast S1024x256 A shapeCasts_S1x1024x256_S1024x256) (constant S512x256 .f32 0x00000000#32)
  have h3 : FVec F S512x256 .f32 := matmul dot_S512x1024_S1024x256_S512x256_1_0_0_1_n_n none X (shapeCast S1024x256 B shapeCasts_S1x1024x256_S1024x256) (constant S512x256 .f32 0x00000000#32)
  have w : FVec F S512x1 .f32 := broadcast S512x1 (Scalar.ofBits .f32 ω)
  have g : FVec F S512x1 .f32 := select (cmpf .oeq e1 w) g1 g2
  have s : FVec F S512x256 .f32 := divf (broadcast S512x256 (Scalar.ofBits .f32 0x3F800000#32)) (addf (broadcast S512x256 (Scalar.ofBits .f32 0x3F800000#32)) (exp (subf (broadcast S512x256 (Scalar.ofBits .f32 0x00000000#32)) h1)))
  have h : FVec F S512x256 .f32 := mulf (mulf (mulf h1 s) h3) (broadcastTo S512x256 g broadcasts_S512x1_S512x256)
  have k : IVec S512x1 1 := shapeCast S512x1 (ori (cmpf .oeq e1 w) (cmpf .oeq e2 w)) shapeCasts_S512x1_S512x1
  have hm : FVec F S512x256 .f32 := select (broadcastTo S512x256 k broadcasts_S512x1_S512x256) h (broadcast S512x256 (Scalar.ofBits .f32 0x00000000#32))
  matmul dot_S512x256_S256x1024_S512x1024_1_0_0_1_n_n none (truncf .bf16 hm bitsLt_bf16_f32) (shapeCast S256x1024 C shapeCasts_S1x256x1024_S256x1024) (constant S512x1024 .f32 0x00000000#32)

variable (x : Vec F S8192x128 .f32) (W1 W3 : Vec F S8x1024x256 .bf16) (W2 : Vec F S8x256x1024 .bf16)

/-- The first expert's part. -/
theorem sum0 : v77 x W1 W3 W2 = one 0x00000000#32 (v39 x) (v41 x) (v42 x) (v43 x) (v44 x) (v45 W1) (v48 W3) (v75 W2) := rfl
/-- With one expert more. -/
theorem sum1 : v111 x W1 W3 W2 = addf (v77 x W1 W3 W2) (one 0x3F800000#32 (v39 x) (v41 x) (v42 x) (v43 x) (v44 x) (v78 W1) (v81 W3) (v108 W2)) := rfl
/-- With one expert more. -/
theorem sum2 : v145 x W1 W3 W2 = addf (v111 x W1 W3 W2) (one 0x40000000#32 (v39 x) (v41 x) (v42 x) (v43 x) (v44 x) (v112 W1) (v115 W3) (v142 W2)) := rfl
/-- With two experts more. -/
theorem sum4 : v213 x W1 W3 W2 = addf (addf (v145 x W1 W3 W2) (one 0x40400000#32 (v39 x) (v41 x) (v42 x) (v43 x) (v44 x) (v146 W1) (v149 W3) (v176 W2)))
    (one 0x40800000#32 (v39 x) (v41 x) (v42 x) (v43 x) (v44 x) (v180 W1) (v183 W3) (v210 W2)) := rfl
/-- With one expert more. -/
theorem sum5 : v247 x W1 W3 W2 = addf (v213 x W1 W3 W2) (one 0x40A00000#32 (v39 x) (v41 x) (v42 x) (v43 x) (v44 x) (v214 W1) (v217 W3) (v244 W2)) := rfl
/-- With one expert more. -/
theorem sum6 : v281 x W1 W3 W2 = addf (v247 x W1 W3 W2) (one 0x40C00000#32 (v39 x) (v41 x) (v42 x) (v43 x) (v44 x) (v248 W1) (v251 W3) (v278 W2)) := rfl
/-- With one expert more. -/
theorem sum7 : v315 x W1 W3 W2 = addf (v281 x W1 W3 W2) (one 0x40E00000#32 (v39 x) (v41 x) (v42 x) (v43 x) (v44 x) (v282 W1) (v285 W3) (v312 W2)) := rfl

/-- One expert's part over the reals. -/
theorem one_at (ω : BitVec 32) (X : FVec Ideal S512x1024 .bf16) (e1 e2 g1 g2 : FVec Ideal S512x1 .f32) (A B : Vec Ideal S1x1024x256 .bf16) (C : Vec Ideal S1x256x1024 .bf16)
    (r : Fin 512) (d : Fin 1024) : (one ω X e1 e2 g1 g2 A B C (ix2 r d) : EReal)
      = ∑ f : Fin 256, hidden (e1 (ix2 r 0)) (e2 (ix2 r 0)) (g1 (ix2 r 0)) (g2 (ix2 r 0)) (lit ω) (∑ k : Fin 1024, X (ix2 r k) * A (ix3 0 k f))
          (∑ k : Fin 1024, X (ix2 r k) * B (ix3 0 k f)) * C (ix3 0 f d) := by
  pointwise [one, hidden]
  exact Finset.sum_congr rfl fun f _ => masked _ _ _ _

/-- A strided row. -/
theorem rows_to (x : Vec F S8192x128 .f32) (o : ℕ) (h : ∀ a : Fin 2, S512x128.size a = 0 ∨ (![o, 0] : Fin 2 → ℕ) a + (![16, 1] : Fin 2 → ℕ) a * (S512x128.size a - 1) < S8192x128.size a)
    (r : Fin 512) (q : Fin 128) (r' : Fin 8192) (q' : Fin 128) (hr : r'.val = r.val * 16 + o) (hq : q'.val = q.val) : rows512 x o h (ix2 r q) = x (ix2 r' q') :=
  congrArg x (funext fun j => match j with
    | ⟨0, _⟩ => Fin.ext (by show o + 16 * r.val = r'.val; omega)
    | ⟨1, _⟩ => Fin.ext (by show 0 + 1 * q.val = q'.val; omega))

/-- The tokens' features. -/
theorem feat_at (x : Vec Ideal S8192x128 .f32) (r : Fin 512) (k : Fin 1024) :
    (v39 x (ix2 r k) : EReal) = x (ix2 ⟨r.val * 16 + k.val / 128, by omega⟩ ⟨k.val % 128, by omega⟩) := by
  pointwise [v39, k0_pay35, v30, v31, v32, v33, v34, v35, v36, v37]
  split_ifs <;> exact rows_to _ _ _ _ _ _ _ (by dsimp only; omega) (by dsimp only; omega)

/-- The row's first choice. -/
theorem meta0 (x : Vec Ideal S8192x128 .f32) (r : Fin 512) : (v41 x (ix2 r 0) : EReal) = x (ix2 ⟨r.val * 16 + 8, by omega⟩ 0) :=
  (show (v41 x (ix2 r 0) : EReal) = v40 x (ix2 r 0) by pointwise [v41, k0_pay36]).trans (rows_to _ _ _ _ _ _ _ rfl rfl)
/-- Its second choice. -/
theorem meta1 (x : Vec Ideal S8192x128 .f32) (r : Fin 512) : (v42 x (ix2 r 0) : EReal) = x (ix2 ⟨r.val * 16 + 8, by omega⟩ 1) :=
  (show (v42 x (ix2 r 0) : EReal) = v40 x (ix2 r 1) by pointwise [v42, k0_pay37]).trans (rows_to _ _ _ _ _ _ _ rfl rfl)
/-- The first choice's gate. -/
theorem meta2 (x : Vec Ideal S8192x128 .f32) (r : Fin 512) : (v43 x (ix2 r 0) : EReal) = x (ix2 ⟨r.val * 16 + 8, by omega⟩ 2) :=
  (show (v43 x (ix2 r 0) : EReal) = v40 x (ix2 r 2) by pointwise [v43, k0_pay38]).trans (rows_to _ _ _ _ _ _ _ rfl rfl)
/-- The second choice's gate. -/
theorem meta3 (x : Vec Ideal S8192x128 .f32) (r : Fin 512) : (v44 x (ix2 r 0) : EReal) = x (ix2 ⟨r.val * 16 + 8, by omega⟩ 3) :=
  (show (v44 x (ix2 r 0) : EReal) = v40 x (ix2 r 3) by pointwise [v44, k0_pay39]).trans (rows_to _ _ _ _ _ _ _ rfl rfl)

/-- One expert's part of the chain. -/
theorem one_part (x : Vec Ideal S8192x128 .f32) (W1 W3 : Vec Ideal S8x1024x256 .bf16) (W2 : Vec Ideal S8x256x1024 .bf16) (r : Fin 512) (d : Fin 1024) (e : Fin 8)
    (A B : Vec Ideal S1x1024x256 .bf16) (C : Vec Ideal S1x256x1024 .bf16) (hA : ∀ k f, A (ix3 0 k f) = W1 (ix3 e k f)) (hB : ∀ k f, B (ix3 0 k f) = W3 (ix3 e k f))
    (hC : ∀ f d, C (ix3 0 f d) = W2 (ix3 e f d)) :
    (one (word e) (v39 x) (v41 x) (v42 x) (v43 x) (v44 x) A B C (ix2 r d) : EReal) = part x W1 W3 W2 ⟨r.val, by omega⟩ d e := by
  rw [one_at, meta0, meta1, meta2, meta3]
  simp only [feat_at, hA, hB, hC]
  rfl

/-- The chain's sum over the eight experts. -/
theorem acc_at (x : Vec Ideal S8192x128 .f32) (W1 W3 : Vec Ideal S8x1024x256 .bf16) (W2 : Vec Ideal S8x256x1024 .bf16) (r : Fin 512) (d : Fin 1024) :
    (v315 x W1 W3 W2 (ix2 r d) : EReal) = ∑ e : Fin 8, part x W1 W3 W2 ⟨r.val, by omega⟩ d e := by
  rw [Fin.sum_univ_eight, sum7, sum6, sum5, sum4, sum2, sum1, sum0]
  exact congrArg₂ (· + ·) (congrArg₂ (· + ·) (congrArg₂ (· + ·) (congrArg₂ (· + ·) (congrArg₂ (· + ·) (congrArg₂ (· + ·) (congrArg₂ (· + ·)
    (one_part x W1 W3 W2 r d 0 _ _ _ (wide_at W1 0 _) (wide_at W3 0 _) (tall_at W2 0 _))
    (one_part x W1 W3 W2 r d 1 _ _ _ (wide_at W1 1 _) (wide_at W3 1 _) (tall_at W2 1 _)))
    (one_part x W1 W3 W2 r d 2 _ _ _ (wide_at W1 2 _) (wide_at W3 2 _) (tall_at W2 2 _)))
    (one_part x W1 W3 W2 r d 3 _ _ _ (wide_at W1 3 _) (wide_at W3 3 _) (tall_at W2 3 _)))
    (one_part x W1 W3 W2 r d 4 _ _ _ (wide_at W1 4 _) (wide_at W3 4 _) (tall_at W2 4 _)))
    (one_part x W1 W3 W2 r d 5 _ _ _ (wide_at W1 5 _) (wide_at W3 5 _) (tall_at W2 5 _)))
    (one_part x W1 W3 W2 r d 6 _ _ _ (wide_at W1 6 _) (wide_at W3 6 _) (tall_at W2 6 _)))
    (one_part x W1 W3 W2 r d 7 _ _ _ (wide_at W1 7 _) (wide_at W3 7 _) (tall_at W2 7 _))

/-- A lane group of the chain's result. -/
theorem out_at (x : Vec F S8192x128 .f32) (W1 W3 : Vec F S8x1024x256 .bf16) (W2 : Vec F S8x256x1024 .bf16) (j : ℕ) (hj : j < 8) (r : Fin 512) (q : Fin 128) :
    out x W1 W3 W2 j (ix2 r q) = v315 x W1 W3 W2 (ix2 r (⟨128 * j + q.val, by omega⟩ : Fin 1024)) := by
  interval_cases j <;>
  exact congrArg (v315 x W1 W3 W2) (funext fun a => match a with
    | ⟨0, _⟩ => Fin.ext (Nat.zero_add _)
    | ⟨1, _⟩ => Fin.ext rfl)

end Full

namespace Half

/-- One expert's part: its two projections, the gate, the mask, the product back. -/
def one (ω : BitVec 32) (X : FVec F S256x1024 .bf16) (e1 e2 g1 g2 : FVec F S256x1 .f32) (A B : Vec F S1x1024x256 .bf16) (C : Vec F S1x256x1024 .bf16) : FVec F S256x1024 .f32 :=
  have h1 : FVec F S256x256 .f32 := matmul dot_S256x1024_S1024x256_S256x256_1_0_0_1_n_n none X (shapeCast S1024x256 A shapeCasts_S1x1024x256_S1024x256) (constant S256x256 .f32 0x00000000#32)
  have h3 : FVec F S256x256 .f32 := matmul dot_S256x1024_S1024x256_S256x256_1_0_0_1_n_n none X (shapeCast S1024x256 B shapeCasts_S1x1024x256_S1024x256) (constant S256x256 .f32 0x00000000#32)
  have w : FVec F S256x1 .f32 := broadcast S256x1 (Scalar.ofBits .f32 ω)
  have g : FVec F S256x1 .f32 := select (cmpf .oeq e1 w) g1 g2
  have s : FVec F S256x256 .f32 := divf (broadcast S256x256 (Scalar.ofBits .f32 0x3F800000#32)) (addf (broadcast S256x256 (Scalar.ofBits .f32 0x3F800000#32)) (exp (subf (broadcast S256x256 (Scalar.ofBits .f32 0x00000000#32)) h1)))
  have h : FVec F S256x256 .f32 := mulf (mulf (mulf h1 s) h3) (broadcastTo S256x256 g broadcasts_S256x1_S256x256)
  have k : IVec S256x1 1 := shapeCast S256x1 (ori (cmpf .oeq e1 w) (cmpf .oeq e2 w)) shapeCasts_S256x1_S256x1
  have hm : FVec F S256x256 .f32 := select (broadcastTo S256x256 k broadcasts_S256x1_S256x256) h (broadcast S256x256 (Scalar.ofBits .f32 0x00000000#32))
  matmul dot_S256x256_S256x1024_S256x1024_1_0_0_1_n_n none (truncf .bf16 hm bitsLt_bf16_f32) (shapeCast S256x1024 C shapeCasts_S1x256x1024_S256x1024) (constant S256x1024 .f32 0x00000000#32)

variable (x : Vec F S8192x128 .f32) (W1 W3 : Vec F S8x1024x256 .bf16) (W2 : Vec F S8x256x1024 .bf16)

/-- The first expert's part. -/
theorem sum0 : v77 x W1 W3 W2 = one 0x00000000#32 (v39 x) (v41 x) (v42 x) (v43 x) (v44 x) (v45 W1) (v48 W3) (v75 W2) := rfl
/-- With one expert more. -/
theorem sum1 : v111 x W1 W3 W2 = addf (v77 x W1 W3 W2) (one 0x3F800000#32 (v39 x) (v41 x) (v42 x) (v43 x) (v44 x) (v78 W1) (v81 W3) (v108 W2)) := rfl
/-- With one expert more. -/
theorem sum2 : v145 x W1 W3 W2 = addf (v111 x W1 W3 W2) (one 0x40000000#32 (v39 x) (v41 x) (v42 x) (v43 x) (v44 x) (v112 W1) (v115 W3) (v142 W2)) := rfl
/-- With two experts more. -/
theorem sum4 : v213 x W1 W3 W2 = addf (addf (v145 x W1 W3 W2) (one 0x40400000#32 (v39 x) (v41 x) (v42 x) (v43 x) (v44 x) (v146 W1) (v149 W3) (v176 W2)))
    (one 0x40800000#32 (v39 x) (v41 x) (v42 x) (v43 x) (v44 x) (v180 W1) (v183 W3) (v210 W2)) := rfl
/-- With one expert more. -/
theorem sum5 : v247 x W1 W3 W2 = addf (v213 x W1 W3 W2) (one 0x40A00000#32 (v39 x) (v41 x) (v42 x) (v43 x) (v44 x) (v214 W1) (v217 W3) (v244 W2)) := rfl
/-- With one expert more. -/
theorem sum6 : v281 x W1 W3 W2 = addf (v247 x W1 W3 W2) (one 0x40C00000#32 (v39 x) (v41 x) (v42 x) (v43 x) (v44 x) (v248 W1) (v251 W3) (v278 W2)) := rfl
/-- With one expert more. -/
theorem sum7 : v315 x W1 W3 W2 = addf (v281 x W1 W3 W2) (one 0x40E00000#32 (v39 x) (v41 x) (v42 x) (v43 x) (v44 x) (v282 W1) (v285 W3) (v312 W2)) := rfl

/-- One expert's part over the reals. -/
theorem one_at (ω : BitVec 32) (X : FVec Ideal S256x1024 .bf16) (e1 e2 g1 g2 : FVec Ideal S256x1 .f32) (A B : Vec Ideal S1x1024x256 .bf16) (C : Vec Ideal S1x256x1024 .bf16)
    (r : Fin 256) (d : Fin 1024) : (one ω X e1 e2 g1 g2 A B C (ix2 r d) : EReal)
      = ∑ f : Fin 256, hidden (e1 (ix2 r 0)) (e2 (ix2 r 0)) (g1 (ix2 r 0)) (g2 (ix2 r 0)) (lit ω) (∑ k : Fin 1024, X (ix2 r k) * A (ix3 0 k f))
          (∑ k : Fin 1024, X (ix2 r k) * B (ix3 0 k f)) * C (ix3 0 f d) := by
  pointwise [one, hidden]
  exact Finset.sum_congr rfl fun f _ => masked _ _ _ _

/-- A strided row. -/
theorem rows_to (x : Vec F S8192x128 .f32) (o : ℕ) (h : ∀ a : Fin 2, S256x128.size a = 0 ∨ (![o, 0] : Fin 2 → ℕ) a + (![16, 1] : Fin 2 → ℕ) a * (S256x128.size a - 1) < S8192x128.size a)
    (r : Fin 256) (q : Fin 128) (r' : Fin 8192) (q' : Fin 128) (hr : r'.val = r.val * 16 + o) (hq : q'.val = q.val) : rows256 x o h (ix2 r q) = x (ix2 r' q') :=
  congrArg x (funext fun j => match j with
    | ⟨0, _⟩ => Fin.ext (by show o + 16 * r.val = r'.val; omega)
    | ⟨1, _⟩ => Fin.ext (by show 0 + 1 * q.val = q'.val; omega))

/-- The tokens' features. -/
theorem feat_at (x : Vec Ideal S8192x128 .f32) (r : Fin 256) (k : Fin 1024) :
    (v39 x (ix2 r k) : EReal) = x (ix2 ⟨r.val * 16 + k.val / 128, by omega⟩ ⟨k.val % 128, by omega⟩) := by
  pointwise [v39, k0_pay66, v30, v31, v32, v33, v34, v35, v36, v37]
  split_ifs <;> exact rows_to _ _ _ _ _ _ _ (by dsimp only; omega) (by dsimp only; omega)

/-- The row's first choice. -/
theorem meta0 (x : Vec Ideal S8192x128 .f32) (r : Fin 256) : (v41 x (ix2 r 0) : EReal) = x (ix2 ⟨r.val * 16 + 8, by omega⟩ 0) :=
  (show (v41 x (ix2 r 0) : EReal) = v40 x (ix2 r 0) by pointwise [v41, k0_pay67]).trans (rows_to _ _ _ _ _ _ _ rfl rfl)
/-- Its second choice. -/
theorem meta1 (x : Vec Ideal S8192x128 .f32) (r : Fin 256) : (v42 x (ix2 r 0) : EReal) = x (ix2 ⟨r.val * 16 + 8, by omega⟩ 1) :=
  (show (v42 x (ix2 r 0) : EReal) = v40 x (ix2 r 1) by pointwise [v42, k0_pay68]).trans (rows_to _ _ _ _ _ _ _ rfl rfl)
/-- The first choice's gate. -/
theorem meta2 (x : Vec Ideal S8192x128 .f32) (r : Fin 256) : (v43 x (ix2 r 0) : EReal) = x (ix2 ⟨r.val * 16 + 8, by omega⟩ 2) :=
  (show (v43 x (ix2 r 0) : EReal) = v40 x (ix2 r 2) by pointwise [v43, k0_pay69]).trans (rows_to _ _ _ _ _ _ _ rfl rfl)
/-- The second choice's gate. -/
theorem meta3 (x : Vec Ideal S8192x128 .f32) (r : Fin 256) : (v44 x (ix2 r 0) : EReal) = x (ix2 ⟨r.val * 16 + 8, by omega⟩ 3) :=
  (show (v44 x (ix2 r 0) : EReal) = v40 x (ix2 r 3) by pointwise [v44, k0_pay70]).trans (rows_to _ _ _ _ _ _ _ rfl rfl)

/-- One expert's part of the chain. -/
theorem one_part (x : Vec Ideal S8192x128 .f32) (W1 W3 : Vec Ideal S8x1024x256 .bf16) (W2 : Vec Ideal S8x256x1024 .bf16) (r : Fin 256) (d : Fin 1024) (e : Fin 8)
    (A B : Vec Ideal S1x1024x256 .bf16) (C : Vec Ideal S1x256x1024 .bf16) (hA : ∀ k f, A (ix3 0 k f) = W1 (ix3 e k f)) (hB : ∀ k f, B (ix3 0 k f) = W3 (ix3 e k f))
    (hC : ∀ f d, C (ix3 0 f d) = W2 (ix3 e f d)) :
    (one (word e) (v39 x) (v41 x) (v42 x) (v43 x) (v44 x) A B C (ix2 r d) : EReal) = part x W1 W3 W2 ⟨r.val, by omega⟩ d e := by
  rw [one_at, meta0, meta1, meta2, meta3]
  simp only [feat_at, hA, hB, hC]
  rfl

/-- The chain's sum over the eight experts. -/
theorem acc_at (x : Vec Ideal S8192x128 .f32) (W1 W3 : Vec Ideal S8x1024x256 .bf16) (W2 : Vec Ideal S8x256x1024 .bf16) (r : Fin 256) (d : Fin 1024) :
    (v315 x W1 W3 W2 (ix2 r d) : EReal) = ∑ e : Fin 8, part x W1 W3 W2 ⟨r.val, by omega⟩ d e := by
  rw [Fin.sum_univ_eight, sum7, sum6, sum5, sum4, sum2, sum1, sum0]
  exact congrArg₂ (· + ·) (congrArg₂ (· + ·) (congrArg₂ (· + ·) (congrArg₂ (· + ·) (congrArg₂ (· + ·) (congrArg₂ (· + ·) (congrArg₂ (· + ·)
    (one_part x W1 W3 W2 r d 0 _ _ _ (wide_at W1 0 _) (wide_at W3 0 _) (tall_at W2 0 _))
    (one_part x W1 W3 W2 r d 1 _ _ _ (wide_at W1 1 _) (wide_at W3 1 _) (tall_at W2 1 _)))
    (one_part x W1 W3 W2 r d 2 _ _ _ (wide_at W1 2 _) (wide_at W3 2 _) (tall_at W2 2 _)))
    (one_part x W1 W3 W2 r d 3 _ _ _ (wide_at W1 3 _) (wide_at W3 3 _) (tall_at W2 3 _)))
    (one_part x W1 W3 W2 r d 4 _ _ _ (wide_at W1 4 _) (wide_at W3 4 _) (tall_at W2 4 _)))
    (one_part x W1 W3 W2 r d 5 _ _ _ (wide_at W1 5 _) (wide_at W3 5 _) (tall_at W2 5 _)))
    (one_part x W1 W3 W2 r d 6 _ _ _ (wide_at W1 6 _) (wide_at W3 6 _) (tall_at W2 6 _)))
    (one_part x W1 W3 W2 r d 7 _ _ _ (wide_at W1 7 _) (wide_at W3 7 _) (tall_at W2 7 _))

/-- A lane group of the chain's result. -/
theorem out_at (x : Vec F S8192x128 .f32) (W1 W3 : Vec F S8x1024x256 .bf16) (W2 : Vec F S8x256x1024 .bf16) (j : ℕ) (hj : j < 8) (r : Fin 256) (q : Fin 128) :
    out x W1 W3 W2 j (ix2 r q) = v315 x W1 W3 W2 (ix2 r (⟨128 * j + q.val, by omega⟩ : Fin 1024)) := by
  interval_cases j <;>
  exact congrArg (v315 x W1 W3 W2) (funext fun a => match a with
    | ⟨0, _⟩ => Fin.ext (Nat.zero_add _)
    | ⟨1, _⟩ => Fin.ext rfl)

end Half

/-- A full block's result. -/
theorem blk512_at (x : Vec Ideal S8192x128 .f32) (W1 W3 : Vec Ideal S8x1024x256 .bf16) (W2 : Vec Ideal S8x256x1024 .bf16) (p : Fin 4096) (q : Fin 128) :
    (blk512 x W1 W3 W2 (ix2 p q) : EReal) = ∑ e : Fin 8, part x W1 W3 W2 ⟨p.val / 8, by omega⟩ ⟨128 * (p.val % 8) + q.val, by omega⟩ e :=
  (Full.out_at x W1 W3 W2 (p.val % 8) (by omega) ⟨p.val / 8, by omega⟩ q).trans (Full.acc_at x W1 W3 W2 _ _)

/-- A half block's. -/
theorem blk256_at (x : Vec Ideal S8192x128 .f32) (W1 W3 : Vec Ideal S8x1024x256 .bf16) (W2 : Vec Ideal S8x256x1024 .bf16) (p : Fin 4096) (q : Fin 128) :
    (blk256 x W1 W3 W2 (ix2 p q) : EReal) = if p.val < 2048 then ∑ e : Fin 8, part x W1 W3 W2 ⟨p.val / 8, by omega⟩ ⟨128 * (p.val % 8) + q.val, by omega⟩ e else 0 := by
  by_cases h : p.val < 2048
  · rw [if_pos h]
    exact (dif_pos h).trans ((Half.out_at x W1 W3 W2 (p.val % 8) (by omega) ⟨p.val / 8, by omega⟩ q).trans (Half.acc_at x W1 W3 W2 _ _))
  · rw [if_neg h]
    exact (dif_neg h).trans (by show Ideal.ofBits .f32 0x00000000#32 = 0; simp [Ideal.ofBits, Ideal.ieee])

end Cert.Kernel5Ideal.Experts

end
-- ==== Proof.E.Layer.lean ====
/- What the experts' call computes, as a function of its arguments. -/
module

public import proofs.«01_k».proof.Proof.E.One
public import proofs.«01_k».proof.Proof.E.Step

@[expose] public section

set_option maxRecDepth 16384

noncomputable section

open Idealize.ShloMosaic Idealize.ShloMosaic.TcCoe Idealize.SL.Sem

namespace Cert.Kernel5Ideal.Experts

/-- A block's rows. -/
def blockRows (buf : Vec Ideal S327680x128 .f32) (b : Fin 40) : Vec Ideal S8192x128 .f32 :=
  fun y => buf (ix2 ⟨8192 * b.val + (y (0 : Fin 2)).val, by have h : (y (0 : Fin 2)).val < 8192 := (y (0 : Fin 2)).isLt; omega⟩ (y (1 : Fin 2)))

/-- A group's matrices of the first layer's. -/
def groupWide (w : Vec Ideal S4x64x1024x256 .f32) (g : Fin 8) : Vec Ideal S8x1024x256 .bf16 :=
  fun y => w (ix4 (0 : Fin 4) ⟨8 * g.val + (y (0 : Fin 3)).val, by have h : (y (0 : Fin 3)).val < 8 := (y (0 : Fin 3)).isLt; omega⟩ (y (1 : Fin 3)) (y (2 : Fin 3)))

/-- The same of the matrices back. -/
def groupTall (w : Vec Ideal S4x64x256x1024 .f32) (g : Fin 8) : Vec Ideal S8x256x1024 .bf16 :=
  fun y => w (ix4 (0 : Fin 4) ⟨8 * g.val + (y (0 : Fin 3)).val, by have h : (y (0 : Fin 3)).val < 8 := (y (0 : Fin 3)).isLt; omega⟩ (y (1 : Fin 3)) (y (2 : Fin 3)))

/-- The group of a block's experts. -/
def groupOf (fb : S40.Idx → BitVec 32) (b : Fin 40) : Fin 8 := ⟨(fb (ix1 b)).toNat % 8, by omega⟩

/-- A row of a block is computed if the block is used, and in the second half only if more than half of it is filled. -/
def Live (fu : S1.Idx → BitVec 32) (fn : S40.Idx → BitVec 32) (b : Fin 40) (p : Fin 512) : Prop :=
  b.val < (fu (ix1 0)).toNat ∧ (p.val < 256 ∨ ¬ Scalar.cmpi .sle (fn (ix1 b)) 256#32 = 1#1)

/-- One token's output feature: the sum over the experts of its block's group. -/
def token (fb : S40.Idx → BitVec 32) (buf : Vec Ideal S327680x128 .f32) (w1 w3 : Vec Ideal S4x64x1024x256 .f32) (w2 : Vec Ideal S4x64x256x1024 .f32)
    (b : Fin 40) (p : Fin 512) (d : Fin 1024) : EReal :=
  ∑ e : Fin 8, part (blockRows buf b) (groupWide w1 (groupOf fb b)) (groupWide w3 (groupOf fb b)) (groupTall w2 (groupOf fb b)) p d e

open Classical in
/-- The call's result: eight lane groups of every token's features, zero where no row is computed. -/
def layer (fb : S40.Idx → BitVec 32) (fu : S1.Idx → BitVec 32) (fn : S40.Idx → BitVec 32) (buf : Vec Ideal S327680x128 .f32) (w1 w3 : Vec Ideal S4x64x1024x256 .f32)
    (w2 : Vec Ideal S4x64x256x1024 .f32) (b : Fin 40) (p : Fin 512) (d : Fin 1024) : EReal :=
  if Live fu fn b p then token fb buf w1 w3 w2 b p d else 0

end Cert.Kernel5Ideal.Experts
-- ==== Proof.E.Value.lean ====
/- The experts' call: the result array is the function `layer` of the arguments. -/
module

public import proofs.«01_k».proof.Proof.E.Run
public import proofs.«01_k».proof.Proof.E.Layer
public import Idealize.ShloMosaic.Lib.Pipeline.ValueKit
public import Idealize.ShloMosaic.Lib.Pointwise

@[expose] public section

set_option maxRecDepth 65536

noncomputable section

namespace Cert.Kernel5Ideal.Experts

open Cert.Kernel5Ideal Cert.Kernel5Ideal.Gen
open Idealize.ShloMosaic Idealize.ShloMosaic.TcCoe Idealize.SL.Sem

/-- A slice of one group holds as many numbers as the group. -/
theorem casts_wide : S1x8x1024x256.ShapeCasts S8x1024x256 := by decide
/-- The same of the matrices back. -/
theorem casts_tall : S1x8x256x1024.ShapeCasts S8x256x1024 := by decide

/-- Without its leading axis of one, a slice holds the same numbers. -/
theorem drop_wide (X : FVec Ideal S1x8x1024x256 .f32) (e : Fin 8) (a : Fin 1024) (b : Fin 256) :
    (shapeCast S8x1024x256 X casts_wide (ix3 e a b) : EReal) = X (ix4 (0 : Fin 1) e a b) := by pointwise []
/-- The same of the matrices back. -/
theorem drop_tall (X : FVec Ideal S1x8x256x1024 .f32) (e : Fin 8) (a : Fin 256) (b : Fin 1024) :
    (shapeCast S8x256x1024 X casts_tall (ix3 e a b) : EReal) = X (ix4 (0 : Fin 1) e a b) := by pointwise []

/-- A group's matrices, copied and cast, are the group's. -/
theorem matW_at (w : Memref sig .tc .hbm S4x64x1024x256 .f32) (f : w.view.ty.Contents (Elt Ideal)) (W : Vec Ideal S4x64x1024x256 .f32) (hW : w.view.read (Elt Ideal) f = W)
    (v : BitVec 32) (hv : v.toNat < 8) (g : Fin 8) (hg : g.val = v.toNat) : matW w f v = groupWide W g := by
  have e8 := eight v hv
  unfold matW
  rw [dif_pos hv]
  funext y
  obtain ⟨e, a, b, rfl⟩ : ∃ (e : Fin 8) (a : Fin 1024) (b : Fin 256), y = ix3 e a b := ⟨y 0, y 1, y 2, funext fun k => by fin_cases k <;> rfl⟩
  show castWAt _ e a b = _
  unfold castWAt
  have hp : ∀ X : Vec Ideal S1x1024x256 .f32, (k0_pay13 X (ix3 0 a b) : EReal) = X (ix3 0 a b) := fun X => by pointwise [k0_pay13]
  refine (hp _).trans ((wide_at _ e _ a b).trans ?_)
  refine (congrFun (Memref.read_squeeze_slice w _ _ _ casts_wide f) (ix3 e a b)).trans ?_
  refine (drop_wide _ e a b).trans ?_
  · subst hW
    refine congrArg (w.view.read (Elt Ideal) f) ?_
    funext k
    apply Fin.ext
    match k with
    | ⟨0, _⟩ => rfl
    | ⟨1, _⟩ => show (Scalar.muli v 8#32).toNat + 1 * e.val = 8 * g.val + e.val; omega
    | ⟨2, _⟩ => show 0 + 1 * a.val = a.val; omega
    | ⟨3, _⟩ => show 0 + 1 * b.val = b.val; omega

/-- The same of the matrices back. -/
theorem matT_at (w : Memref sig .tc .hbm S4x64x256x1024 .f32) (f : w.view.ty.Contents (Elt Ideal)) (W : Vec Ideal S4x64x256x1024 .f32) (hW : w.view.read (Elt Ideal) f = W)
    (v : BitVec 32) (hv : v.toNat < 8) (g : Fin 8) (hg : g.val = v.toNat) : matT w f v = groupTall W g := by
  have e8 := eight v hv
  unfold matT
  rw [dif_pos hv]
  funext y
  obtain ⟨e, a, b, rfl⟩ : ∃ (e : Fin 8) (a : Fin 256) (b : Fin 1024), y = ix3 e a b := ⟨y 0, y 1, y 2, funext fun k => by fin_cases k <;> rfl⟩
  show castTAt _ e a b = _
  unfold castTAt
  have hp : ∀ X : Vec Ideal S1x256x1024 .f32, (k0_pay15 X (ix3 0 a b) : EReal) = X (ix3 0 a b) := fun X => by pointwise [k0_pay15]
  refine (hp _).trans ((tall_at _ e _ a b).trans ?_)
  refine (congrFun (Memref.read_squeeze_slice w _ _ _ casts_tall f) (ix3 e a b)).trans ?_
  refine (drop_tall _ e a b).trans ?_
  · subst hW
    refine congrArg (w.view.read (Elt Ideal) f) ?_
    funext k
    apply Fin.ext
    match k with
    | ⟨0, _⟩ => rfl
    | ⟨1, _⟩ => show (Scalar.muli v 8#32).toNat + 1 * e.val = 8 * g.val + e.val; omega
    | ⟨2, _⟩ => show 0 + 1 * a.val = a.val; omega
    | ⟨3, _⟩ => show 0 + 1 * b.val = b.val; omega

/-- What a step leaves at a point of its block. -/
theorem left_at (b : Fin 40) (fb : S40.Idx → BitVec 32) (fu : S1.Idx → BitVec 32) (fn : S40.Idx → BitVec 32) (buf : Vec Ideal S327680x128 .f32) (w1 w3 : Vec Ideal S4x64x1024x256 .f32) (w2 : Vec Ideal S4x64x256x1024 .f32)
    (x : Vec Ideal S8192x128 .f32) (hx : b.val < (fu (ix1 0)).toNat → x = blockRows buf b) (p : Fin 4096) (q : Fin 128) :
    (left b.val (fu (ix1 0)) (at40 fn b.val) x (groupWide w1 (groupOf fb b)) (groupWide w3 (groupOf fb b)) (groupTall w2 (groupOf fb b)) (ix2 p q) : EReal)
      = layer fb fu fn buf w1 w3 w2 b (⟨p.val / 8, by omega⟩ : Fin 512) (⟨128 * (p.val % 8) + q.val, by omega⟩ : Fin 1024) := by
  have hn : at40 fn b.val = fn (ix1 b) := (at40_eq fn b.val b.isLt).symm
  unfold left layer Live
  rw [hn]
  by_cases h : b.val < (fu (ix1 0)).toNat
  · rw [if_pos h, hx h]
    by_cases hs : Scalar.cmpi .sle (fn (ix1 b)) 256#32 = 1#1
    · rw [if_pos hs, blk256_at]
      by_cases hp : p.val < 2048
      · rw [if_pos hp, if_pos ⟨h, Or.inl (by show p.val / 8 < 256; omega)⟩]; rfl
      · rw [if_neg hp, if_neg]
        rintro ⟨-, h1 | h1⟩
        · have h2 : p.val / 8 < 256 := h1
          omega
        · exact h1 hs
    · rw [if_neg hs, if_pos ⟨h, Or.inr hs⟩, blk512_at]; rfl
  · rw [if_neg h, if_neg (fun h' => h h'.1)]
    show Ideal.ofBits .f32 0x00000000#32 = 0
    simp [Ideal.ofBits, Ideal.ieee]

variable (m : (ℓ : Loc nD τ sig) → Buf (Elt Ideal) ℓ) (hok : ∀ c, Good m c)

/-- The grid has forty points. -/
theorem N_eq : (cfgA m hok).N = 40 := rfl

/-- A used point reads its own block of rows. -/
theorem iblk_rows (c : Dev nD) (t : Fin (cfgA m hok).N) (b : Fin 40) (hb : b.val = t.val) (h : b.val < ((V m c main_arg1 : S1.Idx → BitVec 32) (ix1 0)).toNat) :
    iblk m hok c t = blockRows (V m c main_arg4) b := by
  obtain rfl : c = 0 := Subsingleton.elim _ _
  have hc : ((grid0.coords t) 0).val = t.val := coords0 t
  have hi := rows_index m (hok 0) (grid0.coords t)
  have hi' : ((cfgA m hok).win 0).index t = ![b.val, 0] := by
    refine Eq.trans hi ?_
    rw [hc, ← hb]
    congr 1
    have : b.val < ((V m 0 main_arg1 : S1.Idx → BitVec 32) (ValueIdx.ix1 0)).toNat := h
    omega
  funext y
  obtain ⟨r, q, rfl⟩ : ∃ (r : Fin 8192) (q : Fin 128), y = ix2 r q := ⟨y (0 : Fin 2), y (1 : Fin 2), funext fun k => by fin_cases k <;> rfl⟩
  unfold blockRows
  refine congrArg (V m 0 main_arg4) ?_
  show (((cfgA m hok).win 0).rect t).emb (ix2 r q) = _
  funext a
  apply Fin.ext
  match a with
  | ⟨0, _⟩ =>
    refine (((cfgA m hok).win 0).rect_emb_val t _ (0 : Fin 2)).trans ?_
    rw [hi']
    show b.val * 8192 + r.val = 8192 * b.val + r.val
    omega
  | ⟨1, _⟩ =>
    refine (((cfgA m hok).win 0).rect_emb_val t _ (1 : Fin 2)).trans ?_
    rw [hi']
    show 0 * 128 + q.val = q.val
    omega

/-- The call's result as an array. -/
def result (c : Dev nD) : Vec Ideal S163840x128 .f32 := fun y =>
  layer (V m c main_arg0) (V m c main_arg1) (V m c main_arg3) (V m c main_arg4) (V m c main_arg5) (V m c main_arg6) (V m c main_arg7)
    ⟨(y (0 : Fin 2)).val / 4096, by have h : (y (0 : Fin 2)).val < 163840 := (y (0 : Fin 2)).isLt; omega⟩
    ⟨(y (0 : Fin 2)).val / 8 % 512, by omega⟩
    ⟨(y (0 : Fin 2)).val % 8 * 128 + (y (1 : Fin 2)).val, by have h : (y (1 : Fin 2)).val < 128 := (y (1 : Fin 2)).isLt; omega⟩

set_option maxHeartbeats 4000000 in
/-- The result array is the function `layer` of the arguments. -/
theorem whole_eq (c : Dev nD) : whole m hok c = result m c := by
  refine (dats m hok 0 c).arrAt_eq_of_covers 1 _ (covers m hok) fun t hf y => ?_
  blk_simp
  rw [after0_1]
  have ht : t.val < 40 := t.isLt
  obtain ⟨p, q, rfl⟩ : ∃ (p : Fin 4096) (q : Fin 128), y = ix2 p q := ⟨y (0 : Fin 2), y (1 : Fin 2), funext fun k => by fin_cases k <;> rfl⟩
  have hg : ((at40 (V m c main_arg0 : S40.Idx → BitVec 32) t.val)).toNat < 8 := Ok.grp (hok c) t.val ht
  have hgo : (groupOf (V m c main_arg0) ⟨t.val, ht⟩).val = (at40 (V m c main_arg0 : S40.Idx → BitVec 32) t.val).toNat := by
    rw [← at40_eq _ t.val ht] at hg ⊢
    exact Nat.mod_eq_of_lt hg
  unfold blockOut
  rw [matW_at (Memref.whole main_arg5) (V m c main_arg5) (V m c main_arg5) rfl _ hg _ hgo,
    matW_at (Memref.whole main_arg6) (V m c main_arg6) (V m c main_arg6) rfl _ hg _ hgo,
    matT_at (Memref.whole main_arg7) (V m c main_arg7) (V m c main_arg7) rfl _ hg _ hgo]
  refine (left_at ⟨t.val, ht⟩ (V m c main_arg0) (V m c main_arg1) (V m c main_arg3) (V m c main_arg4) _ _ _ _ (fun h => iblk_rows m hok c t ⟨t.val, ht⟩ rfl h) p q).trans ?_
  have hi : ((cfgA m hok).win 1).index t = ![t.val, 0] := by
    have hc : ((grid0.coords t) 0).val = t.val := coords0 t
    show ![(BitVec.ofNat 32 ((grid0.coords t) 0).val).toNat, 0] = _
    rw [hc, BitVec.toNat_ofNat]
    congr 1
    omega
  have e : (((cfgA m hok).win 1).blk t).view.emb (ix2 p q) = ix2 (⟨4096 * t.val + p.val, by omega⟩ : Fin 163840) q := by
    show (((cfgA m hok).win 1).rect t).emb (ix2 p q) = _
    funext a
    apply Fin.ext
    match a with
    | ⟨0, _⟩ =>
      refine (((cfgA m hok).win 1).rect_emb_val t _ (0 : Fin 2)).trans ?_
      rw [hi]
      show t.val * 4096 + p.val = 4096 * t.val + p.val
      omega
    | ⟨1, _⟩ =>
      refine (((cfgA m hok).win 1).rect_emb_val t _ (1 : Fin 2)).trans ?_
      rw [hi]
      show 0 * 128 + q.val = q.val
      omega
  rw [e]
  unfold result
  congr 1 <;> apply Fin.ext
  · show t.val = (4096 * t.val + p.val) / 4096; omega
  · show p.val / 8 = (4096 * t.val + p.val) / 8 % 512; omega
  · show 128 * (p.val % 8) + q.val = (4096 * t.val + p.val) % 8 * 128 + q.val; omega

end Cert.Kernel5Ideal.Experts
-- ==== Proof.E.Ref.lean ====
/- The host reference of the experts' call, cut into its steps and each read at one element. -/
module

public import proofs.«01_k».proof.Proof.E.Layer
public import proofs.«01_k».proof.Proof.Gen.Reference5Ideal.Run
public import Idealize.ShloMosaic.Lib.Pointwise

@[expose] public section

set_option maxRecDepth 16384

noncomputable section

open Idealize.ShloMosaic Idealize.ShloMosaic.TcCoe Idealize.SL.Sem

namespace Cert.Ffn.Host

open Cert.Reference5Ideal Cert.Reference5Ideal.Gen

def rows (buf : FVec Ideal S327680x128 .f32) : FVec Ideal S20480x16x128 .f32 :=
  (shapeCast _ buf shapeCasts_S327680x128_S20480x16x128)

def feat (buf : FVec Ideal S327680x128 .f32) : FVec Ideal S20480x1024 .f32 :=
  (shapeCast _ (extractStridedSlice S20480x8x128 ![0, 0, 0] (rows buf) slices_S20480x16x128_S20480x8x128_0_0_0) shapeCasts_S20480x8x128_S20480x1024)

def head (buf : FVec Ideal S327680x128 .f32) : FVec Ideal S40x512x128 .f32 :=
  (shapeCast _ (shapeCast _ (extractStridedSlice S20480x1x128 ![0, 8, 0] (rows buf) slices_S20480x16x128_S20480x1x128_0_8_0) shapeCasts_S20480x1x128_S20480x128) shapeCasts_S20480x128_S40x512x128)

def lane0 (buf : FVec Ideal S327680x128 .f32) : FVec Ideal S40x512 .f32 :=
  (shapeCast _ (extractStridedSlice S40x512x1 ![0, 0, 0] (head buf) slices_S40x512x128_S40x512x1_0_0_0) shapeCasts_S40x512x1_S40x512)

def lane1 (buf : FVec Ideal S327680x128 .f32) : FVec Ideal S40x512 .f32 :=
  (shapeCast _ (extractStridedSlice S40x512x1 ![0, 0, 1] (head buf) slices_S40x512x128_S40x512x1_0_0_1) shapeCasts_S40x512x1_S40x512)

def lane2 (buf : FVec Ideal S327680x128 .f32) : FVec Ideal S40x512 .f32 :=
  (shapeCast _ (extractStridedSlice S40x512x1 ![0, 0, 2] (head buf) slices_S40x512x128_S40x512x1_0_0_2) shapeCasts_S40x512x1_S40x512)

def lane3 (buf : FVec Ideal S327680x128 .f32) : FVec Ideal S40x512 .f32 :=
  (shapeCast _ (extractStridedSlice S40x512x1 ![0, 0, 3] (head buf) slices_S40x512x128_S40x512x1_0_0_3) shapeCasts_S40x512x1_S40x512)

def hid (w : FVec Ideal S4x64x1024x256 .f32) (buf : FVec Ideal S327680x128 .f32) : FVec Ideal S8x8x40x512x256 .f32 :=
  (shapeCast _ (transpose S64x20480x256 [0, 2, 1] (Host.dotGeneral dot_S64x1024x256_S20480x1024_S64x256x20480_1_1_02_0_n_n none (shapeCast _ (extractStridedSlice S1x64x1024x256 ![0, 0, 0, 0] w slices_S4x64x1024x256_S1x64x1024x256_0_0_0_0) shapeCasts_S1x64x1024x256_S64x1024x256) (feat buf)) transposes_S64x256x20480_S64x20480x256_0_2_1) shapeCasts_S64x20480x256_S8x8x40x512x256)

def same (v : FVec Ideal S40x512 .f32) : IVec S8x40x512 1 :=
  (cmpf .oeq (broadcastInDim S8x40x512 ![0, 1, 2] bcast_S1x40x512_S8x40x512_0_1_2 (broadcastInDim S1x40x512 ![1, 2] bcast_S40x512_S1x40x512_1_2 v)) (broadcastInDim S8x40x512 ![0, 1, 2] bcast_S8x1x1_S8x40x512_0_1_2 (broadcastInDim S8x1x1 ![0] bcast_S8_S8x1x1_0 (sitofp .f32 (iotaInDim S8 32 0)))))

def gate (buf : FVec Ideal S327680x128 .f32) : FVec Ideal S8x40x512 .f32 :=
  (select (same (lane0 buf)) (broadcastInDim S8x40x512 ![1, 2] bcast_S40x512_S8x40x512_1_2 (lane2 buf)) (broadcastInDim S8x40x512 ![1, 2] bcast_S40x512_S8x40x512_1_2 (lane3 buf)))

def mine (fb : IVec S40 32) (buf : FVec Ideal S327680x128 .f32) : IVec S8x8x40x512 1 :=
  (andi (broadcastInDim S8x8x40x512 ![0, 1, 2, 3] bcast_S8x1x40x1_S8x8x40x512_0_1_2_3 (broadcastInDim S8x1x40x1 ![0, 2] bcast_S8x40_S8x1x40x1_0_2 (cmpi .eq (broadcastInDim S8x40 ![0, 1] bcast_S1x40_S8x40_0_1 (broadcastInDim S1x40 ![1] bcast_S40_S1x40_1 fb)) (broadcastInDim S8x40 ![0, 1] bcast_S8x1_S8x40_0_1 (broadcastInDim S8x1 ![0] bcast_S8_S8x1_0 (iotaInDim S8 32 0)))))) (broadcastInDim S8x8x40x512 ![0, 1, 2, 3] bcast_S1x8x40x512_S8x8x40x512_0_1_2_3 (broadcastInDim S1x8x40x512 ![1, 2, 3] bcast_S8x40x512_S1x8x40x512_1_2_3 (ori (same (lane0 buf)) (same (lane1 buf))))))

def act (w1 w3 : FVec Ideal S4x64x1024x256 .f32) (buf : FVec Ideal S327680x128 .f32) : FVec Ideal S8x8x40x512x256 .f32 :=
  (mulf (mulf (mulf (hid w1 buf) (Host.divf (broadcastInDim S8x8x40x512x256 ![] bcast_S_S8x8x40x512x256 (constant S_ .f32 0x3F800000#32)) (addf (broadcastInDim S8x8x40x512x256 ![] bcast_S_S8x8x40x512x256 (constant S_ .f32 0x3F800000#32)) (Host.exp (Host.negf (hid w1 buf)))))) (hid w3 buf)) (broadcastInDim S8x8x40x512x256 ![0, 1, 2, 3, 4] bcast_S1x8x40x512x1_S8x8x40x512x256_0_1_2_3_4 (broadcastInDim S1x8x40x512x1 ![1, 2, 3] bcast_S8x40x512_S1x8x40x512x1_1_2_3 (gate buf))))

def kept (fb : IVec S40 32) (w1 w3 : FVec Ideal S4x64x1024x256 .f32) (buf : FVec Ideal S327680x128 .f32) : FVec Ideal S64x20480x256 .f32 :=
  (shapeCast _ (select (broadcastInDim S8x8x40x512x256 ![0, 1, 2, 3, 4] bcast_S8x8x40x512x1_S8x8x40x512x256_0_1_2_3_4 (broadcastInDim S8x8x40x512x1 ![0, 1, 2, 3] bcast_S8x8x40x512_S8x8x40x512x1_0_1_2_3 (mine fb buf))) (act w1 w3 buf) (broadcastInDim S8x8x40x512x256 ![] bcast_S_S8x8x40x512x256 (id (constant S_ .f32 0x00000000#32)))) shapeCasts_S8x8x40x512x256_S64x20480x256)

def back (fb : IVec S40 32) (w1 w3 : FVec Ideal S4x64x1024x256 .f32) (w2 : FVec Ideal S4x64x256x1024 .f32) (buf : FVec Ideal S327680x128 .f32) : FVec Ideal S64x20480x1024 .f32 :=
  (Host.dotGeneral dot_S64x20480x256_S64x256x1024_S64x20480x1024_2_1_1_2_0_0 none (kept fb w1 w3 buf) (shapeCast _ (extractStridedSlice S1x64x256x1024 ![0, 0, 0, 0] w2 slices_S4x64x256x1024_S1x64x256x1024_0_0_0_0) shapeCasts_S1x64x256x1024_S64x256x1024))

def total (fb : IVec S40 32) (w1 w3 : FVec Ideal S4x64x1024x256 .f32) (w2 : FVec Ideal S4x64x256x1024 .f32) (buf : FVec Ideal S327680x128 .f32) : FVec Ideal S20480x1024 .f32 :=
  (Host.reduceAdd (back fb w1 w3 w2 buf) (constant S_ .f32 0x00000000#32) reducesTo_S64x20480x1024_S20480x1024_d0 h_S_)

def live (fu : IVec S1 32) (fn' : IVec S40 32) : IVec S40x512 1 :=
  (andi (broadcastInDim S40x512 ![0, 1] bcast_S40x1_S40x512_0_1 (cmpi .slt (broadcastInDim S40x1 ![0] bcast_S40_S40x1_0 (iotaInDim S40 32 0)) (broadcastInDim S40x1 ![] bcast_S_S40x1 (shapeCast _ fu shapeCasts_S1_S_)))) (ori (broadcastInDim S40x512 ![0, 1] bcast_S1x512_S40x512_0_1 (cmpi .slt (broadcastInDim S1x512 ![1] bcast_S512_S1x512_1 (iotaInDim S512 32 0)) (broadcastInDim S1x512 ![] bcast_S_S1x512 (constantI S_ 32 256#32)))) (broadcastInDim S40x512 ![0, 1] bcast_S40x1_S40x512_0_1 (cmpi .sgt (broadcastInDim S40x1 ![0] bcast_S40_S40x1_0 fn') (broadcastInDim S40x1 ![] bcast_S_S40x1 (constantI S_ 32 256#32))))))

def res (fb : IVec S40 32) (fu : IVec S1 32) (fn' : IVec S40 32) (w1 w3 : FVec Ideal S4x64x1024x256 .f32) (w2 : FVec Ideal S4x64x256x1024 .f32) (buf : FVec Ideal S327680x128 .f32) : FVec Ideal S163840x128 .f32 :=
  shapeCast _ (select (broadcastInDim S40x512x1024 ![0, 1, 2] bcast_S40x512x1_S40x512x1024_0_1_2 (broadcastInDim S40x512x1 ![0, 1] bcast_S40x512_S40x512x1_0_1 (live fu fn'))) (shapeCast _ (total fb w1 w3 w2 buf) shapeCasts_S20480x1024_S40x512x1024) (broadcastInDim S40x512x1024 ![] bcast_S_S40x512x1024 (id (constant S_ .f32 0x00000000#32)))) shapeCasts_S40x512x1024_S163840x128

/-- The reference's result is the last of these steps. -/
theorem res_eq (m : (ℓ : Loc nD τ sig) → Buf (Elt Ideal) ℓ) (c : Dev nD) :
    Cert.Reference5Ideal.Value.res_main_v89 m c = res (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg4)) := rfl

/-- A token's feature. -/
theorem feat_at (buf : FVec Ideal S327680x128 .f32) (R : Fin 20480) (k : Fin 1024) :
    (feat buf (ix2 R k) : EReal) = buf (ix2 (⟨R.val * 16 + k.val / 128, by omega⟩ : Fin 327680) (⟨k.val % 128, by omega⟩ : Fin 128)) := by
  pointwise [feat, rows]
/-- A token's metadata. -/
theorem head_at (buf : FVec Ideal S327680x128 .f32) (b : Fin 40) (p : Fin 512) (j : Fin 128) :
    (head buf (ix3 b p j) : EReal) = buf (ix2 (⟨(b.val * 512 + p.val) * 16 + 8, by omega⟩ : Fin 327680) j) := by
  pointwise [head, rows]
/-- The first choices. -/
theorem lane0_at (buf : FVec Ideal S327680x128 .f32) (b : Fin 40) (p : Fin 512) : (lane0 buf (ix2 b p) : EReal) = head buf (ix3 b p 0) := by pointwise [lane0]
/-- The second choices. -/
theorem lane1_at (buf : FVec Ideal S327680x128 .f32) (b : Fin 40) (p : Fin 512) : (lane1 buf (ix2 b p) : EReal) = head buf (ix3 b p 1) := by pointwise [lane1]
/-- The first choices' gates. -/
theorem lane2_at (buf : FVec Ideal S327680x128 .f32) (b : Fin 40) (p : Fin 512) : (lane2 buf (ix2 b p) : EReal) = head buf (ix3 b p 2) := by pointwise [lane2]
/-- The second choices' gates. -/
theorem lane3_at (buf : FVec Ideal S327680x128 .f32) (b : Fin 40) (p : Fin 512) : (lane3 buf (ix2 b p) : EReal) = head buf (ix3 b p 3) := by pointwise [lane3]
/-- A hidden entry is a row of features times a column of the expert's matrix. -/
theorem hid_at (w : FVec Ideal S4x64x1024x256 .f32) (buf : FVec Ideal S327680x128 .f32) (g l : Fin 8) (b : Fin 40) (p : Fin 512) (f : Fin 256) :
    (hid w buf (ix5 g l b p f) : EReal) = ∑ k : Fin 1024, feat buf (ix2 (⟨b.val * 512 + p.val, by omega⟩ : Fin 20480) k) * w (ix4 (0 : Fin 4) (⟨g.val * 8 + l.val, by omega⟩ : Fin 64) k f) := by
  pointwise [hid]
  exact Finset.sum_congr rfl fun k _ => mul_comm _ _
/-- A choice is compared with the expert's number within its group. -/
theorem same_at (v : FVec Ideal S40x512 .f32) (l : Fin 8) (b : Fin 40) (p : Fin 512) :
    (same v (ix3 l b p)) = BitVec.ofBool (decide ((v (ix2 b p) : EReal) = Cert.Kernel5Ideal.Experts.lit (Cert.Kernel5Ideal.Experts.word l))) := by
  pointwise [same]
  congr 2
  fin_cases l <;> simp [Cert.Kernel5Ideal.Experts.lit, Cert.Kernel5Ideal.Experts.word, FloatOps.sitofp, Ideal.ofBits, Ideal.ieee, -EReal.coe_mul] <;> norm_num
/-- The gate is that of the choice that names the expert. -/
theorem gate_at (buf : FVec Ideal S327680x128 .f32) (l : Fin 8) (b : Fin 40) (p : Fin 512) :
    (gate buf (ix3 l b p) : EReal) = Scalar.select (same (lane0 buf) (ix3 l b p)) (lane2 buf (ix2 b p)) (lane3 buf (ix2 b p)) := by
  pointwise [gate]
/-- A row takes part with the experts of its block's group that it chose. -/
theorem mine_at (fb : IVec S40 32) (buf : FVec Ideal S327680x128 .f32) (g l : Fin 8) (b : Fin 40) (p : Fin 512) :
    mine fb buf (ix4 g l b p) = IntOp.andi (IntOp.cmpi .eq (fb (ix1 b)) (BitVec.ofNat 32 g.val)) (IntOp.ori (same (lane0 buf) (ix3 l b p)) (same (lane1 buf) (ix3 l b p))) := by
  pointwise [mine]
/-- The gated activation. -/
theorem act_at (w1 w3 : FVec Ideal S4x64x1024x256 .f32) (buf : FVec Ideal S327680x128 .f32) (g l : Fin 8) (b : Fin 40) (p : Fin 512) (f : Fin 256) :
    (act w1 w3 buf (ix5 g l b p f) : EReal) = hid w1 buf (ix5 g l b p f) * Ideal.div 1 (1 + Ideal.exp (0 - hid w1 buf (ix5 g l b p f))) * hid w3 buf (ix5 g l b p f) * gate buf (ix3 l b p) := by
  pointwise [act]
  rw [zero_sub]
/-- The activation, masked. -/
theorem kept_at (fb : IVec S40 32) (w1 w3 : FVec Ideal S4x64x1024x256 .f32) (buf : FVec Ideal S327680x128 .f32) (g l : Fin 8) (b : Fin 40) (p : Fin 512) (f : Fin 256) :
    (kept fb w1 w3 buf (ix3 (⟨g.val * 8 + l.val, by omega⟩ : Fin 64) (⟨b.val * 512 + p.val, by omega⟩ : Fin 20480) f) : EReal) = Scalar.select (mine fb buf (ix4 g l b p)) (act w1 w3 buf (ix5 g l b p f)) 0 := by
  pointwise [kept, id]
/-- The product back. -/
theorem back_at (fb : IVec S40 32) (w1 w3 : FVec Ideal S4x64x1024x256 .f32) (w2 : FVec Ideal S4x64x256x1024 .f32) (buf : FVec Ideal S327680x128 .f32) (E : Fin 64) (R : Fin 20480) (d : Fin 1024) :
    (back fb w1 w3 w2 buf (ix3 E R d) : EReal) = ∑ f : Fin 256, kept fb w1 w3 buf (ix3 E R f) * w2 (ix4 (0 : Fin 4) E f d) := by
  pointwise [back]
/-- The sum over all the experts. -/
theorem total_at (fb : IVec S40 32) (w1 w3 : FVec Ideal S4x64x1024x256 .f32) (w2 : FVec Ideal S4x64x256x1024 .f32) (buf : FVec Ideal S327680x128 .f32) (R : Fin 20480) (d : Fin 1024) :
    (total fb w1 w3 w2 buf (ix2 R d) : EReal) = ∑ E : Fin 64, back fb w1 w3 w2 buf (ix3 E R d) := by
  pointwise [total]
/-- Which rows are computed. -/
theorem live_at (fu : IVec S1 32) (fn' : IVec S40 32) (b : Fin 40) (p : Fin 512) :
    live fu fn' (ix2 b p) = IntOp.andi (IntOp.cmpi .slt (BitVec.ofNat 32 b.val) (fu (ix1 0))) (IntOp.ori (IntOp.cmpi .slt (BitVec.ofNat 32 p.val) 256#32) (IntOp.cmpi .sgt (fn' (ix1 b)) 256#32)) := by
  pointwise [live]
/-- The result's entry. -/
theorem res_at (fb : IVec S40 32) (fu : IVec S1 32) (fn' : IVec S40 32) (w1 w3 : FVec Ideal S4x64x1024x256 .f32) (w2 : FVec Ideal S4x64x256x1024 .f32) (buf : FVec Ideal S327680x128 .f32)
    (y : Fin 163840) (q : Fin 128) :
    (res fb fu fn' w1 w3 w2 buf (ix2 y q) : EReal) = Scalar.select (live fu fn' (ix2 (⟨y.val / 4096, by omega⟩ : Fin 40) (⟨y.val / 8 % 512, by omega⟩ : Fin 512)))
      (total fb w1 w3 w2 buf (ix2 (⟨y.val / 4096 * 512 + y.val / 8 % 512, by omega⟩ : Fin 20480) (⟨y.val % 8 * 128 + q.val, by omega⟩ : Fin 1024))) 0 := by
  pointwise [res, id]

open Cert.Kernel5Ideal.Experts (part hidden blockRows groupWide groupTall groupOf token layer Live word)

/-- A token's features lie in its block's rows. -/
theorem feat_block (buf : FVec Ideal S327680x128 .f32) (b : Fin 40) (p : Fin 512) (k : Fin 1024) :
    (feat buf (ix2 (⟨b.val * 512 + p.val, by omega⟩ : Fin 20480) k) : EReal) = blockRows buf b (ix2 (⟨p.val * 16 + k.val / 128, by omega⟩ : Fin 8192) (⟨k.val % 128, by omega⟩ : Fin 128)) :=
  (feat_at buf _ k).trans (congrArg (fun r => buf (ix2 r (⟨k.val % 128, by omega⟩ : Fin 128)))
    (Fin.ext (by show (b.val * 512 + p.val) * 16 + k.val / 128 = 8192 * b.val + (p.val * 16 + k.val / 128); omega)))

/-- And so does its row of choices and gates. -/
theorem head_block (buf : FVec Ideal S327680x128 .f32) (b : Fin 40) (p : Fin 512) (j : Fin 128) :
    (head buf (ix3 b p j) : EReal) = blockRows buf b (ix2 (⟨p.val * 16 + 8, by omega⟩ : Fin 8192) j) :=
  (head_at buf b p j).trans (congrArg (fun r => buf (ix2 r j))
    (Fin.ext (by show (b.val * 512 + p.val) * 16 + 8 = 8192 * b.val + (p.val * 16 + 8); omega)))

/-- An expert's matrices lie in its group's. -/
theorem wide_group (w : FVec Ideal S4x64x1024x256 .f32) (g l : Fin 8) (k : Fin 1024) (f : Fin 256) :
    (w (ix4 (0 : Fin 4) (⟨g.val * 8 + l.val, by omega⟩ : Fin 64) k f) : EReal) = groupWide w g (ix3 l k f) :=
  congrArg (fun E => w (ix4 (0 : Fin 4) E k f)) (Fin.ext (by show g.val * 8 + l.val = 8 * g.val + l.val; omega))
/-- The same of the matrices back. -/
theorem tall_group (w : FVec Ideal S4x64x256x1024 .f32) (g l : Fin 8) (f : Fin 256) (d : Fin 1024) :
    (w (ix4 (0 : Fin 4) (⟨g.val * 8 + l.val, by omega⟩ : Fin 64) f d) : EReal) = groupTall w g (ix3 l f d) :=
  congrArg (fun E => w (ix4 (0 : Fin 4) E f d)) (Fin.ext (by show g.val * 8 + l.val = 8 * g.val + l.val; omega))

/-- The choice of one expert, as a proposition. -/
theorem select_mine (o : Prop) [Decidable o] (p q : Prop) [Decidable p] [Decidable q] (a g2 g3 : EReal) :
    Scalar.select (IntOp.andi (BitVec.ofBool (decide o)) (IntOp.ori (BitVec.ofBool (decide p)) (BitVec.ofBool (decide q)))) (a * Scalar.select (BitVec.ofBool (decide p)) g2 g3) 0
      = if o then (if p ∨ q then a * (if p then g2 else g3) else 0) else 0 := by
  by_cases ho : o <;> by_cases hp : p <;> by_cases hq : q <;> simp [ho, hp, hq, Scalar.select, IntOp.ori, IntOp.andi]

/-- A test for equality, as a bit. -/
theorem eq_word (u v : BitVec 32) : IntOp.cmpi .eq u v = BitVec.ofBool (decide (u = v)) := by
  have e : (u == v) = decide (u = v) := by by_cases h : u = v <;> simp [h]
  exact congrArg BitVec.ofBool e

/-- One expert's product back: the expert's part if the block is of its group. -/
theorem back_part (fb : IVec S40 32) (w1 w3 : FVec Ideal S4x64x1024x256 .f32) (w2 : FVec Ideal S4x64x256x1024 .f32) (buf : FVec Ideal S327680x128 .f32)
    (g l : Fin 8) (b : Fin 40) (p : Fin 512) (d : Fin 1024) :
    (back fb w1 w3 w2 buf (ix3 (⟨g.val * 8 + l.val, by omega⟩ : Fin 64) (⟨b.val * 512 + p.val, by omega⟩ : Fin 20480) d) : EReal)
      = if fb (ix1 b) = BitVec.ofNat 32 g.val then part (blockRows buf b) (groupWide w1 g) (groupWide w3 g) (groupTall w2 g) p d l else 0 := by
  rw [back_at]
  have key : ∀ f : Fin 256, (kept fb w1 w3 buf (ix3 (⟨g.val * 8 + l.val, by omega⟩ : Fin 64) (⟨b.val * 512 + p.val, by omega⟩ : Fin 20480) f) : EReal)
      = if fb (ix1 b) = BitVec.ofNat 32 g.val then hidden (blockRows buf b (ix2 (⟨p.val * 16 + 8, by omega⟩ : Fin 8192) 0)) (blockRows buf b (ix2 (⟨p.val * 16 + 8, by omega⟩ : Fin 8192) 1))
          (blockRows buf b (ix2 (⟨p.val * 16 + 8, by omega⟩ : Fin 8192) 2)) (blockRows buf b (ix2 (⟨p.val * 16 + 8, by omega⟩ : Fin 8192) 3)) (Cert.Kernel5Ideal.Experts.lit (word l))
          (∑ k : Fin 1024, blockRows buf b (ix2 (⟨p.val * 16 + k.val / 128, by omega⟩ : Fin 8192) (⟨k.val % 128, by omega⟩ : Fin 128)) * groupWide w1 g (ix3 l k f))
          (∑ k : Fin 1024, blockRows buf b (ix2 (⟨p.val * 16 + k.val / 128, by omega⟩ : Fin 8192) (⟨k.val % 128, by omega⟩ : Fin 128)) * groupWide w3 g (ix3 l k f)) else 0 := by
    intro f
    rw [kept_at, mine_at, act_at, gate_at, same_at, same_at, lane0_at, lane1_at, lane2_at, lane3_at, head_block, head_block, head_block, head_block, hid_at, hid_at, eq_word]
    simp only [feat_block, wide_group]
    exact select_mine _ _ _ _ _ _
  by_cases h : fb (ix1 b) = BitVec.ofNat 32 g.val
  · rw [if_pos h]
    refine Finset.sum_congr rfl fun f _ => ?_
    rw [key f, if_pos h, tall_group w2 g l f d]
  · rw [if_neg h]
    refine Finset.sum_eq_zero fun f _ => ?_
    rw [key f, if_neg h, zero_mul]

/-- The sum over all the experts is that over the experts of the block's group. -/
theorem total_token (fb : IVec S40 32) (w1 w3 : FVec Ideal S4x64x1024x256 .f32) (w2 : FVec Ideal S4x64x256x1024 .f32) (buf : FVec Ideal S327680x128 .f32)
    (b : Fin 40) (p : Fin 512) (d : Fin 1024) (hb : (fb (ix1 b)).toNat < 8) :
    (total fb w1 w3 w2 buf (ix2 (⟨b.val * 512 + p.val, by omega⟩ : Fin 20480) d) : EReal) = token fb buf w1 w3 w2 b p d := by
  rw [total_at]
  have e : ∀ (φ : Fin 64 → EReal), ∑ E : Fin 64, φ E = ∑ g : Fin 8, ∑ l : Fin 8, φ ⟨g.val * 8 + l.val, by omega⟩ := fun φ => by
    rw [← Fintype.sum_prod_type']
    exact (Fintype.sum_equiv (finProdFinEquiv (m := 8) (n := 8)) _ _ fun gl => congrArg φ (Fin.ext (by show gl.1.val * 8 + gl.2.val = gl.2.val + 8 * gl.1.val; omega))).symm
  rw [e]
  simp only [back_part]
  rw [Finset.sum_eq_single (groupOf fb b)]
  · unfold token
    have hg : fb (ix1 b) = BitVec.ofNat 32 (groupOf fb b).val := by
      apply BitVec.eq_of_toNat_eq
      rw [BitVec.toNat_ofNat]
      show _ = ((fb (ix1 b)).toNat % 8) % 4294967296
      omega
    simp only [if_pos hg]
  · intro g _ hg
    have hn : ¬ fb (ix1 b) = BitVec.ofNat 32 g.val := fun h => hg (Fin.ext (by
      show g.val = (fb (ix1 b)).toNat % 8
      rw [h, BitVec.toNat_ofNat]
      omega))
    simp only [if_neg hn, Finset.sum_const_zero]
  · intro h; exact absurd (Finset.mem_univ _) h

/-- The reference's condition is the layer's. -/
theorem live_iff (fu : IVec S1 32) (fn' : IVec S40 32) (hle : (fu (ix1 0)).toNat ≤ 40) (b : Fin 40) (p : Fin 512) : live fu fn' (ix2 b p) = 1#1 ↔ Live fu fn' b p := by
  rw [live_at]
  unfold Live
  have ha : IntOp.cmpi .slt (BitVec.ofNat 32 b.val) (fu (ix1 0)) = BitVec.ofBool (decide (b.val < (fu (ix1 0)).toNat)) := by
    obtain ⟨n, hn⟩ : ∃ n : BitVec 32, fu (ix1 0) = n := ⟨_, rfl⟩
    rw [hn] at hle ⊢
    have hk : (BitVec.ofNat 32 b.val).toNat = b.val := by rw [BitVec.toNat_ofNat]; omega
    show BitVec.ofBool ((BitVec.ofNat 32 b.val).slt n) = _
    simp only [BitVec.slt, BitVec.toInt, hk]
    congr 1
    apply decide_eq_decide.mpr
    omega
  have hc : IntOp.cmpi .slt (BitVec.ofNat 32 p.val) 256#32 = BitVec.ofBool (decide (p.val < 256)) := by
    have hk : (BitVec.ofNat 32 p.val).toNat = p.val := by rw [BitVec.toNat_ofNat]; omega
    show BitVec.ofBool ((BitVec.ofNat 32 p.val).slt 256#32) = _
    simp only [BitVec.slt, BitVec.toInt, hk]
    congr 1
    apply decide_eq_decide.mpr
    have : (256#32).toNat = 256 := rfl
    omega
  have hd : IntOp.cmpi .sgt (fn' (ix1 b)) 256#32 = BitVec.ofBool (decide (¬ Scalar.cmpi .sle (fn' (ix1 b)) 256#32 = 1#1)) := by
    obtain ⟨n, hn⟩ : ∃ n : BitVec 32, fn' (ix1 b) = n := ⟨_, rfl⟩
    rw [hn]
    show BitVec.ofBool ((256#32).slt n) = BitVec.ofBool (decide (¬ BitVec.ofBool (n.sle 256#32) = 1#1))
    congr 1
    by_cases h : n.toInt ≤ 256
    · have h1 : (256#32).slt n = false := decide_eq_false (by show ¬ (256 : Int) < n.toInt; omega)
      have h2 : n.sle 256#32 = true := decide_eq_true h
      simp [h1, h2]
    · have h1 : (256#32).slt n = true := decide_eq_true (by show (256 : Int) < n.toInt; omega)
      have h2 : n.sle 256#32 = false := decide_eq_false h
      simp [h1, h2]
  rw [ha, hc, hd]
  by_cases h1 : b.val < (fu (ix1 0)).toNat <;> by_cases h2 : p.val < 256 <;> by_cases h3 : Scalar.cmpi .sle (fn' (ix1 b)) 256#32 = 1#1 <;>
    simp [h1, h2, h3, IntOp.andi, IntOp.ori]

/-- The reference's result is the function `layer`. -/
theorem res_layer (fb : IVec S40 32) (fu : IVec S1 32) (fn' : IVec S40 32) (w1 w3 : FVec Ideal S4x64x1024x256 .f32) (w2 : FVec Ideal S4x64x256x1024 .f32) (buf : FVec Ideal S327680x128 .f32)
    (hb : ∀ b, (fb (ix1 b)).toNat < 8) (hle : (fu (ix1 0)).toNat ≤ 40) (y : Fin 163840) (q : Fin 128) :
    (res fb fu fn' w1 w3 w2 buf (ix2 y q) : EReal) = layer fb fu fn' buf w1 w3 w2 (⟨y.val / 4096, by omega⟩ : Fin 40) (⟨y.val / 8 % 512, by omega⟩ : Fin 512) (⟨y.val % 8 * 128 + q.val, by omega⟩ : Fin 1024) := by
  rw [res_at]
  have ht := total_token fb w1 w3 w2 buf (⟨y.val / 4096, by omega⟩ : Fin 40) (⟨y.val / 8 % 512, by omega⟩ : Fin 512) (⟨y.val % 8 * 128 + q.val, by omega⟩ : Fin 1024) (hb _)
  unfold layer
  rw [← ht]
  by_cases h : Live fu fn' (⟨y.val / 4096, by omega⟩ : Fin 40) (⟨y.val / 8 % 512, by omega⟩ : Fin 512)
  · rw [if_pos h, (live_iff fu fn' hle _ _).mpr h]; rfl
  · rw [if_neg h]
    exact if_neg fun h' => h ((live_iff fu fn' hle _ _).mp h')

end Cert.Ffn.Host
-- ==== Proof.E.Pre.lean ====
/- What the precondition says of the four tables. -/
module

public import proofs.«01_k».proof.Proof.E.Step
public import proofs.«01_k».proof.Proof.Gen.Pre_ffn_ok
public import Idealize.ShloMosaic.Lib.ReduceAll
public import Idealize.ShloMosaic.Lib.Pipeline.Value

@[expose] public section

set_option maxRecDepth 16384

noncomputable section

namespace Cert.Pre_ffn_ok.Experts

open Idealize.ShloMosaic Idealize.ShloMosaic.ValueIdx
open Cert.Pre_ffn_ok Cert.Pre_ffn_ok.Gen
open Cert.Kernel5Ideal.Experts (Ok at40 at40_eq)

variable {F : FTy → Type} [FloatOps F]

/-- A boolean's bit is one if the boolean is true. -/
theorem ofBool_one (p : Bool) : (BitVec.ofBool p = 1#1) ↔ p = true := by cases p <;> decide
/-- The conjunction of two bits. -/
theorem andi_one (a b : BitVec 1) : IntOp.andi a b = 1#1 ↔ a = 1#1 ∧ b = 1#1 := by revert a b; decide
/-- The disjunction of two bits. -/
theorem ori_one (a b : BitVec 1) : IntOp.ori a b = 1#1 ↔ a = 1#1 ∨ b = 1#1 := by revert a b; decide
/-- A test for equality that succeeds. -/
theorem eq_of_eq {w : ℕ} (a b : BitVec w) (h : IntOp.cmpi .eq a b = 1#1) : a = b := by
  simpa [IntOp.cmpi, ofBool_one] using h
/-- A test for difference that succeeds. -/
theorem ne_of_ne {w : ℕ} (a b : BitVec w) (h : IntOp.cmpi .ne a b = 1#1) : a ≠ b := by
  simpa [IntOp.cmpi, ofBool_one] using h
/-- A signed comparison from below. -/
theorem sge_iff (a b : BitVec 32) (h : IntOp.cmpi .sge a b = 1#1) : b.toInt ≤ a.toInt := by
  have h : BitVec.ofBool (b.sle a) = 1#1 := h
  rw [ofBool_one] at h
  simpa [BitVec.sle] using h
/-- A signed comparison from above. -/
theorem sle_iff (a b : BitVec 32) (h : IntOp.cmpi .sle a b = 1#1) : a.toInt ≤ b.toInt := by
  have h : BitVec.ofBool (a.sle b) = 1#1 := h
  rw [ofBool_one] at h
  simpa [BitVec.sle] using h
/-- A strict signed comparison. -/
theorem slt_iff' (a b : BitVec 32) (h : IntOp.cmpi .slt a b = 1#1) : a.toInt < b.toInt := by
  have h : BitVec.ofBool (a.slt b) = 1#1 := h
  rw [ofBool_one] at h
  simpa [BitVec.slt] using h

/-- The precondition read off: the used blocks' number, the groups, and the next groups' chain. -/
theorem ok_of_pre (fb : IVec S40 32) (fu : IVec S1 32) (fx fn' : IVec S40 32) (x : FVec F S327680x128 .f32) (w1 w3 : FVec F S4x64x1024x256 .f32)
    (w2 : FVec F S4x64x256x1024 .f32) (h : fn fb fu fx fn' x w1 w3 w2 = fun _ => 1#1) : Ok fb fu fx := by
  have e := congrFun h (fun a => a.elim0)
  unfold fn fn_part1 fn_part2 at e
  dsimp only at e
  have ha : ∀ (a b : IVec S_ 1) i, andi a b i = IntOp.andi (a i) (b i) := fun _ _ _ => rfl
  rw [ha, andi_one, ha, andi_one, ha, andi_one, ha, andi_one, ha, andi_one] at e
  obtain ⟨⟨⟨⟨⟨e0, e1⟩, e2⟩, e3⟩, e4⟩, e5⟩ := e
  have hu : ∀ i, shapeCast S_ fu Facts.shapeCasts_S1_S_ i = fu (ix1 0) := fun i =>
    shapeCast_apply _ _ _ (ix1 (0 : Fin 1))
      ((Nat.lt_one_iff.1 (Fin.isLt (S1.rowMajor (ix1 0)))).trans (Nat.lt_one_iff.1 (Fin.isLt (S_.rowMajor i))).symm)
  have f0 := sge_iff _ _ e0
  have f1 := sle_iff _ _ e1
  rw [hu] at f0 f1
  have f0 : (1#32).toInt ≤ (fu (ix1 0)).toInt := f0
  have f1 : (fu (ix1 0)).toInt ≤ (40#32).toInt := f1
  simp only [BitVec.toInt, BitVec.toNat_ofNat] at f0 f1
  have hpos : 1 ≤ (fu (ix1 0)).toNat := by omega
  have hle : (fu (ix1 0)).toNat ≤ 40 := by omega
  have past : ∀ k, k < 40 → IntOp.cmpi .sge (IntOp.addi (BitVec.ofNat 32 k) 1#32) (fu (ix1 0)) = 1#1 → (fu (ix1 0)).toNat ≤ k + 1 := by
    intro k hk h
    have h := sge_iff _ _ h
    have hs : (IntOp.addi (BitVec.ofNat 32 k) 1#32).toNat = k + 1 := by
      show (BitVec.ofNat 32 k + 1#32).toNat = _
      rw [BitVec.toNat_add, BitVec.toNat_ofNat]
      show (k % 2 ^ 32 + 1) % 2 ^ 32 = k + 1
      omega
    simp only [BitVec.toInt, hs] at h
    omega
  have sl : ∀ (f : IVec S40 32) (o : ℕ) (hs : S40.Slices ![o] S39) (k : ℕ) (hk : k < 39) (hk' : k + o < 40),
      extractStridedSlice S39 ![o] f hs (ix1 ⟨k, hk⟩) = at40 f (k + o) := by
    intro f o hs k hk hk'
    rw [← at40_eq f (k + o) hk']
    refine congrArg f ?_
    funext (a : Fin 1); obtain rfl : a = 0 := Subsingleton.elim _ _
    exact Fin.ext (Nat.add_comm o k)
  refine ⟨hpos, hle, fun k hk => ?_, fun k hk hs => ?_, fun k hk hs => ?_, fun k hk => ?_⟩
  · have := Host.reduce_andi_all _ _ _ _ _ e2 (ix1 ⟨k, hk⟩)
    obtain ⟨h1, h2⟩ := (andi_one _ _).1 this
    have h1 : (0#32).toInt ≤ (fb (ix1 ⟨k, hk⟩)).toInt := sge_iff _ _ h1
    have h2 : (fb (ix1 ⟨k, hk⟩)).toInt < (8#32).toInt := slt_iff' _ _ h2
    rw [← at40_eq fb k hk]
    simp only [BitVec.toInt, BitVec.toNat_ofNat] at h1 h2
    omega
  · have hk39 : k < 39 := by omega
    have := Host.reduce_andi_all _ _ _ _ _ e3 (ix1 ⟨k, hk39⟩)
    rcases (ori_one _ _).1 this with h | h
    · rcases (ori_one _ _).1 h with h | h
      · have h := eq_of_eq _ _ h
        rwa [sl fx 1 _ k hk39 (by omega), sl fx 0 _ k hk39 (by omega)] at h
      · have h := ne_of_ne _ _ h
        rw [sl fb 1 _ k hk39 (by omega), sl fb 0 _ k hk39 (by omega)] at h
        exact absurd hs h
    · have h : IntOp.cmpi .sge (IntOp.addi (BitVec.ofNat 32 k) 1#32) (shapeCast S_ fu Facts.shapeCasts_S1_S_ _) = 1#1 := h
      rw [hu] at h
      have := past k (by omega) h
      omega
  · have hk39 : k < 39 := by omega
    have := Host.reduce_andi_all _ _ _ _ _ e4 (ix1 ⟨k, hk39⟩)
    rcases (ori_one _ _).1 this with h | h
    · rcases (ori_one _ _).1 h with h | h
      · have h := eq_of_eq _ _ h
        rwa [sl fx 0 _ k hk39 (by omega), sl fb 1 _ k hk39 (by omega)] at h
      · have h := eq_of_eq _ _ h
        rw [sl fb 1 _ k hk39 (by omega), sl fb 0 _ k hk39 (by omega)] at h
        exact absurd h hs
    · have h : IntOp.cmpi .sge (IntOp.addi (BitVec.ofNat 32 k) 1#32) (shapeCast S_ fu Facts.shapeCasts_S1_S_ _) = 1#1 := h
      rw [hu] at h
      have := past k (by omega) h
      omega
  · have hk40 : k < 40 := by omega
    have := Host.reduce_andi_all _ _ _ _ _ e5 (ix1 ⟨k, hk40⟩)
    rcases (ori_one _ _).1 this with h | h
    · have h : fx (ix1 ⟨k, hk40⟩) = 4294967295#32 := eq_of_eq _ _ h
      rwa [at40_eq fx k hk40] at h
    · have h : IntOp.cmpi .ne (IntOp.addi (BitVec.ofNat 32 k) 1#32) (shapeCast S_ fu Facts.shapeCasts_S1_S_ _) = 1#1 := h
      rw [hu] at h
      refine absurd (BitVec.eq_of_toNat_eq ?_) (ne_of_ne _ _ h)
      show (BitVec.ofNat 32 k + 1#32).toNat = _
      rw [BitVec.toNat_add, BitVec.toNat_ofNat]
      show (k % 2 ^ 32 + 1) % 2 ^ 32 = _
      omega

end Cert.Pre_ffn_ok.Experts

end
-- ==== Proof.E.Same.lean ====
/- The experts' kernel and its ideal program are one program: part by part, up to the last. -/
module
public import proofs.«01_k».proof.Proof.Gen.Kernel5
public import proofs.«01_k».proof.Proof.Gen.Kernel5Ideal
@[expose] public section
set_option maxHeartbeats 1000000
open Idealize.ShloMosaic
noncomputable section
variable {F : FTy → Type} [FloatOps F]
namespace Cert.Same5
/-- The two programs have the same buffers. -/
theorem sig_same : Cert.Kernel5.sig = Cert.Kernel5Ideal.sig := rfl
/-- The two programs' kernel functions are the same. -/
theorem body_same : @Cert.Kernel5.cc0_moe_ffn F _ _ = @Cert.Kernel5Ideal.cc0_moe_ffn F _ _ := rfl
/-- The two programs' bodies are the same. -/
theorem defs₀_same : @Cert.Kernel5.defs₀ F _ _ = @Cert.Kernel5Ideal.defs₀ F _ _ := by
  refine congrArg Defs.onTc (funext fun l => funext fun x => ?_)
  match l with
  | (0 : Fin 1) =>
    obtain ⟨t, s⟩ : Fin Cert.Kernel5.grid0.N × ((w : Fin 2) → Fin (Cert.Kernel5.spec0 w).nbuf) := x
    rfl
/-- The two programs' grids are the same. -/
theorem pcfg0_same : @Cert.Kernel5.pcfg0 F _ _ = @Cert.Kernel5Ideal.pcfg0 F _ _ := rfl
/-- The two programs' grids, as a family, are the same. -/
theorem pcfgs_same : @Cert.Kernel5.pcfgs F _ _ = @Cert.Kernel5Ideal.pcfgs F _ _ := rfl
/-- The two programs' functions are the same. -/
theorem defs_same : @Cert.Kernel5.defs F _ _ = @Cert.Kernel5Ideal.defs F _ _ := congrArg (Pipeline.defs Cert.Kernel5Ideal.pcfgs) defs₀_same
/-- The two programs' main functions are the same. -/
theorem main_same : @Cert.Kernel5.main F _ _ = @Cert.Kernel5Ideal.main F _ _ := rfl
end Cert.Same5
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5Ideal.Skeleton
public import proofs.«01_k».proof.Proof.Gen.Kernel5Ideal.Launch
public import proofs.«01_k».proof.Proof.Gen.Kernel5Ideal.Flash
public import proofs.«01_k».proof.Proof.Gen.Reference5Ideal.Run
public import proofs.«01_k».proof.Proof.Gen.Pre_ffn_ok
public import proofs.«01_k».proof.Proof.Gen.Pre_tables_ok
public import proofs.«01_k».proof.Proof.Gen.Reference
public import proofs.«01_k».proof.Proof.D.Run
public import proofs.«01_k».proof.Proof.D.Ref
public import proofs.«01_k».proof.Proof.D.Pre
public import proofs.«01_k».proof.Proof.D.Same
public import proofs.«01_k».proof.Proof.G.Arr
public import proofs.«01_k».proof.Proof.G.Ref
public import proofs.«01_k».proof.Proof.G.Same
public import proofs.«01_k».proof.Proof.Q.Kern
public import proofs.«01_k».proof.Proof.Q.Ref
public import proofs.«01_k».proof.Proof.O.Kern
public import proofs.«01_k».proof.Proof.O.Ref
public import proofs.«01_k».proof.Proof.O.Same
public import proofs.«01_k».proof.Proof.E.Value
public import proofs.«01_k».proof.Proof.E.Ref
public import proofs.«01_k».proof.Proof.E.Pre
public import proofs.«01_k».proof.Proof.E.Same
public import Idealize.ShloMosaic.Adequacy
public import Idealize.ShloMosaic.Init

@[expose] public section

noncomputable section

namespace Cert.Proof

open Idealize.ShloMosaic Idealize.SL.Sem

local instance : Cert.Pre_tables_ok.Facts := Cert.Pre_tables_ok.Gen.facts
local instance : Cert.Pre_ffn_ok.Facts := Cert.Pre_ffn_ok.Gen.facts

variable {F : FTy → Type} [FloatOps F]

/-- The reference's run at any float values: the result is the kernel's. -/
theorem ref_run (m : (ℓ : Loc Cert.ReferenceIdeal.nD Cert.ReferenceIdeal.τ Cert.ReferenceIdeal.sig) → Buf (Elt F) ℓ) (ρ : Dev Cert.ReferenceIdeal.nD → PrngReg)
    (A : Dev Cert.ReferenceIdeal.nD → Cert.KernelIdeal.Dispatch.Args F) (hA : ∀ c, Cert.KernelIdeal.Dispatch.Ok (A c))
    (h : ∀ c : Dev Cert.ReferenceIdeal.nD, m ((c.tc : Thread Cert.ReferenceIdeal.nD Cert.ReferenceIdeal.τ).loc Cert.ReferenceIdeal.main_arg0) = (A c).dest
      ∧ m ((c.tc : Thread Cert.ReferenceIdeal.nD Cert.ReferenceIdeal.τ).loc Cert.ReferenceIdeal.main_arg1) = (A c).zf
      ∧ m ((c.tc : Thread Cert.ReferenceIdeal.nD Cert.ReferenceIdeal.τ).loc Cert.ReferenceIdeal.main_arg2) = (A c).x
      ∧ m ((c.tc : Thread Cert.ReferenceIdeal.nD Cert.ReferenceIdeal.τ).loc Cert.ReferenceIdeal.main_arg3) = (A c).mt) :
    θ_run Cert.ReferenceIdeal.defs (onTc (τ := Cert.ReferenceIdeal.τ) (Cert.ReferenceIdeal.main (F := F))) ⟨m, fun _ => 0, ρ⟩ fun r => ∀ c : Dev Cert.ReferenceIdeal.nD,
      r.2.mem ((c.tc : Thread Cert.ReferenceIdeal.nD Cert.ReferenceIdeal.τ).loc Cert.ReferenceIdeal.main_v10) = Cert.KernelIdeal.Dispatch.G (A c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3) :=
  (θ_run Cert.ReferenceIdeal.defs _ _).mono (fun r hr c => by
    obtain ⟨h0, h1, h2, h3⟩ := h c
    refine ⟨(hr c).1.trans ?_, (hr c).2⟩
    rw [h0, h2, h3]
    exact Cert.ReferenceIdeal.Dispatch.refVal_eq (A c) (hA c)) (Cert.ReferenceIdeal.Value.run m ρ)

/-- The dispatch at the printed float words ends with every semaphore at zero and its arguments unchanged. -/
theorem frame_kernel : Cert.quiescent_Kernel := fun m ρ h => by
  rw [Cert.Same.defs_same, Cert.Same.main_same]
  exact (θ_run Cert.KernelIdeal.defs _ _).mono (fun _ hr => ⟨fun c => (hr.1 c).2, hr.2⟩)
    (Cert.KernelIdeal.Dispatch.run_main (F := Bits) m ρ fun c => Cert.Pre_tables_ok.Dispatch.ok_of_pre (Cert.KernelIdeal.Dispatch.args (F := Bits) m c) (h c))

/-- And so does it on the reals. -/
theorem frame_ideal : Cert.quiescent_KernelIdeal := fun m ρ h =>
  (θ_run Cert.KernelIdeal.defs _ _).mono (fun _ hr => ⟨fun c => (hr.1 c).2, hr.2⟩)
    (Cert.KernelIdeal.Dispatch.run_main (F := Ideal) m ρ fun c => Cert.Pre_tables_ok.Dispatch.ok_of_pre (Cert.KernelIdeal.Dispatch.args (F := Ideal) m c) (h c))

/-- Its reference ends and leaves its arguments. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same where the precondition holds. -/
theorem frame_ref_pre : Cert.quiescent_ReferenceIdeal_pre_tables_ok := fun m ρ _ => frame_ref m ρ trivial

/-- The dispatch and its reference have the same result. -/
theorem algebraic : Cert.algebraic_KernelIdeal_ReferenceIdeal := by
  intro m ρ m' ρ' hpre hagree
  have hok : ∀ c, Cert.KernelIdeal.Dispatch.Ok (Cert.KernelIdeal.Dispatch.args (F := Ideal) m c) := fun c => Cert.Pre_tables_ok.Dispatch.ok_of_pre _ (hpre c)
  refine ⟨fun c => Cert.KernelIdeal.Dispatch.G (Cert.KernelIdeal.Dispatch.args m c), ?_, ?_⟩
  · exact (θ_run Cert.KernelIdeal.defs _ _).mono (fun _ hr c => hr.1 c) (Cert.KernelIdeal.Dispatch.run_main (F := Ideal) m ρ hok)
  · exact ref_run m' ρ' (fun c => Cert.KernelIdeal.Dispatch.args m c) hok fun c => hagree c

set_option maxHeartbeats 4000000 in
/-- The reference at the printed float words ends and leaves its arguments. -/
theorem frame_refB : Cert.quiescent_Reference := fun m ρ _ =>
  (θ_run Cert.ReferenceIdeal.defs _ _).mono (fun r h => ⟨fun c => (h c).2, sem_eq_zero_of_no_sems (by decide) r.2⟩)
    (Cert.ReferenceIdeal.Value.run (F := Bits) m ρ)

set_option maxHeartbeats 4000000 in
/-- The dispatch and its reference have the same result to the bit. -/
theorem bitexact : Cert.bitexact_Kernel_Reference := by
  intro m ρ m' ρ' hpre hagree
  have hok : ∀ c, Cert.KernelIdeal.Dispatch.Ok (Cert.KernelIdeal.Dispatch.args (F := Bits) m c) := fun c => Cert.Pre_tables_ok.Dispatch.ok_of_pre _ (hpre c)
  refine ⟨fun c => Cert.KernelIdeal.Dispatch.G (Cert.KernelIdeal.Dispatch.args (F := Bits) m c), ?_, ?_⟩
  · rw [Cert.Same.defs_same, Cert.Same.main_same]
    exact (θ_run Cert.KernelIdeal.defs _ _).mono (fun _ hr c => hr.1 c) (Cert.KernelIdeal.Dispatch.run_main (F := Bits) m ρ hok)
  · exact ref_run (F := Bits) m' ρ' (fun c => Cert.KernelIdeal.Dispatch.args (F := Bits) m c) hok fun c => hagree c

/-- The gating call at the printed float words ends with every semaphore at zero and its arguments unchanged. -/
theorem frame_kernel2 : Cert.quiescent_Kernel2 := fun m ρ _ => by
  rw [Cert.Same2.defs_same, Cert.Same2.main_same]
  exact Cert.Kernel2Ideal.Gen.frame (F := Bits) m ρ

/-- The same over the reals. -/
theorem frame_ideal2 : Cert.quiescent_Kernel2Ideal := fun m ρ _ => Cert.Kernel2Ideal.Gen.frame (F := Ideal) m ρ

/-- The gating reference's frame. -/
theorem frame_ref2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The gating call and its reference return one array over the reals: the layer's function of the arguments. -/
theorem algebraic2 : Cert.algebraic_Kernel2Ideal_Reference2Ideal := by
  intro m ρ m' ρ' _ hagree
  refine ⟨fun c => Cert.Gmlp.layer (m ((c.tc : Thread Cert.Kernel2Ideal.nD Cert.Kernel2Ideal.τ).loc Cert.Kernel2Ideal.main_arg0)) (Cert.Gmlp.Wk m c), ?_, ?_⟩
  · exact (θ_run Cert.Kernel2Ideal.defs _ _).mono (fun _ hr c => ⟨(hr c).1.trans (Cert.Gmlp.arr_eq m c), (hr c).2⟩)
      (Cert.Kernel2Ideal.Value.run_blocks (F := Ideal) m ρ)
  · refine (θ_run Cert.Reference2Ideal.defs _ _).mono (fun _ hr c => ⟨(hr c).1.trans ((Cert.Gmlp.Host.ref_eq m' c).trans ?_), (hr c).2⟩)
      (Cert.Reference2Ideal.Value.run (F := Ideal) m' ρ')
    obtain ⟨h0, h1, h2, h3, h4, h5, h6, h7, h8, h9⟩ := hagree c
    unfold Cert.Gmlp.Host.Wr
    rw [h0, h1, h2, h3, h4, h5, h6, h7, h8, h9]

/-- The projections at the printed float words end with every semaphore at zero and their arguments unchanged. -/
theorem frame_kernel3 : Cert.quiescent_Kernel3 := fun m ρ _ => Cert.Kernel3.Gen.frame m ρ

/-- The same over the reals. -/
theorem frame_ideal3 : Cert.quiescent_Kernel3Ideal := fun m ρ _ => Cert.Kernel3Ideal.Gen.frame m ρ

/-- The projections' reference's frame. -/
theorem frame_ref3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The named scale is the constant the kernel was printed with: an eighth over the logarithm of two. -/
theorem preserves3 : Cert.preserves_Kernel3_Kernel3Ideal :=
  IdealRules.named_const.statement Cert.Kernel3Ideal.κ "q_scale" .f32 0x3E38AA3B#32 (((1 / 8) * (Real.log 2)⁻¹ : ℝ) : EReal) rfl

/-- The projections and their reference return the same two arrays over the reals: the keys, and the scaled queries over the values. -/
theorem algebraic3 : Cert.algebraic_Kernel3Ideal_Reference3Ideal := by
  intro m ρ m' ρ' _ hagree
  refine ⟨fun c => Cert.Qkv.keys (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    fun c => Cert.Qkv.qvs (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), ?_, ?_⟩
  · exact (θ_run Cert.Kernel3Ideal.defs _ _).mono
      (fun _ hr c => ⟨(hr c).1.trans (Cert.Qkv.keys_eq m c), (hr c).2.1.trans (Cert.Qkv.qvs_eq m c), (hr c).2.2⟩)
      (Cert.Kernel3Ideal.Value.run_blocks (F := Ideal) m ρ)
  · refine (θ_run Cert.Reference3Ideal.defs _ _).mono
      (fun _ hr c => ⟨(hr c).1.trans ((Cert.Qkv.Host.refKeys_eq _ _).trans ?_), (hr c).2.1.trans ((Cert.Qkv.Host.refQv_eq _ _).trans ?_), (hr c).2.2⟩)
      (Cert.Reference3Ideal.Value.run (F := Ideal) m' ρ')
    all_goals
      obtain ⟨h0, h1⟩ := hagree c
      rw [h0, h1]

/-- The output projection at the printed float words ends with every semaphore at zero and its arguments unchanged. -/
theorem frame_kernel4 : Cert.quiescent_Kernel4 := fun m ρ _ => by
  rw [Cert.Same4.defs_same, Cert.Same4.main_same]
  exact Cert.Kernel4Ideal.Gen.frame (F := Bits) m ρ

/-- The same over the reals. -/
theorem frame_ideal4 : Cert.quiescent_Kernel4Ideal := fun m ρ _ => Cert.Kernel4Ideal.Gen.frame (F := Ideal) m ρ

/-- The output projection's reference's frame. -/
theorem frame_ref4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The output projection and its reference return one array over the reals: the norm of the residual plus the projection. -/
theorem algebraic4 : Cert.algebraic_Kernel4Ideal_Reference4Ideal := by
  intro m ρ m' ρ' _ hagree
  refine ⟨fun c => Cert.Outp.layer (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))
    (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))
    (m ((c.tc : Thread Cert.Kernel4Ideal.nD Cert.Kernel4Ideal.τ).loc Cert.Kernel4Ideal.main_arg4)), ?_, ?_⟩
  · exact (θ_run Cert.Kernel4Ideal.defs _ _).mono (fun _ hr c => ⟨(hr c).1.trans (Cert.Outp.arr_eq m c), (hr c).2⟩)
      (Cert.Kernel4Ideal.Value.run_blocks (F := Ideal) m ρ)
  · refine (θ_run Cert.Reference4Ideal.defs _ _).mono (fun _ hr c => ⟨(hr c).1.trans ((Cert.Outp.Host.whole_eq _ _ _ _ _).trans ?_), (hr c).2⟩)
      (Cert.Reference4Ideal.Value.run (F := Ideal) m' ρ')
    obtain ⟨h0, h1, h2, h3, h4⟩ := hagree c
    rw [h0, h1, h2, h3, h4]

/-- The experts' tables that the precondition admits are as the run needs them. -/
theorem good5 (m : (ℓ : Loc Cert.Kernel5Ideal.nD Cert.Kernel5Ideal.τ Cert.Kernel5Ideal.sig) → Buf (Elt F) ℓ) (c : Dev Cert.Kernel5Ideal.nD)
    (h : Cert.Pre_ffn_ok.fn (F := F) (Cert.Kernel5Ideal.Experts.V m c Cert.Kernel5Ideal.main_arg0) (Cert.Kernel5Ideal.Experts.V m c Cert.Kernel5Ideal.main_arg1)
      (Cert.Kernel5Ideal.Experts.V m c Cert.Kernel5Ideal.main_arg2) (Cert.Kernel5Ideal.Experts.V m c Cert.Kernel5Ideal.main_arg3)
      (Cert.Kernel5Ideal.Experts.V m c Cert.Kernel5Ideal.main_arg4) (Cert.Kernel5Ideal.Experts.V m c Cert.Kernel5Ideal.main_arg5)
      (Cert.Kernel5Ideal.Experts.V m c Cert.Kernel5Ideal.main_arg6) (Cert.Kernel5Ideal.Experts.V m c Cert.Kernel5Ideal.main_arg7) = fun _ => 1#1) :
    Cert.Kernel5Ideal.Experts.Good m c := Cert.Pre_ffn_ok.Experts.ok_of_pre _ _ _ _ _ _ _ _ h

/-- The experts' call as printed ends and leaves its arguments. -/
theorem frame_kernel5 : Cert.quiescent_Kernel5 := fun m ρ h => by
  rw [Cert.Same5.defs_same, Cert.Same5.main_same]
  exact (θ_run Cert.Kernel5Ideal.defs _ _).mono (fun _ hr => ⟨fun c => (hr.1 c).2, hr.2⟩)
    (Cert.Kernel5Ideal.Experts.run_main (F := Bits) m ρ fun c => good5 (F := Bits) m c (h c))

/-- And so does it on the reals. -/
theorem frame_ideal5 : Cert.quiescent_Kernel5Ideal := fun m ρ h =>
  (θ_run Cert.Kernel5Ideal.defs _ _).mono (fun _ hr => ⟨fun c => (hr.1 c).2, hr.2⟩)
    (Cert.Kernel5Ideal.Experts.run_main (F := Ideal) m ρ fun c => good5 (F := Ideal) m c (h c))

/-- Its reference ends and leaves its arguments. -/
theorem frame_ref5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The same where the precondition holds. -/
theorem frame_ref5_pre : Cert.quiescent_Reference5Ideal_pre_ffn_ok := fun m ρ _ => frame_ref5 m ρ trivial

/-- The experts' call and its reference have the same result, the sum over the experts of each token's block's group. -/
theorem algebraic5 : Cert.algebraic_Kernel5Ideal_Reference5Ideal := by
  intro m ρ m' ρ' hpre hagree
  have hok : ∀ c, Cert.Kernel5Ideal.Experts.Good m c := fun c => good5 (F := Ideal) m c (hpre c)
  refine ⟨fun c => Cert.Kernel5Ideal.Experts.result m c, ?_, ?_⟩
  · exact (θ_run Cert.Kernel5Ideal.defs _ _).mono (fun _ hr c => ⟨(hr.1 c).1.trans (Cert.Kernel5Ideal.Experts.whole_eq m hok c), (hr.1 c).2⟩)
      (Cert.Kernel5Ideal.Experts.run_main (F := Ideal) m ρ hok)
  · refine (θ_run Cert.Reference5Ideal.defs _ _).mono (fun _ hr c => ⟨(hr c).1.trans ((Cert.Ffn.Host.res_eq m' c).trans ?_), (hr c).2⟩)
      (Cert.Reference5Ideal.Value.run (F := Ideal) m' ρ')
    obtain ⟨h0, h1, h2, h3, h4, h5, h6, h7⟩ := hagree c
    rw [h0, h1, h3, h4, h5, h6, h7]
    funext y
    obtain ⟨p, q, rfl⟩ : ∃ (p : Fin 163840) (q : Fin 128), y = ix2 p q := ⟨y (0 : Fin 2), y (1 : Fin 2), funext fun k => by fin_cases k <;> rfl⟩
    refine (Cert.Ffn.Host.res_layer _ _ _ _ _ _ _ (fun b => ?_) (Cert.Kernel5Ideal.Experts.Ok.le (hok c)) p q).trans rfl
    have hb := Cert.Kernel5Ideal.Experts.Ok.grp (hok c) b.val b.isLt
    rw [← Cert.Kernel5Ideal.Experts.at40_eq _ b.val b.isLt] at hb
    exact hb

/-- All the claims. -/
theorem claim : Cert.Claim := ⟨Cert.Kernel.Gen.facts, Cert.KernelIdeal.Gen.facts, Cert.ReferenceIdeal.Gen.facts, Cert.Reference.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_tables_ok.Gen.facts, Cert.Pre_ffn_ok.Gen.facts,
  frame_kernel, frame_ideal, frame_ref, frame_ref_pre, frame_refB, frame_kernel2, frame_ideal2, frame_ref2,
  frame_kernel3, frame_ideal3, frame_ref3, frame_kernel4, frame_ideal4, frame_ref4,
  frame_kernel5, frame_ideal5, frame_ref5, frame_ref5_pre,
  trivial, algebraic, bitexact, trivial, algebraic2, preserves3, algebraic3, trivial, algebraic4, trivial, algebraic5⟩

end Cert.Proof

end
